-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_regular [hPre_regular : Cert.Pre_regular.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_regular.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18)) (m ((c.tc : Thread Cert.Kernel4Ideal.nD Cert.Kernel4Ideal.τ).loc Cert.Kernel4Ideal.main_arg19)) (m ((c.tc : Thread Cert.Kernel4Ideal.nD Cert.Kernel4Ideal.τ).loc Cert.Kernel4Ideal.main_arg20)) (m ((c.tc : Thread Cert.Kernel4Ideal.nD Cert.Kernel4Ideal.τ).loc Cert.Kernel4Ideal.main_arg21)) (m ((c.tc : Thread Cert.Kernel4Ideal.nD Cert.Kernel4Ideal.τ).loc Cert.Kernel4Ideal.main_arg22)) (m ((c.tc : Thread Cert.Kernel4Ideal.nD Cert.Kernel4Ideal.τ).loc Cert.Kernel4Ideal.main_arg23))).1 = (fun _ => 1#1)
    ∧ (Cert.Pre_regular.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18)) (m ((c.tc : Thread Cert.Kernel4Ideal.nD Cert.Kernel4Ideal.τ).loc Cert.Kernel4Ideal.main_arg19)) (m ((c.tc : Thread Cert.Kernel4Ideal.nD Cert.Kernel4Ideal.τ).loc Cert.Kernel4Ideal.main_arg20)) (m ((c.tc : Thread Cert.Kernel4Ideal.nD Cert.Kernel4Ideal.τ).loc Cert.Kernel4Ideal.main_arg21)) (m ((c.tc : Thread Cert.Kernel4Ideal.nD Cert.Kernel4Ideal.τ).loc Cert.Kernel4Ideal.main_arg22)) (m ((c.tc : Thread Cert.Kernel4Ideal.nD Cert.Kernel4Ideal.τ).loc Cert.Kernel4Ideal.main_arg23))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_regular [hPre_regular : Cert.Pre_regular.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_regular.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18)) (m ((c.tc : Thread Cert.Reference4Ideal.nD Cert.Reference4Ideal.τ).loc Cert.Reference4Ideal.main_arg19)) (m ((c.tc : Thread Cert.Reference4Ideal.nD Cert.Reference4Ideal.τ).loc Cert.Reference4Ideal.main_arg20)) (m ((c.tc : Thread Cert.Reference4Ideal.nD Cert.Reference4Ideal.τ).loc Cert.Reference4Ideal.main_arg21)) (m ((c.tc : Thread Cert.Reference4Ideal.nD Cert.Reference4Ideal.τ).loc Cert.Reference4Ideal.main_arg22)) (m ((c.tc : Thread Cert.Reference4Ideal.nD Cert.Reference4Ideal.τ).loc Cert.Reference4Ideal.main_arg23))).1 = (fun _ => 1#1)
    ∧ (Cert.Pre_regular.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18)) (m ((c.tc : Thread Cert.Reference4Ideal.nD Cert.Reference4Ideal.τ).loc Cert.Reference4Ideal.main_arg19)) (m ((c.tc : Thread Cert.Reference4Ideal.nD Cert.Reference4Ideal.τ).loc Cert.Reference4Ideal.main_arg20)) (m ((c.tc : Thread Cert.Reference4Ideal.nD Cert.Reference4Ideal.τ).loc Cert.Reference4Ideal.main_arg21)) (m ((c.tc : Thread Cert.Reference4Ideal.nD Cert.Reference4Ideal.τ).loc Cert.Reference4Ideal.main_arg22)) (m ((c.tc : Thread Cert.Reference4Ideal.nD Cert.Reference4Ideal.τ).loc Cert.Reference4Ideal.main_arg23))).2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18)
      ∧ r.2.mem ((c.tc : Thread Cert.Kernel4.nD Cert.Kernel4.τ).loc Cert.Kernel4.main_arg19) = m ((c.tc : Thread Cert.Kernel4.nD Cert.Kernel4.τ).loc Cert.Kernel4.main_arg19)
      ∧ r.2.mem ((c.tc : Thread Cert.Kernel4.nD Cert.Kernel4.τ).loc Cert.Kernel4.main_arg20) = m ((c.tc : Thread Cert.Kernel4.nD Cert.Kernel4.τ).loc Cert.Kernel4.main_arg20)
      ∧ r.2.mem ((c.tc : Thread Cert.Kernel4.nD Cert.Kernel4.τ).loc Cert.Kernel4.main_arg21) = m ((c.tc : Thread Cert.Kernel4.nD Cert.Kernel4.τ).loc Cert.Kernel4.main_arg21)
      ∧ r.2.mem ((c.tc : Thread Cert.Kernel4.nD Cert.Kernel4.τ).loc Cert.Kernel4.main_arg22) = m ((c.tc : Thread Cert.Kernel4.nD Cert.Kernel4.τ).loc Cert.Kernel4.main_arg22)
      ∧ r.2.mem ((c.tc : Thread Cert.Kernel4.nD Cert.Kernel4.τ).loc Cert.Kernel4.main_arg23) = m ((c.tc : Thread Cert.Kernel4.nD Cert.Kernel4.τ).loc Cert.Kernel4.main_arg23))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
      ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
      ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
      ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
      ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23))
      ∧ r.2.sem = fun _ => 0)

def quiescent_Kernel4Ideal_pre_regular [hKernel4Ideal : Cert.Kernel4Ideal.Facts] [hPre_regular : Cert.Pre_regular.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_regular m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
      ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
      ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
      ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
      ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19)
      ∧ r.2.mem ((c.tc : Thread Cert.Reference4Ideal.nD Cert.Reference4Ideal.τ).loc Cert.Reference4Ideal.main_arg20) = m ((c.tc : Thread Cert.Reference4Ideal.nD Cert.Reference4Ideal.τ).loc Cert.Reference4Ideal.main_arg20)
      ∧ r.2.mem ((c.tc : Thread Cert.Reference4Ideal.nD Cert.Reference4Ideal.τ).loc Cert.Reference4Ideal.main_arg21) = m ((c.tc : Thread Cert.Reference4Ideal.nD Cert.Reference4Ideal.τ).loc Cert.Reference4Ideal.main_arg21)
      ∧ r.2.mem ((c.tc : Thread Cert.Reference4Ideal.nD Cert.Reference4Ideal.τ).loc Cert.Reference4Ideal.main_arg22) = m ((c.tc : Thread Cert.Reference4Ideal.nD Cert.Reference4Ideal.τ).loc Cert.Reference4Ideal.main_arg22)
      ∧ r.2.mem ((c.tc : Thread Cert.Reference4Ideal.nD Cert.Reference4Ideal.τ).loc Cert.Reference4Ideal.main_arg23) = m ((c.tc : Thread Cert.Reference4Ideal.nD Cert.Reference4Ideal.τ).loc Cert.Reference4Ideal.main_arg23))
      ∧ r.2.sem = fun _ => 0)

def quiescent_Reference4Ideal_pre_regular [hReference4Ideal : Cert.Reference4Ideal.Facts] [hPre_regular : Cert.Pre_regular.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_regular m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19)
      ∧ r.2.mem ((c.tc : Thread Cert.Reference4Ideal.nD Cert.Reference4Ideal.τ).loc Cert.Reference4Ideal.main_arg20) = m ((c.tc : Thread Cert.Reference4Ideal.nD Cert.Reference4Ideal.τ).loc Cert.Reference4Ideal.main_arg20)
      ∧ r.2.mem ((c.tc : Thread Cert.Reference4Ideal.nD Cert.Reference4Ideal.τ).loc Cert.Reference4Ideal.main_arg21) = m ((c.tc : Thread Cert.Reference4Ideal.nD Cert.Reference4Ideal.τ).loc Cert.Reference4Ideal.main_arg21)
      ∧ r.2.mem ((c.tc : Thread Cert.Reference4Ideal.nD Cert.Reference4Ideal.τ).loc Cert.Reference4Ideal.main_arg22) = m ((c.tc : Thread Cert.Reference4Ideal.nD Cert.Reference4Ideal.τ).loc Cert.Reference4Ideal.main_arg22)
      ∧ r.2.mem ((c.tc : Thread Cert.Reference4Ideal.nD Cert.Reference4Ideal.τ).loc Cert.Reference4Ideal.main_arg23) = m ((c.tc : Thread Cert.Reference4Ideal.nD Cert.Reference4Ideal.τ).loc Cert.Reference4Ideal.main_arg23))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_v38) = v1 c
          ∧ r.2.mem ((c.tc : Thread Cert.Reference2Ideal.nD Cert.Reference2Ideal.τ).loc Cert.Reference2Ideal.main_v58) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v10_0)) (v2 : (c : Dev Cert.Kernel3Ideal.nD) → Buf (Elt Ideal) ((c.tc : Thread Cert.Kernel3Ideal.nD Cert.Kernel3Ideal.τ).loc Cert.Kernel3Ideal.main_v10_1)) (v3 : (c : Dev Cert.Kernel3Ideal.nD) → Buf (Elt Ideal) ((c.tc : Thread Cert.Kernel3Ideal.nD Cert.Kernel3Ideal.τ).loc Cert.Kernel3Ideal.main_v10_2)) (v4 : (c : Dev Cert.Kernel3Ideal.nD) → Buf (Elt Ideal) ((c.tc : Thread Cert.Kernel3Ideal.nD Cert.Kernel3Ideal.τ).loc Cert.Kernel3Ideal.main_v10_3)) (v5 : (c : Dev Cert.Kernel3Ideal.nD) → Buf (Elt Ideal) ((c.tc : Thread Cert.Kernel3Ideal.nD Cert.Kernel3Ideal.τ).loc Cert.Kernel3Ideal.main_v10_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v10_0) = v1 c
          ∧ r.2.mem ((c.tc : Thread Cert.Kernel3Ideal.nD Cert.Kernel3Ideal.τ).loc Cert.Kernel3Ideal.main_v10_1) = v2 c
          ∧ r.2.mem ((c.tc : Thread Cert.Kernel3Ideal.nD Cert.Kernel3Ideal.τ).loc Cert.Kernel3Ideal.main_v10_2) = v3 c
          ∧ r.2.mem ((c.tc : Thread Cert.Kernel3Ideal.nD Cert.Kernel3Ideal.τ).loc Cert.Kernel3Ideal.main_v10_3) = v4 c
          ∧ r.2.mem ((c.tc : Thread Cert.Kernel3Ideal.nD Cert.Kernel3Ideal.τ).loc Cert.Kernel3Ideal.main_v10_4) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_v62) = v3 c
          ∧ r.2.mem ((c.tc : Thread Cert.Reference3Ideal.nD Cert.Reference3Ideal.τ).loc Cert.Reference3Ideal.main_v64) = v4 c
          ∧ r.2.mem ((c.tc : Thread Cert.Reference3Ideal.nD Cert.Reference3Ideal.τ).loc Cert.Reference3Ideal.main_v66) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_regular [hKernel4Ideal : Cert.Kernel4Ideal.Facts] [hReference4Ideal : Cert.Reference4Ideal.Facts] [hPre_regular : Cert.Pre_regular.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_regular m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)
      ∧ m' ((c.tc : Thread Cert.Reference4Ideal.nD Cert.Reference4Ideal.τ).loc Cert.Reference4Ideal.main_arg19) = m ((c.tc : Thread Cert.Kernel4Ideal.nD Cert.Kernel4Ideal.τ).loc Cert.Kernel4Ideal.main_arg19)
      ∧ m' ((c.tc : Thread Cert.Reference4Ideal.nD Cert.Reference4Ideal.τ).loc Cert.Reference4Ideal.main_arg20) = m ((c.tc : Thread Cert.Kernel4Ideal.nD Cert.Kernel4Ideal.τ).loc Cert.Kernel4Ideal.main_arg20)
      ∧ m' ((c.tc : Thread Cert.Reference4Ideal.nD Cert.Reference4Ideal.τ).loc Cert.Reference4Ideal.main_arg21) = m ((c.tc : Thread Cert.Kernel4Ideal.nD Cert.Kernel4Ideal.τ).loc Cert.Kernel4Ideal.main_arg21)
      ∧ m' ((c.tc : Thread Cert.Reference4Ideal.nD Cert.Reference4Ideal.τ).loc Cert.Reference4Ideal.main_arg22) = m ((c.tc : Thread Cert.Kernel4Ideal.nD Cert.Kernel4Ideal.τ).loc Cert.Kernel4Ideal.main_arg22)
      ∧ m' ((c.tc : Thread Cert.Reference4Ideal.nD Cert.Reference4Ideal.τ).loc Cert.Reference4Ideal.main_arg23) = m ((c.tc : Thread Cert.Kernel4Ideal.nD Cert.Kernel4Ideal.τ).loc Cert.Kernel4Ideal.main_arg23)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)) (v2 : (c : Dev Cert.Kernel4Ideal.nD) → Buf (Elt Ideal) ((c.tc : Thread Cert.Kernel4Ideal.nD Cert.Kernel4Ideal.τ).loc Cert.Kernel4Ideal.main_v16_2)) (v3 : (c : Dev Cert.Kernel4Ideal.nD) → Buf (Elt Ideal) ((c.tc : Thread Cert.Kernel4Ideal.nD Cert.Kernel4Ideal.τ).loc Cert.Kernel4Ideal.main_v16_3)) (v4 : (c : Dev Cert.Kernel4Ideal.nD) → Buf (Elt Ideal) ((c.tc : Thread Cert.Kernel4Ideal.nD Cert.Kernel4Ideal.τ).loc Cert.Kernel4Ideal.main_v16_4)) (v5 : (c : Dev Cert.Kernel4Ideal.nD) → Buf (Elt Ideal) ((c.tc : Thread Cert.Kernel4Ideal.nD Cert.Kernel4Ideal.τ).loc Cert.Kernel4Ideal.main_v16_5)) (v6 : (c : Dev Cert.Kernel4Ideal.nD) → Buf (Elt Ideal) ((c.tc : Thread Cert.Kernel4Ideal.nD Cert.Kernel4Ideal.τ).loc Cert.Kernel4Ideal.main_v16_6)) (v7 : (c : Dev Cert.Kernel4Ideal.nD) → Buf (Elt Ideal) ((c.tc : Thread Cert.Kernel4Ideal.nD Cert.Kernel4Ideal.τ).loc Cert.Kernel4Ideal.main_v16_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_v16_2) = v2 c
          ∧ r.2.mem ((c.tc : Thread Cert.Kernel4Ideal.nD Cert.Kernel4Ideal.τ).loc Cert.Kernel4Ideal.main_v16_3) = v3 c
          ∧ r.2.mem ((c.tc : Thread Cert.Kernel4Ideal.nD Cert.Kernel4Ideal.τ).loc Cert.Kernel4Ideal.main_v16_4) = v4 c
          ∧ r.2.mem ((c.tc : Thread Cert.Kernel4Ideal.nD Cert.Kernel4Ideal.τ).loc Cert.Kernel4Ideal.main_v16_5) = v5 c
          ∧ r.2.mem ((c.tc : Thread Cert.Kernel4Ideal.nD Cert.Kernel4Ideal.τ).loc Cert.Kernel4Ideal.main_v16_6) = v6 c
          ∧ r.2.mem ((c.tc : Thread Cert.Kernel4Ideal.nD Cert.Kernel4Ideal.τ).loc Cert.Kernel4Ideal.main_v16_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
          ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
          ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
          ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
          ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
          ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v238) = v0 c
          ∧ r.2.mem ((c.tc : Thread Cert.Reference4Ideal.nD Cert.Reference4Ideal.τ).loc Cert.Reference4Ideal.main_v239) = v1 c
          ∧ r.2.mem ((c.tc : Thread Cert.Reference4Ideal.nD Cert.Reference4Ideal.τ).loc Cert.Reference4Ideal.main_v240) = v2 c
          ∧ r.2.mem ((c.tc : Thread Cert.Reference4Ideal.nD Cert.Reference4Ideal.τ).loc Cert.Reference4Ideal.main_v164) = v3 c
          ∧ r.2.mem ((c.tc : Thread Cert.Reference4Ideal.nD Cert.Reference4Ideal.τ).loc Cert.Reference4Ideal.main_v241) = v4 c
          ∧ r.2.mem ((c.tc : Thread Cert.Reference4Ideal.nD Cert.Reference4Ideal.τ).loc Cert.Reference4Ideal.main_v151) = v5 c
          ∧ r.2.mem ((c.tc : Thread Cert.Reference4Ideal.nD Cert.Reference4Ideal.τ).loc Cert.Reference4Ideal.main_v242) = v6 c
          ∧ r.2.mem ((c.tc : Thread Cert.Reference4Ideal.nD Cert.Reference4Ideal.τ).loc Cert.Reference4Ideal.main_v141) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18)
          ∧ r.2.mem ((c.tc : Thread Cert.Reference4Ideal.nD Cert.Reference4Ideal.τ).loc Cert.Reference4Ideal.main_arg19) = m' ((c.tc : Thread Cert.Reference4Ideal.nD Cert.Reference4Ideal.τ).loc Cert.Reference4Ideal.main_arg19)
          ∧ r.2.mem ((c.tc : Thread Cert.Reference4Ideal.nD Cert.Reference4Ideal.τ).loc Cert.Reference4Ideal.main_arg20) = m' ((c.tc : Thread Cert.Reference4Ideal.nD Cert.Reference4Ideal.τ).loc Cert.Reference4Ideal.main_arg20)
          ∧ r.2.mem ((c.tc : Thread Cert.Reference4Ideal.nD Cert.Reference4Ideal.τ).loc Cert.Reference4Ideal.main_arg21) = m' ((c.tc : Thread Cert.Reference4Ideal.nD Cert.Reference4Ideal.τ).loc Cert.Reference4Ideal.main_arg21)
          ∧ r.2.mem ((c.tc : Thread Cert.Reference4Ideal.nD Cert.Reference4Ideal.τ).loc Cert.Reference4Ideal.main_arg22) = m' ((c.tc : Thread Cert.Reference4Ideal.nD Cert.Reference4Ideal.τ).loc Cert.Reference4Ideal.main_arg22)
          ∧ r.2.mem ((c.tc : Thread Cert.Reference4Ideal.nD Cert.Reference4Ideal.τ).loc Cert.Reference4Ideal.main_arg23) = m' ((c.tc : Thread Cert.Reference4Ideal.nD Cert.Reference4Ideal.τ).loc Cert.Reference4Ideal.main_arg23))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_v22) = v2 c
          ∧ r.2.mem ((c.tc : Thread Cert.Reference6Ideal.nD Cert.Reference6Ideal.τ).loc Cert.Reference6Ideal.main_v16) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)) →
    ∃ (v0 : (c : Dev Cert.Kernel7Ideal.nD) → Buf (Elt Ideal) ((c.tc : Thread Cert.Kernel7Ideal.nD Cert.Kernel7Ideal.τ).loc Cert.Kernel7Ideal.main_v16_0)) (v1 : (c : Dev Cert.Kernel7Ideal.nD) → Buf (Elt Ideal) ((c.tc : Thread Cert.Kernel7Ideal.nD Cert.Kernel7Ideal.τ).loc Cert.Kernel7Ideal.main_v16_1)) (v2 : (c : Dev Cert.Kernel7Ideal.nD) → Buf (Elt Ideal) ((c.tc : Thread Cert.Kernel7Ideal.nD Cert.Kernel7Ideal.τ).loc Cert.Kernel7Ideal.main_v16_2)) (v3 : (c : Dev Cert.Kernel7Ideal.nD) → Buf (Elt Ideal) ((c.tc : Thread Cert.Kernel7Ideal.nD Cert.Kernel7Ideal.τ).loc Cert.Kernel7Ideal.main_v16_3)) (v4 : (c : Dev Cert.Kernel7Ideal.nD) → Buf (Elt Ideal) ((c.tc : Thread Cert.Kernel7Ideal.nD Cert.Kernel7Ideal.τ).loc Cert.Kernel7Ideal.main_v16_4)) (v5 : (c : Dev Cert.Kernel7Ideal.nD) → Buf (Elt Ideal) ((c.tc : Thread Cert.Kernel7Ideal.nD Cert.Kernel7Ideal.τ).loc Cert.Kernel7Ideal.main_v16_5)) (v6 : (c : Dev Cert.Kernel7Ideal.nD) → Buf (Elt Ideal) ((c.tc : Thread Cert.Kernel7Ideal.nD Cert.Kernel7Ideal.τ).loc Cert.Kernel7Ideal.main_v16_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16_0) = v0 c
          ∧ r.2.mem ((c.tc : Thread Cert.Kernel7Ideal.nD Cert.Kernel7Ideal.τ).loc Cert.Kernel7Ideal.main_v16_1) = v1 c
          ∧ r.2.mem ((c.tc : Thread Cert.Kernel7Ideal.nD Cert.Kernel7Ideal.τ).loc Cert.Kernel7Ideal.main_v16_2) = v2 c
          ∧ r.2.mem ((c.tc : Thread Cert.Kernel7Ideal.nD Cert.Kernel7Ideal.τ).loc Cert.Kernel7Ideal.main_v16_3) = v3 c
          ∧ r.2.mem ((c.tc : Thread Cert.Kernel7Ideal.nD Cert.Kernel7Ideal.τ).loc Cert.Kernel7Ideal.main_v16_4) = v4 c
          ∧ r.2.mem ((c.tc : Thread Cert.Kernel7Ideal.nD Cert.Kernel7Ideal.τ).loc Cert.Kernel7Ideal.main_v16_5) = v5 c
          ∧ r.2.mem ((c.tc : Thread Cert.Kernel7Ideal.nD Cert.Kernel7Ideal.τ).loc Cert.Kernel7Ideal.main_v16_6) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v86) = v0 c
          ∧ r.2.mem ((c.tc : Thread Cert.Reference7Ideal.nD Cert.Reference7Ideal.τ).loc Cert.Reference7Ideal.main_v88) = v1 c
          ∧ r.2.mem ((c.tc : Thread Cert.Reference7Ideal.nD Cert.Reference7Ideal.τ).loc Cert.Reference7Ideal.main_v90) = v2 c
          ∧ r.2.mem ((c.tc : Thread Cert.Reference7Ideal.nD Cert.Reference7Ideal.τ).loc Cert.Reference7Ideal.main_v92) = v3 c
          ∧ r.2.mem ((c.tc : Thread Cert.Reference7Ideal.nD Cert.Reference7Ideal.τ).loc Cert.Reference7Ideal.main_v94) = v4 c
          ∧ r.2.mem ((c.tc : Thread Cert.Reference7Ideal.nD Cert.Reference7Ideal.τ).loc Cert.Reference7Ideal.main_v96) = v5 c
          ∧ r.2.mem ((c.tc : Thread Cert.Reference7Ideal.nD Cert.Reference7Ideal.τ).loc Cert.Reference7Ideal.main_v75) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)) (v2 : (c : Dev Cert.Kernel8Ideal.nD) → Buf (Elt Ideal) ((c.tc : Thread Cert.Kernel8Ideal.nD Cert.Kernel8Ideal.τ).loc Cert.Kernel8Ideal.main_v9_2)) (v3 : (c : Dev Cert.Kernel8Ideal.nD) → Buf (Elt Ideal) ((c.tc : Thread Cert.Kernel8Ideal.nD Cert.Kernel8Ideal.τ).loc Cert.Kernel8Ideal.main_v9_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_v9_2) = v2 c
          ∧ r.2.mem ((c.tc : Thread Cert.Kernel8Ideal.nD Cert.Kernel8Ideal.τ).loc Cert.Kernel8Ideal.main_v9_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v34) = v0 c
          ∧ r.2.mem ((c.tc : Thread Cert.Reference8Ideal.nD Cert.Reference8Ideal.τ).loc Cert.Reference8Ideal.main_v37) = v1 c
          ∧ r.2.mem ((c.tc : Thread Cert.Reference8Ideal.nD Cert.Reference8Ideal.τ).loc Cert.Reference8Ideal.main_v40) = v2 c
          ∧ r.2.mem ((c.tc : Thread Cert.Reference8Ideal.nD Cert.Reference8Ideal.τ).loc Cert.Reference8Ideal.main_v41) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite3 : Cert.Pre_finite3.Facts) (hPre_regular : Cert.Pre_regular.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_regular (hKernel4Ideal := hKernel4Ideal) (hPre_regular := hPre_regular)
    ∧ quiescent_Reference4Ideal (hReference4Ideal := hReference4Ideal)
    ∧ quiescent_Reference4Ideal_pre_regular (hReference4Ideal := hReference4Ideal) (hPre_regular := hPre_regular)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_regular (hKernel4Ideal := hKernel4Ideal) (hReference4Ideal := hReference4Ideal) (hPre_regular := hPre_regular)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite3.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S2048x1024 : S_.BroadcastsInDim S2048x1024 (![] : Fin 0 → Fin S2048x1024.rank)

variable [Facts]

def fn {F : FTy → Type} [FloatOps F] (main_arg0 : FVec F S2048x1024 .f32) (main_arg1 : FVec F S1x1024 .f32) (main_arg2 : FVec F S1024x2816 .f32) (main_arg3 : FVec F S1024x2816 .f32) (main_arg4 : FVec F S2816x1024 .f32) (main_arg5 : FVec F S2048x1024 .f32) : IVec S1x1024 1 × IVec S1024x2816 1 × IVec S2816x1024 1 × IVec S2048x1024 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1024x2816 .f32 := Host.absf main_arg3
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg4
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S2048x1024 .f32 := Host.absf main_arg5
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  (main_v2, main_v5, main_v8, main_v11)
-- ==== Pre_regular.lean ====
abbrev S2048x2048 : Shape := ⟨2, ![2048, 2048]⟩
abbrev S1x512 : Shape := ⟨2, ![1, 512]⟩
abbrev S512x32 : Shape := ⟨2, ![512, 32]⟩
abbrev S32x512 : Shape := ⟨2, ![32, 512]⟩
abbrev S512x96 : Shape := ⟨2, ![512, 96]⟩
abbrev S96x512 : Shape := ⟨2, ![96, 512]⟩
abbrev S8x2048x64 : Shape := ⟨3, ![8, 2048, 64]⟩
abbrev S2048x512 : Shape := ⟨2, ![2048, 512]⟩
abbrev S_ : Shape := ⟨0, ![]⟩
abbrev S2047x512 : Shape := ⟨2, ![2047, 512]⟩
abbrev S2048x32 : Shape := ⟨2, ![2048, 32]⟩

class Facts : Prop where
  slices_S2048x2048_S2048x512_0_0 : S2048x2048.Slices ![0, 0] S2048x512
  slices_S2048x2048_S2048x512_0_512 : S2048x2048.Slices ![0, 512] S2048x512
  slices_S2048x2048_S2048x512_0_1024 : S2048x2048.Slices ![0, 1024] S2048x512
  slices_S2048x2048_S2048x512_0_1536 : S2048x2048.Slices ![0, 1536] S2048x512
  bcast_S_S1x512 : S_.BroadcastsInDim S1x512 (![] : Fin 0 → Fin S1x512.rank)
  slices_S2048x512_S2047x512_0_0 : S2048x512.Slices ![0, 0] S2047x512
  concatenates_S1x512_S2047x512_S2048x512_d0 : Shape.Concatenates [S1x512, S2047x512] S2048x512 0
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  bcast_S_S8x2048x64 : S_.BroadcastsInDim S8x2048x64 (![] : Fin 0 → Fin S8x2048x64.rank)
  dot_S2048x512_S512x32_S2048x32_1_0_0_1_n_n_wf : DotDims.WF S2048x512 S512x32 S2048x32 [1] [0] [0] [1] [] []
  dot_S2048x32_S32x512_S2048x512_1_0_0_1_n_n_wf : DotDims.WF S2048x32 S32x512 S2048x512 [1] [0] [0] [1] [] []

variable [Facts]

def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x32_S32x512_S2048x512_1_0_0_1_n_n : DotDims S2048x32 S32x512 S2048x512 where
  lhsContracting := [1]
  rhsContracting := [0]
  lhsNonContracting := [0]
  rhsNonContracting := [1]
  lhsBatch := []
  rhsBatch := []
  wf := dot_S2048x32_S32x512_S2048x512_1_0_0_1_n_n_wf
def fn {F : FTy → Type} [FloatOps F] (main_arg0 : FVec F S2048x2048 .f32) (main_arg1 : FVec F S1x512 .f32) (main_arg2 : FVec F S1x512 .f32) (main_arg3 : FVec F S1x512 .f32) (main_arg4 : FVec F S1x512 .f32) (main_arg5 : FVec F S1x512 .f32) (main_arg6 : FVec F S1x512 .f32) (main_arg7 : FVec F S1x512 .f32) (main_arg8 : FVec F S512x32 .f32) (main_arg9 : FVec F S32x512 .f32) (main_arg10 : FVec F S1x512 .f32) (main_arg11 : FVec F S512x32 .f32) (main_arg12 : FVec F S32x512 .f32) (main_arg13 : FVec F S512x96 .f32) (main_arg14 : FVec F S96x512 .f32) (main_arg15 : FVec F S1x512 .f32) (main_arg16 : FVec F S1x512 .f32) (main_arg17 : FVec F S8x2048x64 .f32) (main_arg18 : FVec F S8x2048x64 .f32) (main_arg19 : FVec F S8x2048x64 .f32) (main_arg20 : FVec F S8x2048x64 .f32) (main_arg21 : FVec F S8x2048x64 .f32) (main_arg22 : FVec F S8x2048x64 .f32) (main_arg23 : FVec F S2048x512 .f32) : IVec S2048x512 1 × IVec S8x2048x64 1 :=
  let main_v0 : FVec F S2048x512 .f32 := (extractStridedSlice S2048x512 ![0, 0] · slices_S2048x2048_S2048x512_0_0) main_arg0
  let main_v1 : FVec F S2048x512 .f32 := (extractStridedSlice S2048x512 ![0, 512] · slices_S2048x2048_S2048x512_0_512) main_arg0
  let main_v2 : FVec F S2048x512 .f32 := (extractStridedSlice S2048x512 ![0, 1024] · slices_S2048x2048_S2048x512_0_1024) main_arg0
  let main_v3 : FVec F S2048x512 .f32 := (extractStridedSlice S2048x512 ![0, 1536] · slices_S2048x2048_S2048x512_0_1536) main_arg0
  let main_cst : FVec F S_ .f32 := constant S_ .f32 0x00000000#32
  let main_v4 : FVec F S1x512 .f32 := broadcastInDim S1x512 ![] bcast_S_S1x512 main_cst
  let main_v5 : FVec F S2047x512 .f32 := (extractStridedSlice S2047x512 ![0, 0] · slices_S2048x512_S2047x512_0_0) main_v3
  let main_v6 : FVec F S2048x512 .f32 := (fun a b => concatenate S2048x512 0 [⟨S1x512, a⟩, ⟨S2047x512, b⟩] concatenates_S1x512_S2047x512_S2048x512_d0) main_v4 main_v5
  let main_v7 : FVec F S2048x512 .f32 := subf main_v6 main_v3
  let main_v8 : FVec F S2048x512 .f32 := broadcastInDim S2048x512 ![0, 1] bcast_S1x512_S2048x512_0_1 main_arg4
  let main_v9 : FVec F S2048x512 .f32 := mulf main_v7 main_v8
  let main_v10 : FVec F S2048x512 .f32 := addf main_v3 main_v9
  let main_v11 : FVec F S2048x32 .f32 := (fun l r => Host.dotGeneral dot_S2048x512_S512x32_S2048x32_1_0_0_1_n_n none l r) main_v10 main_arg8
  let main_v12 : FVec F S2048x32 .f32 := Host.tanh main_v11
  let main_v13 : FVec F S2048x512 .f32 := (fun l r => Host.dotGeneral dot_S2048x32_S32x512_S2048x512_1_0_0_1_n_n none l r) main_v12 main_arg9
  let main_v14 : FVec F S2048x512 .f32 := broadcastInDim S2048x512 ![0, 1] bcast_S1x512_S2048x512_0_1 main_arg7
  let main_v15 : FVec F S2048x512 .f32 := addf main_v14 main_v13
  let main_cst_0 : FVec F S_ .f32 := constant S_ .f32 0x00000000#32
  let main_v16 : FVec F S2048x512 .f32 := broadcastInDim S2048x512 ![] bcast_S_S2048x512 main_cst_0
  let main_v17 : IVec S2048x512 1 := cmpf .une main_v15 main_v16
  let main_v18 : FVec F S8x2048x64 .f32 := Host.absf main_arg18
  let main_cst_1 : FVec F S_ .f32 := constant S_ .f32 0x7F800000#32
  let main_v19 : FVec F S8x2048x64 .f32 := broadcastInDim S8x2048x64 ![] bcast_S_S8x2048x64 main_cst_1
  let main_v20 : IVec S8x2048x64 1 := cmpf .olt main_v18 main_v19
  (main_v17, main_v20)
-- ==== Kernel.lean ====
abbrev S8x2048x64 : Shape := ⟨3, ![8, 2048, 64]⟩
abbrev S2048x512 : Shape := ⟨2, ![2048, 512]⟩
abbrev S1024x1024 : Shape := ⟨2, ![1024, 1024]⟩
abbrev S2048x1024 : Shape := ⟨2, ![2048, 1024]⟩
abbrev S_ : Shape := ⟨0, ![]⟩
abbrev S8x128 : Shape := ⟨2, ![8, 128]⟩
abbrev S8x256x64 : Shape := ⟨3, ![8, 256, 64]⟩
abbrev S256x512 : Shape := ⟨2, ![256, 512]⟩
abbrev S256x1024 : Shape := ⟨2, ![256, 1024]⟩
abbrev S1x256x64 : Shape := ⟨3, ![1, 256, 64]⟩
abbrev S256x64 : Shape := ⟨2, ![256, 64]⟩

abbrev nBuf : Space → Nat
  | .hbm => 12
  | .vmem => 16
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S2048x512, .f32⟩
  | .hbm, ⟨3, _⟩ => ⟨S1024x1024, .f32⟩
  | .hbm, ⟨4, _⟩ => ⟨S2048x1024, .f32⟩
  | .hbm, ⟨5, _⟩ => ⟨S1024x1024, .bf16⟩
  | .hbm, ⟨6, _⟩ => ⟨S_, .f32⟩
  | .hbm, ⟨7, _⟩ => ⟨S8x128, .f32⟩
  | .hbm, ⟨8, _⟩ => ⟨S8x2048x64, .f32⟩
  | .hbm, ⟨9, _⟩ => ⟨S8x2048x64, .f32⟩
  | .hbm, ⟨10, _⟩ => ⟨S2048x512, .f32⟩
  | .hbm, ⟨11, _⟩ => ⟨S1024x1024, .f32⟩
  | .local _ .vmem, ⟨0, _⟩ => ⟨S8x256x64, .f32⟩
  | .local _ .vmem, ⟨1, _⟩ => ⟨S8x256x64, .f32⟩
  | .local _ .vmem, ⟨2, _⟩ => ⟨S8x256x64, .f32⟩
  | .local _ .vmem, ⟨3, _⟩ => ⟨S8x256x64, .f32⟩
  | .local _ .vmem, ⟨4, _⟩ => ⟨S256x512, .f32⟩
  | .local _ .vmem, ⟨5, _⟩ => ⟨S256x512, .f32⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | .local _ .vmem, ⟨9, _⟩ => ⟨S8x256x64, .f32⟩
  | .local _ .vmem, ⟨10, _⟩ => ⟨S8x256x64, .f32⟩
  | .local _ .vmem, ⟨11, _⟩ => ⟨S8x256x64, .f32⟩
  | .local _ .vmem, ⟨12, _⟩ => ⟨S8x256x64, .f32⟩
  | .local _ .vmem, ⟨13, _⟩ => ⟨S256x512, .f32⟩
  | .local _ .vmem, ⟨14, _⟩ => ⟨S256x512, .f32⟩
  | .local _ .vmem, ⟨15, _⟩ => ⟨S1024x1024, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v113 : BitVec 1 := Scalar.cmpi .eq arg0 c0_i32
  let v114 : BitVec 32 := Scalar.extui v113
  let c0_i32_97 : BitVec 32 := 0#32
  let v115 : BitVec 1 := Scalar.cmpi .ne v114 c0_i32_97
  v115

def k0_cond2 (i : grid0.Coords) : BitVec 1 :=
  let arg0 : BitVec 32 := BitVec.ofNat 32 (i 0).val
  let c0_i32_98 : BitVec 32 := 0#32
  let v116 : BitVec 1 := Scalar.cmpi .sgt arg0 c0_i32_98
  let v117 : BitVec 32 := Scalar.extui v116
  let c0_i32_99 : BitVec 32 := 0#32
  let v118 : BitVec 1 := Scalar.cmpi .ne v117 c0_i32_99
  v118

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8x2048x64 : Shape := ⟨3, ![8, 2048, 64]⟩
abbrev S2048x512 : Shape := ⟨2, ![2048, 512]⟩
abbrev S1024x1024 : Shape := ⟨2, ![1024, 1024]⟩
abbrev S2048x1024 : Shape := ⟨2, ![2048, 1024]⟩
abbrev S2048x8x64 : Shape := ⟨3, ![2048, 8, 64]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S2048x512, .f32⟩
  | .hbm, ⟨3, _⟩ => ⟨S1024x1024, .f32⟩
  | .hbm, ⟨4, _⟩ => ⟨S2048x1024, .f32⟩
  | .hbm, ⟨5, _⟩ => ⟨S2048x8x64, .f32⟩
  | .hbm, ⟨6, _⟩ => ⟨S2048x512, .f32⟩
  | .hbm, ⟨7, _⟩ => ⟨S2048x512, .f32⟩
  | .hbm, ⟨8, _⟩ => ⟨S2048x8x64, .f32⟩
  | .hbm, ⟨9, _⟩ => ⟨S2048x512, .f32⟩
  | .hbm, ⟨10, _⟩ => ⟨S2048x1024, .f32⟩
  | .hbm, ⟨11, _⟩ => ⟨S2048x1024, .f32⟩
  | .hbm, ⟨12, _⟩ => ⟨S1024x1024, .f32⟩
  | .hbm, ⟨13, _⟩ => ⟨S1024x1024, .f32⟩
  | .hbm, ⟨14, _⟩ => ⟨S2048x1024, .f32⟩
  | .hbm, ⟨15, _⟩ => ⟨S2048x512, .f32⟩
  | .hbm, ⟨16, _⟩ => ⟨S2048x512, .f32⟩
  | .hbm, ⟨17, _⟩ => ⟨S2048x8x64, .f32⟩
  | .hbm, ⟨18, _⟩ => ⟨S8x2048x64, .f32⟩
  | .hbm, ⟨19, _⟩ => ⟨S2048x512, .f32⟩
  | .hbm, ⟨20, _⟩ => ⟨S2048x512, .f32⟩
  | .hbm, ⟨21, _⟩ => ⟨S2048x8x64, .f32⟩
  | .hbm, ⟨22, _⟩ => ⟨S8x2048x64, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel2.lean ====
abbrev S2048x1024 : Shape := ⟨2, ![2048, 1024]⟩
abbrev S1x1024 : Shape := ⟨2, ![1, 1024]⟩
abbrev S1024x3584 : Shape := ⟨2, ![1024, 3584]⟩
abbrev S8x2048x64 : Shape := ⟨3, ![8, 2048, 64]⟩
abbrev S2048x2048 : Shape := ⟨2, ![2048, 2048]⟩
abbrev S1024x4x896 : Shape := ⟨3, ![1024, 4, 896]⟩
abbrev S4x1024x896 : Shape := ⟨3, ![4, 1024, 896]⟩
abbrev S256x1024 : Shape := ⟨2, ![256, 1024]⟩
abbrev S8x256x64 : Shape := ⟨3, ![8, 256, 64]⟩
abbrev S256x2048 : Shape := ⟨2, ![256, 2048]⟩
abbrev S256 : Shape := ⟨1, ![256]⟩
abbrev S256x1 : Shape := ⟨2, ![256, 1]⟩
abbrev S1x256x64 : Shape := ⟨3, ![1, 256, 64]⟩
abbrev S256x64 : Shape := ⟨2, ![256, 64]⟩
abbrev S256x512 : Shape := ⟨2, ![256, 512]⟩
abbrev S256x3584 : Shape := ⟨2, ![256, 3584]⟩
abbrev S256x896 : Shape := ⟨2, ![256, 896]⟩
abbrev S1x1024x896 : Shape := ⟨3, ![1, 1024, 896]⟩
abbrev S1024x896 : Shape := ⟨2, ![1024, 896]⟩
abbrev S1024 : Shape := ⟨1, ![1024]⟩

abbrev nBuf : Space → Nat
  | .hbm => 14
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3584, .f32⟩
  | .hbm, ⟨3, _⟩ => ⟨S8x2048x64, .f32⟩
  | .hbm, ⟨4, _⟩ => ⟨S8x2048x64, .f32⟩
  | .hbm, ⟨5, _⟩ => ⟨S8x2048x64, .f32⟩
  | .hbm, ⟨6, _⟩ => ⟨S2048x2048, .f32⟩
  | .hbm, ⟨7, _⟩ => ⟨S2048x1024, .f32⟩
  | .hbm, ⟨8, _⟩ => ⟨S1024x4x896, .f32⟩
  | .hbm, ⟨9, _⟩ => ⟨S4x1024x896, .f32⟩
  | .hbm, ⟨10, _⟩ => ⟨S4x1024x896, .bf16⟩
  | .hbm, ⟨11, _⟩ => ⟨S2048x1024, .f32⟩
  | .hbm, ⟨12, _⟩ => ⟨S1x1024, .f32⟩
  | .hbm, ⟨13, _⟩ => ⟨S4x1024x896, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x896, .bf16⟩
  | .local _ .vmem, ⟨4, _⟩ => ⟨S8x256x64, .f32⟩
  | .local _ .vmem, ⟨5, _⟩ => ⟨S8x256x64, .f32⟩
  | .local _ .vmem, ⟨6, _⟩ => ⟨S8x256x64, .f32⟩
  | .local _ .vmem, ⟨7, _⟩ => ⟨S8x256x64, .f32⟩
  | .local _ .vmem, ⟨8, _⟩ => ⟨S8x256x64, .f32⟩
  | .local _ .vmem, ⟨9, _⟩ => ⟨S8x256x64, .f32⟩
  | .local _ .vmem, ⟨10, _⟩ => ⟨S256x2048, .f32⟩
  | .local _ .vmem, ⟨11, _⟩ => ⟨S256x2048, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S4x1024x896, .bf16⟩
  | .local _ .vmem, ⟨18, _⟩ => ⟨S4x1024x896, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v153 : BitVec 1 := Scalar.cmpi .eq arg0 c7_i32
  let v154 : BitVec 32 := Scalar.extui v153
  let c0_i32_132 : BitVec 32 := 0#32
  let v155 : BitVec 1 := Scalar.cmpi .ne v154 c0_i32_132
  v155

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1024x896 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S2048x1024 : Shape := ⟨2, ![2048, 1024]⟩
abbrev S1x1024 : Shape := ⟨2, ![1, 1024]⟩
abbrev S1024x3584 : Shape := ⟨2, ![1024, 3584]⟩
abbrev S8x2048x64 : Shape := ⟨3, ![8, 2048, 64]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S2048x3584 : Shape := ⟨2, ![2048, 3584]⟩
abbrev S2048x512 : Shape := ⟨2, ![2048, 512]⟩
abbrev S2048x8x64 : Shape := ⟨3, ![2048, 8, 64]⟩
abbrev S3584x1024 : Shape := ⟨2, ![3584, 1024]⟩
abbrev S1024 : Shape := ⟨1, ![1024]⟩
abbrev S1024x4x896 : Shape := ⟨3, ![1024, 4, 896]⟩
abbrev S4x1024x896 : Shape := ⟨3, ![4, 1024, 896]⟩

abbrev nBuf : Space → Nat
  | .hbm => 75
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3584, .f32⟩
  | .hbm, ⟨3, _⟩ => ⟨S8x2048x64, .f32⟩
  | .hbm, ⟨4, _⟩ => ⟨S8x2048x64, .f32⟩
  | .hbm, ⟨5, _⟩ => ⟨S8x2048x64, .f32⟩
  | .hbm, ⟨6, _⟩ => ⟨S2048x2048, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x3584, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x2048, .f32⟩
  | .hbm, ⟨32, _⟩ => ⟨S2048x8x64, .f32⟩
  | .hbm, ⟨33, _⟩ => ⟨S8x2048x64, .f32⟩
  | .hbm, ⟨34, _⟩ => ⟨S2048x8x64, .f32⟩
  | .hbm, ⟨35, _⟩ => ⟨S8x2048x64, .f32⟩
  | .hbm, ⟨36, _⟩ => ⟨S2048x8x64, .f32⟩
  | .hbm, ⟨37, _⟩ => ⟨S8x2048x64, .f32⟩
  | .hbm, ⟨38, _⟩ => ⟨S2048x8x64, .f32⟩
  | .hbm, ⟨39, _⟩ => ⟨S2048x512, .f32⟩
  | .hbm, ⟨40, _⟩ => ⟨S2048x8x64, .f32⟩
  | .hbm, ⟨41, _⟩ => ⟨S2048x512, .f32⟩
  | .hbm, ⟨42, _⟩ => ⟨S2048x8x64, .f32⟩
  | .hbm, ⟨43, _⟩ => ⟨S2048x512, .f32⟩
  | .hbm, ⟨44, _⟩ => ⟨S2048x3584, .f32⟩
  | .hbm, ⟨45, _⟩ => ⟨S3584x1024, .f32⟩
  | .hbm, ⟨46, _⟩ => ⟨S1024x3584, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S1024x4x896, .f32⟩
  | .hbm, ⟨73, _⟩ => ⟨S4x1024x896, .f32⟩
  | .hbm, ⟨74, _⟩ => ⟨S4x1024x896, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Kernel3.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S_ : Shape := ⟨0, ![]⟩
abbrev S8x128 : Shape := ⟨2, ![8, 128]⟩
abbrev S4x2048x704 : Shape := ⟨3, ![4, 2048, 704]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S512x1024 : Shape := ⟨2, ![512, 1024]⟩
abbrev S1x512x704 : Shape := ⟨3, ![1, 512, 704]⟩
abbrev S512 : Shape := ⟨1, ![512]⟩
abbrev S512x1 : Shape := ⟨2, ![512, 1]⟩
abbrev S512x704 : Shape := ⟨2, ![512, 704]⟩
abbrev S1024 : Shape := ⟨1, ![1024]⟩

abbrev nBuf : Space → Nat
  | .hbm => 24
  | .vmem => 34
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S2816x1024, .f32⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S4x704x1024, .f32⟩
  | .hbm, ⟨11, _⟩ => ⟨S4x704x1024, .bf16⟩
  | .hbm, ⟨12, _⟩ => ⟨S4x704x1024, .f32⟩
  | .hbm, ⟨13, _⟩ => ⟨S4x704x1024, .bf16⟩
  | .hbm, ⟨14, _⟩ => ⟨S_, .f32⟩
  | .hbm, ⟨15, _⟩ => ⟨S8x128, .f32⟩
  | .hbm, ⟨16, _⟩ => ⟨S2048x1024, .f32⟩
  | .hbm, ⟨17, _⟩ => ⟨S4x2048x704, .bf16⟩
  | .hbm, ⟨18, _⟩ => ⟨S4x2048x704, .bf16⟩
  | .hbm, ⟨19, _⟩ => ⟨S2048x1024, .f32⟩
  | .hbm, ⟨20, _⟩ => ⟨S1x1024, .f32⟩
  | .hbm, ⟨21, _⟩ => ⟨S4x704x1024, .bf16⟩
  | .hbm, ⟨22, _⟩ => ⟨S4x704x1024, .bf16⟩
  | .hbm, ⟨23, _⟩ => ⟨S4x704x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S256x1024, .f32⟩
  | .local _ .vmem, ⟨7, _⟩ => ⟨S256x1024, .f32⟩
  | .local _ .vmem, ⟨8, _⟩ => ⟨S4x256x704, .bf16⟩
  | .local _ .vmem, ⟨9, _⟩ => ⟨S4x256x704, .bf16⟩
  | .local _ .vmem, ⟨10, _⟩ => ⟨S4x256x704, .bf16⟩
  | .local _ .vmem, ⟨11, _⟩ => ⟨S4x256x704, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x704x1024, .bf16⟩
  | .local _ .vmem, ⟨16, _⟩ => ⟨S1x704x1024, .bf16⟩
  | .local _ .vmem, ⟨17, _⟩ => ⟨S1x704x1024, .bf16⟩
  | .local _ .vmem, ⟨18, _⟩ => ⟨S1x512x704, .bf16⟩
  | .local _ .vmem, ⟨19, _⟩ => ⟨S1x512x704, .bf16⟩
  | .local _ .vmem, ⟨20, _⟩ => ⟨S1x512x704, .bf16⟩
  | .local _ .vmem, ⟨21, _⟩ => ⟨S1x512x704, .bf16⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S1x704x1024, .bf16⟩
  | .local _ .vmem, ⟨28, _⟩ => ⟨S1x704x1024, .bf16⟩
  | .local _ .vmem, ⟨29, _⟩ => ⟨S1x704x1024, .bf16⟩
  | .local _ .vmem, ⟨30, _⟩ => ⟨S2048x1024, .f32⟩
  | .local _ .vmem, ⟨31, _⟩ => ⟨S704x1024, .f32⟩
  | .local _ .vmem, ⟨32, _⟩ => ⟨S704x1024, .f32⟩
  | .local _ .vmem, ⟨33, _⟩ => ⟨S704x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg12_0 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc1_scratch3 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem10_0 : DmaSem sig := 27
abbrev cc1_sem11_0 : DmaSem sig := 28
abbrev cc1_sem12_0 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![4, 4], ![false, false]⟩

def k1_mult1 (i : grid1.Coords) : BitVec 32 :=
  let arg1 : BitVec 32 := BitVec.ofNat 32 (i 1).val
  let c512_i32 : BitVec 32 := 512#32
  let v0 : BitVec 32 := Scalar.muli arg1 c512_i32
  v0
def k1_cond4 (i : grid1.Coords) : BitVec 1 :=
  let arg0 : BitVec 32 := BitVec.ofNat 32 (i 0).val
  let c0_i32_38 : BitVec 32 := 0#32
  let v70 : BitVec 1 := Scalar.cmpi .eq arg0 c0_i32_38
  let v71 : BitVec 32 := Scalar.extui v70
  let c0_i32_39 : BitVec 32 := 0#32
  let v72 : BitVec 1 := Scalar.cmpi .ne v71 c0_i32_39
  v72

def k1_off1 (i : grid1.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v79 : Index := Scalar.indexCast v1
  let c0_44 : Index := 0#32
  ![v79.toNat, 0]
def k1_cond5 (i : grid1.Coords) : BitVec 1 :=
  let arg0 : BitVec 32 := BitVec.ofNat 32 (i 0).val
  let c0_i32_40 : BitVec 32 := 0#32
  let v73 : BitVec 1 := Scalar.cmpi .sgt arg0 c0_i32_40
  let v74 : BitVec 32 := Scalar.extui v73
  let c0_i32_41 : BitVec 32 := 0#32
  let v75 : BitVec 1 := Scalar.cmpi .ne v74 c0_i32_41
  v75

def k1_off2 (i : grid1.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v79 : Index := Scalar.indexCast v1
  let c0_44 : Index := 0#32
  ![v79.toNat, 0]
def k1_cond6 (i : grid1.Coords) : BitVec 1 :=
  let arg0 : BitVec 32 := BitVec.ofNat 32 (i 0).val
  let c3_i32_42 : BitVec 32 := 3#32
  let v76 : BitVec 1 := Scalar.cmpi .eq arg0 c3_i32_42
  let v77 : BitVec 32 := Scalar.extui v76
  let c0_i32_43 : BitVec 32 := 0#32
  let v78 : BitVec 1 := Scalar.cmpi .ne v77 c0_i32_43
  v78

def k1_off3 (i : grid1.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v79 : Index := Scalar.indexCast v1
  let c0_44 : Index := 0#32
  ![v79.toNat, 0]
def k1_cond7 (i : grid1.Coords) : BitVec 1 :=
  let arg1 : BitVec 32 := BitVec.ofNat 32 (i 1).val
  let c0_i32_53 : BitVec 32 := 0#32
  let v108 : BitVec 1 := Scalar.cmpi .eq arg1 c0_i32_53
  let v109 : BitVec 32 := Scalar.extui v108
  let c0_i32_54 : BitVec 32 := 0#32
  let v110 : BitVec 1 := Scalar.cmpi .ne v109 c0_i32_54
  v110

def k1_cond8 (i : grid1.Coords) : BitVec 1 :=
  let arg1 : BitVec 32 := BitVec.ofNat 32 (i 1).val
  let c0_i32_55 : BitVec 32 := 0#32
  let v111 : BitVec 1 := Scalar.cmpi .sgt arg1 c0_i32_55
  let v112 : BitVec 32 := Scalar.extui v111
  let c0_i32_56 : BitVec 32 := 0#32
  let v113 : BitVec 1 := Scalar.cmpi .ne v112 c0_i32_56
  v113

def k1_cond3 (i : grid1.Coords) : BitVec 1 :=
  let arg1 : BitVec 32 := BitVec.ofNat 32 (i 1).val
  let c3_i32 : BitVec 32 := 3#32
  let v67 : BitVec 1 := Scalar.cmpi .eq arg1 c3_i32
  let v68 : BitVec 32 := Scalar.extui v67
  let c0_i32_37 : BitVec 32 := 0#32
  let v69 : BitVec 1 := Scalar.cmpi .ne v68 c0_i32_37
  v69

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_9 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x704x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 1 → Memref sig .tc .vmem S1x704x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 1 → Memref sig .tc .vmem S1x704x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

abbrev stage1_5 : Fin 2 → Memref sig .tc .vmem S1x512x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x704x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true, false]

abbrev stage1_11 : Fin 1 → Memref sig .tc .vmem S1x704x1024 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![true, false]

abbrev stage1_12 : Fin 1 → Memref sig .tc .vmem S1x704x1024 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![true, false]
-- ==== Reference3Ideal.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩
abbrev S1024 : Shape := ⟨1, ![1024]⟩
abbrev S4x704x1024 : Shape := ⟨3, ![4, 704, 1024]⟩

abbrev nBuf : Space → Nat
  | .hbm => 98
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S_, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S1024x2816, .f32⟩
  | .hbm, ⟨51, _⟩ => ⟨S2816x1024, .f32⟩
  | .hbm, ⟨52, _⟩ => ⟨S2048x2816, .f32⟩
  | .hbm, ⟨53, _⟩ => ⟨S2048x2816, .f32⟩
  | .hbm, ⟨54, _⟩ => ⟨S2048x2816, .f32⟩
  | .hbm, ⟨55, _⟩ => ⟨S2816x1024, .f32⟩
  | .hbm, ⟨56, _⟩ => ⟨S1024x2816, .f32⟩
  | .hbm, ⟨57, _⟩ => ⟨S2048x1024, .f32⟩
  | .hbm, ⟨58, _⟩ => ⟨S2048x2816, .f32⟩
  | .hbm, ⟨59, _⟩ => ⟨S2048x2816, .f32⟩
  | .hbm, ⟨60, _⟩ => ⟨S2048x2816, .f32⟩
  | .hbm, ⟨61, _⟩ => ⟨S2048x2816, .f32⟩
  | .hbm, ⟨62, _⟩ => ⟨S2816x1024, .f32⟩
  | .hbm, ⟨63, _⟩ => ⟨S1024x2816, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S_, .f32⟩
  | .hbm, ⟨74, _⟩ => ⟨S2048, .f32⟩
  | .hbm, ⟨75, _⟩ => ⟨S2048x1, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1, .f32⟩
  | .hbm, ⟨80, _⟩ => ⟨S_, .f32⟩
  | .hbm, ⟨81, _⟩ => ⟨S2048x1, .f32⟩
  | .hbm, ⟨82, _⟩ => ⟨S2048x1, .f32⟩
  | .hbm, ⟨83, _⟩ => ⟨S_, .f32⟩
  | .hbm, ⟨84, _⟩ => ⟨S2048, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2816x1024, .f32⟩
  | .hbm, ⟨91, _⟩ => ⟨S2816x1024, .f32⟩
  | .hbm, ⟨92, _⟩ => ⟨S4x704x1024, .f32⟩
  | .hbm, ⟨93, _⟩ => ⟨S4x704x1024, .bf16⟩
  | .hbm, ⟨94, _⟩ => ⟨S4x704x1024, .f32⟩
  | .hbm, ⟨95, _⟩ => ⟨S4x704x1024, .bf16⟩
  | .hbm, ⟨96, _⟩ => ⟨S4x704x1024, .f32⟩
  | .hbm, ⟨97, _⟩ => ⟨S4x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v16_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v16_1 : Ref sig .tc := ⟨.hbm, 37, rfl⟩
abbrev main_v16_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩

abbrev nD : Nat := 1
abbrev τ : Topo := Topo.v7x

variable {F : FTy → Type} [FloatOps F]
-- ==== Kernel4.lean ====
abbrev S2048x2048 : Shape := ⟨2, ![2048, 2048]⟩
abbrev S1x512 : Shape := ⟨2, ![1, 512]⟩
abbrev S512x32 : Shape := ⟨2, ![512, 32]⟩
abbrev S32x512 : Shape := ⟨2, ![32, 512]⟩
abbrev S512x96 : Shape := ⟨2, ![512, 96]⟩
abbrev S96x512 : Shape := ⟨2, ![96, 512]⟩
abbrev S8x2048x64 : Shape := ⟨3, ![8, 2048, 64]⟩
abbrev S2048x512 : Shape := ⟨2, ![2048, 512]⟩
abbrev S10x512 : Shape := ⟨2, ![10, 512]⟩
abbrev S256x2048 : Shape := ⟨2, ![256, 2048]⟩
abbrev S8x2048 : Shape := ⟨2, ![8, 2048]⟩
abbrev S8x256x64 : Shape := ⟨3, ![8, 256, 64]⟩
abbrev S256x512 : Shape := ⟨2, ![256, 512]⟩
abbrev S1x2048 : Shape := ⟨2, ![1, 2048]⟩
abbrev S256x32 : Shape := ⟨2, ![256, 32]⟩
abbrev S256x96 : Shape := ⟨2, ![256, 96]⟩
abbrev S1x256x64 : Shape := ⟨3, ![1, 256, 64]⟩
abbrev S256x64 : Shape := ⟨2, ![256, 64]⟩
abbrev S512 : Shape := ⟨1, ![512]⟩
abbrev S256x1536 : Shape := ⟨2, ![256, 1536]⟩
abbrev S256x1024 : Shape := ⟨2, ![256, 1024]⟩
abbrev S9x512 : Shape := ⟨2, ![9, 512]⟩
abbrev S8x512 : Shape := ⟨2, ![8, 512]⟩
abbrev S7x512 : Shape := ⟨2, ![7, 512]⟩
abbrev S2x512 : Shape := ⟨2, ![2, 512]⟩
abbrev S6x512 : Shape := ⟨2, ![6, 512]⟩
abbrev S3x512 : Shape := ⟨2, ![3, 512]⟩
abbrev S5x512 : Shape := ⟨2, ![5, 512]⟩
abbrev S4x512 : Shape := ⟨2, ![4, 512]⟩

abbrev nBuf : Space → Nat
  | .hbm => 48
  | .vmem => 35
  | .smem => 0
  | _ => 0

abbrev bufTy : (tb : Table) → Fin (tcTables nBuf tb) → BufTy
  | .hbm, ⟨0, _⟩ => ⟨S2048x2048, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S512x32, .f32⟩
  | .hbm, ⟨9, _⟩ => ⟨S32x512, .f32⟩
  | .hbm, ⟨10, _⟩ => ⟨S1x512, .f32⟩
  | .hbm, ⟨11, _⟩ => ⟨S512x32, .f32⟩
  | .hbm, ⟨12, _⟩ => ⟨S32x512, .f32⟩
  | .hbm, ⟨13, _⟩ => ⟨S512x96, .f32⟩
  | .hbm, ⟨14, _⟩ => ⟨S96x512, .f32⟩
  | .hbm, ⟨15, _⟩ => ⟨S1x512, .f32⟩
  | .hbm, ⟨16, _⟩ => ⟨S1x512, .f32⟩
  | .hbm, ⟨17, _⟩ => ⟨S8x2048x64, .f32⟩
  | .hbm, ⟨18, _⟩ => ⟨S8x2048x64, .f32⟩
  | .hbm, ⟨19, _⟩ => ⟨S8x2048x64, .f32⟩
  | .hbm, ⟨20, _⟩ => ⟨S8x2048x64, .f32⟩
  | .hbm, ⟨21, _⟩ => ⟨S8x2048x64, .f32⟩
  | .hbm, ⟨22, _⟩ => ⟨S8x2048x64, .f32⟩
  | .hbm, ⟨23, _⟩ => ⟨S2048x512, .f32⟩
  | .hbm, ⟨24, _⟩ => ⟨S10x512, .f32⟩
  | .hbm, ⟨25, _⟩ => ⟨S32x512, .f32⟩
  | .hbm, ⟨26, _⟩ => ⟨S32x512, .f32⟩
  | .hbm, ⟨27, _⟩ => ⟨S96x512, .f32⟩
  | .hbm, ⟨28, _⟩ => ⟨S32x512, .bf16⟩
  | .hbm, ⟨29, _⟩ => ⟨S32x512, .f32⟩
  | .hbm, ⟨30, _⟩ => ⟨S32x512, .bf16⟩
  | .hbm, ⟨31, _⟩ => ⟨S32x512, .f32⟩
  | .hbm, ⟨32, _⟩ => ⟨S32x512, .bf16⟩
  | .hbm, ⟨33, _⟩ => ⟨S32x512, .f32⟩
  | .hbm, ⟨34, _⟩ => ⟨S32x512, .bf16⟩
  | .hbm, ⟨35, _⟩ => ⟨S32x512, .f32⟩
  | .hbm, ⟨36, _⟩ => ⟨S96x512, .bf16⟩
  | .hbm, ⟨37, _⟩ => ⟨S96x512, .f32⟩
  | .hbm, ⟨38, _⟩ => ⟨S96x512, .bf16⟩
  | .hbm, ⟨39, _⟩ => ⟨S96x512, .f32⟩
  | .hbm, ⟨40, _⟩ => ⟨S2048x2048, .f32⟩
  | .hbm, ⟨41, _⟩ => ⟨S10x512, .f32⟩
  | .hbm, ⟨42, _⟩ => ⟨S32x512, .f32⟩
  | .hbm, ⟨43, _⟩ => ⟨S32x512, .f32⟩
  | .hbm, ⟨44, _⟩ => ⟨S32x512, .f32⟩
  | .hbm, ⟨45, _⟩ => ⟨S32x512, .f32⟩
  | .hbm, ⟨46, _⟩ => ⟨S96x512, .f32⟩
  | .hbm, ⟨47, _⟩ => ⟨S96x512, .f32⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S8x2048, .f32⟩
  | .local _ .vmem, ⟨4, _⟩ => ⟨S10x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S96x512, .f32⟩
  | .local _ .vmem, ⟨10, _⟩ => ⟨S96x512, .f32⟩
  | .local _ .vmem, ⟨11, _⟩ => ⟨S8x256x64, .f32⟩
  | .local _ .vmem, ⟨12, _⟩ => ⟨S8x256x64, .f32⟩
  | .local _ .vmem, ⟨13, _⟩ => ⟨S8x256x64, .f32⟩
  | .local _ .vmem, ⟨14, _⟩ => ⟨S8x256x64, .f32⟩
  | .local _ .vmem, ⟨15, _⟩ => ⟨S8x256x64, .f32⟩
  | .local _ .vmem, ⟨16, _⟩ => ⟨S8x256x64, .f32⟩
  | .local _ .vmem, ⟨17, _⟩ => ⟨S8x256x64, .f32⟩
  | .local _ .vmem, ⟨18, _⟩ => ⟨S8x256x64, .f32⟩
  | .local _ .vmem, ⟨19, _⟩ => ⟨S8x256x64, .f32⟩
  | .local _ .vmem, ⟨20, _⟩ => ⟨S8x256x64, .f32⟩
  | .local _ .vmem, ⟨21, _⟩ => ⟨S8x256x64, .f32⟩
  | .local _ .vmem, ⟨22, _⟩ => ⟨S8x256x64, .f32⟩
  | .local _ .vmem, ⟨23, _⟩ => ⟨S256x512, .f32⟩
  | .local _ .vmem, ⟨24, _⟩ => ⟨S256x512, .f32⟩
  | .local _ .vmem, ⟨25, _⟩ => ⟨S256x2048, .f32⟩
  | .local _ .vmem, ⟨26, _⟩ => ⟨S256x2048, .f32⟩
  | .local _ .vmem, ⟨27, _⟩ => ⟨S10x512, .f32⟩
  | .local _ .vmem, ⟨28, _⟩ => ⟨S32x512, .f32⟩
  | .local _ .vmem, ⟨29, _⟩ => ⟨S32x512, .f32⟩
  | .local _ .vmem, ⟨30, _⟩ => ⟨S32x512, .f32⟩
  | .local _ .vmem, ⟨31, _⟩ => ⟨S32x512, .f32⟩
  | .local _ .vmem, ⟨32, _⟩ => ⟨S96x512, .f32⟩
  | .local _ .vmem, ⟨33, _⟩ => ⟨S96x512, .f32⟩
  | .local _ .vmem, ⟨34, _⟩ => ⟨S8x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16_0 : Ref sig .tc := ⟨.hbm, 40, rfl⟩
abbrev main_v16_1 : Ref sig .tc := ⟨.hbm, 41, rfl⟩
abbrev main_v16_2 : Ref sig .tc := ⟨.hbm, 42, rfl⟩
abbrev main_v16_3 : Ref sig .tc := ⟨.hbm, 43, rfl⟩
abbrev main_v16_4 : Ref sig .tc := ⟨.hbm, 44, rfl⟩
abbrev main_v16_5 : Ref sig .tc := ⟨.hbm, 45, rfl⟩
abbrev main_v16_6 : Ref sig .tc := ⟨.hbm, 46, rfl⟩
abbrev main_v16_7 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg22_0 : Ref sig .tc := ⟨.vmem, 32, rfl⟩
abbrev cc0_stg23_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem22_0 : DmaSem sig := 32
abbrev cc0_sem23_0 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_14 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_15 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S96x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x256x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S10x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S32x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S32x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S32x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S96x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S96x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== Reference4Ideal.lean ====
abbrev S2048x2048 : Shape := ⟨2, ![2048, 2048]⟩
abbrev S1x512 : Shape := ⟨2, ![1, 512]⟩
abbrev S512x32 : Shape := ⟨2, ![512, 32]⟩
abbrev S32x512 : Shape := ⟨2, ![32, 512]⟩
abbrev S512x96 : Shape := ⟨2, ![512, 96]⟩
abbrev S96x512 : Shape := ⟨2, ![96, 512]⟩
abbrev S8x2048x64 : Shape := ⟨3, ![8, 2048, 64]⟩
abbrev S2048x512 : Shape := ⟨2, ![2048, 512]⟩
abbrev S_ : Shape := ⟨0, ![]⟩
abbrev S2047x512 : Shape := ⟨2, ![2047, 512]⟩
abbrev S2048x32 : Shape := ⟨2, ![2048, 32]⟩
abbrev S2048x96 : Shape := ⟨2, ![2048, 96]⟩
abbrev S2048x8x64 : Shape := ⟨3, ![2048, 8, 64]⟩
abbrev S512 : Shape := ⟨1, ![512]⟩
abbrev S10x512 : Shape := ⟨2, ![10, 512]⟩

abbrev nBuf : Space → Nat
  | .hbm => 351
  | .vmem => 0
  | .smem => 0
  | _ => 0

abbrev hbmTy0_0 (i : Nat) : BufTy := match i % 128 with
  | 0 => ⟨S2048x2048, .f32⟩
  | 1 => ⟨S1x512, .f32⟩
  | 2 => ⟨S1x512, .f32⟩
  | 3 => ⟨S1x512, .f32⟩
  | 4 => ⟨S1x512, .f32⟩
  | 5 => ⟨S1x512, .f32⟩
  | 6 => ⟨S1x512, .f32⟩
  | 7 => ⟨S1x512, .f32⟩
  | 8 => ⟨S512x32, .f32⟩
  | 9 => ⟨S32x512, .f32⟩
  | 10 => ⟨S1x512, .f32⟩
  | 11 => ⟨S512x32, .f32⟩
  | 12 => ⟨S32x512, .f32⟩
  | 13 => ⟨S512x96, .f32⟩
  | 14 => ⟨S96x512, .f32⟩
  | 15 => ⟨S1x512, .f32⟩
  | 16 => ⟨S1x512, .f32⟩
  | 17 => ⟨S8x2048x64, .f32⟩
  | 18 => ⟨S8x2048x64, .f32⟩
  | 19 => ⟨S8x2048x64, .f32⟩
  | 20 => ⟨S8x2048x64, .f32⟩
  | 21 => ⟨S8x2048x64, .f32⟩
  | 22 => ⟨S8x2048x64, .f32⟩
  | 23 => ⟨S2048x512, .f32⟩
  | 24 => ⟨S2048x512, .f32⟩
  | 25 => ⟨S2048x512, .f32⟩
  | 26 => ⟨S2048x512, .f32⟩
  | 27 => ⟨S2048x512, .f32⟩
  | 28 => ⟨S_, .f32⟩
  | 29 => ⟨S1x512, .f32⟩
  | 30 => ⟨S2047x512, .f32⟩
  | 31 => ⟨S2048x512, .f32⟩
  | 32 => ⟨S_, .f32⟩
  | 33 => ⟨S1x512, .f32⟩
  | 34 => ⟨S2048x512, .f32⟩
  | 35 => ⟨S2048x512, .f32⟩
  | 36 => ⟨S2048x512, .f32⟩
  | 37 => ⟨S2048x512, .f32⟩
  | 38 => ⟨S_, .f32⟩
  | 39 => ⟨S1x512, .f32⟩
  | 40 => ⟨S2047x512, .f32⟩
  | 41 => ⟨S2048x512, .f32⟩
  | 42 => ⟨S_, .f32⟩
  | 43 => ⟨S1x512, .f32⟩
  | 44 => ⟨S2048x512, .f32⟩
  | 45 => ⟨S2048x512, .f32⟩
  | 46 => ⟨S2048x512, .f32⟩
  | 47 => ⟨S2048x512, .f32⟩
  | 48 => ⟨S_, .f32⟩
  | 49 => ⟨S1x512, .f32⟩
  | 50 => ⟨S2047x512, .f32⟩
  | 51 => ⟨S2048x512, .f32⟩
  | 52 => ⟨S_, .f32⟩
  | 53 => ⟨S1x512, .f32⟩
  | 54 => ⟨S2048x512, .f32⟩
  | 55 => ⟨S2048x512, .f32⟩
  | 56 => ⟨S2048x512, .f32⟩
  | 57 => ⟨S2048x512, .f32⟩
  | 58 => ⟨S_, .f32⟩
  | 59 => ⟨S1x512, .f32⟩
  | 60 => ⟨S2047x512, .f32⟩
  | 61 => ⟨S2048x512, .f32⟩
  | 62 => ⟨S_, .f32⟩
  | 63 => ⟨S1x512, .f32⟩
  | 64 => ⟨S2048x512, .f32⟩
  | 65 => ⟨S2048x512, .f32⟩
  | 66 => ⟨S2048x512, .f32⟩
  | 67 => ⟨S2048x512, .f32⟩
  | 68 => ⟨S_, .f32⟩
  | 69 => ⟨S1x512, .f32⟩
  | 70 => ⟨S2047x512, .f32⟩
  | 71 => ⟨S2048x512, .f32⟩
  | 72 => ⟨S_, .f32⟩
  | 73 => ⟨S1x512, .f32⟩
  | 74 => ⟨S2048x512, .f32⟩
  | 75 => ⟨S2048x512, .f32⟩
  | 76 => ⟨S2048x512, .f32⟩
  | 77 => ⟨S2048x512, .f32⟩
  | 78 => ⟨S_, .f32⟩
  | 79 => ⟨S1x512, .f32⟩
  | 80 => ⟨S2047x512, .f32⟩
  | 81 => ⟨S2048x512, .f32⟩
  | 82 => ⟨S_, .f32⟩
  | 83 => ⟨S1x512, .f32⟩
  | 84 => ⟨S2048x512, .f32⟩
  | 85 => ⟨S2048x512, .f32⟩
  | 86 => ⟨S2048x512, .f32⟩
  | 87 => ⟨S2048x512, .f32⟩
  | 88 => ⟨S2048x32, .f32⟩
  | 89 => ⟨S2048x32, .f32⟩
  | 90 => ⟨S_, .f32⟩
  | 91 => ⟨S2048x32, .f32⟩
  | 92 => ⟨S2048x32, .f32⟩
  | 93 => ⟨S_, .f32⟩
  | 94 => ⟨S2048x32, .f32⟩
  | 95 => ⟨S2048x32, .f32⟩
  | 96 => ⟨S2048x32, .f32⟩
  | 97 => ⟨S2048x512, .f32⟩
  | 98 => ⟨S2048x512, .f32⟩
  | 99 => ⟨S2048x512, .f32⟩
  | 100 => ⟨S2048x512, .f32⟩
  | 101 => ⟨S_, .f32⟩
  | 102 => ⟨S2048x512, .f32⟩
  | 103 => ⟨S2048x512, .f32⟩
  | 104 => ⟨S2048x512, .f32⟩
  | 105 => ⟨S2048x512, .f32⟩
  | 106 => ⟨S2048x512, .i1⟩
  | 107 => ⟨S2048x512, .f32⟩
  | 108 => ⟨S2048x512, .f32⟩
  | 109 => ⟨S2048x512, .f32⟩
  | 110 => ⟨S2048x512, .f32⟩
  | 111 => ⟨S2048x512, .f32⟩
  | 112 => ⟨S2048x512, .f32⟩
  | 113 => ⟨S2048x512, .f32⟩
  | 114 => ⟨S2048x512, .f32⟩
  | 115 => ⟨S_, .f32⟩
  | 116 => ⟨S2048x512, .f32⟩
  | 117 => ⟨S2048x512, .i1⟩
  | 118 => ⟨S_, .f32⟩
  | 119 => ⟨S2048x512, .f32⟩
  | 120 => ⟨S2048x512, .f32⟩
  | 121 => ⟨S_, .f32⟩
  | 122 => ⟨S2048x512, .f32⟩
  | 123 => ⟨S2048x512, .i1⟩
  | 124 => ⟨S_, .f32⟩
  | 125 => ⟨S2048x512, .f32⟩
  | 126 => ⟨S2048x512, .f32⟩
  | 127 => ⟨S2048x512, .f32⟩
  | _ => ⟨S2048x2048, .f32⟩

abbrev hbmTy0_1 (i : Nat) : BufTy := match i % 128 with
  | 0 => ⟨S2048x512, .f32⟩
  | 1 => ⟨S_, .f32⟩
  | 2 => ⟨S_, .f32⟩
  | 3 => ⟨S_, .i1⟩
  | 4 => ⟨S_, .f32⟩
  | 5 => ⟨S_, .f32⟩
  | 6 => ⟨S_, .f32⟩
  | 7 => ⟨S_, .f32⟩
  | 8 => ⟨S2048x512, .f32⟩
  | 9 => ⟨S2048x512, .i1⟩
  | 10 => ⟨S_, .f32⟩
  | 11 => ⟨S2048x512, .f32⟩
  | 12 => ⟨S2048x512, .f32⟩
  | 13 => ⟨S2048x512, .f32⟩
  | 14 => ⟨S2048x512, .f32⟩
  | 15 => ⟨S2048x512, .f32⟩
  | 16 => ⟨S_, .f32⟩
  | 17 => ⟨S2048x512, .f32⟩
  | 18 => ⟨S2048x512, .f32⟩
  | 19 => ⟨S2048x512, .f32⟩
  | 20 => ⟨S_, .f32⟩
  | 21 => ⟨S2048x512, .f32⟩
  | 22 => ⟨S2048x512, .f32⟩
  | 23 => ⟨S2048x512, .f32⟩
  | 24 => ⟨S2048x512, .f32⟩
  | 25 => ⟨S2048x32, .f32⟩
  | 26 => ⟨S2048x512, .f32⟩
  | 27 => ⟨S2048x512, .f32⟩
  | 28 => ⟨S2048x512, .f32⟩
  | 29 => ⟨S2048x512, .f32⟩
  | 30 => ⟨S2048x512, .f32⟩
  | 31 => ⟨S_, .f32⟩
  | 32 => ⟨S2048x512, .f32⟩
  | 33 => ⟨S2048x512, .f32⟩
  | 34 => ⟨S_, .f32⟩
  | 35 => ⟨S2048x512, .f32⟩
  | 36 => ⟨S2048x512, .f32⟩
  | 37 => ⟨S_, .f32⟩
  | 38 => ⟨S2048x512, .f32⟩
  | 39 => ⟨S2048x512, .f32⟩
  | 40 => ⟨S2048x512, .f32⟩
  | 41 => ⟨S2048x96, .f32⟩
  | 42 => ⟨S2048x96, .f32⟩
  | 43 => ⟨S2048x96, .f32⟩
  | 44 => ⟨S_, .f32⟩
  | 45 => ⟨S2048x96, .f32⟩
  | 46 => ⟨S2048x96, .f32⟩
  | 47 => ⟨S_, .f32⟩
  | 48 => ⟨S2048x96, .f32⟩
  | 49 => ⟨S2048x96, .f32⟩
  | 50 => ⟨S_, .f32⟩
  | 51 => ⟨S2048x96, .f32⟩
  | 52 => ⟨S2048x96, .f32⟩
  | 53 => ⟨S2048x96, .f32⟩
  | 54 => ⟨S2048x512, .f32⟩
  | 55 => ⟨S2048x512, .f32⟩
  | 56 => ⟨S2048x512, .f32⟩
  | 57 => ⟨S_, .f32⟩
  | 58 => ⟨S2048x512, .f32⟩
  | 59 => ⟨S2048x512, .f32⟩
  | 60 => ⟨S2048x512, .f32⟩
  | 61 => ⟨S2048x512, .f32⟩
  | 62 => ⟨S_, .f32⟩
  | 63 => ⟨S2048x512, .f32⟩
  | 64 => ⟨S2048x512, .f32⟩
  | 65 => ⟨S2048x512, .f32⟩
  | 66 => ⟨S2048x8x64, .f32⟩
  | 67 => ⟨S8x2048x64, .f32⟩
  | 68 => ⟨S2048x8x64, .f32⟩
  | 69 => ⟨S8x2048x64, .f32⟩
  | 70 => ⟨S2048x8x64, .f32⟩
  | 71 => ⟨S8x2048x64, .f32⟩
  | 72 => ⟨S2048x8x64, .f32⟩
  | 73 => ⟨S8x2048x64, .f32⟩
  | 74 => ⟨S2048x8x64, .f32⟩
  | 75 => ⟨S8x2048x64, .f32⟩
  | 76 => ⟨S2048x8x64, .f32⟩
  | 77 => ⟨S8x2048x64, .f32⟩
  | 78 => ⟨S2048x8x64, .f32⟩
  | 79 => ⟨S2048x512, .f32⟩
  | 80 => ⟨S2048x8x64, .f32⟩
  | 81 => ⟨S2048x512, .f32⟩
  | 82 => ⟨S2048x8x64, .f32⟩
  | 83 => ⟨S2048x512, .f32⟩
  | 84 => ⟨S2048x8x64, .f32⟩
  | 85 => ⟨S2048x512, .f32⟩
  | 86 => ⟨S2048x8x64, .f32⟩
  | 87 => ⟨S2048x512, .f32⟩
  | 88 => ⟨S2048x8x64, .f32⟩
  | 89 => ⟨S2048x512, .f32⟩
  | 90 => ⟨S2048x512, .f32⟩
  | 91 => ⟨S2048x512, .f32⟩
  | 92 => ⟨S2048x512, .f32⟩
  | 93 => ⟨S_, .f32⟩
  | 94 => ⟨S512, .f32⟩
  | 95 => ⟨S1x512, .f32⟩
  | 96 => ⟨S2048x512, .f32⟩
  | 97 => ⟨S2048x512, .f32⟩
  | 98 => ⟨S2048x512, .f32⟩
  | 99 => ⟨S2048x512, .f32⟩
  | 100 => ⟨S_, .f32⟩
  | 101 => ⟨S512, .f32⟩
  | 102 => ⟨S1x512, .f32⟩
  | 103 => ⟨S2048x512, .f32⟩
  | 104 => ⟨S2048x512, .f32⟩
  | 105 => ⟨S2048x512, .f32⟩
  | 106 => ⟨S512x96, .f32⟩
  | 107 => ⟨S96x512, .f32⟩
  | 108 => ⟨S2048x96, .f32⟩
  | 109 => ⟨S2048x96, .f32⟩
  | 110 => ⟨S96x512, .f32⟩
  | 111 => ⟨S512x96, .f32⟩
  | 112 => ⟨S2048x512, .f32⟩
  | 113 => ⟨S2048x512, .f32⟩
  | 114 => ⟨S_, .f32⟩
  | 115 => ⟨S512, .f32⟩
  | 116 => ⟨S1x512, .f32⟩
  | 117 => ⟨S512x32, .f32⟩
  | 118 => ⟨S32x512, .f32⟩
  | 119 => ⟨S2048x32, .f32⟩
  | 120 => ⟨S32x512, .f32⟩
  | 121 => ⟨S512x32, .f32⟩
  | 122 => ⟨S2048x512, .f32⟩
  | 123 => ⟨S2048x512, .f32⟩
  | 124 => ⟨S2048x512, .f32⟩
  | 125 => ⟨S2048x512, .f32⟩
  | 126 => ⟨S2048x512, .f32⟩
  | 127 => ⟨S2048x512, .f32⟩
  | _ => ⟨S2048x2048, .f32⟩

abbrev hbmTy0_2 (i : Nat) : BufTy := match i % 128 with
  | 0 => ⟨S_, .f32⟩
  | 1 => ⟨S512, .f32⟩
  | 2 => ⟨S1x512, .f32⟩
  | 3 => ⟨S512x32, .f32⟩
  | 4 => ⟨S32x512, .f32⟩
  | 5 => ⟨S2048x32, .f32⟩
  | 6 => ⟨S2048x32, .f32⟩
  | 7 => ⟨S32x512, .f32⟩
  | 8 => ⟨S512x32, .f32⟩
  | 9 => ⟨S2048x512, .f32⟩
  | 10 => ⟨S2048x512, .f32⟩
  | 11 => ⟨S_, .f32⟩
  | 12 => ⟨S512, .f32⟩
  | 13 => ⟨S1x512, .f32⟩
  | 14 => ⟨S2048x512, .f32⟩
  | 15 => ⟨S2048x512, .f32⟩
  | 16 => ⟨S2048x512, .f32⟩
  | 17 => ⟨S2048x512, .f32⟩
  | 18 => ⟨S1x512, .f32⟩
  | 19 => ⟨S2047x512, .f32⟩
  | 20 => ⟨S_, .f32⟩
  | 21 => ⟨S2048x512, .f32⟩
  | 22 => ⟨S2048x512, .f32⟩
  | 23 => ⟨S2048x512, .f32⟩
  | 24 => ⟨S2048x512, .f32⟩
  | 25 => ⟨S_, .f32⟩
  | 26 => ⟨S512, .f32⟩
  | 27 => ⟨S1x512, .f32⟩
  | 28 => ⟨S2048x512, .f32⟩
  | 29 => ⟨S2048x512, .f32⟩
  | 30 => ⟨S2048x512, .f32⟩
  | 31 => ⟨S2048x512, .f32⟩
  | 32 => ⟨S1x512, .f32⟩
  | 33 => ⟨S2047x512, .f32⟩
  | 34 => ⟨S_, .f32⟩
  | 35 => ⟨S2048x512, .f32⟩
  | 36 => ⟨S2048x512, .f32⟩
  | 37 => ⟨S2048x512, .f32⟩
  | 38 => ⟨S2048x512, .f32⟩
  | 39 => ⟨S_, .f32⟩
  | 40 => ⟨S512, .f32⟩
  | 41 => ⟨S1x512, .f32⟩
  | 42 => ⟨S2048x512, .f32⟩
  | 43 => ⟨S2048x512, .f32⟩
  | 44 => ⟨S2048x512, .f32⟩
  | 45 => ⟨S2048x512, .f32⟩
  | 46 => ⟨S1x512, .f32⟩
  | 47 => ⟨S2047x512, .f32⟩
  | 48 => ⟨S_, .f32⟩
  | 49 => ⟨S2048x512, .f32⟩
  | 50 => ⟨S2048x512, .f32⟩
  | 51 => ⟨S2048x512, .f32⟩
  | 52 => ⟨S_, .f32⟩
  | 53 => ⟨S512, .f32⟩
  | 54 => ⟨S1x512, .f32⟩
  | 55 => ⟨S2048x512, .f32⟩
  | 56 => ⟨S2048x512, .f32⟩
  | 57 => ⟨S2048x512, .f32⟩
  | 58 => ⟨S2048x512, .f32⟩
  | 59 => ⟨S1x512, .f32⟩
  | 60 => ⟨S2047x512, .f32⟩
  | 61 => ⟨S_, .f32⟩
  | 62 => ⟨S2048x512, .f32⟩
  | 63 => ⟨S2048x512, .f32⟩
  | 64 => ⟨S2048x512, .f32⟩
  | 65 => ⟨S_, .f32⟩
  | 66 => ⟨S512, .f32⟩
  | 67 => ⟨S1x512, .f32⟩
  | 68 => ⟨S2048x512, .f32⟩
  | 69 => ⟨S2048x512, .f32⟩
  | 70 => ⟨S2048x512, .f32⟩
  | 71 => ⟨S2048x512, .f32⟩
  | 72 => ⟨S1x512, .f32⟩
  | 73 => ⟨S2047x512, .f32⟩
  | 74 => ⟨S_, .f32⟩
  | 75 => ⟨S2048x512, .f32⟩
  | 76 => ⟨S2048x512, .f32⟩
  | 77 => ⟨S2048x512, .f32⟩
  | 78 => ⟨S_, .f32⟩
  | 79 => ⟨S512, .f32⟩
  | 80 => ⟨S1x512, .f32⟩
  | 81 => ⟨S2048x512, .f32⟩
  | 82 => ⟨S2048x512, .f32⟩
  | 83 => ⟨S2048x512, .f32⟩
  | 84 => ⟨S2048x512, .f32⟩
  | 85 => ⟨S1x512, .f32⟩
  | 86 => ⟨S2047x512, .f32⟩
  | 87 => ⟨S_, .f32⟩
  | 88 => ⟨S2048x512, .f32⟩
  | 89 => ⟨S2048x512, .f32⟩
  | 90 => ⟨S2048x2048, .f32⟩
  | 91 => ⟨S10x512, .f32⟩
  | 92 => ⟨S32x512, .f32⟩
  | 93 => ⟨S32x512, .f32⟩
  | 94 => ⟨S96x512, .f32⟩
  | _ => ⟨S2048x2048, .f32⟩

abbrev hbmTy (i : Nat) : BufTy := match i / 128 with
  | 0 => hbmTy0_0 i
  | 1 => hbmTy0_1 i
  | 2 => hbmTy0_2 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst_0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_3 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_5 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_6 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_7 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_8 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_9 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_10 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_11 : Ref sig .tc := ⟨.hbm, 90, rfl⟩
abbrev main_v54 : Ref sig .tc := ⟨.hbm, 91, rfl⟩
abbrev main_v55 : Ref sig .tc := ⟨.hbm, 92, rfl⟩
abbrev main_cst_12 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_call0_cst : Ref sig .tc := ⟨.hbm, 101, rfl⟩
abbrev main_call0_v0 : Ref sig .tc := ⟨.hbm, 102, rfl⟩
abbrev main_call0_v1 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_call0_v5 : Ref sig .tc := ⟨.hbm, 107, rfl⟩
abbrev main_call0_v6 : Ref sig .tc := ⟨.hbm, 108, rfl⟩
abbrev main_call0_v7 : Ref sig .tc := ⟨.hbm, 109, rfl⟩
abbrev main_call0_v8 : Ref sig .tc := ⟨.hbm, 110, rfl⟩
abbrev main_call0_v9 : Ref sig .tc := ⟨.hbm, 111, rfl⟩
abbrev main_call0_v10 : Ref sig .tc := ⟨.hbm, 112, rfl⟩
abbrev main_call0_v11 : Ref sig .tc := ⟨.hbm, 113, rfl⟩
abbrev main_v63_0 : Ref sig .tc := ⟨.hbm, 114, rfl⟩
abbrev main_call0_cst_0 : Ref sig .tc := ⟨.hbm, 115, rfl⟩
abbrev main_call0_v13 : Ref sig .tc := ⟨.hbm, 116, rfl⟩
abbrev main_call0_v14 : Ref sig .tc := ⟨.hbm, 117, rfl⟩
abbrev main_call0_cst_1 : Ref sig .tc := ⟨.hbm, 118, rfl⟩
abbrev main_call0_v15 : Ref sig .tc := ⟨.hbm, 119, rfl⟩
abbrev main_call0_v16 : Ref sig .tc := ⟨.hbm, 120, rfl⟩
abbrev main_call0_cst_2 : Ref sig .tc := ⟨.hbm, 121, rfl⟩
abbrev main_call0_v17 : Ref sig .tc := ⟨.hbm, 122, rfl⟩
abbrev main_call0_v18 : Ref sig .tc := ⟨.hbm, 123, rfl⟩
abbrev main_call0_cst_3 : Ref sig .tc := ⟨.hbm, 124, rfl⟩
abbrev main_call0_v19 : Ref sig .tc := ⟨.hbm, 125, rfl⟩
abbrev main_call0_v20 : Ref sig .tc := ⟨.hbm, 126, rfl⟩
abbrev main_call0_v21 : Ref sig .tc := ⟨.hbm, 127, rfl⟩
abbrev main_v63_1 : Ref sig .tc := ⟨.hbm, 128, rfl⟩
abbrev main_call0_cst_4 : Ref sig .tc := ⟨.hbm, 129, rfl⟩
abbrev main_call0_cst_5 : Ref sig .tc := ⟨.hbm, 130, rfl⟩
abbrev main_call0_v23 : Ref sig .tc := ⟨.hbm, 131, rfl⟩
abbrev main_call0_cst_6 : Ref sig .tc := ⟨.hbm, 132, rfl⟩
abbrev main_call0_cst_7 : Ref sig .tc := ⟨.hbm, 133, rfl⟩
abbrev main_call0_v24 : Ref sig .tc := ⟨.hbm, 134, rfl⟩
abbrev main_call0_cst_8 : Ref sig .tc := ⟨.hbm, 135, rfl⟩
abbrev main_call0_v25 : Ref sig .tc := ⟨.hbm, 136, rfl⟩
abbrev main_call0_v26 : Ref sig .tc := ⟨.hbm, 137, rfl⟩
abbrev main_call0_cst_9 : Ref sig .tc := ⟨.hbm, 138, rfl⟩
abbrev main_call0_v27 : Ref sig .tc := ⟨.hbm, 139, rfl⟩
abbrev main_call0_v28 : Ref sig .tc := ⟨.hbm, 140, rfl⟩
abbrev main_call0_v29 : Ref sig .tc := ⟨.hbm, 141, rfl⟩
abbrev main_call0_v30 : Ref sig .tc := ⟨.hbm, 142, rfl⟩
abbrev main_call0_v31 : Ref sig .tc := ⟨.hbm, 143, rfl⟩
abbrev main_call0_cst_10 : Ref sig .tc := ⟨.hbm, 144, rfl⟩
abbrev main_call0_v32 : Ref sig .tc := ⟨.hbm, 145, rfl⟩
abbrev main_v63_2 : Ref sig .tc := ⟨.hbm, 146, rfl⟩
abbrev main_v64 : Ref sig .tc := ⟨.hbm, 147, rfl⟩
abbrev main_cst_13 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_cst_14 : Ref sig .tc := ⟨.hbm, 159, rfl⟩
abbrev main_v75 : Ref sig .tc := ⟨.hbm, 160, rfl⟩
abbrev main_v76 : Ref sig .tc := ⟨.hbm, 161, rfl⟩
abbrev main_cst_15 : Ref sig .tc := ⟨.hbm, 162, rfl⟩
abbrev main_v77 : Ref sig .tc := ⟨.hbm, 163, rfl⟩
abbrev main_v78 : Ref sig .tc := ⟨.hbm, 164, rfl⟩
abbrev main_cst_16 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_cst_17 : Ref sig .tc := ⟨.hbm, 172, rfl⟩
abbrev main_v85 : Ref sig .tc := ⟨.hbm, 173, rfl⟩
abbrev main_v86 : Ref sig .tc := ⟨.hbm, 174, rfl⟩
abbrev main_cst_18 : Ref sig .tc := ⟨.hbm, 175, rfl⟩
abbrev main_v87 : Ref sig .tc := ⟨.hbm, 176, rfl⟩
abbrev main_v88 : Ref sig .tc := ⟨.hbm, 177, rfl⟩
abbrev main_cst_19 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_cst_20 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_cst_21 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_cst_22 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_cst_23 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_v145 : Ref sig .tc := ⟨.hbm, 239, rfl⟩
abbrev main_v146 : Ref sig .tc := ⟨.hbm, 240, rfl⟩
abbrev main_v147 : Ref sig .tc := ⟨.hbm, 241, rfl⟩
abbrev main_cst_24 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_cst_25 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_cst_26 : Ref sig .tc := ⟨.hbm, 267, rfl⟩
abbrev main_v171 : Ref sig .tc := ⟨.hbm, 268, rfl⟩
abbrev main_v172 : Ref sig .tc := ⟨.hbm, 269, rfl⟩
abbrev main_v173 : Ref sig .tc := ⟨.hbm, 270, rfl⟩
abbrev main_v174 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_cst_27 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_cst_28 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_cst_29 : Ref sig .tc := ⟨.hbm, 290, rfl⟩
abbrev main_v191 : Ref sig .tc := ⟨.hbm, 291, rfl⟩
abbrev main_v192 : Ref sig .tc := ⟨.hbm, 292, rfl⟩
abbrev main_v193 : Ref sig .tc := ⟨.hbm, 293, rfl⟩
abbrev main_v194 : Ref sig .tc := ⟨.hbm, 294, rfl⟩
abbrev main_cst_30 : Ref sig .tc := ⟨.hbm, 295, rfl⟩
abbrev main_v195 : Ref sig .tc := ⟨.hbm, 296, rfl⟩
abbrev main_v196 : Ref sig .tc := ⟨.hbm, 297, rfl⟩
abbrev main_v197 : Ref sig .tc := ⟨.hbm, 298, rfl⟩
abbrev main_v198 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_v202 : Ref sig .tc := ⟨.hbm, 303, rfl⟩
abbrev main_cst_31 : Ref sig .tc := ⟨.hbm, 304, rfl⟩
abbrev main_v203 : Ref sig .tc := ⟨.hbm, 305, rfl⟩
abbrev main_v204 : Ref sig .tc := ⟨.hbm, 306, rfl⟩
abbrev main_v205 : Ref sig .tc := ⟨.hbm, 307, rfl⟩
abbrev main_cst_32 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_v213 : Ref sig .tc := ⟨.hbm, 316, rfl⟩
abbrev main_cst_33 : Ref sig .tc := ⟨.hbm, 317, rfl⟩
abbrev main_v214 : Ref sig .tc := ⟨.hbm, 318, rfl⟩
abbrev main_v215 : Ref sig .tc := ⟨.hbm, 319, rfl⟩
abbrev main_v216 : Ref sig .tc := ⟨.hbm, 320, rfl⟩
abbrev main_cst_34 : Ref sig .tc := ⟨.hbm, 321, rfl⟩
abbrev main_v217 : Ref sig .tc := ⟨.hbm, 322, rfl⟩
abbrev main_v218 : Ref sig .tc := ⟨.hbm, 323, rfl⟩
abbrev main_v219 : Ref sig .tc := ⟨.hbm, 324, rfl⟩
abbrev main_v220 : Ref sig .tc := ⟨.hbm, 325, rfl⟩
abbrev main_v221 : Ref sig .tc := ⟨.hbm, 326, rfl⟩
abbrev main_v222 : Ref sig .tc := ⟨.hbm, 327, rfl⟩
abbrev main_v223 : Ref sig .tc := ⟨.hbm, 328, rfl⟩
abbrev main_v224 : Ref sig .tc := ⟨.hbm, 329, rfl⟩
abbrev main_cst_35 : Ref sig .tc := ⟨.hbm, 330, rfl⟩
abbrev main_v225 : Ref sig .tc := ⟨.hbm, 331, rfl⟩
abbrev main_v226 : Ref sig .tc := ⟨.hbm, 332, rfl⟩
abbrev main_v227 : Ref sig .tc := ⟨.hbm, 333, rfl⟩
abbrev main_cst_36 : Ref sig .tc := ⟨.hbm, 334, rfl⟩
abbrev main_v228 : Ref sig .tc := ⟨.hbm, 335, rfl⟩
abbrev main_v229 : Ref sig .tc := ⟨.hbm, 336, rfl⟩
abbrev main_v230 : Ref sig .tc := ⟨.hbm, 337, rfl⟩
abbrev main_v231 : Ref sig .tc := ⟨.hbm, 338, rfl⟩
abbrev main_v232 : Ref sig .tc := ⟨.hbm, 339, rfl⟩
abbrev main_v233 : Ref sig .tc := ⟨.hbm, 340, rfl⟩
abbrev main_v234 : Ref sig .tc := ⟨.hbm, 341, rfl⟩
abbrev main_v235 : Ref sig .tc := ⟨.hbm, 342, rfl⟩
abbrev main_cst_37 : Ref sig .tc := ⟨.hbm, 343, rfl⟩
abbrev main_v236 : Ref sig .tc := ⟨.hbm, 344, rfl⟩
abbrev main_v237 : Ref sig .tc := ⟨.hbm, 345, rfl⟩
abbrev main_v238 : Ref sig .tc := ⟨.hbm, 346, rfl⟩
abbrev main_v239 : Ref sig .tc := ⟨.hbm, 347, rfl⟩
abbrev main_v240 : Ref sig .tc := ⟨.hbm, 348, rfl⟩
abbrev main_v241 : Ref sig .tc := ⟨.hbm, 349, rfl⟩
abbrev main_v242 : Ref sig .tc := ⟨.hbm, 350, rfl⟩

abbrev nD : Nat := 1
abbrev τ : Topo := Topo.v7x

variable {F : FTy → Type} [FloatOps F]
-- ==== Kernel5.lean ====
abbrev S2048x1024 : Shape := ⟨2, ![2048, 1024]⟩
abbrev S8x2048x64 : Shape := ⟨3, ![8, 2048, 64]⟩
abbrev S2048x512 : Shape := ⟨2, ![2048, 512]⟩
abbrev S1024x1024 : Shape := ⟨2, ![1024, 1024]⟩
abbrev S256x1024 : Shape := ⟨2, ![256, 1024]⟩
abbrev S8x256x64 : Shape := ⟨3, ![8, 256, 64]⟩
abbrev S256x512 : Shape := ⟨2, ![256, 512]⟩
abbrev S1x256x64 : Shape := ⟨3, ![1, 256, 64]⟩
abbrev S256x64 : Shape := ⟨2, ![256, 64]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S8x2048x64, .f32⟩
  | .hbm, ⟨2, _⟩ => ⟨S8x2048x64, .f32⟩
  | .hbm, ⟨3, _⟩ => ⟨S2048x512, .f32⟩
  | .hbm, ⟨4, _⟩ => ⟨S1024x1024, .f32⟩
  | .hbm, ⟨5, _⟩ => ⟨S1024x1024, .bf16⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S8x256x64, .f32⟩
  | .local _ .vmem, ⟨3, _⟩ => ⟨S8x256x64, .f32⟩
  | .local _ .vmem, ⟨4, _⟩ => ⟨S8x256x64, .f32⟩
  | .local _ .vmem, ⟨5, _⟩ => ⟨S8x256x64, .f32⟩
  | .local _ .vmem, ⟨6, _⟩ => ⟨S256x512, .f32⟩
  | .local _ .vmem, ⟨7, _⟩ => ⟨S256x512, .f32⟩
  | .local _ .vmem, ⟨8, _⟩ => ⟨S1024x1024, .bf16⟩
  | .local _ .vmem, ⟨9, _⟩ => ⟨S256x1024, .f32⟩
  | .local _ .vmem, ⟨10, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S2048x1024 : Shape := ⟨2, ![2048, 1024]⟩
abbrev S8x2048x64 : Shape := ⟨3, ![8, 2048, 64]⟩
abbrev S2048x512 : Shape := ⟨2, ![2048, 512]⟩
abbrev S1024x1024 : Shape := ⟨2, ![1024, 1024]⟩
abbrev S2048x8x64 : Shape := ⟨3, ![2048, 8, 64]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x2048x64, .f32⟩
  | .hbm, ⟨2, _⟩ => ⟨S8x2048x64, .f32⟩
  | .hbm, ⟨3, _⟩ => ⟨S2048x512, .f32⟩
  | .hbm, ⟨4, _⟩ => ⟨S1024x1024, .f32⟩
  | .hbm, ⟨5, _⟩ => ⟨S2048x8x64, .f32⟩
  | .hbm, ⟨6, _⟩ => ⟨S2048x512, .f32⟩
  | .hbm, ⟨7, _⟩ => ⟨S2048x512, .f32⟩
  | .hbm, ⟨8, _⟩ => ⟨S2048x8x64, .f32⟩
  | .hbm, ⟨9, _⟩ => ⟨S2048x512, .f32⟩
  | .hbm, ⟨10, _⟩ => ⟨S2048x1024, .f32⟩
  | .hbm, ⟨11, _⟩ => ⟨S2048x1024, .f32⟩
  | .hbm, ⟨12, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel6.lean ====
abbrev S2048x1024 : Shape := ⟨2, ![2048, 1024]⟩
abbrev S1x1024 : Shape := ⟨2, ![1, 1024]⟩
abbrev S1024x3584 : Shape := ⟨2, ![1024, 3584]⟩
abbrev S1024x4x896 : Shape := ⟨3, ![1024, 4, 896]⟩
abbrev S4x1024x896 : Shape := ⟨3, ![4, 1024, 896]⟩
abbrev S8x2048x64 : Shape := ⟨3, ![8, 2048, 64]⟩
abbrev S2048x2048 : Shape := ⟨2, ![2048, 2048]⟩
abbrev S256x1024 : Shape := ⟨2, ![256, 1024]⟩
abbrev S8x256x64 : Shape := ⟨3, ![8, 256, 64]⟩
abbrev S256x2048 : Shape := ⟨2, ![256, 2048]⟩
abbrev S256 : Shape := ⟨1, ![256]⟩
abbrev S256x1 : Shape := ⟨2, ![256, 1]⟩
abbrev S1x1024x896 : Shape := ⟨3, ![1, 1024, 896]⟩
abbrev S1024x896 : Shape := ⟨2, ![1024, 896]⟩
abbrev S256x896 : Shape := ⟨2, ![256, 896]⟩
abbrev S256x3584 : Shape := ⟨2, ![256, 3584]⟩
abbrev S256x512 : Shape := ⟨2, ![256, 512]⟩
abbrev S256x64 : Shape := ⟨2, ![256, 64]⟩
abbrev S1x256x64 : Shape := ⟨3, ![1, 256, 64]⟩

abbrev nBuf : Space → Nat
  | .hbm => 10
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3584, .f32⟩
  | .hbm, ⟨3, _⟩ => ⟨S1024x4x896, .f32⟩
  | .hbm, ⟨4, _⟩ => ⟨S4x1024x896, .f32⟩
  | .hbm, ⟨5, _⟩ => ⟨S4x1024x896, .bf16⟩
  | .hbm, ⟨6, _⟩ => ⟨S8x2048x64, .f32⟩
  | .hbm, ⟨7, _⟩ => ⟨S8x2048x64, .f32⟩
  | .hbm, ⟨8, _⟩ => ⟨S8x2048x64, .f32⟩
  | .hbm, ⟨9, _⟩ => ⟨S2048x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x896, .bf16⟩
  | .local _ .vmem, ⟨4, _⟩ => ⟨S8x256x64, .f32⟩
  | .local _ .vmem, ⟨5, _⟩ => ⟨S8x256x64, .f32⟩
  | .local _ .vmem, ⟨6, _⟩ => ⟨S8x256x64, .f32⟩
  | .local _ .vmem, ⟨7, _⟩ => ⟨S8x256x64, .f32⟩
  | .local _ .vmem, ⟨8, _⟩ => ⟨S8x256x64, .f32⟩
  | .local _ .vmem, ⟨9, _⟩ => ⟨S8x256x64, .f32⟩
  | .local _ .vmem, ⟨10, _⟩ => ⟨S256x2048, .f32⟩
  | .local _ .vmem, ⟨11, _⟩ => ⟨S256x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S2048x1024 : Shape := ⟨2, ![2048, 1024]⟩
abbrev S1x1024 : Shape := ⟨2, ![1, 1024]⟩
abbrev S1024x3584 : Shape := ⟨2, ![1024, 3584]⟩
abbrev S_ : Shape := ⟨0, ![]⟩
abbrev S2048 : Shape := ⟨1, ![2048]⟩
abbrev S2048x1 : Shape := ⟨2, ![2048, 1]⟩
abbrev S2048x3584 : Shape := ⟨2, ![2048, 3584]⟩
abbrev S2048x512 : Shape := ⟨2, ![2048, 512]⟩
abbrev S2048x2048 : Shape := ⟨2, ![2048, 2048]⟩
abbrev S2048x8x64 : Shape := ⟨3, ![2048, 8, 64]⟩
abbrev S8x2048x64 : Shape := ⟨3, ![8, 2048, 64]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3584, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x3584, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S2048x2048, .f32⟩
  | .hbm, ⟨23, _⟩ => ⟨S2048x8x64, .f32⟩
  | .hbm, ⟨24, _⟩ => ⟨S8x2048x64, .f32⟩
  | .hbm, ⟨25, _⟩ => ⟨S2048x8x64, .f32⟩
  | .hbm, ⟨26, _⟩ => ⟨S8x2048x64, .f32⟩
  | .hbm, ⟨27, _⟩ => ⟨S2048x8x64, .f32⟩
  | .hbm, ⟨28, _⟩ => ⟨S8x2048x64, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel7.lean ====
abbrev S2048x2048 : Shape := ⟨2, ![2048, 2048]⟩
abbrev S1x512 : Shape := ⟨2, ![1, 512]⟩
abbrev S512x32 : Shape := ⟨2, ![512, 32]⟩
abbrev S32x512 : Shape := ⟨2, ![32, 512]⟩
abbrev S512x96 : Shape := ⟨2, ![512, 96]⟩
abbrev S96x512 : Shape := ⟨2, ![96, 512]⟩
abbrev S10x512 : Shape := ⟨2, ![10, 512]⟩
abbrev S8x2048x64 : Shape := ⟨3, ![8, 2048, 64]⟩
abbrev S2048x512 : Shape := ⟨2, ![2048, 512]⟩
abbrev S256x2048 : Shape := ⟨2, ![256, 2048]⟩
abbrev S8x2048 : Shape := ⟨2, ![8, 2048]⟩
abbrev S8x256x64 : Shape := ⟨3, ![8, 256, 64]⟩
abbrev S256x512 : Shape := ⟨2, ![256, 512]⟩
abbrev S1x2048 : Shape := ⟨2, ![1, 2048]⟩
abbrev S256x32 : Shape := ⟨2, ![256, 32]⟩
abbrev S256x96 : Shape := ⟨2, ![256, 96]⟩
abbrev S256x64 : Shape := ⟨2, ![256, 64]⟩
abbrev S1x256x64 : Shape := ⟨3, ![1, 256, 64]⟩

abbrev nBuf : Space → Nat
  | .hbm => 40
  | .vmem => 25
  | .smem => 0
  | _ => 0

abbrev bufTy : (tb : Table) → Fin (tcTables nBuf tb) → BufTy
  | .hbm, ⟨0, _⟩ => ⟨S2048x2048, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S512x32, .f32⟩
  | .hbm, ⟨9, _⟩ => ⟨S32x512, .f32⟩
  | .hbm, ⟨10, _⟩ => ⟨S1x512, .f32⟩
  | .hbm, ⟨11, _⟩ => ⟨S512x32, .f32⟩
  | .hbm, ⟨12, _⟩ => ⟨S32x512, .f32⟩
  | .hbm, ⟨13, _⟩ => ⟨S512x96, .f32⟩
  | .hbm, ⟨14, _⟩ => ⟨S96x512, .f32⟩
  | .hbm, ⟨15, _⟩ => ⟨S1x512, .f32⟩
  | .hbm, ⟨16, _⟩ => ⟨S1x512, .f32⟩
  | .hbm, ⟨17, _⟩ => ⟨S10x512, .f32⟩
  | .hbm, ⟨18, _⟩ => ⟨S32x512, .f32⟩
  | .hbm, ⟨19, _⟩ => ⟨S32x512, .f32⟩
  | .hbm, ⟨20, _⟩ => ⟨S96x512, .f32⟩
  | .hbm, ⟨21, _⟩ => ⟨S32x512, .bf16⟩
  | .hbm, ⟨22, _⟩ => ⟨S32x512, .f32⟩
  | .hbm, ⟨23, _⟩ => ⟨S32x512, .bf16⟩
  | .hbm, ⟨24, _⟩ => ⟨S32x512, .f32⟩
  | .hbm, ⟨25, _⟩ => ⟨S32x512, .bf16⟩
  | .hbm, ⟨26, _⟩ => ⟨S32x512, .f32⟩
  | .hbm, ⟨27, _⟩ => ⟨S32x512, .bf16⟩
  | .hbm, ⟨28, _⟩ => ⟨S32x512, .f32⟩
  | .hbm, ⟨29, _⟩ => ⟨S96x512, .bf16⟩
  | .hbm, ⟨30, _⟩ => ⟨S96x512, .f32⟩
  | .hbm, ⟨31, _⟩ => ⟨S96x512, .bf16⟩
  | .hbm, ⟨32, _⟩ => ⟨S96x512, .f32⟩
  | .hbm, ⟨33, _⟩ => ⟨S8x2048x64, .f32⟩
  | .hbm, ⟨34, _⟩ => ⟨S8x2048x64, .f32⟩
  | .hbm, ⟨35, _⟩ => ⟨S8x2048x64, .f32⟩
  | .hbm, ⟨36, _⟩ => ⟨S8x2048x64, .f32⟩
  | .hbm, ⟨37, _⟩ => ⟨S8x2048x64, .f32⟩
  | .hbm, ⟨38, _⟩ => ⟨S8x2048x64, .f32⟩
  | .hbm, ⟨39, _⟩ => ⟨S2048x512, .f32⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S8x2048, .f32⟩
  | .local _ .vmem, ⟨4, _⟩ => ⟨S10x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S96x512, .f32⟩
  | .local _ .vmem, ⟨10, _⟩ => ⟨S96x512, .f32⟩
  | .local _ .vmem, ⟨11, _⟩ => ⟨S8x256x64, .f32⟩
  | .local _ .vmem, ⟨12, _⟩ => ⟨S8x256x64, .f32⟩
  | .local _ .vmem, ⟨13, _⟩ => ⟨S8x256x64, .f32⟩
  | .local _ .vmem, ⟨14, _⟩ => ⟨S8x256x64, .f32⟩
  | .local _ .vmem, ⟨15, _⟩ => ⟨S8x256x64, .f32⟩
  | .local _ .vmem, ⟨16, _⟩ => ⟨S8x256x64, .f32⟩
  | .local _ .vmem, ⟨17, _⟩ => ⟨S8x256x64, .f32⟩
  | .local _ .vmem, ⟨18, _⟩ => ⟨S8x256x64, .f32⟩
  | .local _ .vmem, ⟨19, _⟩ => ⟨S8x256x64, .f32⟩
  | .local _ .vmem, ⟨20, _⟩ => ⟨S8x256x64, .f32⟩
  | .local _ .vmem, ⟨21, _⟩ => ⟨S8x256x64, .f32⟩
  | .local _ .vmem, ⟨22, _⟩ => ⟨S8x256x64, .f32⟩
  | .local _ .vmem, ⟨23, _⟩ => ⟨S256x512, .f32⟩
  | .local _ .vmem, ⟨24, _⟩ => ⟨S256x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev main_v16_3 : Ref sig .tc := ⟨.hbm, 36, rfl⟩
abbrev main_v16_4 : Ref sig .tc := ⟨.hbm, 37, rfl⟩
abbrev main_v16_5 : Ref sig .tc := ⟨.hbm, 38, rfl⟩
abbrev main_v16_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S96x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x256x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference7Ideal.lean ====
abbrev S2048x2048 : Shape := ⟨2, ![2048, 2048]⟩
abbrev S1x512 : Shape := ⟨2, ![1, 512]⟩
abbrev S512x32 : Shape := ⟨2, ![512, 32]⟩
abbrev S32x512 : Shape := ⟨2, ![32, 512]⟩
abbrev S512x96 : Shape := ⟨2, ![512, 96]⟩
abbrev S96x512 : Shape := ⟨2, ![96, 512]⟩
abbrev S2048x512 : Shape := ⟨2, ![2048, 512]⟩
abbrev S_ : Shape := ⟨0, ![]⟩
abbrev S2047x512 : Shape := ⟨2, ![2047, 512]⟩
abbrev S2048x32 : Shape := ⟨2, ![2048, 32]⟩
abbrev S2048x96 : Shape := ⟨2, ![2048, 96]⟩
abbrev S2048x8x64 : Shape := ⟨3, ![2048, 8, 64]⟩
abbrev S8x2048x64 : Shape := ⟨3, ![8, 2048, 64]⟩

abbrev nBuf : Space → Nat
  | .hbm => 140
  | .vmem => 0
  | .smem => 0
  | _ => 0

abbrev hbmTy0_0 (i : Nat) : BufTy := match i % 128 with
  | 0 => ⟨S2048x2048, .f32⟩
  | 1 => ⟨S1x512, .f32⟩
  | 2 => ⟨S1x512, .f32⟩
  | 3 => ⟨S1x512, .f32⟩
  | 4 => ⟨S1x512, .f32⟩
  | 5 => ⟨S1x512, .f32⟩
  | 6 => ⟨S1x512, .f32⟩
  | 7 => ⟨S1x512, .f32⟩
  | 8 => ⟨S512x32, .f32⟩
  | 9 => ⟨S32x512, .f32⟩
  | 10 => ⟨S1x512, .f32⟩
  | 11 => ⟨S512x32, .f32⟩
  | 12 => ⟨S32x512, .f32⟩
  | 13 => ⟨S512x96, .f32⟩
  | 14 => ⟨S96x512, .f32⟩
  | 15 => ⟨S1x512, .f32⟩
  | 16 => ⟨S1x512, .f32⟩
  | 17 => ⟨S2048x512, .f32⟩
  | 18 => ⟨S2048x512, .f32⟩
  | 19 => ⟨S2048x512, .f32⟩
  | 20 => ⟨S2048x512, .f32⟩
  | 21 => ⟨S_, .f32⟩
  | 22 => ⟨S1x512, .f32⟩
  | 23 => ⟨S2047x512, .f32⟩
  | 24 => ⟨S2048x512, .f32⟩
  | 25 => ⟨S2048x512, .f32⟩
  | 26 => ⟨S2048x512, .f32⟩
  | 27 => ⟨S2048x512, .f32⟩
  | 28 => ⟨S2048x512, .f32⟩
  | 29 => ⟨S_, .f32⟩
  | 30 => ⟨S1x512, .f32⟩
  | 31 => ⟨S2047x512, .f32⟩
  | 32 => ⟨S2048x512, .f32⟩
  | 33 => ⟨S2048x512, .f32⟩
  | 34 => ⟨S2048x512, .f32⟩
  | 35 => ⟨S2048x512, .f32⟩
  | 36 => ⟨S2048x512, .f32⟩
  | 37 => ⟨S_, .f32⟩
  | 38 => ⟨S1x512, .f32⟩
  | 39 => ⟨S2047x512, .f32⟩
  | 40 => ⟨S2048x512, .f32⟩
  | 41 => ⟨S2048x512, .f32⟩
  | 42 => ⟨S2048x512, .f32⟩
  | 43 => ⟨S2048x512, .f32⟩
  | 44 => ⟨S2048x512, .f32⟩
  | 45 => ⟨S_, .f32⟩
  | 46 => ⟨S1x512, .f32⟩
  | 47 => ⟨S2047x512, .f32⟩
  | 48 => ⟨S2048x512, .f32⟩
  | 49 => ⟨S2048x512, .f32⟩
  | 50 => ⟨S2048x512, .f32⟩
  | 51 => ⟨S2048x512, .f32⟩
  | 52 => ⟨S2048x512, .f32⟩
  | 53 => ⟨S_, .f32⟩
  | 54 => ⟨S1x512, .f32⟩
  | 55 => ⟨S2047x512, .f32⟩
  | 56 => ⟨S2048x512, .f32⟩
  | 57 => ⟨S2048x512, .f32⟩
  | 58 => ⟨S2048x512, .f32⟩
  | 59 => ⟨S2048x512, .f32⟩
  | 60 => ⟨S2048x512, .f32⟩
  | 61 => ⟨S_, .f32⟩
  | 62 => ⟨S1x512, .f32⟩
  | 63 => ⟨S2047x512, .f32⟩
  | 64 => ⟨S2048x512, .f32⟩
  | 65 => ⟨S2048x512, .f32⟩
  | 66 => ⟨S2048x512, .f32⟩
  | 67 => ⟨S2048x512, .f32⟩
  | 68 => ⟨S2048x512, .f32⟩
  | 69 => ⟨S2048x32, .f32⟩
  | 70 => ⟨S2048x32, .f32⟩
  | 71 => ⟨S2048x512, .f32⟩
  | 72 => ⟨S2048x512, .f32⟩
  | 73 => ⟨S2048x512, .f32⟩
  | 74 => ⟨S2048x512, .f32⟩
  | 75 => ⟨S_, .f32⟩
  | 76 => ⟨S2048x512, .f32⟩
  | 77 => ⟨S2048x512, .f32⟩
  | 78 => ⟨S2048x512, .f32⟩
  | 79 => ⟨S2048x512, .f32⟩
  | 80 => ⟨S2048x512, .i1⟩
  | 81 => ⟨S2048x512, .f32⟩
  | 82 => ⟨S2048x512, .f32⟩
  | 83 => ⟨S2048x512, .f32⟩
  | 84 => ⟨S2048x512, .f32⟩
  | 85 => ⟨S2048x512, .f32⟩
  | 86 => ⟨S2048x512, .f32⟩
  | 87 => ⟨S2048x512, .f32⟩
  | 88 => ⟨S2048x512, .f32⟩
  | 89 => ⟨S2048x512, .f32⟩
  | 90 => ⟨S_, .f32⟩
  | 91 => ⟨S2048x512, .f32⟩
  | 92 => ⟨S2048x512, .f32⟩
  | 93 => ⟨S2048x512, .f32⟩
  | 94 => ⟨S2048x512, .f32⟩
  | 95 => ⟨S2048x32, .f32⟩
  | 96 => ⟨S2048x512, .f32⟩
  | 97 => ⟨S2048x512, .f32⟩
  | 98 => ⟨S2048x512, .f32⟩
  | 99 => ⟨S2048x512, .f32⟩
  | 100 => ⟨S2048x512, .f32⟩
  | 101 => ⟨S_, .f32⟩
  | 102 => ⟨S2048x512, .f32⟩
  | 103 => ⟨S2048x512, .f32⟩
  | 104 => ⟨S_, .f32⟩
  | 105 => ⟨S2048x512, .f32⟩
  | 106 => ⟨S2048x512, .f32⟩
  | 107 => ⟨S2048x96, .f32⟩
  | 108 => ⟨S2048x96, .f32⟩
  | 109 => ⟨S2048x96, .f32⟩
  | 110 => ⟨S_, .f32⟩
  | 111 => ⟨S2048x96, .f32⟩
  | 112 => ⟨S2048x96, .f32⟩
  | 113 => ⟨S_, .f32⟩
  | 114 => ⟨S2048x96, .f32⟩
  | 115 => ⟨S2048x96, .f32⟩
  | 116 => ⟨S2048x512, .f32⟩
  | 117 => ⟨S2048x512, .f32⟩
  | 118 => ⟨S2048x512, .f32⟩
  | 119 => ⟨S_, .f32⟩
  | 120 => ⟨S2048x512, .f32⟩
  | 121 => ⟨S2048x512, .f32⟩
  | 122 => ⟨S2048x512, .f32⟩
  | 123 => ⟨S2048x512, .f32⟩
  | 124 => ⟨S_, .f32⟩
  | 125 => ⟨S2048x512, .f32⟩
  | 126 => ⟨S2048x512, .f32⟩
  | 127 => ⟨S2048x512, .f32⟩
  | _ => ⟨S2048x2048, .f32⟩

abbrev hbmTy0_1 (i : Nat) : BufTy := match i % 128 with
  | 0 => ⟨S2048x8x64, .f32⟩
  | 1 => ⟨S8x2048x64, .f32⟩
  | 2 => ⟨S2048x8x64, .f32⟩
  | 3 => ⟨S8x2048x64, .f32⟩
  | 4 => ⟨S2048x8x64, .f32⟩
  | 5 => ⟨S8x2048x64, .f32⟩
  | 6 => ⟨S2048x8x64, .f32⟩
  | 7 => ⟨S8x2048x64, .f32⟩
  | 8 => ⟨S2048x8x64, .f32⟩
  | 9 => ⟨S8x2048x64, .f32⟩
  | 10 => ⟨S2048x8x64, .f32⟩
  | 11 => ⟨S8x2048x64, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_4 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_v52 : Ref sig .tc := ⟨.hbm, 88, rfl⟩
abbrev main_v53 : Ref sig .tc := ⟨.hbm, 89, rfl⟩
abbrev main_cst_5 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_6 : Ref sig .tc := ⟨.hbm, 101, rfl⟩
abbrev main_v64 : Ref sig .tc := ⟨.hbm, 102, rfl⟩
abbrev main_v65 : Ref sig .tc := ⟨.hbm, 103, rfl⟩
abbrev main_cst_7 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_8 : Ref sig .tc := ⟨.hbm, 110, rfl⟩
abbrev main_v71 : Ref sig .tc := ⟨.hbm, 111, rfl⟩
abbrev main_v72 : Ref sig .tc := ⟨.hbm, 112, rfl⟩
abbrev main_cst_9 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_10 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_11 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩

abbrev nD : Nat := 1
abbrev τ : Topo := Topo.v7x

variable {F : FTy → Type} [FloatOps F]
-- ==== Kernel8.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S_ : Shape := ⟨0, ![]⟩
abbrev S8x128 : Shape := ⟨2, ![8, 128]⟩
abbrev S4x2048x704 : Shape := ⟨3, ![4, 2048, 704]⟩
abbrev S1x128 : Shape := ⟨2, ![1, 128]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S1 : Shape := ⟨1, ![1]⟩
abbrev S1x1 : Shape := ⟨2, ![1, 1]⟩

abbrev nBuf : Space → Nat
  | .hbm => 20
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S2816x1024, .f32⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S4x704x1024, .f32⟩
  | .hbm, ⟨11, _⟩ => ⟨S4x704x1024, .bf16⟩
  | .hbm, ⟨12, _⟩ => ⟨S4x704x1024, .f32⟩
  | .hbm, ⟨13, _⟩ => ⟨S4x704x1024, .bf16⟩
  | .hbm, ⟨14, _⟩ => ⟨S_, .f32⟩
  | .hbm, ⟨15, _⟩ => ⟨S8x128, .f32⟩
  | .hbm, ⟨16, _⟩ => ⟨S2048x1024, .f32⟩
  | .hbm, ⟨17, _⟩ => ⟨S4x2048x704, .bf16⟩
  | .hbm, ⟨18, _⟩ => ⟨S4x2048x704, .bf16⟩
  | .hbm, ⟨19, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S4x256x704, .bf16⟩
  | .local _ .vmem, ⟨11, _⟩ => ⟨S4x256x704, .bf16⟩
  | .local _ .vmem, ⟨12, _⟩ => ⟨S4x256x704, .bf16⟩
  | .local _ .vmem, ⟨13, _⟩ => ⟨S4x256x704, .bf16⟩
  | .local _ .vmem, ⟨14, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩
abbrev S2048x4x704 : Shape := ⟨3, ![2048, 4, 704]⟩
abbrev S4x2048x704 : Shape := ⟨3, ![4, 2048, 704]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S_, .f32⟩
  | .hbm, ⟨26, _⟩ => ⟨S2048x2816, .f32⟩
  | .hbm, ⟨27, _⟩ => ⟨S2048x2816, .f32⟩
  | .hbm, ⟨28, _⟩ => ⟨S_, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S2048x1024, .f32⟩
  | .hbm, ⟨60, _⟩ => ⟨S2048x1024, .f32⟩
  | .hbm, ⟨61, _⟩ => ⟨S2048x4x704, .f32⟩
  | .hbm, ⟨62, _⟩ => ⟨S4x2048x704, .f32⟩
  | .hbm, ⟨63, _⟩ => ⟨S4x2048x704, .bf16⟩
  | .hbm, ⟨64, _⟩ => ⟨S2048x4x704, .f32⟩
  | .hbm, ⟨65, _⟩ => ⟨S4x2048x704, .f32⟩
  | .hbm, ⟨66, _⟩ => ⟨S4x2048x704, .bf16⟩
  | .hbm, ⟨67, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_cst_8 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_cst_10 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩

abbrev nD : Nat := 1
abbrev τ : Topo := Topo.v7x

variable {F : FTy → Type} [FloatOps F]
-- ==== Proof.Mix.Value.lean ====
/-
The idealized `_mixout_bwd` call: its four result arrays are the reference's terms.
-/
module

public import proofs.«01_k».proof.Proof.Gen.KernelIdeal.Frame
public import proofs.«01_k».proof.Proof.Gen.ReferenceIdeal.Read
public import Idealize.ShloMosaic.Lib.Pipeline.ValueKit

@[expose] public section

set_option maxRecDepth 16384

noncomputable section

namespace Cert.KernelIdeal.Mix

open Idealize.ShloMosaic Idealize.ShloMosaic.TcCoe Idealize.SL.Sem
open Idealize.ShloMosaic.Pipeline (Dat)
open Cert.KernelIdeal Cert.KernelIdeal.Gen
open Cert.ReferenceIdeal.Read

variable (m : (ℓ : Loc nD τ sig) → Buf (Elt Ideal) ℓ)

theorem idx : ∀ t : Fin cfg0.N, win0_0.index t = ![0, t.val, 0] ∧ win0_1.index t = ![0, t.val, 0]
    ∧ win0_2.index t = ![t.val, 0] ∧ win0_3.index t = ![0, 0] ∧ win0_4.index t = ![t.val, 0]
    ∧ win0_5.index t = ![0, t.val, 0] ∧ win0_6.index t = ![0, t.val, 0] ∧ win0_7.index t = ![t.val, 0]
    ∧ win0_8.index t = ![0, 0] :=
  (by decide +kernel : ∀ t : Fin grid0.N, _)

/-- The grid has eight points. -/
theorem lt8 (t : Fin cfg0.N) : t.val < 8 := lt_of_lt_of_eq t.isLt N_0

/-- The tile's product `dy · w_outᵀ`, left half: the gradient of the attention's heads. -/
theorem core5 (c : Dev nD) (t : Fin cfg0.N) (i : S256x1024.Idx) (j : S8x2048x64.Idx)
    (h0 : (j 1 : ℕ) = t.val * 256 + i 0) (h1 : (i 1 : ℕ) = 64 * j 0 + j 2) :
    k0_pay7 (F := Ideal) (iblk m c 4 t) (iblk m c 3 t) i
      = val_main_v13 (F := Ideal) (m ((c : Thread nD τ).loc main_arg3)) (m ((c : Thread nD τ).loc main_arg4)) j := by
  pointwise [k0_pay7, k0_pay6, val_main_v13, val_main_v12, val_main_v10, val_main_v9]
  blk_point [iblk, V, idx t]

/-- The right half times the gate: the gradient of the recurrence's heads. -/
theorem core6 (c : Dev nD) (t : Fin cfg0.N) (i : S256x512.Idx) (j : S8x2048x64.Idx)
    (h0 : (j 1 : ℕ) = t.val * 256 + i 0) (h1 : (i 1 : ℕ) = 64 * j 0 + j 2) :
    k0_pay20 (F := Ideal) (iblk m c 2 t) (k0_pay7 (iblk m c 4 t) (iblk m c 3 t)) i
      = val_main_v17 (F := Ideal) (m ((c : Thread nD τ).loc main_arg2)) (m ((c : Thread nD τ).loc main_arg3))
          (m ((c : Thread nD τ).loc main_arg4)) j := by
  pointwise [k0_pay20, k0_pay19, k0_pay7, k0_pay6, val_main_v17, val_main_v16, val_main_v15, val_main_v11, val_main_v9]
  blk_point [iblk, V, idx t]

theorem point5 (c : Dev nD) (t : Fin cfg0.N) (y : S8x256x64.Idx) :
    (outsAt0 m c t.val t.isLt).1 y
      = val_main_v13 (F := Ideal) (m ((c : Thread nD τ).loc main_arg3)) (m ((c : Thread nD τ).loc main_arg4))
          (((cfg0.win 5).blk t).view.emb y) := by
  obtain_idx i : S256x1024 := [(y 1 : ℕ), 64 * (y 0 : ℕ) + (y 2 : ℕ)] with hi
  have ht := lt8 t
  rw [← core5 m c t i]
  · by_cases h0 : t.val % 8 = 0
    · rw [outsAt0_A m c t h0 (by omega)]
      frame_out
      canon_tiles x h
      all_goals (open_payloads; pointwise; blk_ext)
    · rw [outsAt0_B m c t h0 (by omega)]
      frame_out
      canon_tiles x h
      all_goals (open_payloads; pointwise; blk_ext)
  all_goals (blk_simp [idx t] <;> try omega)

theorem point6 (c : Dev nD) (t : Fin cfg0.N) (y : S8x256x64.Idx) :
    (outsAt0 m c t.val t.isLt).2.1 y
      = val_main_v17 (F := Ideal) (m ((c : Thread nD τ).loc main_arg2)) (m ((c : Thread nD τ).loc main_arg3))
          (m ((c : Thread nD τ).loc main_arg4)) (((cfg0.win 6).blk t).view.emb y) := by
  obtain_idx i : S256x512 := [(y 1 : ℕ), 64 * (y 0 : ℕ) + (y 2 : ℕ)] with hi
  have ht := lt8 t
  rw [← core6 m c t i]
  · by_cases h0 : t.val % 8 = 0
    · rw [outsAt0_A m c t h0 (by omega)]
      frame_out
      canon_tiles x h
      all_goals (open_payloads; pointwise; blk_ext)
    · rw [outsAt0_B m c t h0 (by omega)]
      frame_out
      canon_tiles x h
      all_goals (open_payloads; pointwise; blk_ext)
  all_goals (blk_simp [idx t] <;> try omega)

/-- Eight head blocks loaded one by one and joined: column `i 1` is lane `i 1 % 64` of head `i 1 / 64`. -/
theorem heads (B : Vec Ideal S8x256x64 .f32) (i : S256x512.Idx) (j : S8x256x64.Idx)
    (h0 : (j 0 : ℕ) = (i 1 : ℕ) / 64) (h1 : (j 1 : ℕ) = i 0) (h2 : (j 2 : ℕ) = (i 1 : ℕ) % 64) :
    k0_pay2 (F := Ideal) (View.ld B (Rect.unit ![0, 0, 0] ![1, 256, 64] inb_S8x256x64_S1x256x64_0_0_0))
      (View.ld B (Rect.unit ![1, 0, 0] ![1, 256, 64] inb_S8x256x64_S1x256x64_1_0_0))
      (View.ld B (Rect.unit ![2, 0, 0] ![1, 256, 64] inb_S8x256x64_S1x256x64_2_0_0))
      (View.ld B (Rect.unit ![3, 0, 0] ![1, 256, 64] inb_S8x256x64_S1x256x64_3_0_0))
      (View.ld B (Rect.unit ![4, 0, 0] ![1, 256, 64] inb_S8x256x64_S1x256x64_4_0_0))
      (View.ld B (Rect.unit ![5, 0, 0] ![1, 256, 64] inb_S8x256x64_S1x256x64_5_0_0))
      (View.ld B (Rect.unit ![6, 0, 0] ![1, 256, 64] inb_S8x256x64_S1x256x64_6_0_0))
      (View.ld B (Rect.unit ![7, 0, 0] ![1, 256, 64] inb_S8x256x64_S1x256x64_7_0_0)) i = B j := by
  pointwise [k0_pay2]
  blk_point []

/-- The right half of the product times the recurrence's heads: the gradient of the gate. -/
theorem core7 (c : Dev nD) (t : Fin cfg0.N) (H : FVec Ideal S256x512 .f32) (i : S256x512.Idx) (l : S8x256x64.Idx)
    (j : S2048x512.Idx) (hH : H i = iblk m c 1 t l)
    (h0 : (l 0 : ℕ) = (i 1 : ℕ) / 64) (h1 : (l 1 : ℕ) = i 0) (h2 : (l 2 : ℕ) = (i 1 : ℕ) % 64)
    (h3 : (j 0 : ℕ) = t.val * 256 + i 0) (h4 : (j 1 : ℕ) = i 1) :
    k0_pay30 (F := Ideal) H (k0_pay19 (k0_pay7 (iblk m c 4 t) (iblk m c 3 t))) i
      = val_main_v14 (F := Ideal) (m ((c : Thread nD τ).loc main_arg1)) (m ((c : Thread nD τ).loc main_arg3))
          (m ((c : Thread nD τ).loc main_arg4)) j := by
  unfold k0_pay30
  show k0_pay19 (k0_pay7 (iblk m c 4 t) (iblk m c 3 t)) i * H i = _
  rw [hH]
  pointwise [k0_pay19, k0_pay7, k0_pay6, val_main_v14, val_main_v1, val_main_v0, val_main_v11, val_main_v9]
  blk_point [iblk, V, idx t]

theorem point7 (c : Dev nD) (t : Fin cfg0.N) (y : S256x512.Idx) :
    (outsAt0 m c t.val t.isLt).2.2.1 y
      = val_main_v14 (F := Ideal) (m ((c : Thread nD τ).loc main_arg1)) (m ((c : Thread nD τ).loc main_arg3))
          (m ((c : Thread nD τ).loc main_arg4)) (((cfg0.win 7).blk t).view.emb y) := by
  have ht := lt8 t
  obtain_idx l : S8x256x64 := [(y 1 : ℕ) / 64, (y 0 : ℕ), (y 1 : ℕ) % 64] with hl
  by_cases h0 : t.val % 8 = 0
  · rw [outsAt0_A m c t h0 (by omega)]
    frame_out
    refine core7 m c t _ y l _ (heads _ y l hl0 hl1 hl2) hl0 hl1 hl2 ?_ ?_
    all_goals (blk_simp [idx t] <;> try omega)
  · rw [outsAt0_B m c t h0 (by omega)]
    frame_out
    refine core7 m c t _ y l _ (heads _ y l hl0 hl1 hl2) hl0 hl1 hl2 ?_ ?_
    all_goals (blk_simp [idx t] <;> try omega)

/-- The tile's joined rows: the attention's heads beside the gated recurrence's. -/
def mixAt (A O : Vec Ideal S8x256x64 .f32) (G : Vec Ideal S256x512 .f32) (k : Fin 256) (i : Fin 1024) : EReal :=
  if h : (i : ℕ) < 512 then A (ValueIdx.ix3 ⟨(i : ℕ) / 64, by omega⟩ k ⟨(i : ℕ) % 64, by omega⟩)
  else O (ValueIdx.ix3 ⟨((i : ℕ) - 512) / 64, by omega⟩ k ⟨((i : ℕ) - 512) % 64, by omega⟩)
    * G (ValueIdx.ix2 k ⟨(i : ℕ) - 512, by omega⟩)

/-- A tile's part of the gradient of `w_out`: its joined rows, transposed, times its rows of `dy`. -/
theorem part8 (A O : Vec Ideal S8x256x64 .f32) (G : Vec Ideal S256x512 .f32) (Y : Vec Ideal S256x1024 .f32)
    (j : S1024x1024.Idx) :
    k0_pay8 (F := Ideal) (k0_pay2
        (View.ld O (Rect.unit ![0, 0, 0] ![1, 256, 64] inb_S8x256x64_S1x256x64_0_0_0))
        (View.ld O (Rect.unit ![1, 0, 0] ![1, 256, 64] inb_S8x256x64_S1x256x64_1_0_0))
        (View.ld O (Rect.unit ![2, 0, 0] ![1, 256, 64] inb_S8x256x64_S1x256x64_2_0_0))
        (View.ld O (Rect.unit ![3, 0, 0] ![1, 256, 64] inb_S8x256x64_S1x256x64_3_0_0))
        (View.ld O (Rect.unit ![4, 0, 0] ![1, 256, 64] inb_S8x256x64_S1x256x64_4_0_0))
        (View.ld O (Rect.unit ![5, 0, 0] ![1, 256, 64] inb_S8x256x64_S1x256x64_5_0_0))
        (View.ld O (Rect.unit ![6, 0, 0] ![1, 256, 64] inb_S8x256x64_S1x256x64_6_0_0))
        (View.ld O (Rect.unit ![7, 0, 0] ![1, 256, 64] inb_S8x256x64_S1x256x64_7_0_0)))
      G
      (k0_pay3 (View.ld A (Rect.unit ![0, 0, 0] ![1, 256, 64] inb_S8x256x64_S1x256x64_0_0_0)))
      (k0_pay4 (View.ld A (Rect.unit ![1, 0, 0] ![1, 256, 64] inb_S8x256x64_S1x256x64_1_0_0)))
      (k0_pay5 (View.ld A (Rect.unit ![2, 0, 0] ![1, 256, 64] inb_S8x256x64_S1x256x64_2_0_0)))
      (View.ld A (Rect.unit ![3, 0, 0] ![1, 256, 64] inb_S8x256x64_S1x256x64_3_0_0))
      (View.ld A (Rect.unit ![4, 0, 0] ![1, 256, 64] inb_S8x256x64_S1x256x64_4_0_0))
      (View.ld A (Rect.unit ![5, 0, 0] ![1, 256, 64] inb_S8x256x64_S1x256x64_5_0_0))
      (View.ld A (Rect.unit ![6, 0, 0] ![1, 256, 64] inb_S8x256x64_S1x256x64_6_0_0))
      (View.ld A (Rect.unit ![7, 0, 0] ![1, 256, 64] inb_S8x256x64_S1x256x64_7_0_0))
      Y j = ∑ k : Fin 256, mixAt A O G k (j 0) * Y (ValueIdx.ix2 k (j 1)) := by
  pointwise [k0_pay8, k0_pay6, k0_pay2, k0_pay3, k0_pay4, k0_pay5]
  refine Finset.sum_congr rfl fun k _ => congrArg (· * Y (ValueIdx.ix2 k (j 1))) ?_
  unfold mixAt
  by_cases h : ((j 0 : Fin 1024) : ℕ) < 512
  · rw [dif_pos h, dif_pos h]
    blk_point []
  · rw [dif_neg h, dif_neg h]
    blk_point []

theorem step8 (X Y : FVec Ideal S1024x1024 .f32) (j : S1024x1024.Idx) : k0_pay1 (F := Ideal) X Y j = Y j + X j := by
  pointwise [k0_pay1]

theorem final5 (c : Dev nD) : (dats m 0 c).arrAt 5 (cfgs 0).N
    = val_main_v13 (F := Ideal) (m ((c : Thread nD τ).loc main_arg3)) (m ((c : Thread nD τ).loc main_arg4)) := by
  refine (dats m 0 c).arrAt_eq_of_covers 5 _ (by decide +kernel) fun t _ y => ?_
  blk_simp
  rw [after0_5]
  exact point5 m c t y

theorem final6 (c : Dev nD) : (dats m 0 c).arrAt 6 (cfgs 0).N
    = val_main_v17 (F := Ideal) (m ((c : Thread nD τ).loc main_arg2)) (m ((c : Thread nD τ).loc main_arg3))
        (m ((c : Thread nD τ).loc main_arg4)) := by
  refine (dats m 0 c).arrAt_eq_of_covers 6 _ (by decide +kernel) fun t _ y => ?_
  blk_simp
  rw [after0_6]
  exact point6 m c t y

theorem final7 (c : Dev nD) : (dats m 0 c).arrAt 7 (cfgs 0).N
    = val_main_v14 (F := Ideal) (m ((c : Thread nD τ).loc main_arg1)) (m ((c : Thread nD τ).loc main_arg3))
        (m ((c : Thread nD τ).loc main_arg4)) := by
  refine (dats m 0 c).arrAt_eq_of_covers 7 _ (by decide +kernel) fun t _ y => ?_
  blk_simp
  rw [after0_7]
  exact point7 m c t y

theorem final8 (c : Dev nD) : (dats m 0 c).arrAt 8 (cfgs 0).N
    = val_main_v8 (F := Ideal) (m ((c : Thread nD τ).loc main_arg0)) (m ((c : Thread nD τ).loc main_arg1))
        (m ((c : Thread nD τ).loc main_arg2)) (m ((c : Thread nD τ).loc main_arg4)) := by
  refine (dats m 0 c).arrAt_eq_of_after_last 8 t0_7 (by decide +kernel) _ fun j => ?_
  blk_simp
  rw [after0_8]
  rw [Pipeline.eq_sum_fin_of_reset_step_apply_last (fun n h => (outsAt0 m c n h).2.2.2) 8 (fun _ => 0) _
    (fun t h j => by rw [outsAt0_A m c t h (by have := lt8 t; omega)]; frame_out; rw [part8, zero_add])
    (fun t h j => by rw [outsAt0_B m c t h (by have := lt8 t; omega)]; frame_out; rw [step8, part8])
    (le_of_eq N_0) t0_7 rfl j, zero_add]
  pointwise [val_main_v8, val_main_v7, val_main_v5, val_main_v4, val_main_v3, val_main_v2, val_main_v1, val_main_v0]
  refine Fin.sum_mul_add_congr fun s k hl => Eq.trans ?_ (EReal.mul_comm _ _)
  unfold mixAt
  by_cases h : ((j 0 : Fin 1024) : ℕ) < 512
  · rw [dif_pos h, dif_pos h]
    blk_point [iblk, V, idx s]
  · rw [dif_neg h, dif_neg h]
    blk_point [iblk, V, idx s]

end Cert.KernelIdeal.Mix

end
-- ==== Proof.Mix.Claim.lean ====
/-
The claims about the `_mixout_bwd` call.
-/
module

public import proofs.«01_k».proof.Defs
public import proofs.«01_k».proof.Proof.Gen.Kernel.Frame
public import proofs.«01_k».proof.Proof.Mix.Value
public import Idealize.ShloMosaic.Lib.Claim

@[expose] public section

noncomputable section

namespace Cert.Proof.Mix

open Idealize.ShloMosaic Idealize.SL.Sem
open Cert.ReferenceIdeal.Read Cert.KernelIdeal.Mix

theorem frame : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := by
  intro m g _
  exact θ_run_mono (Cert.ReferenceIdeal.Value.run m g) fun r h =>
    ⟨fun c => (h c).2.2.2.2, sem_eq_zero_of_no_sems (by decide) r.2⟩

theorem value : Cert.algebraic_KernelIdeal_ReferenceIdeal := by
  pair_intro
  · run_from Cert.KernelIdeal.Gen.run_main m g
  · run_from Cert.ReferenceIdeal.Value.run m' g'
    · exact (val_main_v13_eq _ _).trans (final5 m c).symm
    · exact (val_main_v17_eq _ _ _).trans (final6 m c).symm
    · exact (val_main_v14_eq _ _ _).trans (final7 m c).symm
    · exact (val_main_v8_eq _ _ _ _).trans (final8 m c).symm

end Cert.Proof.Mix

end
-- ==== Proof.Proj.Base.lean ====
/-
The idealized `_proj_bwd` call: the parts of one tile, against the reference's rows.
-/
module

public import proofs.«01_k».proof.Proof.Gen.Kernel2Ideal.Frame
public import proofs.«01_k».proof.Proof.Gen.Reference2Ideal.Read
public import Idealize.ShloMosaic.Lib.Pipeline.ValueKit
public import Idealize.ShloMosaic.Lib.Pipeline.ReadBack

@[expose] public section

set_option maxRecDepth 16384

noncomputable section

namespace Cert.Kernel2Ideal.Proj

open Idealize.ShloMosaic Idealize.ShloMosaic.TcCoe Idealize.SL.Sem
open Idealize.ShloMosaic.Pipeline (Dat)
open Cert.Kernel2Ideal Cert.Kernel2Ideal.Gen
open Cert.Reference2Ideal.Read

variable (m : (ℓ : Loc nD τ sig) → Buf (Elt Ideal) ℓ)

theorem idx : ∀ t : Fin cfg0.N, win0_0.index t = ![t.val, 0] ∧ win0_1.index t = ![0, 0]
    ∧ win0_2.index t = ![0, 0, 0] ∧ win0_3.index t = ![0, t.val, 0] ∧ win0_4.index t = ![0, t.val, 0]
    ∧ win0_5.index t = ![0, t.val, 0] ∧ win0_6.index t = ![t.val, 0] ∧ win0_7.index t = ![t.val, 0]
    ∧ win0_8.index t = ![t.val, 0] ∧ win0_9.index t = ![0, 0] ∧ win0_10.index t = ![0, 0, 0] :=
  (by decide +kernel : ∀ t : Fin grid0.N, _)

/-- The grid has eight points. -/
theorem lt8 (t : Fin cfg0.N) : t.val < 8 := lt_of_lt_of_eq t.isLt N_0

/-- The reciprocal root mean square of a row. -/
theorem rms_row (c : Dev nD) (t : Fin cfg0.N) (i : S256x1.Idx) (j : Cert.Reference2Ideal.S2048x1.Idx)
    (h0 : (j 0 : ℕ) = t.val * 256 + i 0) :
    k0_pay28 (F := Ideal) (iblk m c 0 t) i = val_main_v7 (F := Ideal) (m ((c : Thread nD τ).loc main_arg0)) j := by
  pointwise [k0_pay28, val_main_v7, val_main_v6, val_main_v5, val_main_v4, val_main_v3, val_main_v2, val_main_v1,
    val_main_v0, val_main_cst, val_main_cst_0, val_main_cst_1]
  blk_point [iblk, V, idx t]

theorem normed (c : Dev nD) (t : Fin cfg0.N) (i : S256x1024.Idx) (j : S2048x1024.Idx)
    (h0 : (j 0 : ℕ) = t.val * 256 + i 0) (h1 : (j 1 : ℕ) = i 1) :
    k0_pay4 (F := Ideal) (iblk m c 0 t) (iblk m c 1 t) i
      = val_main_v14 (F := Ideal) (m ((c : Thread nD τ).loc main_arg0)) (m ((c : Thread nD τ).loc main_arg1)) j := by
  pointwise [k0_pay4, val_main_v14, val_main_v13, val_main_v12, val_main_v11, val_main_v7, val_main_v6, val_main_v5,
    val_main_v4, val_main_v3, val_main_v2, val_main_v1, val_main_v0, val_main_cst, val_main_cst_0, val_main_cst_1]
  blk_point [iblk, V, idx t]

/-- Eight head blocks loaded one by one and joined: column `i 1` is lane `i 1 % 64` of head `i 1 / 64`. -/
theorem heads (B : Vec Ideal S8x256x64 .f32) (i : S256x512.Idx) (j : S8x256x64.Idx)
    (h0 : (j 0 : ℕ) = (i 1 : ℕ) / 64) (h1 : (j 1 : ℕ) = i 0) (h2 : (j 2 : ℕ) = (i 1 : ℕ) % 64) :
    k0_pay12 (F := Ideal) (View.ld B (Rect.unit ![0, 0, 0] ![1, 256, 64] inb_S8x256x64_S1x256x64_0_0_0))
      (View.ld B (Rect.unit ![1, 0, 0] ![1, 256, 64] inb_S8x256x64_S1x256x64_1_0_0))
      (View.ld B (Rect.unit ![2, 0, 0] ![1, 256, 64] inb_S8x256x64_S1x256x64_2_0_0))
      (View.ld B (Rect.unit ![3, 0, 0] ![1, 256, 64] inb_S8x256x64_S1x256x64_3_0_0))
      (View.ld B (Rect.unit ![4, 0, 0] ![1, 256, 64] inb_S8x256x64_S1x256x64_4_0_0))
      (View.ld B (Rect.unit ![5, 0, 0] ![1, 256, 64] inb_S8x256x64_S1x256x64_5_0_0))
      (View.ld B (Rect.unit ![6, 0, 0] ![1, 256, 64] inb_S8x256x64_S1x256x64_6_0_0))
      (View.ld B (Rect.unit ![7, 0, 0] ![1, 256, 64] inb_S8x256x64_S1x256x64_7_0_0)) i = B j := by
  pointwise [k0_pay12]
  blk_point []

/-- The same for the first stack, whose leading blocks are cast one by one. -/
theorem heads_q (B : Vec Ideal S8x256x64 .f32) (i : S256x512.Idx) (j : S8x256x64.Idx)
    (h0 : (j 0 : ℕ) = (i 1 : ℕ) / 64) (h1 : (j 1 : ℕ) = i 0) (h2 : (j 2 : ℕ) = (i 1 : ℕ) % 64) :
    k0_pay11 (F := Ideal) (k0_pay5 (View.ld B (Rect.unit ![0, 0, 0] ![1, 256, 64] inb_S8x256x64_S1x256x64_0_0_0)))
      (k0_pay6 (View.ld B (Rect.unit ![1, 0, 0] ![1, 256, 64] inb_S8x256x64_S1x256x64_1_0_0)))
      (k0_pay7 (View.ld B (Rect.unit ![2, 0, 0] ![1, 256, 64] inb_S8x256x64_S1x256x64_2_0_0)))
      (k0_pay8 (View.ld B (Rect.unit ![3, 0, 0] ![1, 256, 64] inb_S8x256x64_S1x256x64_3_0_0)))
      (k0_pay9 (View.ld B (Rect.unit ![4, 0, 0] ![1, 256, 64] inb_S8x256x64_S1x256x64_4_0_0)))
      (k0_pay10 (View.ld B (Rect.unit ![5, 0, 0] ![1, 256, 64] inb_S8x256x64_S1x256x64_5_0_0)))
      (View.ld B (Rect.unit ![6, 0, 0] ![1, 256, 64] inb_S8x256x64_S1x256x64_6_0_0))
      (View.ld B (Rect.unit ![7, 0, 0] ![1, 256, 64] inb_S8x256x64_S1x256x64_7_0_0)) i = B j := by
  pointwise [k0_pay11, k0_pay5, k0_pay6, k0_pay7, k0_pay8, k0_pay9, k0_pay10]
  blk_point []

/-- The tile's rows of the projection's gradient: three stacks of heads and the wide part, joined. -/
def joined (A B C : Vec Ideal S8x256x64 .f32) (D : Vec Ideal S256x2048 .f32) : FVec Ideal S256x3584 .bf16 :=
  k0_pay14 (F := Ideal)
    (k0_pay11 (k0_pay5 (View.ld A (Rect.unit ![0, 0, 0] ![1, 256, 64] inb_S8x256x64_S1x256x64_0_0_0)))
      (k0_pay6 (View.ld A (Rect.unit ![1, 0, 0] ![1, 256, 64] inb_S8x256x64_S1x256x64_1_0_0)))
      (k0_pay7 (View.ld A (Rect.unit ![2, 0, 0] ![1, 256, 64] inb_S8x256x64_S1x256x64_2_0_0)))
      (k0_pay8 (View.ld A (Rect.unit ![3, 0, 0] ![1, 256, 64] inb_S8x256x64_S1x256x64_3_0_0)))
      (k0_pay9 (View.ld A (Rect.unit ![4, 0, 0] ![1, 256, 64] inb_S8x256x64_S1x256x64_4_0_0)))
      (k0_pay10 (View.ld A (Rect.unit ![5, 0, 0] ![1, 256, 64] inb_S8x256x64_S1x256x64_5_0_0)))
      (View.ld A (Rect.unit ![6, 0, 0] ![1, 256, 64] inb_S8x256x64_S1x256x64_6_0_0))
      (View.ld A (Rect.unit ![7, 0, 0] ![1, 256, 64] inb_S8x256x64_S1x256x64_7_0_0)))
    (k0_pay12 (View.ld B (Rect.unit ![0, 0, 0] ![1, 256, 64] inb_S8x256x64_S1x256x64_0_0_0))
      (View.ld B (Rect.unit ![1, 0, 0] ![1, 256, 64] inb_S8x256x64_S1x256x64_1_0_0))
      (View.ld B (Rect.unit ![2, 0, 0] ![1, 256, 64] inb_S8x256x64_S1x256x64_2_0_0))
      (View.ld B (Rect.unit ![3, 0, 0] ![1, 256, 64] inb_S8x256x64_S1x256x64_3_0_0))
      (View.ld B (Rect.unit ![4, 0, 0] ![1, 256, 64] inb_S8x256x64_S1x256x64_4_0_0))
      (View.ld B (Rect.unit ![5, 0, 0] ![1, 256, 64] inb_S8x256x64_S1x256x64_5_0_0))
      (View.ld B (Rect.unit ![6, 0, 0] ![1, 256, 64] inb_S8x256x64_S1x256x64_6_0_0))
      (View.ld B (Rect.unit ![7, 0, 0] ![1, 256, 64] inb_S8x256x64_S1x256x64_7_0_0)))
    (k0_pay13 (View.ld C (Rect.unit ![0, 0, 0] ![1, 256, 64] inb_S8x256x64_S1x256x64_0_0_0)))
    (View.ld C (Rect.unit ![1, 0, 0] ![1, 256, 64] inb_S8x256x64_S1x256x64_1_0_0))
    (View.ld C (Rect.unit ![2, 0, 0] ![1, 256, 64] inb_S8x256x64_S1x256x64_2_0_0))
    (View.ld C (Rect.unit ![3, 0, 0] ![1, 256, 64] inb_S8x256x64_S1x256x64_3_0_0))
    (View.ld C (Rect.unit ![4, 0, 0] ![1, 256, 64] inb_S8x256x64_S1x256x64_4_0_0))
    (View.ld C (Rect.unit ![5, 0, 0] ![1, 256, 64] inb_S8x256x64_S1x256x64_5_0_0))
    (View.ld C (Rect.unit ![6, 0, 0] ![1, 256, 64] inb_S8x256x64_S1x256x64_6_0_0))
    (View.ld C (Rect.unit ![7, 0, 0] ![1, 256, 64] inb_S8x256x64_S1x256x64_7_0_0))
    D

theorem joined_q (A B C : Vec Ideal S8x256x64 .f32) (D : Vec Ideal S256x2048 .f32) (i : S256x3584.Idx) (j : S8x256x64.Idx)
    (h : ((i 1 : Fin 3584) : ℕ) < 512) (h0 : (j 0 : ℕ) = (i 1 : ℕ) / 64) (h1 : (j 1 : ℕ) = i 0) (h2 : (j 2 : ℕ) = (i 1 : ℕ) % 64) :
    joined A B C D i = A j := by
  unfold joined
  pointwise [k0_pay14]
  rw [dif_pos h]
  exact heads_q A _ j h0 h1 h2

theorem joined_k (A B C : Vec Ideal S8x256x64 .f32) (D : Vec Ideal S256x2048 .f32) (i : S256x3584.Idx) (j : S8x256x64.Idx)
    (h : ¬ ((i 1 : Fin 3584) : ℕ) < 512) (h' : ((i 1 : Fin 3584) : ℕ) - 512 < 512)
    (h0 : (j 0 : ℕ) = ((i 1 : ℕ) - 512) / 64) (h1 : (j 1 : ℕ) = i 0) (h2 : (j 2 : ℕ) = ((i 1 : ℕ) - 512) % 64) :
    joined A B C D i = B j := by
  unfold joined
  pointwise [k0_pay14]
  rw [dif_neg h, dif_pos h']
  exact heads B _ j h0 h1 h2

theorem joined_v (A B C : Vec Ideal S8x256x64 .f32) (D : Vec Ideal S256x2048 .f32) (i : S256x3584.Idx) (j : S8x256x64.Idx)
    (h : ¬ ((i 1 : Fin 3584) : ℕ) < 512) (h' : ¬ ((i 1 : Fin 3584) : ℕ) - 512 < 512)
    (h'' : ((i 1 : Fin 3584) : ℕ) - 512 - 512 < 512)
    (h0 : (j 0 : ℕ) = ((i 1 : ℕ) - 512 - 512) / 64) (h1 : (j 1 : ℕ) = i 0) (h2 : (j 2 : ℕ) = ((i 1 : ℕ) - 512 - 512) % 64) :
    joined A B C D i = C j := by
  unfold joined
  pointwise [k0_pay14, k0_pay13]
  rw [dif_neg h, dif_neg h', dif_pos h'']
  blk_point []

theorem joined_c (A B C : Vec Ideal S8x256x64 .f32) (D : Vec Ideal S256x2048 .f32) (i : S256x3584.Idx) (j : S256x2048.Idx)
    (h : ¬ ((i 1 : Fin 3584) : ℕ) < 512) (h' : ¬ ((i 1 : Fin 3584) : ℕ) - 512 < 512)
    (h'' : ¬ ((i 1 : Fin 3584) : ℕ) - 512 - 512 < 512)
    (h0 : (j 0 : ℕ) = i 0) (h1 : (j 1 : ℕ) = (i 1 : ℕ) - 512 - 512 - 512) :
    joined A B C D i = D j := by
  unfold joined
  pointwise [k0_pay14]
  rw [dif_neg h, dif_neg h', dif_neg h'']
  blk_point []

/-- A tile's joined rows are the reference's rows of the projection's gradient. -/
theorem joined_row (c : Dev nD) (t : Fin cfg0.N) (i : S256x3584.Idx) (j : Cert.Reference2Ideal.S2048x3584.Idx)
    (h0 : (j 0 : ℕ) = t.val * 256 + i 0) (h1 : (j 1 : ℕ) = i 1) :
    joined (iblk m c 3 t) (iblk m c 4 t) (iblk m c 5 t) (iblk m c 6 t) i
      = val_main_v32 (F := Ideal) (m ((c : Thread nD τ).loc main_arg3)) (m ((c : Thread nD τ).loc main_arg4))
          (m ((c : Thread nD τ).loc main_arg5)) (m ((c : Thread nD τ).loc main_arg6)) j := by
  have hj : ((j 1 : Fin 3584) : ℕ) = ((i 1 : Fin 3584) : ℕ) := h1
  have hb : ((i 1 : Fin 3584) : ℕ) < 3584 := (i 1).isLt
  pointwise [val_main_v32, val_main_v31, val_main_v30, val_main_v29, val_main_v28, val_main_v27, val_main_v26]
  by_cases h : ((i 1 : Fin 3584) : ℕ) < 512
  · obtain_idx l : S8x256x64 := [((i 1 : Fin 3584) : ℕ) / 64, ((i 0 : Fin 256) : ℕ), ((i 1 : Fin 3584) : ℕ) % 64] with hl
    rw [joined_q _ _ _ _ i l h hl0 hl1 hl2, dif_pos (hj ▸ h)]
    blk_point [iblk, V, idx t]
  rw [dif_neg (hj ▸ h)]
  by_cases h' : ((i 1 : Fin 3584) : ℕ) - 512 < 512
  · obtain_idx l : S8x256x64 := [(((i 1 : Fin 3584) : ℕ) - 512) / 64, ((i 0 : Fin 256) : ℕ), (((i 1 : Fin 3584) : ℕ) - 512) % 64] with hl
    rw [joined_k _ _ _ _ i l h h' hl0 hl1 hl2, dif_pos (hj ▸ h')]
    blk_point [iblk, V, idx t]
  rw [dif_neg (hj ▸ h')]
  by_cases h'' : ((i 1 : Fin 3584) : ℕ) - 512 - 512 < 512
  · obtain_idx l : S8x256x64 := [(((i 1 : Fin 3584) : ℕ) - 512 - 512) / 64, ((i 0 : Fin 256) : ℕ), (((i 1 : Fin 3584) : ℕ) - 512 - 512) % 64] with hl
    rw [joined_v _ _ _ _ i l h h' h'' hl0 hl1 hl2, dif_pos (hj ▸ h'')]
    blk_point [iblk, V, idx t]
  rw [dif_neg (hj ▸ h'')]
  obtain_idx l : S256x2048 := [((i 0 : Fin 256) : ℕ), ((i 1 : Fin 3584) : ℕ) - 512 - 512 - 512] with hl
  rw [joined_c _ _ _ _ i l h h' h'' hl0 hl1]
  blk_point [iblk, V, idx t]

/-- One column of the first slab's part of the weight gradient, added to what the slab held. -/
theorem slab0 (H : FVec Ideal S256x1024 .bf16) (a b d e f g h k l o p) (X : Vec Ideal S1x1024x896 .f32)
    (i : S1x1024x896.Idx) (j : Fin 256 → S256x3584.Idx) (h0 : ∀ r, (j r 0 : ℕ) = r) (h1 : ∀ r, (j r 1 : ℕ) = i 2) :
    k0_pay17 (F := Ideal) H a b d e f g h k l o p X i
      = X i + ∑ r : Fin 256, H (ValueIdx.ix2 r (i 1)) * k0_pay14 (F := Ideal) a b d e f g h k l o p (j r) := by
  pointwise [k0_pay17, k0_pay16]
  refine congrArg (X i + ·) (Finset.sum_congr rfl fun r _ => ?_)
  refine congrArg (H (ValueIdx.ix2 r (i 1)) * k0_pay14 (F := Ideal) a b d e f g h k l o p ·) ?_
  have := h0 r
  have := h1 r
  blk_ext

theorem slab1 (H : FVec Ideal S256x1024 .bf16) (G : FVec Ideal S256x3584 .bf16) (X : Vec Ideal S1x1024x896 .f32)
    (i : S1x1024x896.Idx) (j : Fin 256 → S256x3584.Idx) (h0 : ∀ r, (j r 0 : ℕ) = r) (h1 : ∀ r, (j r 1 : ℕ) = 896 + i 2) :
    k0_pay20 (F := Ideal) H G X i = X i + ∑ r : Fin 256, H (ValueIdx.ix2 r (i 1)) * G (j r) := by
  pointwise [k0_pay20, k0_pay19]
  refine congrArg (X i + ·) (Finset.sum_congr rfl fun r _ => congrArg (H (ValueIdx.ix2 r (i 1)) * G ·) ?_)
  have := h0 r
  have := h1 r
  blk_ext

theorem slab2 (H : FVec Ideal S256x1024 .bf16) (G : FVec Ideal S256x3584 .bf16) (X : Vec Ideal S1x1024x896 .f32)
    (i : S1x1024x896.Idx) (j : Fin 256 → S256x3584.Idx) (h0 : ∀ r, (j r 0 : ℕ) = r) (h1 : ∀ r, (j r 1 : ℕ) = 1792 + i 2) :
    k0_pay22 (F := Ideal) H G X i = X i + ∑ r : Fin 256, H (ValueIdx.ix2 r (i 1)) * G (j r) := by
  pointwise [k0_pay22, k0_pay21]
  refine congrArg (X i + ·) (Finset.sum_congr rfl fun r _ => congrArg (H (ValueIdx.ix2 r (i 1)) * G ·) ?_)
  have := h0 r
  have := h1 r
  blk_ext

theorem slab3 (H : FVec Ideal S256x1024 .bf16) (G : FVec Ideal S256x3584 .bf16) (X : Vec Ideal S1x1024x896 .f32)
    (i : S1x1024x896.Idx) (j : Fin 256 → S256x3584.Idx) (h0 : ∀ r, (j r 0 : ℕ) = r) (h1 : ∀ r, (j r 1 : ℕ) = 2688 + i 2) :
    k0_pay26 (F := Ideal) (k0_pay25 H G X) i = X i + ∑ r : Fin 256, H (ValueIdx.ix2 r (i 1)) * G (j r) := by
  pointwise [k0_pay26, k0_pay25, k0_pay24]
  refine congrArg (X i + ·) (Finset.sum_congr rfl fun r _ => congrArg (H (ValueIdx.ix2 r (i 1)) * G ·) ?_)
  have := h0 r
  have := h1 r
  blk_ext

end Cert.Kernel2Ideal.Proj

end
-- ==== Proof.Norm.lean ====
/-
The input gradient of an RMS norm over rows of 1024 numbers: the short form, which factors the reciprocal root out, equals the
sum of products that differentiating the norm line by line leaves.  Over the extended reals and without any finiteness: a row
with an infinite entry has reciprocal root zero, and both sides are then the residual alone.
-/
module

public import Idealize.ShloMosaic.Lib.Pipeline.ValueKit

@[expose] public section

noncomputable section

namespace Cert.Norm

open Idealize.ShloMosaic

theorem ofBits_1024 : Ideal.ofBits FTy.f32 1149239296#32 = ((1024 : ℝ) : EReal) := by
  simp [Ideal.ofBits, Ideal.ieee, -EReal.coe_mul]; norm_num

theorem ofBits_neg_half : Ideal.ofBits FTy.f32 3204448256#32 = ((-(1 / 2) : ℝ) : EReal) := by
  simp [Ideal.ofBits, Ideal.ieee, -EReal.coe_mul, -EReal.coe_neg]; norm_num

theorem ofBits_eps : ∃ e : ℝ, 0 < e ∧ Ideal.ofBits FTy.f32 897988541#32 = (e : EReal) := by
  refine ⟨8796093 * 2 ^ (-43 : ℤ), by positivity, ?_⟩
  simp [Ideal.ofBits, Ideal.ieee, -EReal.coe_mul]

/-- A real factor at least zero leaves a sum. -/
theorem sum_mul_coe {ι : Type*} (A : Finset ι) (f : ι → EReal) (r : ℝ) (hr : 0 ≤ r) :
    ∑ l ∈ A, f l * (r : EReal) = (∑ l ∈ A, f l) * (r : EReal) := by
  classical
  refine Finset.induction_on A (by simp) fun a A ha ih => ?_
  rw [Finset.sum_insert ha, Finset.sum_insert ha, ih,
    EReal.right_distrib_of_nonneg_of_ne_top (EReal.coe_nonneg.mpr hr) (EReal.coe_ne_top r)]

theorem double (S : EReal) (b : ℝ) : S * (b : EReal) + S * (b : EReal) = S * ((b + b : ℝ) : EReal) := by
  induction S with
  | coe s => rw [← EReal.coe_mul, ← EReal.coe_mul, ← EReal.coe_add, mul_add]
  | top =>
    rcases lt_trichotomy b 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy b 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

theorem div_1024 (x : EReal) : Ideal.div x (Ideal.ofBits FTy.f32 1149239296#32) = x * ((1024⁻¹ : ℝ) : EReal) := by
  rw [ofBits_1024, Ideal.div, if_neg (by norm_cast), ← EReal.coe_inv]

theorem sq_nonneg (x : EReal) : 0 ≤ x * x := by
  induction x with
  | coe s => rw [← EReal.coe_mul]; exact EReal.coe_nonneg.mpr (mul_self_nonneg s)
  | top => simp
  | bot => simp

/-- The gradient itself: `r` the reciprocal root mean square of the row `x`, `D` the row's cotangent times the gain. -/
theorem grad (x D : Fin 1024 → EReal) (k : Fin 1024) (res v r : EReal)
    (hv : v = Ideal.div (∑ l, x l * x l) (Ideal.ofBits FTy.f32 1149239296#32) + Ideal.ofBits FTy.f32 897988541#32)
    (hr : r = Ideal.rsqrt v) :
    r * (D k - x k * r * Ideal.div (∑ l, D l * (x l * r)) (Ideal.ofBits FTy.f32 1149239296#32)) + res
      = ((res + D k * r)
          + x k * Ideal.div ((∑ l, x l * D l) * (Ideal.ofBits FTy.f32 3204448256#32 * Ideal.div r v))
              (Ideal.ofBits FTy.f32 1149239296#32))
        + Ideal.div ((∑ l, x l * D l) * (Ideal.ofBits FTy.f32 3204448256#32 * Ideal.div r v))
              (Ideal.ofBits FTy.f32 1149239296#32) * x k := by
  obtain ⟨e, he, hE⟩ := ofBits_eps
  rw [div_1024, hE] at hv
  rw [div_1024, div_1024, ofBits_neg_half]
  by_cases hQ : (∑ l, x l * x l) = ⊤
  · rw [hQ, EReal.top_mul_coe_of_pos (by norm_num), EReal.top_add_coe] at hv
    subst hv
    rw [Ideal.rsqrt_top] at hr
    subst hr
    simp [Ideal.div]
  · have hx : ∀ l, ∃ a : ℝ, x l = (a : EReal) := fun l => by
      have h1 : x l * x l ≤ ∑ l, x l * x l :=
        Finset.single_le_sum (f := fun l => x l * x l) (fun l _ => sq_nonneg (x l)) (Finset.mem_univ l)
      have h2 : x l ≠ ⊤ := fun h => by rw [h] at h1; exact hQ (top_le_iff.mp (by simpa using h1))
      have h3 : x l ≠ ⊥ := fun h => by rw [h] at h1; exact hQ (top_le_iff.mp (by simpa using h1))
      exact ⟨(x l).toReal, (EReal.coe_toReal h2 h3).symm⟩
    choose a ha using hx
    have hq : ∃ q : ℝ, 0 ≤ q ∧ (∑ l, x l * x l) = (q : EReal) := by
      have h0 : (0 : EReal) ≤ ∑ l, x l * x l := Finset.sum_nonneg fun l _ => sq_nonneg (x l)
      have hb : (∑ l, x l * x l) ≠ ⊥ := fun h => by rw [h] at h0; simp at h0
      refine ⟨(∑ l, x l * x l).toReal, EReal.toReal_nonneg h0, (EReal.coe_toReal hQ hb).symm⟩
    obtain ⟨q, hq0, hq⟩ := hq
    rw [hq, ← EReal.coe_mul, ← EReal.coe_add] at hv
    have hw : 0 < q * 1024⁻¹ + e := by positivity
    generalize q * 1024⁻¹ + e = w at hv hw
    subst hv
    rw [Ideal.rsqrt_coe, if_neg (not_lt.mpr hw.le), if_neg hw.ne'] at hr
    have hs := Real.sq_sqrt hw.le
    have hp : 0 < (Real.sqrt w)⁻¹ := inv_pos.mpr (Real.sqrt_pos.mpr hw)
    have hi : w⁻¹ = (Real.sqrt w)⁻¹ * (Real.sqrt w)⁻¹ := by rw [← mul_inv, Real.mul_self_sqrt hw.le]
    generalize (Real.sqrt w)⁻¹ = p at hr hp hi
    subst hr
    have hd : Ideal.div (p : EReal) (w : EReal) = ((p * w⁻¹ : ℝ) : EReal) := by
      rw [Ideal.div, if_neg (by norm_cast; exact hw.ne'), ← EReal.coe_inv, ← EReal.coe_mul]
    have hS : ∑ l, D l * (x l * (p : EReal)) = (∑ l, x l * D l) * (p : EReal) := by
      rw [← sum_mul_coe _ _ _ hp.le]
      exact Finset.sum_congr rfl fun l _ => by rw [← mul_assoc, mul_comm (D l)]
    rw [hd, hS]
    generalize (∑ l, x l * D l) = S
    rw [ha k]
    generalize D k = d
    generalize a k = b
    rw [sub_eq_add_neg, EReal.left_distrib_of_nonneg_of_ne_top (EReal.coe_nonneg.mpr hp.le) (EReal.coe_ne_top p),
      mul_neg]
    have e1 : (p : EReal) * ((b : EReal) * p * (S * p * ((1024⁻¹ : ℝ) : EReal)))
        = S * ((p * b * p * p * 1024⁻¹ : ℝ) : EReal) := by
      push_cast [EReal.coe_mul]; ac_rfl
    have e2 : (b : EReal) * (S * (((-(1 / 2) : ℝ) : EReal) * ((p * w⁻¹ : ℝ) : EReal)) * ((1024⁻¹ : ℝ) : EReal))
        = S * ((b * (-(1 / 2) * (p * w⁻¹)) * 1024⁻¹ : ℝ) : EReal) := by
      rw [← EReal.coe_mul]
      rw [EReal.coe_mul (b * _), EReal.coe_mul b]; ac_rfl
    rw [mul_comm _ (b : EReal), e1, e2, add_assoc (res + d * (p : EReal)), double, ← mul_neg, ← EReal.coe_neg]
    rw [show b * (-(1 / 2) * (p * w⁻¹)) * 1024⁻¹ + b * (-(1 / 2) * (p * w⁻¹)) * 1024⁻¹ = -(p * b * p * p * 1024⁻¹) by
      rw [hi]; ring]
    rw [mul_comm d]
    ac_rfl

end Cert.Norm

end
-- ==== Proof.Proj.Value.lean ====
/-
The idealized `_proj_bwd` call's three result arrays, as the reference's arrays.
-/
module

public import proofs.«01_k».proof.Proof.Proj.Base
public import proofs.«01_k».proof.Proof.Norm

@[expose] public section

set_option maxRecDepth 16384

noncomputable section

namespace Cert.Kernel2Ideal.Proj

open Idealize.ShloMosaic Idealize.ShloMosaic.TcCoe Idealize.SL.Sem
open Idealize.ShloMosaic.Pipeline (Dat)
open Cert.Kernel2Ideal Cert.Kernel2Ideal.Gen
open Cert.Reference2Ideal.Read

variable (m : (ℓ : Loc nD τ sig) → Buf (Elt Ideal) ℓ)

/-- The first slab of the tile's joined rows, as the body slices it out. -/
def dp0 (A B C : Vec Ideal S8x256x64 .f32) (D : Vec Ideal S256x2048 .f32) : FVec Ideal S256x896 .bf16 :=
  k0_pay16 (F := Ideal)
    (k0_pay11 (k0_pay5 (View.ld A (Rect.unit ![0, 0, 0] ![1, 256, 64] inb_S8x256x64_S1x256x64_0_0_0)))
      (k0_pay6 (View.ld A (Rect.unit ![1, 0, 0] ![1, 256, 64] inb_S8x256x64_S1x256x64_1_0_0)))
      (k0_pay7 (View.ld A (Rect.unit ![2, 0, 0] ![1, 256, 64] inb_S8x256x64_S1x256x64_2_0_0)))
      (k0_pay8 (View.ld A (Rect.unit ![3, 0, 0] ![1, 256, 64] inb_S8x256x64_S1x256x64_3_0_0)))
      (k0_pay9 (View.ld A (Rect.unit ![4, 0, 0] ![1, 256, 64] inb_S8x256x64_S1x256x64_4_0_0)))
      (k0_pay10 (View.ld A (Rect.unit ![5, 0, 0] ![1, 256, 64] inb_S8x256x64_S1x256x64_5_0_0)))
      (View.ld A (Rect.unit ![6, 0, 0] ![1, 256, 64] inb_S8x256x64_S1x256x64_6_0_0))
      (View.ld A (Rect.unit ![7, 0, 0] ![1, 256, 64] inb_S8x256x64_S1x256x64_7_0_0)))
    (k0_pay12 (View.ld B (Rect.unit ![0, 0, 0] ![1, 256, 64] inb_S8x256x64_S1x256x64_0_0_0))
      (View.ld B (Rect.unit ![1, 0, 0] ![1, 256, 64] inb_S8x256x64_S1x256x64_1_0_0))
      (View.ld B (Rect.unit ![2, 0, 0] ![1, 256, 64] inb_S8x256x64_S1x256x64_2_0_0))
      (View.ld B (Rect.unit ![3, 0, 0] ![1, 256, 64] inb_S8x256x64_S1x256x64_3_0_0))
      (View.ld B (Rect.unit ![4, 0, 0] ![1, 256, 64] inb_S8x256x64_S1x256x64_4_0_0))
      (View.ld B (Rect.unit ![5, 0, 0] ![1, 256, 64] inb_S8x256x64_S1x256x64_5_0_0))
      (View.ld B (Rect.unit ![6, 0, 0] ![1, 256, 64] inb_S8x256x64_S1x256x64_6_0_0))
      (View.ld B (Rect.unit ![7, 0, 0] ![1, 256, 64] inb_S8x256x64_S1x256x64_7_0_0)))
    (k0_pay13 (View.ld C (Rect.unit ![0, 0, 0] ![1, 256, 64] inb_S8x256x64_S1x256x64_0_0_0)))
    (View.ld C (Rect.unit ![1, 0, 0] ![1, 256, 64] inb_S8x256x64_S1x256x64_1_0_0))
    (View.ld C (Rect.unit ![2, 0, 0] ![1, 256, 64] inb_S8x256x64_S1x256x64_2_0_0))
    (View.ld C (Rect.unit ![3, 0, 0] ![1, 256, 64] inb_S8x256x64_S1x256x64_3_0_0))
    (View.ld C (Rect.unit ![4, 0, 0] ![1, 256, 64] inb_S8x256x64_S1x256x64_4_0_0))
    (View.ld C (Rect.unit ![5, 0, 0] ![1, 256, 64] inb_S8x256x64_S1x256x64_5_0_0))
    (View.ld C (Rect.unit ![6, 0, 0] ![1, 256, 64] inb_S8x256x64_S1x256x64_6_0_0))
    (View.ld C (Rect.unit ![7, 0, 0] ![1, 256, 64] inb_S8x256x64_S1x256x64_7_0_0))
    D

theorem dp0_eq (A B C : Vec Ideal S8x256x64 .f32) (D : Vec Ideal S256x2048 .f32) (k : Fin 256) (l : Fin 896) :
    dp0 A B C D (ValueIdx.ix2 k l) = joined A B C D (ValueIdx.ix2 k ⟨l.val, lt_trans l.isLt (by decide)⟩) := by
  unfold dp0 joined
  pointwise [k0_pay16]
  rfl

/-- The tile's gradient at the norm's output, as the body adds it up over the four slabs of the weight. -/
def dhOf (J : FVec Ideal S256x3584 .bf16) (J0 : FVec Ideal S256x896 .bf16) (W : Vec Ideal S4x1024x896 .bf16) :
    FVec Ideal S256x1024 .f32 :=
  k0_pay27 (F := Ideal) (k0_pay23 J k0_pay15 J0
      (k0_pay18 (View.ld W (Rect.unit ![0, 0, 0] ![1, 1024, 896] inb_S4x1024x896_S1x1024x896_0_0_0)))
      (View.ld W (Rect.unit ![1, 0, 0] ![1, 1024, 896] inb_S4x1024x896_S1x1024x896_1_0_0))
      (View.ld W (Rect.unit ![2, 0, 0] ![1, 1024, 896] inb_S4x1024x896_S1x1024x896_2_0_0)))
    (k0_pay24 J)
    (View.ld W (Rect.unit ![3, 0, 0] ![1, 1024, 896] inb_S4x1024x896_S1x1024x896_3_0_0))

theorem w_slab (c : Dev nD) (t : Fin cfg0.N) (i : S4x1024x896.Idx) (j : S1024x3584.Idx)
    (h0 : (j 0 : ℕ) = i 1) (h1 : (j 1 : ℕ) = (i 0 : ℕ) * 896 + i 2) :
    iblk m c 2 t i = m ((c : Thread nD τ).loc main_arg2) j := by
  blk_simp [iblk, V, idx t]
  entry_read
  pointwise
  refine congrArg (m ((c : Thread nD τ).loc main_arg2)) ?_
  blk_ext [idx t]

theorem dhOf_row (c : Dev nD) (t : Fin cfg0.N) (J : FVec Ideal S256x3584 .bf16) (J0 : FVec Ideal S256x896 .bf16)
    (hJ0 : ∀ k l, J0 (ValueIdx.ix2 k l) = J (ValueIdx.ix2 k ⟨l.val, lt_trans l.isLt (by decide)⟩))
    (hJ : J = joined (iblk m c 3 t) (iblk m c 4 t) (iblk m c 5 t) (iblk m c 6 t))
    (i : S256x1024.Idx) (j : S2048x1024.Idx)
    (h0 : (j 0 : ℕ) = t.val * 256 + i 0) (h1 : (j 1 : ℕ) = i 1) :
    dhOf J J0 (iblk m c 2 t) i
      = val_main_v35 (F := Ideal) (m ((c : Thread nD τ).loc main_arg2)) (m ((c : Thread nD τ).loc main_arg3))
          (m ((c : Thread nD τ).loc main_arg4)) (m ((c : Thread nD τ).loc main_arg5))
          (m ((c : Thread nD τ).loc main_arg6)) j := by
  unfold dhOf
  pointwise [k0_pay27, k0_pay23, k0_pay15, k0_pay18, k0_pay19, k0_pay21, k0_pay24, val_main_v35]
  rw [Fin.sum_univ_tiles 4 896 rfl]
  simp only [Fin.sum_univ_four]
  have hW := w_slab m c t
  have hR := joined_row m c t
  rw [← hJ] at hR
  refine congrArg₂ (· + ·) (congrArg₂ (· + ·) (congrArg₂ (· + ·) ?_ ?_) ?_) ?_ <;>
    refine Finset.sum_congr rfl fun x _ => congrArg₂ (· * ·) ?_ ?_
  · refine (hJ0 _ _).trans (hR _ _ h0 ?_)
    show (0 * 896 + (x : ℕ) : ℕ) = (x : ℕ)
    omega
  · refine hW _ _ h1 ?_
    show (0 * 896 + (x : ℕ) : ℕ) = 0 * 896 + (x : ℕ)
    omega
  · refine hR _ _ h0 ?_
    show (1 * 896 + (x : ℕ) : ℕ) = 896 + (x : ℕ)
    omega
  · refine hW _ _ h1 ?_
    show (1 * 896 + (x : ℕ) : ℕ) = 1 * 896 + (x : ℕ)
    omega
  · refine hR _ _ h0 ?_
    show (2 * 896 + (x : ℕ) : ℕ) = 1792 + (x : ℕ)
    omega
  · refine hW _ _ h1 ?_
    show (2 * 896 + (x : ℕ) : ℕ) = 2 * 896 + (x : ℕ)
    omega
  · refine hR _ _ h0 ?_
    show (3 * 896 + (x : ℕ) : ℕ) = 2688 + (x : ℕ)
    omega
  · refine hW _ _ h1 ?_
    show (3 * 896 + (x : ℕ) : ℕ) = 3 * 896 + (x : ℕ)
    omega

theorem rs_eq (c : Dev nD) (t : Fin cfg0.N) (k : Fin 256) (j : S2048x1024.Idx) (h0 : (j 0 : ℕ) = t.val * 256 + k) :
    k0_pay28 (F := Ideal) (iblk m c 0 t) (ValueIdx.ix2 k 0)
      = val_main_v7 (F := Ideal) (m ((c : Thread nD τ).loc main_arg0)) (ValueIdx.ix2 (j 0) 0) :=
  rms_row m c t _ _ h0

/-- A row of the argument, and a row of the gradient at the normed row. -/
def xRow (c : Dev nD) (k : Fin 2048) (l : Fin 1024) : EReal := m ((c : Thread nD τ).loc main_arg0) (ValueIdx.ix2 k l)

def dhRow (c : Dev nD) (k : Fin 2048) (l : Fin 1024) : EReal :=
  val_main_v35 (F := Ideal) (m ((c : Thread nD τ).loc main_arg2)) (m ((c : Thread nD τ).loc main_arg3))
    (m ((c : Thread nD τ).loc main_arg4)) (m ((c : Thread nD τ).loc main_arg5))
    (m ((c : Thread nD τ).loc main_arg6)) (ValueIdx.ix2 k l)

def dRow (c : Dev nD) (k : Fin 2048) (l : Fin 1024) : EReal :=
  dhRow m c k l * m ((c : Thread nD τ).loc main_arg1) (ValueIdx.ix2 0 l)

theorem dx_row (c : Dev nD) (t : Fin cfg0.N) (a : FVec Ideal S256x1024 .f32) (b : FVec Ideal S256x896 .bf16)
    (w : Vec Ideal S1x1024x896 .bf16)
    (hD : ∀ (i : S256x1024.Idx) (j : S2048x1024.Idx), (j 0 : ℕ) = t.val * 256 + i 0 → (j 1 : ℕ) = i 1 →
      k0_pay27 (F := Ideal) a b w i
        = val_main_v35 (F := Ideal) (m ((c : Thread nD τ).loc main_arg2)) (m ((c : Thread nD τ).loc main_arg3))
          (m ((c : Thread nD τ).loc main_arg4)) (m ((c : Thread nD τ).loc main_arg5))
          (m ((c : Thread nD τ).loc main_arg6)) j)
    (i : S256x1024.Idx) (j : S2048x1024.Idx) (h0 : (j 0 : ℕ) = t.val * 256 + i 0) (h1 : (j 1 : ℕ) = i 1) :
    k0_pay30 (F := Ideal) (iblk m c 0 t) (iblk m c 1 t) a b w (iblk m c 7 t) i
      = val_main_v55 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) j := by
  have hv : val_main_v6 (F := Ideal) (m ((c : Thread nD τ).loc main_arg0)) (ValueIdx.ix2 (j 0) 0)
      = Ideal.div (∑ l : Fin 1024, xRow m c (j 0) l * xRow m c (j 0) l)
          (Ideal.ofBits FTy.f32 1149239296#32)
        + Ideal.ofBits FTy.f32 897988541#32 := by
    pointwise [val_main_v6, val_main_v5, val_main_v4, val_main_v3, val_main_v2, val_main_v1, val_main_v0, val_main_cst,
      val_main_cst_0, val_main_cst_1]
    rfl
  have hr : val_main_v7 (F := Ideal) (m ((c : Thread nD τ).loc main_arg0)) (ValueIdx.ix2 (j 0) 0)
      = Ideal.rsqrt (val_main_v6 (F := Ideal) (m ((c : Thread nD τ).loc main_arg0)) (ValueIdx.ix2 (j 0) 0)) := by
    pointwise [val_main_v7]
  have hg := Norm.grad (xRow m c (j 0)) (dRow m c (j 0)) (j 1) (m ((c : Thread nD τ).loc main_arg7) j) _ _ hv hr
  unfold xRow dRow dhRow at hg
  refine Eq.trans ?_ (hg.trans ?_)
  · pointwise [k0_pay30, k0_pay29]
    have hd : ∀ x : Fin 1024, k0_pay27 (F := Ideal) a b w (ValueIdx.ix2 (i 0) x)
        = val_main_v35 (F := Ideal) (m ((c : Thread nD τ).loc main_arg2)) (m ((c : Thread nD τ).loc main_arg3))
          (m ((c : Thread nD τ).loc main_arg4)) (m ((c : Thread nD τ).loc main_arg5))
          (m ((c : Thread nD τ).loc main_arg6)) (ValueIdx.ix2 (j 0) x) := fun x => hD _ _ h0 rfl
    have hs := rs_eq m c t (i 0) j h0
    refine congrArg₂ (· + ·) (congrArg₂ (· * ·) hs (congrArg₂ (· - ·) (congrArg₂ (· * ·) (hD i (ValueIdx.ix2 (j 0) (j 1)) h0 h1) ?_)
      (congrArg₂ (· * ·) (congrArg₂ (· * ·) ?_ hs) (congrArg₂ Ideal.div
        (Finset.sum_congr rfl fun x _ => congrArg₂ (· * ·) (congrArg₂ (· * ·) (hd x) ?_) (congrArg₂ (· * ·) ?_ hs)) rfl)))) ?_
    all_goals clear hg hv hr hd
    all_goals blk_ext [iblk, V, idx t]
    all_goals first | exact h1.symm | exact h0.symm
  · pointwise [val_main_v55, val_main_v54, val_main_v53, val_main_v52, val_main_v51, val_main_v50, val_main_v49, val_main_v48,
      val_main_v47, val_main_v46, val_main_v45, val_main_v44, val_main_v43, val_main_v42, val_main_v41, val_main_v40,
      val_main_v39, val_main_v8, val_main_v9, val_main_v10, val_main_cst_2, val_main_cst_4, val_main_cst_5, val_main_cst_6]
    simp only [Fin.sum_univ_one]
    blk_point []

/-- A tile's part of the gain's gradient. -/
def part9 (c : Dev nD) (t : Fin cfg0.N) (i : S1x1024.Idx) : EReal :=
  ∑ r : Fin 256, dhRow m c ⟨t.val * 256 + r.val, by have := lt8 t; omega⟩ (i 1)
    * val_main_v12 (F := Ideal) (m ((c : Thread nD τ).loc main_arg0)) (ValueIdx.ix2 ⟨t.val * 256 + r.val, by have := lt8 t; omega⟩ (i 1))

theorem step9 (c : Dev nD) (t : Fin cfg0.N) (a : FVec Ideal S256x1024 .f32) (b : FVec Ideal S256x896 .bf16)
    (w : Vec Ideal S1x1024x896 .bf16)
    (hD : ∀ (i : S256x1024.Idx) (j : S2048x1024.Idx), (j 0 : ℕ) = t.val * 256 + i 0 → (j 1 : ℕ) = i 1 →
      k0_pay27 (F := Ideal) a b w i
        = val_main_v35 (F := Ideal) (m ((c : Thread nD τ).loc main_arg2)) (m ((c : Thread nD τ).loc main_arg3))
          (m ((c : Thread nD τ).loc main_arg4)) (m ((c : Thread nD τ).loc main_arg5))
          (m ((c : Thread nD τ).loc main_arg6)) j)
    (X : Vec Ideal S1x1024 .f32) (i : S1x1024.Idx) :
    k0_pay31 (F := Ideal) (iblk m c 0 t) a b w X i = X i + part9 m c t i := by
  pointwise [k0_pay31, k0_pay29]
  refine congrArg (X i + ·) (Finset.sum_congr rfl fun r _ => ?_)
  refine congrArg₂ (· * ·) (hD _ _ rfl rfl) ?_
  pointwise [val_main_v12, val_main_v11]
  refine congrArg₂ (· * ·) ?_ (rms_row m c t _ _ rfl)
  blk_ext [iblk, V, idx t]

theorem zero9 (i : S1x1024.Idx) : k0_pay3 (F := Ideal) i = 0 := by
  pointwise [k0_pay3]

theorem point8 (c : Dev nD) (t : Fin cfg0.N) (y : S256x1024.Idx) :
    (outsAt0 m c t.val t.isLt).1 y
      = val_main_v55 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) (((cfg0.win 8).blk t).view.emb y) := by
  have ht := lt8 t
  have hJ0 : ∀ (k : Fin 256) (l : Fin 896), dp0 (iblk m c 3 t) (iblk m c 4 t) (iblk m c 5 t) (iblk m c 6 t) (ValueIdx.ix2 k l)
      = joined (iblk m c 3 t) (iblk m c 4 t) (iblk m c 5 t) (iblk m c 6 t)
          (ValueIdx.ix2 k ⟨l.val, lt_trans l.isLt (by decide)⟩) := dp0_eq _ _ _ _
  have hD := dhOf_row m c t _ _ hJ0 rfl
  by_cases h0 : t.val % 8 = 0
  · rw [outsAt0_A m c t h0 (by omega)]
    frame_out
    refine dx_row m c t _ _ _ hD y _ ?_ ?_
    all_goals (blk_simp [idx t] <;> try omega)
  · by_cases h1 : t.val % 8 = 7
    · rw [outsAt0_C m c t h0 h1]
      frame_out
      refine dx_row m c t _ _ _ hD y _ ?_ ?_
      all_goals (blk_simp [idx t] <;> try omega)
    · rw [outsAt0_B m c t h0 h1]
      frame_out
      refine dx_row m c t _ _ _ hD y _ ?_ ?_
      all_goals (blk_simp [idx t] <;> try omega)

theorem dh_all (c : Dev nD) (t : Fin cfg0.N) (i : S256x1024.Idx) (j : S2048x1024.Idx)
    (h0 : (j 0 : ℕ) = t.val * 256 + i 0) (h1 : (j 1 : ℕ) = i 1) :
    dhOf (joined (iblk m c 3 t) (iblk m c 4 t) (iblk m c 5 t) (iblk m c 6 t))
        (dp0 (iblk m c 3 t) (iblk m c 4 t) (iblk m c 5 t) (iblk m c 6 t)) (iblk m c 2 t) i
      = val_main_v35 (F := Ideal) (m ((c : Thread nD τ).loc main_arg2)) (m ((c : Thread nD τ).loc main_arg3))
          (m ((c : Thread nD τ).loc main_arg4)) (m ((c : Thread nD τ).loc main_arg5))
          (m ((c : Thread nD τ).loc main_arg6)) j :=
  dhOf_row m c t _ _ (dp0_eq (iblk m c 3 t) (iblk m c 4 t) (iblk m c 5 t) (iblk m c 6 t)) rfl i j h0 h1

theorem final8 (c : Dev nD) : (dats m 0 c).arrAt 8 (cfgs 0).N
    = val_main_v55 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  refine (dats m 0 c).arrAt_eq_of_covers 8 _ (by decide +kernel) fun t _ y => ?_
  blk_simp
  rw [after0_8]
  exact point8 m c t y

theorem final9 (c : Dev nD) : (dats m 0 c).arrAt 9 (cfgs 0).N
    = val_main_v38 (F := Ideal) (m ((c : Thread nD τ).loc main_arg0))
          (m ((c : Thread nD τ).loc main_arg2)) (m ((c : Thread nD τ).loc main_arg3))
          (m ((c : Thread nD τ).loc main_arg4)) (m ((c : Thread nD τ).loc main_arg5))
          (m ((c : Thread nD τ).loc main_arg6)) := by
  refine (dats m 0 c).arrAt_eq_of_after_last 9 t0_7 (by decide +kernel) _ fun j => ?_
  blk_simp
  rw [after0_9]
  rw [Pipeline.eq_sum_fin_of_reset_step_apply_last (fun n h => (outsAt0 m c n h).2.1) 8 (fun _ => 0) (part9 m c)
    (fun t h j => by
      rw [outsAt0_A m c t h (by omega)]
      frame_out
      refine (step9 m c t _ _ _ (dh_all m c t) _ j).trans ?_
      rw [zero9])
    (fun t h j => by
      by_cases h1 : t.val % 8 = 7
      · rw [outsAt0_C m c t h h1]
        frame_out
        exact step9 m c t _ _ _ (dh_all m c t) _ j
      · rw [outsAt0_B m c t h h1]
        frame_out
        exact step9 m c t _ _ _ (dh_all m c t) _ j)
    (le_of_eq N_0) t0_7 rfl j, zero_add]
  pointwise [val_main_v38, val_main_v37, val_main_v36, val_main_cst_3]
  unfold part9
  refine Fin.sum_mul_add_congr fun s k hl => Eq.trans (EReal.mul_comm _ _) ?_
  unfold dhRow
  blk_point []

theorem pay1_apply (X : FVec Ideal S4x1024x896 .f32) (y : S4x1024x896.Idx) : k0_pay1 (F := Ideal) X y = X y := by
  pointwise [k0_pay1]

theorem readCov_whole {sig : RefSig} {κ : Kind} {sp : Space} (v : View sig κ sp S4x1024x896 .f32)
    (L : List (View.Piece (Elt Ideal) S4x1024x896 .f32)) (y : S4x1024x896.Idx) :
    v.readCov L (Rect.unit (s := S4x1024x896) ![0, 0, 0] ![4, 1024, 896] inb_S4x1024x896_S4x1024x896_0_0_0).toLoadRect y
      = View.canon L y := by
  rw [View.readCov_eq_canon']
  refine congrArg (View.canon L) (funext fun a => Fin.ext ?_)
  refine (Rect.idx_unit_val _ _ _ _ _).trans ?_
  match a with
  | ⟨0, _⟩ => exact Nat.zero_add _
  | ⟨1, _⟩ => exact Nat.zero_add _
  | ⟨2, _⟩ => exact Nat.zero_add _

theorem last10 (c : Dev nD) (t : Fin cfg0.N) (y : S4x1024x896.Idx) (h0 : ¬ t.val % 8 = 0) (h1 : t.val % 8 = 7) :
    (outsAt0 m c t.val t.isLt).2.2.1 y = (outsAt0 m c t.val t.isLt).2.2.2 y := by
  rw [outsAt0_C m c t h0 h1]
  frame_open
  simp (disch := decide) only [↓ View.readCov_skip, ↓ View.readCov_cons_toLoadRect, ↓ View.readCov_fill]
  frame_out
  exact (pay1_apply _ y).trans (readCov_whole _ _ y)

/-- A tile's part of the weight's gradient, in the layout of four slabs. -/
def part10 (c : Dev nD) (t : Fin cfg0.N) (y : S4x1024x896.Idx) : EReal :=
  ∑ r : Fin 256, val_main_v14 (F := Ideal) (m ((c : Thread nD τ).loc main_arg0)) (m ((c : Thread nD τ).loc main_arg1))
      (ValueIdx.ix2 ⟨t.val * 256 + r.val, by have := lt8 t; omega⟩ (y 1))
    * val_main_v32 (F := Ideal) (m ((c : Thread nD τ).loc main_arg3)) (m ((c : Thread nD τ).loc main_arg4))
        (m ((c : Thread nD τ).loc main_arg5)) (m ((c : Thread nD τ).loc main_arg6))
      (ValueIdx.ix2 ⟨t.val * 256 + r.val, by have := lt8 t; omega⟩
        ⟨(y 0 : ℕ) * 896 + (y 2 : ℕ), by
          have h0 : (y 0 : ℕ) < 4 := (y 0).isLt
          have h2 : (y 2 : ℕ) < 896 := (y 2).isLt
          omega⟩)

/-- A product of a tile's normed rows and its joined rows is the reference's rows' product. -/
theorem part10_eq (c : Dev nD) (t : Fin cfg0.N) (y : S4x1024x896.Idx) (p : Fin 1024) (j : Fin 256 → S256x3584.Idx)
    (hp : (p : ℕ) = y 1) (h0 : ∀ r, (j r 0 : ℕ) = r) (h1 : ∀ r, (j r 1 : ℕ) = (y 0 : ℕ) * 896 + y 2) :
    ∑ r : Fin 256, k0_pay4 (F := Ideal) (iblk m c 0 t) (iblk m c 1 t) (ValueIdx.ix2 r p)
        * joined (iblk m c 3 t) (iblk m c 4 t) (iblk m c 5 t) (iblk m c 6 t) (j r) = part10 m c t y := by
  unfold part10
  refine Finset.sum_congr rfl fun r _ => congrArg₂ (· * ·) (normed m c t _ _ rfl hp.symm) (joined_row m c t _ _ ?_ (h1 r).symm)
  rw [h0 r]

/-- A slab's element of a whole-scratch array. -/
theorem ld_slab (s : ℕ) (inb) (X : Vec Ideal S4x1024x896 .f32) (x : S1x1024x896.Idx) (y : S4x1024x896.Idx)
    (h0 : (y 0 : ℕ) = s + x 0) (h1 : (y 1 : ℕ) = x 1) (h2 : (y 2 : ℕ) = x 2) :
    View.ld X (Rect.unit (s := S4x1024x896) ![s, 0, 0] ![1, 1024, 896] inb) x = X y := by
  refine congrArg X (funext fun a => Fin.ext ?_)
  refine (Rect.idx_unit_val _ _ _ _ _).trans ?_
  match a with
  | ⟨0, _⟩ => exact h0.symm
  | ⟨1, _⟩ => exact (Nat.zero_add _).trans h1.symm
  | ⟨2, _⟩ => exact (Nat.zero_add _).trans h2.symm

/-- `P` is what slab `s` of the scratch holds after a tile: what it held in `X`, and the tile's product. -/
def IsSlab (c : Dev nD) (t : Fin cfg0.N) (s : ℕ) (inb : ∀ a, (![s, 0, 0] : Fin 3 → ℕ) a + (![1, 1024, 896] : Fin 3 → ℕ) a ≤ S4x1024x896.size a)
    (X : Vec Ideal S4x1024x896 .f32) (P : FVec Ideal S1x1024x896 .f32) : Prop :=
  ∀ (x : S1x1024x896.Idx) (j : Fin 256 → S256x3584.Idx), (∀ r, (j r 0 : ℕ) = r) → (∀ r, (j r 1 : ℕ) = s * 896 + x 2) →
    P x = View.ld X (Rect.unit (s := S4x1024x896) ![s, 0, 0] ![1, 1024, 896] inb) x
      + ∑ r : Fin 256, k0_pay4 (F := Ideal) (iblk m c 0 t) (iblk m c 1 t) (ValueIdx.ix2 r (x 1))
        * joined (iblk m c 3 t) (iblk m c 4 t) (iblk m c 5 t) (iblk m c 6 t) (j r)

/-- Such a slab, at its own place in the scratch. -/
theorem piece (c : Dev nD) (t : Fin cfg0.N) (s : ℕ) (hs : s < 4) (inb) (X : Vec Ideal S4x1024x896 .f32)
    (P : FVec Ideal S1x1024x896 .f32) (hP : IsSlab m c t s inb X P) (x : S1x1024x896.Idx) :
    P x = X ((Rect.unit (s := S4x1024x896) ![s, 0, 0] ![1, 1024, 896] inb).emb x)
      + part10 m c t ((Rect.unit (s := S4x1024x896) ![s, 0, 0] ![1, 1024, 896] inb).emb x) := by
  have hx : (x 0 : ℕ) = 0 := Nat.lt_one_iff.mp (x 0).isLt
  have h3 : (x 2 : ℕ) < 896 := (x 2).isLt
  generalize hy : (Rect.unit (s := S4x1024x896) ![s, 0, 0] ![1, 1024, 896] inb).emb x = y
  have h0 : (y 0 : ℕ) = s + x 0 := by rw [← hy]; exact Rect.idx_unit_val _ _ _ _ _
  have h1 : (y 1 : ℕ) = x 1 := by rw [← hy]; exact (Rect.idx_unit_val _ _ _ _ _).trans (Nat.zero_add _)
  have h2 : (y 2 : ℕ) = x 2 := by rw [← hy]; exact (Rect.idx_unit_val _ _ _ _ _).trans (Nat.zero_add _)
  refine (hP x (fun r => ValueIdx.ix2 r ⟨s * 896 + (x 2 : ℕ), by omega⟩) (fun _ => rfl) (fun _ => rfl)).trans ?_
  rw [ld_slab s inb X x y h0 h1 h2, part10_eq m c t y (x 1) _ h1.symm (fun _ => rfl) (fun _ => by rw [h0, hx, h2]; rfl)]

theorem zero10 (i : S4x1024x896.Idx) : k0_pay2 (F := Ideal) i = 0 := by
  pointwise [k0_pay2]

/-- The four slabs' stores, over any earlier ones, leave the whole scratch with the tile's part added. -/
theorem slabs (c : Dev nD) (t : Fin cfg0.N) (X : Vec Ideal S4x1024x896 .f32) (P0 P1 P2 P3 : FVec Ideal S1x1024x896 .f32)
    (L' : List (View.Piece (Elt Ideal) S4x1024x896 .f32)) (y : S4x1024x896.Idx)
    (h0 : IsSlab m c t 0 inb_S4x1024x896_S1x1024x896_0_0_0 X P0)
    (h1 : IsSlab m c t 1 inb_S4x1024x896_S1x1024x896_1_0_0 X P1)
    (h2 : IsSlab m c t 2 inb_S4x1024x896_S1x1024x896_2_0_0 X P2)
    (h3 : IsSlab m c t 3 inb_S4x1024x896_S1x1024x896_3_0_0 X P3) :
    View.canon ([(⟨Rect.unit ![3, 0, 0] ![1, 1024, 896] inb_S4x1024x896_S1x1024x896_3_0_0, P3⟩ : View.Piece (Elt Ideal) S4x1024x896 .f32),
        ⟨Rect.unit ![2, 0, 0] ![1, 1024, 896] inb_S4x1024x896_S1x1024x896_2_0_0, P2⟩,
        ⟨Rect.unit ![1, 0, 0] ![1, 1024, 896] inb_S4x1024x896_S1x1024x896_1_0_0, P1⟩,
        ⟨Rect.unit ![0, 0, 0] ![1, 1024, 896] inb_S4x1024x896_S1x1024x896_0_0_0, P0⟩] ++ L') y
      = X y + part10 m c t y := by
  exact View.canon_append_of_piecesOf (fun y => X y + part10 m c t y) L' [_, _, _, _]
    ⟨piece m c t 3 (by decide) _ X P3 h3, piece m c t 2 (by decide) _ X P2 h2, piece m c t 1 (by decide) _ X P1 h1,
      piece m c t 0 (by decide) _ X P0 h0, trivial⟩ y (View.cover_of_tiledL _ ![1, 1024, 896] (by sl_kernel_rfl) y)

theorem scratch_A (c : Dev nD) (t : Fin cfg0.N) (y : S4x1024x896.Idx) (h0 : t.val % 8 = 0) :
    (outsAt0 m c t.val t.isLt).2.2.2 y = k0_pay2 (F := Ideal) y + part10 m c t y := by
  rw [outsAt0_A m c t h0 (by omega)]
  frame_open
  simp (disch := decide) only [↓ View.readCov_skip, ↓ View.readCov_cons_toLoadRect, ↓ View.readCov_fill]
  frame_out
  exact slabs m c t _ _ _ _ _ [_] y
    (fun x j e0 e1 => slab0 _ _ _ _ _ _ _ _ _ _ _ _ _ x j e0 (fun r => (e1 r).trans (by omega)))
    (fun x j e0 e1 => slab1 _ _ _ x j e0 e1) (fun x j e0 e1 => slab2 _ _ _ x j e0 e1) (fun x j e0 e1 => slab3 _ _ _ x j e0 e1)

theorem scratch_B (c : Dev nD) (t : Fin cfg0.N) (y : S4x1024x896.Idx) (h0 : ¬ t.val % 8 = 0) :
    (outsAt0 m c t.val t.isLt).2.2.2 y
      = (outsAt0 m c (t.val - 1) (Nat.lt_of_le_of_lt (Nat.sub_le _ _) t.isLt)).2.2.2 y + part10 m c t y := by
  by_cases h1 : t.val % 8 = 7
  · rw [outsAt0_C m c t h0 h1]
    frame_open
    simp (disch := decide) only [↓ View.readCov_skip, ↓ View.readCov_cons_toLoadRect, ↓ View.readCov_fill]
    frame_out
    simp only [read_unread_whole]
    exact slabs m c t _ _ _ _ _ [] y
      (fun x j e0 e1 => slab0 _ _ _ _ _ _ _ _ _ _ _ _ _ x j e0 (fun r => (e1 r).trans (by omega)))
      (fun x j e0 e1 => slab1 _ _ _ x j e0 e1) (fun x j e0 e1 => slab2 _ _ _ x j e0 e1) (fun x j e0 e1 => slab3 _ _ _ x j e0 e1)
  · rw [outsAt0_B m c t h0 h1]
    frame_open
    simp (disch := decide) only [↓ View.readCov_skip, ↓ View.readCov_cons_toLoadRect, ↓ View.readCov_fill]
    frame_out
    simp only [read_unread_whole]
    exact slabs m c t _ _ _ _ _ [] y
      (fun x j e0 e1 => slab0 _ _ _ _ _ _ _ _ _ _ _ _ _ x j e0 (fun r => (e1 r).trans (by omega)))
      (fun x j e0 e1 => slab1 _ _ _ x j e0 e1) (fun x j e0 e1 => slab2 _ _ _ x j e0 e1) (fun x j e0 e1 => slab3 _ _ _ x j e0 e1)

theorem final10 (c : Dev nD) : (dats m 0 c).arrAt 10 (cfgs 0).N
    = val_main_v58 (F := Ideal) (m ((c : Thread nD τ).loc main_arg0)) (m ((c : Thread nD τ).loc main_arg1))
          (m ((c : Thread nD τ).loc main_arg3)) (m ((c : Thread nD τ).loc main_arg4)) (m ((c : Thread nD τ).loc main_arg5))
          (m ((c : Thread nD τ).loc main_arg6)) := by
  refine (dats m 0 c).arrAt_eq_of_after_last 10 t0_7 (by decide +kernel) _ fun j => ?_
  blk_simp
  rw [after0_10]
  refine (last10 m c t0_7 j (by decide) (by decide)).trans ?_
  rw [Pipeline.eq_sum_fin_of_reset_step_apply_last (fun n h => (outsAt0 m c n h).2.2.2) 8 (fun y => k0_pay2 (F := Ideal) y)
    (part10 m c) (fun t h j => scratch_A m c t j h) (fun t h j => scratch_B m c t j h) (le_of_eq N_0) t0_7 rfl j, zero10, zero_add]
  pointwise [val_main_v58, val_main_v57, val_main_v56, val_main_v34, val_main_v33]
  unfold part10
  refine Fin.sum_mul_add_congr fun s k hl => Eq.trans (EReal.mul_comm _ _) ?_
  blk_point []

end Cert.Kernel2Ideal.Proj

end
-- ==== Proof.Proj.Claim.lean ====
/-
The claims about the `_proj_bwd` call.
-/
module

public import proofs.«01_k».proof.Defs
public import proofs.«01_k».proof.Proof.Gen.Kernel2.Frame
public import proofs.«01_k».proof.Proof.Proj.Value
public import Idealize.ShloMosaic.Lib.Claim

@[expose] public section

noncomputable section

namespace Cert.Proof.Proj

open Idealize.ShloMosaic Idealize.SL.Sem
open Cert.Reference2Ideal.Read Cert.Kernel2Ideal.Proj

theorem frame : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := by
  intro m g _
  exact θ_run_mono (Cert.Reference2Ideal.Value.run m g) fun r h =>
    ⟨fun c => (h c).2.2.2, sem_eq_zero_of_no_sems (by decide) r.2⟩

/-- The reference's run, each result at its last stage. -/
theorem reference_run (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ fun r =>
      ∀ c : Dev Cert.Reference2Ideal.nD,
        r.2.mem ((c.tc : Thread Cert.Reference2Ideal.nD Cert.Reference2Ideal.τ).loc Cert.Reference2Ideal.main_v55) = val_main_v55 (F := Ideal)
            (m ((c.tc : Thread Cert.Reference2Ideal.nD Cert.Reference2Ideal.τ).loc Cert.Reference2Ideal.main_arg0))
            (m ((c.tc : Thread Cert.Reference2Ideal.nD Cert.Reference2Ideal.τ).loc Cert.Reference2Ideal.main_arg1))
            (m ((c.tc : Thread Cert.Reference2Ideal.nD Cert.Reference2Ideal.τ).loc Cert.Reference2Ideal.main_arg2))
            (m ((c.tc : Thread Cert.Reference2Ideal.nD Cert.Reference2Ideal.τ).loc Cert.Reference2Ideal.main_arg3))
            (m ((c.tc : Thread Cert.Reference2Ideal.nD Cert.Reference2Ideal.τ).loc Cert.Reference2Ideal.main_arg4))
            (m ((c.tc : Thread Cert.Reference2Ideal.nD Cert.Reference2Ideal.τ).loc Cert.Reference2Ideal.main_arg5))
            (m ((c.tc : Thread Cert.Reference2Ideal.nD Cert.Reference2Ideal.τ).loc Cert.Reference2Ideal.main_arg6))
            (m ((c.tc : Thread Cert.Reference2Ideal.nD Cert.Reference2Ideal.τ).loc Cert.Reference2Ideal.main_arg7))
        ∧ r.2.mem ((c.tc : Thread Cert.Reference2Ideal.nD Cert.Reference2Ideal.τ).loc Cert.Reference2Ideal.main_v38) = val_main_v38 (F := Ideal)
            (m ((c.tc : Thread Cert.Reference2Ideal.nD Cert.Reference2Ideal.τ).loc Cert.Reference2Ideal.main_arg0))
            (m ((c.tc : Thread Cert.Reference2Ideal.nD Cert.Reference2Ideal.τ).loc Cert.Reference2Ideal.main_arg2))
            (m ((c.tc : Thread Cert.Reference2Ideal.nD Cert.Reference2Ideal.τ).loc Cert.Reference2Ideal.main_arg3))
            (m ((c.tc : Thread Cert.Reference2Ideal.nD Cert.Reference2Ideal.τ).loc Cert.Reference2Ideal.main_arg4))
            (m ((c.tc : Thread Cert.Reference2Ideal.nD Cert.Reference2Ideal.τ).loc Cert.Reference2Ideal.main_arg5))
            (m ((c.tc : Thread Cert.Reference2Ideal.nD Cert.Reference2Ideal.τ).loc Cert.Reference2Ideal.main_arg6))
        ∧ r.2.mem ((c.tc : Thread Cert.Reference2Ideal.nD Cert.Reference2Ideal.τ).loc Cert.Reference2Ideal.main_v58) = val_main_v58 (F := Ideal)
            (m ((c.tc : Thread Cert.Reference2Ideal.nD Cert.Reference2Ideal.τ).loc Cert.Reference2Ideal.main_arg0))
            (m ((c.tc : Thread Cert.Reference2Ideal.nD Cert.Reference2Ideal.τ).loc Cert.Reference2Ideal.main_arg1))
            (m ((c.tc : Thread Cert.Reference2Ideal.nD Cert.Reference2Ideal.τ).loc Cert.Reference2Ideal.main_arg3))
            (m ((c.tc : Thread Cert.Reference2Ideal.nD Cert.Reference2Ideal.τ).loc Cert.Reference2Ideal.main_arg4))
            (m ((c.tc : Thread Cert.Reference2Ideal.nD Cert.Reference2Ideal.τ).loc Cert.Reference2Ideal.main_arg5))
            (m ((c.tc : Thread Cert.Reference2Ideal.nD Cert.Reference2Ideal.τ).loc Cert.Reference2Ideal.main_arg6))
        ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
        ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
        ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7) :=
  θ_run_mono (Cert.Reference2Ideal.Value.run m ρ) fun r h c =>
    ⟨(h c).1.trans (val_main_v55_eq m c), (h c).2.1.trans (val_main_v38_eq _ _ _ _ _ _),
      (h c).2.2.1.trans (val_main_v58_eq _ _ _ _ _ _), (h c).2.2.2⟩

theorem value : Cert.algebraic_Kernel2Ideal_Reference2Ideal := by
  pair_intro
  · run_from Cert.Kernel2Ideal.Gen.run_main m g
  · run_from reference_run m' g'
    · exact (final8 m c).symm
    · exact (final9 m c).symm
    · exact (final10 m c).symm

end Cert.Proof.Proj

end
-- ==== Proof.Ffn.Run0.lean ====
/- One tile of the forward kernel: the block's output, and the gate and up projections it saves. -/
module

public import proofs.«01_k».proof.Proof.Gen.Kernel3Ideal.Skeleton
public import proofs.«01_k».proof.Proof.Gen.Kernel3Ideal.Points
public import proofs.«01_k».proof.Proof.Gen.Kernel3Ideal.Launch
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What one point computes -/

abbrev slab0 (x : Vec F S4x704x1024 .bf16) : Vec F S1x704x1024 .bf16 := VecWindow.window x ![0, 0, 0] S1x704x1024.size inb_S4x704x1024_S1x704x1024_0_0_0
abbrev slab1 (x : Vec F S4x704x1024 .bf16) : Vec F S1x704x1024 .bf16 := VecWindow.window x ![1, 0, 0] S1x704x1024.size inb_S4x704x1024_S1x704x1024_1_0_0
abbrev slab2 (x : Vec F S4x704x1024 .bf16) : Vec F S1x704x1024 .bf16 := VecWindow.window x ![2, 0, 0] S1x704x1024.size inb_S4x704x1024_S1x704x1024_2_0_0
abbrev slab3 (x : Vec F S4x704x1024 .bf16) : Vec F S1x704x1024 .bf16 := VecWindow.window x ![3, 0, 0] S1x704x1024.size inb_S4x704x1024_S1x704x1024_3_0_0

/-- The saved gate projection, chunk by chunk (last store first). -/
def gatePieces (x0 : Vec F S256x1024 .f32) (x1 : Vec F S1x1024 .f32) (x2 : Vec F S4x704x1024 .bf16) : List (View.Piece (Elt F) S4x256x704 .bf16) :=
  [⟨Rect.unit (s := S4x256x704) ![3, 0, 0] S1x256x704.size inb_S4x256x704_S1x256x704_3_0_0, k0_pay21 (k0_pay1 x0 x1) (slab3 x2)⟩,
   ⟨Rect.unit (s := S4x256x704) ![2, 0, 0] S1x256x704.size inb_S4x256x704_S1x256x704_2_0_0, k0_pay16 (k0_pay1 x0 x1) (slab2 x2)⟩,
   ⟨Rect.unit (s := S4x256x704) ![1, 0, 0] S1x256x704.size inb_S4x256x704_S1x256x704_1_0_0, k0_pay11 (k0_pay1 x0 x1) (slab1 x2)⟩,
   ⟨Rect.unit (s := S4x256x704) ![0, 0, 0] S1x256x704.size inb_S4x256x704_S1x256x704_0_0_0, k0_pay5 x0 x1 (slab0 x2)⟩]

/-- The saved up projection. -/
def upPieces (x0 : Vec F S256x1024 .f32) (x1 : Vec F S1x1024 .f32) (x3 : Vec F S4x704x1024 .bf16) : List (View.Piece (Elt F) S4x256x704 .bf16) :=
  [⟨Rect.unit (s := S4x256x704) ![3, 0, 0] S1x256x704.size inb_S4x256x704_S1x256x704_3_0_0, k0_pay22 (k0_pay1 x0 x1) (slab3 x3)⟩,
   ⟨Rect.unit (s := S4x256x704) ![2, 0, 0] S1x256x704.size inb_S4x256x704_S1x256x704_2_0_0, k0_pay17 (k0_pay1 x0 x1) (slab2 x3)⟩,
   ⟨Rect.unit (s := S4x256x704) ![1, 0, 0] S1x256x704.size inb_S4x256x704_S1x256x704_1_0_0, k0_pay12 (k0_pay1 x0 x1) (slab1 x3)⟩,
   ⟨Rect.unit (s := S4x256x704) ![0, 0, 0] S1x256x704.size inb_S4x256x704_S1x256x704_0_0_0, k0_pay6 x0 x1 (slab0 x3)⟩]

/-- The chunks' sum before the last one. -/
def ffnSum (x0 : Vec F S256x1024 .f32) (x1 : Vec F S1x1024 .f32) (x2 x3 x4 : Vec F S4x704x1024 .bf16) : Vec F S256x1024 .f32 :=
  k0_pay18 (k0_pay1 x0 x1)
    (k0_pay8 (k0_pay2 (F := F)) (k0_pay3 x0 x1 (slab0 x2)) (k0_pay4 x0 x1 (slab0 x3)) (k0_pay7 x0 x1 (slab0 x2)) (Scalar.ofBits .f32 0x3F800000#32) (slab0 x4))
    (k0_pay13 (k0_pay1 x0 x1) (slab1 x2) (slab1 x3)) (slab1 x4) (slab2 x2) (slab2 x3) (slab2 x4)

/-- The output rows of this tile. -/
def ffnOut (x0 : Vec F S256x1024 .f32) (x1 : Vec F S1x1024 .f32) (x2 x3 x4 : Vec F S4x704x1024 .bf16) : Vec F S256x1024 .f32 :=
  k0_pay23 x0 (k0_pay1 x0 x1) (ffnSum x0 x1 x2 x3 x4) (slab3 x2) (slab3 x3) (slab3 x4)

theorem gate_cover (x0 : Vec F S256x1024 .f32) (x1 : Vec F S1x1024 .f32) (x2 : Vec F S4x704x1024 .bf16) (y) : ∃ p ∈ gatePieces x0 x1 x2, y ∈ p.1.set :=
  View.cover_of_tiledL (gatePieces x0 x1 x2) S1x256x704.size (by sl_kernel_rfl) y
theorem up_cover (x0 : Vec F S256x1024 .f32) (x1 : Vec F S1x1024 .f32) (x3 : Vec F S4x704x1024 .bf16) (y) : ∃ p ∈ upPieces x0 x1 x3, y ∈ p.1.set :=
  View.cover_of_tiledL (upPieces x0 x1 x3) S1x256x704.size (by sl_kernel_rfl) y

/-- A load of one chunk of a weight. -/
theorem load_slab (v : View sig .tc .vmem S4x704x1024 .bf16) (f : v.ty.Contents (Elt F)) {off : Fin 3 → ℕ} (inb : ∀ a, off a + S1x704x1024.size a ≤ S4x704x1024.size a) :
    v.readAt (Elt F) (Rect.unit (s := S4x704x1024) off S1x704x1024.size inb).toLoadRect f = VecWindow.window (v.read (Elt F) f) off S1x704x1024.size inb :=
  View.readAt_unit v f inb rfl inb

set_option maxHeartbeats 4000000 in
/-- One point of the kernel, from its staging buffers. -/
theorem run0 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S4x704x1024 .bf16) (harg3 : arg3.IsWhole) (arg4 : Memref sig .tc .vmem S4x704x1024 .bf16) (harg4 : arg4.IsWhole) (arg5 : Memref sig .tc .vmem S4x704x1024 .bf16) (harg5 : arg5.IsWhole) (arg6 : Memref sig .tc .hbm S8x128 .f32) (harg6 : arg6.IsWhole) (arg7 : Memref sig .tc .vmem S256x1024 .f32) (harg7 : arg7.IsWhole) (arg8 : Memref sig .tc .vmem S4x256x704 .bf16) (harg8 : arg8.IsWhole) (arg9 : Memref sig .tc .vmem S4x256x704 .bf16) (harg9 : arg9.IsWhole)
    (x0 : Vec F S256x1024 .f32) (x1 : Vec F S1x1024 .f32) (x2 : Vec F S4x704x1024 .bf16) (x3 : Vec F S4x704x1024 .bf16) (x4 : Vec F S4x704x1024 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare (ffnOut x0 x1 x2 x3 x4) ∗ owns (c : Thread nD τ) arg8 fullShare (View.canon (gatePieces x0 x1 x2)) ∗ owns (c : Thread nD τ) arg9 fullShare (View.canon (upPieces x0 x1 x3))) -∗ K ⟨⟩))
      ⊢ wp frame (wpE (defs₀ (F := F)) Variants.none c none) E (cc0_ffn1_fwd i arg1 harg1 arg2 harg2 arg3 harg3 arg4 harg4 arg5 harg5 arg6 harg6 arg7 harg7 arg8 harg8 arg9 harg9) K := by
  simp only [cc0_ffn1_fwd_eq_skeleton]; unfold cc0_ffn1_fwd_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  on_goal 1 => (iexists _; isplitr; on_goal 2 => iexact H5)
  rotate_left
  isplitl [H6]
  on_goal 1 => (iexists _; isplitr; on_goal 2 => iexact H6)
  rotate_left
  iexists _; isplitr; on_goal 2 => iexact H7
  all_goals (ipureintro; sl_unfold_run_names)
  all_goals simp (proj := false) only [View.readAt_full, load_slab, Memref.IsWhole.read_unread]
  · exact View.read_writes_eq_canon _ _ (upPieces x0 x1 x3) (up_cover x0 x1 x3)
  · exact View.read_writes_full _ _ _ _ _
  · exact View.read_writes_eq_canon _ _ (gatePieces x0 x1 x2) (gate_cover x0 x1 x2)

end Cert.Kernel3Ideal.Gen

end
-- ==== Proof.Segment.lean ====
/- A kernel call as one step of a run whose state is every unscoped buffer at a valuation and nothing owed. -/
module

public import Idealize.ShloMosaic.Lib.Pipeline.RegionArraysS
public import Idealize.ShloMosaic.Lib.Pipeline.FrameTail
public import Idealize.ShloMosaic.Lib.Pipeline.Kit
public import Idealize.ShloMosaic.Lib.Tactic

@[expose] public section

noncomputable section

namespace Segment

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {U : Type} [URA U]
variable {Λ₀ : Labels} {P : Type} [Fintype P] [DecidableEq P]
variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ) (p : P)

local notation "𝕄" => MT nD τ sig Unit Val ℕ U ℕ

/-- Between two calls: the unscoped buffers at `V c`, and nothing owed. -/
abbrev at_ (V : Dev nD → Valuation τ sig Val) (c : Dev nD) : sProp 𝕄 :=
  iprop(StableHlo.held (c.tc : Thread nD τ) (ucRefs τ sig) (V c) ∗ ∃ Wd, owes (c : Thread nD τ) (0 : CellTallies nD τ sig Unit) Wd)

omit [Fintype P] [DecidableEq P] in
/-- The call takes its arrays out of the state and puts them back as its proof data say. -/
def call (kit : PLaunchFacts (nD := nD) (τ := τ) pcs p) (hK : (pcs p).pre.K = 0)
    (hbody : ∀ c, BodyObligationLoose (pdats p c) defs₀ 𝒱₀ () Set.univ)
    (howed : ∀ c t, (pdats p c).owed t = 0) (hrec : ∀ c, (pdats p c).recorded 0 = Set.univ)
    (hshare : ∀ c w, (pdats p c).share w = fullShare)
    (hin : ∀ c, (scopedRest (pin pcs a p).spec c : sProp 𝕄) ⊢ (pdats p c).Φ 0)
    (hout : ∀ c, (pdats p c).Φ (Fin.last (pin pcs a p).N) ⊢ (scopedRest (pin pcs a p).spec c : sProp 𝕄))
    (hS : arrRefs (τ := τ) (pcs p).spec ⊆ ucRefs τ sig)
    (V : Dev nD → Valuation τ sig Val)
    (hV : ∀ c w, (pdats p c).arrAt w 0 = V c (Proc.devRef .tc (arrRef (pin pcs a p).spec w))) :
    RegionSeg pcs a pdats () defs₀ 𝒱₀ L lv p where
  win := kit.to₀.win
  block_pos := kit.to₀.block_pos
  stage_whole := kit.to₀.stage_whole
  K := PEmpty
  osem k := k.elim
  ho := OwnSemFacts.none _
  hbody := hbody
  hwaits := hwaits_of_owed_zero _ _ _ _ L lv p howed
  pre := at_ V
  post := at_ fun c => afterRegion (pdats p c) (V c)
  X _ := BI.emp
  Y _ := BI.emp
  Z c := StableHlo.held (c.tc : Thread nD τ) (ucRefs τ sig \ arrRefs (pcs p).spec) (V c)
  hentry c := by
    rw [ownSems0_none, prefHeld_of_none _ hK]
    unfold at_
    rw [StableHlo.held_sub_split (c.tc : Thread nD τ) hS (V c), ← arrays_held pcs a pdats p kit c (hshare c) ((pdats p c).arrAt · 0) (V c) (hV c)]
    iintro ⟨⟨⟨Ha, Hz⟩, HO⟩, -, -⟩
    imodintro
    isplitl [Ha]; · iexact Ha
    isplitr; · iempintro
    isplitl [HO]
    · unfold Dat.owesAt owesWithin Dat.bound
      rw [howed c 0, hrec c]
      icases HO with ⟨%W, HO⟩
      iexists W
      isplitr
      · ipureintro; exact fun _ _ => Or.inl trivial
      iexact HO
    isplitr; · iempintro
    iexact Hz
  hin c := (show _ ⊢ (scopedRest (pin pcs a p).spec c : sProp 𝕄) from by
    iintro ⟨-, -, H⟩
    iexact H).trans (hin c)
  hout c := (hout c).trans (by
    rw [ownSems0_none]
    iintro H
    isplitr; · iempintro
    isplitr; · iempintro
    iexact H)
  hexit c := by
    unfold at_
    rw [StableHlo.held_sub_split (c.tc : Thread nD τ) hS (afterRegion (pdats p c) (V c)),
      ← arrays_held pcs a pdats p kit c (hshare c) ((pdats p c).arrAt · (pin pcs a p).N) (afterRegion (pdats p c) (V c))
        (fun w => (afterRegion_arr (pdats p c) (V c) kit.win.arr_inj w).symm),
      StableHlo.held_congr (c.tc : Thread nD τ) (afterRegion_off (pdats p c) (V c) (ucRefs τ sig))]
    iintro ⟨Ha, HO, -, Hz⟩
    imodintro
    isplitr [HO]
    · isplitl [Ha] <;> iassumption
    · unfold Dat.owesAt owesWithin
      rw [howed c (Fin.last _)]
      icases HO with ⟨%W, -, HO⟩
      iexists W
      iexact HO

/-- A run of calls and host stretches that each take the state to the next leaves every unscoped buffer at the last valuation. -/
theorem run [∀ e, Nonempty (Val e)] (phinj : Function.Injective (cellOf (nD := nD) (τ := τ) (pin pcs a)))
    (pdats : (p : P) → (c : Dev nD) → Dat τ Val Unit ℕ (UR sig nD τ) ℕ (pin pcs a p) c)
    (m : (ℓ : Loc nD τ sig) → Buf Val ℓ) (ρ : Dev nD → PrngReg)
    (main : Dev nD → Prog (TpuEff nD τ sig Val (Sig Λ₀ P fun p => (pcs p).Adm) .tc) PUnit)
    (segs : Dev nD → List (Seg pcs a pdats () defs₀ 𝒱₀ (fun _ => ∅) (fun _ _ => 0)))
    (hmain : ∀ c (Q : PUnit → sProp (MT nD τ sig Unit Val ℕ (UR sig nD τ) ℕ)),
      wp frame (wpE (Pipeline.defs pcs defs₀) 𝒱₀.lift (c.tc : Thread nD τ) none) Set.univ (Seg.run (segs c)) Q
        ⊢ wp frame (wpE (Pipeline.defs pcs defs₀) 𝒱₀.lift (c.tc : Thread nD τ) none) Set.univ (main c) Q)
    (hnd : ∀ c, (Seg.pipes (segs c)).Nodup) (hsem : ∀ s : SemLoc sig, s.isScoped .tc = true)
    (V Vₙ : Dev nD → Valuation τ sig Val) (hV : ∀ c b, V c b = m (c, b))
    (hch : ∀ c, Seg.ChainsAt c (at_ V) (segs c) (at_ Vₙ)) :
    θ_run (Pipeline.defs pcs defs₀) (onTc main) ⟨m, fun _ => 0, ρ⟩
      (fun r => (∀ c : Dev nD, ∀ b ∈ ucRefs τ sig, r.2.mem (c, b) = Vₙ c b) ∧ r.2.sem = fun _ => 0) := by
  refine θ_run_regions_kit_dev_sems pcs a pdats () phinj emb₁ defs₀ 𝒱₀ (fun _ => ∅) (fun _ _ => 0) m ρ main segs hmain hnd
    (O₀ := 0) (hL := fun _ _ => rfl) (G := fun _ => iprop(emp)) (u₀ := initOf (cells (pin pcs a) phinj) (launchToks (pin pcs a) phinj))
    (hu₀ := ?_) (T₀ := at_ V) (Tₙ := fun c => StableHlo.held (c.tc : Thread nD τ) (ucRefs τ sig) (Vₙ c)) (hch := hch) (hinit := ?_)
    (QY := fun c s => ∀ b ∈ ucRefs τ sig, s.mem (c, b) = Vₙ c b) (hfin := fun c s' => ?_)
    (hQ := fun _ h hz => ⟨h, funext fun g => hz g (.inr (hsem g.2))⟩)
  · iintro Hu
    imodintro
    isplitl [Hu]
    · iapply (show (ownU _ : sProp (MT nD τ sig Unit Val ℕ (UR sig nD τ) ℕ)) ⊢ BI.own (emb₁ (initOf (cells (pin pcs a) phinj) (launchToks (pin pcs a) phinj))) from .rfl)
      iexact Hu
    iapply (show (BI.emp : sProp (MT nD τ sig Unit Val ℕ (UR sig nD τ) ℕ)) ⊢ bigSep Finset.univ (fun _ : Dev nD => (BI.emp : sProp _)) from by rw [BI.bigSep_emp_const])
    iempintro
  · refine initEach (fun _ => ∅) (fun _ _ => 0) fun c => ?_
    unfold at_
    rw [← unscopedBufs_held c (V c), show (fun b : Ref sig .tc => V c b) = fun b => m ((c.tc : Thread nD τ).loc b) from funext fun b => hV c b]
    iintro ⟨⟨Hb, -, HO, -, -, -⟩, -⟩
    imodintro
    isplitl [Hb]; · iexact Hb
    iexists ∅
    iexact HO
  · unfold StableHlo.held
    iintro ⟨H, HS⟩
    ihave Hr := (pointsTo_read_all (ucRefs τ sig) (fun b => ((c : Thread nD τ).1, b)) (Vₙ c) s') $$ [H HS]
    · isplitl [H] <;> iassumption
    icases Hr with ⟨%hm, HS⟩
    imodintro
    isplitr
    · ipureintro; exact fun b hb => hm b hb
    iexact HS

end Segment

end
-- ==== Proof.Ffn.Call0.lean ====
/- The forward call as a step of the run: what its arrays hold after it. -/
module

public import proofs.«01_k».proof.Proof.Ffn.Run0
public import proofs.«01_k».proof.Proof.Segment

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The block of window `w` at point `t`, off the arrays at the call. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The arrays at the call, and what each staging buffer holds after each point. -/
def dat0 (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => ffnOut (blk0 V c 0 t) (blk0 V c 1 t) (blk0 V c 2 t) (blk0 V c 3 t) (blk0 V c 4 t)
    | ⟨6, _⟩ => View.canon (gatePieces (blk0 V c 0 t) (blk0 V c 1 t) (blk0 V c 2 t))
    | ⟨7, _⟩ => View.canon (upPieces (blk0 V c 0 t) (blk0 V c 1 t) (blk0 V c 3 t))
  Φ _ := Pipeline.scopedRest (Ix := Unit) (Name := ℕ) (U := UR sig nD τ) (Lvl := ℕ) (Val := Elt F) spec0 c
  q _ := fullShare
  owed _ := 0

theorem after0_5 (c : Dev nD) (t : Fin cfg0.N) : (dat0 V c).after 5 t = ffnOut (blk0 V c 0 t) (blk0 V c 1 t) (blk0 V c 2 t) (blk0 V c 3 t) (blk0 V c 4 t) := by dsimp only [dat0]
theorem after0_6 (c : Dev nD) (t : Fin cfg0.N) : (dat0 V c).after 6 t = View.canon (gatePieces (blk0 V c 0 t) (blk0 V c 1 t) (blk0 V c 2 t)) := by dsimp only [dat0]
theorem after0_7 (c : Dev nD) (t : Fin cfg0.N) : (dat0 V c).after 7 t = View.canon (upPieces (blk0 V c 0 t) (blk0 V c 1 t) (blk0 V c 3 t)) := by dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; rfl) t d).trans rfl
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; rfl) t d).trans rfl
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; rfl) t d).trans rfl
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; rfl) t d).trans rfl
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; rfl) t d).trans rfl

/-- A written output's staging buffer holds what the point wrote. -/
theorem leaves0 (c : Dev nD) (w : Fin cfg0.W) (t : Fin cfg0.N) (hidle : cfg0.idle w (grid0.coords t) = false) (X : (cfg0.win w).block.Idx → Elt F (cfg0.win w).elt)
    (h : (dat0 V c).after w t = X) : (owns (c : Thread nD τ) ((cfg0.win w).stage (cfg0.slots t w)) fullShare X : sProp 𝕄) ⊢ (dat0 V c).leavesExact w t := by
  subst h; unfold Dat.leavesExact; rw [hidle]

theorem row0 (t : Fin cfg0.N) : defs₀ (F := F) .tc cfg0.body (cfg0.bodyArgs t (cfg0.slots t)) = bodyAt0 t := by
  unfold defs₀; rw [Defs.onTc_tc]

set_option maxHeartbeats 4000000 in
/-- The body meets what the pipeline asks of it. -/
theorem body0 (c : Dev nD) : BodyObligation (dat0 V c) (defs₀ (F := F)) Variants.none () Set.univ := fun t => by
  rw [bigSep_W0, bigSep_W0, row0]
  simp only [before0_0, before0_1, before0_2, before0_3, before0_4]
  rw [show (dat0 V c).Φ t.succ = (dat0 V c).Φ t.castSucc from rfl, show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run0 c (grid0.coords t) _ _ _ _ _ _ _ _ _ _ _ _ _ _ _ _ _ _ (blk0 V c 0 t) (blk0 V c 1 t) (blk0 V c 2 t) (blk0 V c 3 t) (blk0 V c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iapply (leaves0 V c 0 t rfl _ (after0_0 V c t)) $$ H0
  isplitl [H1]; · iapply (leaves0 V c 1 t rfl _ (after0_1 V c t)) $$ H1
  isplitl [H2]; · iapply (leaves0 V c 2 t rfl _ (after0_2 V c t)) $$ H2
  isplitl [H3]; · iapply (leaves0 V c 3 t rfl _ (after0_3 V c t)) $$ H3
  isplitl [H4]; · iapply (leaves0 V c 4 t rfl _ (after0_4 V c t)) $$ H4
  isplitl [H5]; · iapply (leaves0 V c 5 t rfl _ (after0_5 V c t)) $$ H5
  isplitl [H6]; · iapply (leaves0 V c 6 t rfl _ (after0_6 V c t)) $$ H6
  iapply (leaves0 V c 7 t rfl _ (after0_7 V c t)) $$ H7

end Cert.Kernel3Ideal.Gen

end
-- ==== Proof.Ffn.Run1.lean ====
/- One point of the gate-gradient kernel: what it leaves in each buffer, as a function of what the buffers held. -/
module

public import proofs.«01_k».proof.Proof.Gen.Kernel3Ideal.Skeleton
public import proofs.«01_k».proof.Proof.Gen.Kernel3Ideal.Points
public import proofs.«01_k».proof.Proof.Gen.Kernel3Ideal.Launch
public import Idealize.ShloMosaic.Lib.Pipeline.FrameBody
public import Idealize.ShloMosaic.Lib.Tactic
public import Idealize.ShloMosaic.Lib.VecWindow

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What one point computes

The grid is (chunk of the hidden layer, tile of rows). -/

/-- The rows of the tile of this point within the 2048 rows. -/
abbrev tileOff (i : grid1.Coords) : Fin 2 → ℕ := ![512 * (i 1).val, 0]

theorem tileOff_inb (i : grid1.Coords) : ∀ a, tileOff i a + S512x1024.size a ≤ S2048x1024.size a := by
  have h : (i 1).val < 4 := (i 1).isLt
  rw [Fin.forall_fin_two]
  exact ⟨by show 512 * (i 1).val + 512 ≤ 2048; omega, le_refl _⟩

/-- The gradient at the norm's output summed so far, the rows of this tile. -/
def rowsOf (i : grid1.Coords) (S : Vec F S2048x1024 .f32) : Vec F S512x1024 .f32 :=
  VecWindow.window S (tileOff i) S512x1024.size (tileOff_inb i)

/-- This chunk's part of the gradient at the norm's output. -/
def dhTerm (x2 x3 x4 : Vec F S1x704x1024 .bf16) (x5 x6 : Vec F S1x512x704 .bf16) (x7 : Vec F S512x1024 .f32) : Vec F S512x1024 .f32 :=
  k1_pay21 (k1_pay9 x7) (k1_pay10 x5) (k1_pay11 x6) (k1_pay12 x5) (k1_pay13 x5) x4 x2 x3

/-- The rows of this tile after adding the chunk's part (the first chunk starts the sum). -/
def dhNext (i : grid1.Coords) (T : Vec F S512x1024 .f32) (S : Vec F S2048x1024 .f32) : Vec F S2048x1024 .f32 :=
  VecWindow.put S (tileOff i) S512x1024.size (if (i 0).val = 0 then k1_pay1 T else k1_pay2 T (rowsOf i S))

/-- The sum of the gate weight's gradient over the tiles (the first tile starts it). -/
def agNext (i : grid1.Coords) (x0 : Vec F S512x1024 .f32) (x1 : Vec F S1x1024 .f32) (x4 : Vec F S1x704x1024 .bf16) (x5 x6 : Vec F S1x512x704 .bf16)
    (x7 : Vec F S512x1024 .f32) (G : Vec F S704x1024 .f32) : Vec F S704x1024 .f32 :=
  if (i 1).val = 0 then k1_pay23 (k1_pay8 x0 x1) (k1_pay9 x7) (k1_pay10 x5) (k1_pay11 x6) (k1_pay12 x5) x4
  else k1_pay26 (k1_pay8 x0 x1) (k1_pay9 x7) (k1_pay10 x5) (k1_pay11 x6) (k1_pay12 x5) x4 G

/-- The sum of the up weight's gradient over the tiles. -/
def auNext (i : grid1.Coords) (x0 : Vec F S512x1024 .f32) (x1 : Vec F S1x1024 .f32) (x4 : Vec F S1x704x1024 .bf16) (x5 : Vec F S1x512x704 .bf16)
    (x7 : Vec F S512x1024 .f32) (U : Vec F S704x1024 .f32) : Vec F S704x1024 .f32 :=
  if (i 1).val = 0 then k1_pay24 (k1_pay8 x0 x1) (k1_pay9 x7) (k1_pay13 x5) x4
  else k1_pay27 (k1_pay8 x0 x1) (k1_pay9 x7) (k1_pay13 x5) x4 U

/-- The sum of the down weight's gradient over the tiles. -/
def adNext (i : grid1.Coords) (x5 x6 : Vec F S1x512x704 .bf16) (x7 : Vec F S512x1024 .f32) (D : Vec F S704x1024 .f32) : Vec F S704x1024 .f32 :=
  if (i 1).val = 0 then k1_pay22 (k1_pay9 x7) (k1_pay14 x5 x6) else k1_pay25 (k1_pay9 x7) (k1_pay14 x5 x6) D

/-- The gradient at the input: written by the last chunk. -/
def dxNext (i : grid1.Coords) (x0 : Vec F S512x1024 .f32) (x1 : Vec F S1x1024 .f32) (x7 : Vec F S512x1024 .f32) (S : Vec F S2048x1024 .f32)
    (y : Vec F S512x1024 .f32) : Vec F S512x1024 .f32 :=
  if (i 0).val = 3 then k1_pay6 x0 x1 x7 (rowsOf i S) else y

/-- The gradient at the norm's weight: summed over the tiles by the last chunk. -/
def dnNext (i : grid1.Coords) (x0 : Vec F S512x1024 .f32) (S : Vec F S2048x1024 .f32) (y : Vec F S1x1024 .f32) : Vec F S1x1024 .f32 :=
  if (i 0).val = 3 then (if (i 1).val = 0 then k1_pay5 x0 (rowsOf i S) else k1_pay7 x0 (rowsOf i S) y) else y

/-- The three weights' gradients, written by the last tile. -/
def dwgNext (i : grid1.Coords) (G : Vec F S704x1024 .f32) (y : Vec F S1x704x1024 .bf16) : Vec F S1x704x1024 .bf16 :=
  if (i 1).val = 3 then k1_pay29 G else y
def dwuNext (i : grid1.Coords) (U : Vec F S704x1024 .f32) (y : Vec F S1x704x1024 .bf16) : Vec F S1x704x1024 .bf16 :=
  if (i 1).val = 3 then k1_pay30 U else y
def dwdNext (i : grid1.Coords) (D : Vec F S704x1024 .f32) (y : Vec F S1x704x1024 .bf16) : Vec F S1x704x1024 .bf16 :=
  if (i 1).val = 3 then k1_pay28 D else y

/-! ## The offsets and the conditions, from the coordinates -/

theorem off1_eq (i : grid1.Coords) : k1_off1 i = tileOff i := by
  have h : (i 1).val < 4 := (i 1).isLt
  unfold k1_off1 tileOff
  generalize (i 1).val = p at *
  rcases (show p = 0 ∨ p = 1 ∨ p = 2 ∨ p = 3 by omega) with rfl | rfl | rfl | rfl <;> rfl
theorem off2_eq (i : grid1.Coords) : k1_off2 i = tileOff i := (off1_eq i : k1_off1 i = tileOff i)
theorem off3_eq (i : grid1.Coords) : k1_off3 i = tileOff i := (off1_eq i : k1_off1 i = tileOff i)

/-- A store of a tile's rows replaces them. -/
theorem read_tile (i : grid1.Coords) (v : View sig .tc .vmem S2048x1024 .f32) (f : v.ty.Contents (Elt F)) {off : Fin 2 → ℕ}
    (inb : ∀ a, off a + ![512, 1024] a ≤ S2048x1024.size a) (w : Vec F S512x1024 .f32) (L : List (View.Piece (Elt F) S2048x1024 .f32)) (h : off = tileOff i) :
    v.read (Elt F) (v.writes (Elt F) f (⟨Rect.unit (s := S2048x1024) off ![512, 1024] inb, w⟩ :: L)) = VecWindow.put (v.read (Elt F) (v.writes (Elt F) f L)) (tileOff i) S512x1024.size w :=
  View.read_writes_cons_put v f inb w L h

/-- A load of a tile's rows. -/
theorem load_tile (i : grid1.Coords) (v : View sig .tc .vmem S2048x1024 .f32) (f : v.ty.Contents (Elt F)) {off : Fin 2 → ℕ}
    (inb : ∀ a, off a + ![512, 1024] a ≤ S2048x1024.size a) (h : off = tileOff i) :
    v.readAt (Elt F) (Rect.unit (s := S2048x1024) off ![512, 1024] inb).toLoadRect f = rowsOf i (v.read (Elt F) f) :=
  View.readAt_unit v f inb h (tileOff_inb i)

/-- A load of a tile's rows just stored. -/
theorem load_tile_stored (i : grid1.Coords) (v : View sig .tc .vmem S2048x1024 .f32) {off off' : Fin 2 → ℕ}
    (inb : ∀ a, off a + ![512, 1024] a ≤ S2048x1024.size a) (inb' : ∀ a, off' a + ![512, 1024] a ≤ S2048x1024.size a) (w : Vec F S512x1024 .f32)
    (L : List (View.Piece (Elt F) S2048x1024 .f32)) (h : off = tileOff i) (h' : off' = tileOff i) :
    v.readCov (⟨Rect.unit (s := S2048x1024) off' ![512, 1024] inb', w⟩ :: L) (Rect.unit (s := S2048x1024) off ![512, 1024] inb).toLoadRect = w := by
  refine (load_tile i v _ inb h).trans ?_
  rw [read_tile i v _ inb' w L h']
  exact VecWindow.window_put_same _ _ _ _ _

theorem rowsOf_put (i : grid1.Coords) (S : Vec F S2048x1024 .f32) (w : Vec F S512x1024 .f32) :
    rowsOf i (VecWindow.put S (tileOff i) S512x1024.size w) = w := VecWindow.window_put_same _ _ _ _ _

abbrev condFirst (i : grid1.Coords) : Prop := (Scalar.cmpi .ne (Scalar.extui (Scalar.cmpi .eq (BitVec.ofNat 32 (i 1).val) 0#32)) 0#32) = 1#1
abbrev condLater (i : grid1.Coords) : Prop := (Scalar.cmpi .ne (Scalar.extui (Scalar.cmpi .sgt (BitVec.ofNat 32 (i 1).val) 0#32)) 0#32) = 1#1

theorem condFirst_iff (i : grid1.Coords) : condFirst i ↔ (i 1).val = 0 := by
  have h : (i 1).val < 4 := (i 1).isLt
  unfold condFirst; generalize (i 1).val = p at *
  rcases (show p = 0 ∨ p = 1 ∨ p = 2 ∨ p = 3 by omega) with rfl | rfl | rfl | rfl <;> decide
theorem condLater_iff (i : grid1.Coords) : condLater i ↔ (i 1).val ≠ 0 := by
  have h : (i 1).val < 4 := (i 1).isLt
  unfold condLater; generalize (i 1).val = p at *
  rcases (show p = 0 ∨ p = 1 ∨ p = 2 ∨ p = 3 by omega) with rfl | rfl | rfl | rfl <;> decide
theorem cond3_iff (i : grid1.Coords) : k1_cond3 i = 1#1 ↔ (i 1).val = 3 := by
  have h : (i 1).val < 4 := (i 1).isLt
  unfold k1_cond3; generalize (i 1).val = p at *
  rcases (show p = 0 ∨ p = 1 ∨ p = 2 ∨ p = 3 by omega) with rfl | rfl | rfl | rfl <;> decide
theorem cond4_iff (i : grid1.Coords) : k1_cond4 i = 1#1 ↔ (i 0).val = 0 := by
  have h : (i 0).val < 4 := (i 0).isLt
  unfold k1_cond4; generalize (i 0).val = p at *
  rcases (show p = 0 ∨ p = 1 ∨ p = 2 ∨ p = 3 by omega) with rfl | rfl | rfl | rfl <;> decide
theorem cond5_iff (i : grid1.Coords) : k1_cond5 i = 1#1 ↔ (i 0).val ≠ 0 := by
  have h : (i 0).val < 4 := (i 0).isLt
  unfold k1_cond5; generalize (i 0).val = p at *
  rcases (show p = 0 ∨ p = 1 ∨ p = 2 ∨ p = 3 by omega) with rfl | rfl | rfl | rfl <;> decide
theorem cond6_iff (i : grid1.Coords) : k1_cond6 i = 1#1 ↔ (i 0).val = 3 := by
  have h : (i 0).val < 4 := (i 0).isLt
  unfold k1_cond6; generalize (i 0).val = p at *
  rcases (show p = 0 ∨ p = 1 ∨ p = 2 ∨ p = 3 by omega) with rfl | rfl | rfl | rfl <;> decide
theorem cond7_iff (i : grid1.Coords) : k1_cond7 i = 1#1 ↔ (i 1).val = 0 := condFirst_iff i
theorem cond8_iff (i : grid1.Coords) : k1_cond8 i = 1#1 ↔ (i 1).val ≠ 0 := condLater_iff i

set_option maxHeartbeats 40000000 in
/-- One point of the kernel, from its staging buffers and scratch at any contents. -/
theorem run1 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x512x704 .bf16) (harg7 : arg7.IsWhole) (arg8 : Memref sig .tc .vmem S1x512x704 .bf16) (harg8 : arg8.IsWhole) (arg9 : Memref sig .tc .vmem S512x1024 .f32) (harg9 : arg9.IsWhole) (arg10 : Memref sig .tc .hbm S8x128 .f32) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x704x1024 .bf16) (harg13 : arg13.IsWhole) (arg14 : Memref sig .tc .vmem S1x704x1024 .bf16) (harg14 : arg14.IsWhole) (arg15 : Memref sig .tc .vmem S1x704x1024 .bf16) (harg15 : arg15.IsWhole) (arg16 : Memref sig .tc .vmem S2048x1024 .f32) (harg16 : arg16.IsWhole) (arg17 : Memref sig .tc .vmem S704x1024 .f32) (harg17 : arg17.IsWhole) (arg18 : Memref sig .tc .vmem S704x1024 .f32) (harg18 : arg18.IsWhole) (arg19 : Memref sig .tc .vmem S704x1024 .f32) (harg19 : arg19.IsWhole)
    (x0 : Vec F S512x1024 .f32) (x1 : Vec F S1x1024 .f32) (x2 : Vec F S1x704x1024 .bf16) (x3 : Vec F S1x704x1024 .bf16) (x4 : Vec F S1x704x1024 .bf16) (x5 : Vec F S1x512x704 .bf16) (x6 : Vec F S1x512x704 .bf16) (x7 : Vec F S512x1024 .f32) (y8 : Vec F S512x1024 .f32) (y9 : Vec F S1x1024 .f32) (y10 : Vec F S1x704x1024 .bf16) (y11 : Vec F S1x704x1024 .bf16) (y12 : Vec F S1x704x1024 .bf16) (S : Vec F S2048x1024 .f32) (G : Vec F S704x1024 .f32) (U : Vec F S704x1024 .f32) (D : Vec F S704x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare y12 ∗ owns (c : Thread nD τ) arg16 fullShare S ∗ owns (c : Thread nD τ) arg17 fullShare G ∗ owns (c : Thread nD τ) arg18 fullShare U ∗ owns (c : Thread nD τ) arg19 fullShare D
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg11 fullShare (dxNext i x0 x1 x7 (dhNext i (dhTerm x2 x3 x4 x5 x6 x7) S) y8) ∗ owns (c : Thread nD τ) arg12 fullShare (dnNext i x0 (dhNext i (dhTerm x2 x3 x4 x5 x6 x7) S) y9) ∗ owns (c : Thread nD τ) arg13 fullShare (dwgNext i (agNext i x0 x1 x4 x5 x6 x7 G) y10) ∗ owns (c : Thread nD τ) arg14 fullShare (dwuNext i (auNext i x0 x1 x4 x5 x7 U) y11) ∗ owns (c : Thread nD τ) arg15 fullShare (dwdNext i (adNext i x5 x6 x7 D) y12) ∗ owns (c : Thread nD τ) arg16 fullShare (dhNext i (dhTerm x2 x3 x4 x5 x6 x7) S) ∗ owns (c : Thread nD τ) arg17 fullShare (agNext i x0 x1 x4 x5 x6 x7 G) ∗ owns (c : Thread nD τ) arg18 fullShare (auNext i x0 x1 x4 x5 x7 U) ∗ owns (c : Thread nD τ) arg19 fullShare (adNext i x5 x6 x7 D)) -∗ K ⟨⟩))
      ⊢ wp frame (wpE (defs₀ (F := F)) Variants.none c none) E (cc1_ffn1_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1_ffn1_bwd_eq_skeleton]; unfold cc1_ffn1_bwd_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16
  have hP : (condFirst i ∧ ¬ condLater i ∧ ¬ k1_cond3 i = 1#1 ∧ k1_cond7 i = 1#1 ∧ ¬ k1_cond8 i = 1#1 ∧ (i 1).val = 0 ∧ (i 1).val ≠ 3)
      ∨ (¬ condFirst i ∧ condLater i ∧ k1_cond3 i = 1#1 ∧ ¬ k1_cond7 i = 1#1 ∧ k1_cond8 i = 1#1 ∧ (i 1).val ≠ 0 ∧ (i 1).val = 3)
      ∨ (¬ condFirst i ∧ condLater i ∧ ¬ k1_cond3 i = 1#1 ∧ ¬ k1_cond7 i = 1#1 ∧ k1_cond8 i = 1#1 ∧ (i 1).val ≠ 0 ∧ (i 1).val ≠ 3) := by
    rw [condFirst_iff, condLater_iff, cond3_iff, cond7_iff, cond8_iff]; have h : (i 1).val < 4 := (i 1).isLt; omega
  have hQ : (k1_cond4 i = 1#1 ∧ ¬ k1_cond5 i = 1#1 ∧ ¬ k1_cond6 i = 1#1 ∧ (i 0).val = 0 ∧ (i 0).val ≠ 3)
      ∨ (¬ k1_cond4 i = 1#1 ∧ k1_cond5 i = 1#1 ∧ k1_cond6 i = 1#1 ∧ (i 0).val ≠ 0 ∧ (i 0).val = 3)
      ∨ (¬ k1_cond4 i = 1#1 ∧ k1_cond5 i = 1#1 ∧ ¬ k1_cond6 i = 1#1 ∧ (i 0).val ≠ 0 ∧ (i 0).val ≠ 3) := by
    rw [cond4_iff, cond5_iff, cond6_iff]; have h : (i 0).val < 4 := (i 0).isLt; omega
  rcases hP with ⟨h1, h2, h3, h7, h8, hp, hp3⟩ | ⟨h1, h2, h3, h7, h8, hp, hp3⟩ | ⟨h1, h2, h3, h7, h8, hp, hp3⟩
    <;> rcases hQ with ⟨h4, h5, h6, hq, hq3⟩ | ⟨h4, h5, h6, hq, hq3⟩ | ⟨h4, h5, h6, hq, hq3⟩
  all_goals
    sl_exec (disch := first | sl_exact h1 | sl_exact h2 | sl_exact h3 | sl_exact h4 | sl_exact h5 | sl_exact h6 | sl_exact h7 | sl_exact h8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    on_goal 1 => (iexists _; isplitr; on_goal 2 => iexact H8)
    rotate_left
    isplitl [H9]
    on_goal 1 => (iexists _; isplitr; on_goal 2 => iexact H9)
    rotate_left
    isplitl [H10]
    on_goal 1 => (iexists _; isplitr; on_goal 2 => iexact H10)
    rotate_left
    isplitl [H11]
    on_goal 1 => (iexists _; isplitr; on_goal 2 => iexact H11)
    rotate_left
    isplitl [H12]
    on_goal 1 => (iexists _; isplitr; on_goal 2 => iexact H12)
    rotate_left
    isplitl [H13]
    on_goal 1 => (iexists _; isplitr; on_goal 2 => iexact H13)
    rotate_left
    isplitl [H14]
    on_goal 1 => (iexists _; isplitr; on_goal 2 => iexact H14)
    rotate_left
    isplitl [H15]
    on_goal 1 => (iexists _; isplitr; on_goal 2 => iexact H15)
    rotate_left
    iexists _; isplitr; on_goal 2 => iexact H16
    all_goals (ipureintro; sl_unfold_run_names)
    all_goals simp (decide := true) (proj := false) only [dxNext, dnNext, dwgNext, dwuNext, dwdNext, agNext, auNext, adNext, dhNext, dhTerm, hp, hp3, hq, hq3, if_true, if_false, View.readAt_full, Memref.IsWhole.read_unread, View.read_writes_full, View.readAt_writes_full, View.readCov_full, read_tile i _ _ _ _ _ (off1_eq i), read_tile i _ _ _ _ _ (off2_eq i), load_tile i _ _ _ (off1_eq i), load_tile i _ _ _ (off2_eq i), load_tile i _ _ _ (off3_eq i), load_tile_stored i _ _ _ _ _ (off3_eq i) (off1_eq i), load_tile_stored i _ _ _ _ _ (off3_eq i) (off2_eq i), rowsOf_put, View.writes_nil]
    all_goals first
      | rfl
      | exact (View.read_writes_full _ _ _ _ _).trans (congrArg (k1_pay6 x0 x1 x7) (rowsOf_put i S _)).symm
      | exact (View.read_writes_full _ _ _ _ _).trans (congrArg (k1_pay5 x0) (rowsOf_put i S _)).symm
      | exact (View.read_writes_full _ _ _ _ _).trans (congrArg₂ (k1_pay7 x0) (rowsOf_put i S _).symm ((View.readAt_full _ _ _).trans (harg12.read_unread _)))

end Cert.Kernel3Ideal.Gen

end
-- ==== Proof.Ffn.Call1.lean ====
/- The backward call as a step of the run: its sums point by point, and what its arrays hold after it. -/
module

public import proofs.«01_k».proof.Proof.Ffn.Run1
public import proofs.«01_k».proof.Proof.Segment
public import Idealize.ShloMosaic.Lib.Pipeline.TableIdle

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The block of window `w` at point `t`, off the arrays at the call. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- A sum kept between the points: `f` at each point. -/
def sumAt {α : Type} (f : Fin cfg1.N → α → α) (z : α) : ℕ → α
  | 0 => z
  | n + 1 => if h : n < cfg1.N then f ⟨n, h⟩ (sumAt f z n) else sumAt f z n

theorem sumAt_succ {α : Type} (f : Fin cfg1.N → α → α) (z : α) (t : Fin cfg1.N) : sumAt f z (t.val + 1) = f t (sumAt f z t.val) := by
  rw [sumAt, dif_pos t.isLt]

abbrev some_ (S : Shape) (e : EltTy) : Vec F S e := fun _ => Classical.arbitrary _

/-- This point's part of the gradient at the norm's output. -/
def term1 (c : Dev nD) (t : Fin cfg1.N) : Vec F S512x1024 .f32 := dhTerm (blk1 V c 2 t) (blk1 V c 3 t) (blk1 V c 4 t) (blk1 V c 5 t) (blk1 V c 6 t) (blk1 V c 7 t)
def dhAt (c : Dev nD) : ℕ → Vec F S2048x1024 .f32 := sumAt (fun t S => dhNext (grid1.coords t) (term1 V c t) S) (some_ S2048x1024 .f32)
def agAt (c : Dev nD) : ℕ → Vec F S704x1024 .f32 := sumAt (fun t G => agNext (grid1.coords t) (blk1 V c 0 t) (blk1 V c 1 t) (blk1 V c 4 t) (blk1 V c 5 t) (blk1 V c 6 t) (blk1 V c 7 t) G) (some_ S704x1024 .f32)
def auAt (c : Dev nD) : ℕ → Vec F S704x1024 .f32 := sumAt (fun t U => auNext (grid1.coords t) (blk1 V c 0 t) (blk1 V c 1 t) (blk1 V c 4 t) (blk1 V c 5 t) (blk1 V c 7 t) U) (some_ S704x1024 .f32)
def adAt (c : Dev nD) : ℕ → Vec F S704x1024 .f32 := sumAt (fun t D => adNext (grid1.coords t) (blk1 V c 5 t) (blk1 V c 6 t) (blk1 V c 7 t) D) (some_ S704x1024 .f32)
def dnAt (c : Dev nD) : ℕ → Vec F S1x1024 .f32 := sumAt (fun t y => dnNext (grid1.coords t) (blk1 V c 0 t) (dhAt V c (t.val + 1)) y) (some_ S1x1024 .f32)

theorem dhAt_succ (c : Dev nD) (t : Fin cfg1.N) : dhAt V c (t.val + 1) = dhNext (grid1.coords t) (term1 V c t) (dhAt V c t.val) := sumAt_succ _ _ t
theorem agAt_succ (c : Dev nD) (t : Fin cfg1.N) : agAt V c (t.val + 1) = agNext (grid1.coords t) (blk1 V c 0 t) (blk1 V c 1 t) (blk1 V c 4 t) (blk1 V c 5 t) (blk1 V c 6 t) (blk1 V c 7 t) (agAt V c t.val) := sumAt_succ _ _ t
theorem auAt_succ (c : Dev nD) (t : Fin cfg1.N) : auAt V c (t.val + 1) = auNext (grid1.coords t) (blk1 V c 0 t) (blk1 V c 1 t) (blk1 V c 4 t) (blk1 V c 5 t) (blk1 V c 7 t) (auAt V c t.val) := sumAt_succ _ _ t
theorem adAt_succ (c : Dev nD) (t : Fin cfg1.N) : adAt V c (t.val + 1) = adNext (grid1.coords t) (blk1 V c 5 t) (blk1 V c 6 t) (blk1 V c 7 t) (adAt V c t.val) := sumAt_succ _ _ t
theorem dnAt_succ (c : Dev nD) (t : Fin cfg1.N) : dnAt V c (t.val + 1) = dnNext (grid1.coords t) (blk1 V c 0 t) (dhAt V c (t.val + 1)) (dnAt V c t.val) := sumAt_succ _ _ t

/-- The scratch before point `n`: the sums, where they have begun. -/
def Good (c : Dev nD) (n : ℕ) (S : Vec F S2048x1024 .f32) (G U D : Vec F S704x1024 .f32) : Prop :=
  (∀ y : S2048x1024.Idx, (y 0).val < 512 * n → S y = dhAt V c n y) ∧ (n % 4 ≠ 0 → G = agAt V c n ∧ U = auAt V c n ∧ D = adAt V c n)

/-- The other calls' staging buffers, at anything. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- What the kernel keeps between the points. -/
def inv (c : Dev nD) (n : ℕ) : sProp 𝕄 :=
  iprop(∃ S G U D, ⌜Good V c n S G U D⌝ ∗ owns (c : Thread nD τ) (Memref.whole cc1_scratch0) fullShare S ∗ owns (c : Thread nD τ) (Memref.whole cc1_scratch1) fullShare G
    ∗ owns (c : Thread nD τ) (Memref.whole cc1_scratch2) fullShare U ∗ owns (c : Thread nD τ) (Memref.whole cc1_scratch3) fullShare D ∗ others (F := F) c)

/-- The arrays at the call, and what each staging buffer holds after each point. -/
def dat1 (c : Dev nD) : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => dxNext (grid1.coords t) (blk1 V c 0 t) (blk1 V c 1 t) (blk1 V c 7 t) (dhAt V c (t.val + 1)) (some_ S512x1024 .f32)
    | ⟨9, _⟩ => dnAt V c (t.val + 1)
    | ⟨10, _⟩ => dwgNext (grid1.coords t) (agAt V c (t.val + 1)) (some_ S1x704x1024 .bf16)
    | ⟨11, _⟩ => dwuNext (grid1.coords t) (auAt V c (t.val + 1)) (some_ S1x704x1024 .bf16)
    | ⟨12, _⟩ => dwdNext (grid1.coords t) (adAt V c (t.val + 1)) (some_ S1x704x1024 .bf16)
  Φ t := inv V c t.val
  q _ := fullShare
  owed _ := 0

theorem after1_8 (c : Dev nD) (t : Fin cfg1.N) : (dat1 V c).after 8 t = dxNext (grid1.coords t) (blk1 V c 0 t) (blk1 V c 1 t) (blk1 V c 7 t) (dhAt V c (t.val + 1)) (some_ S512x1024 .f32) := by dsimp only [dat1]
theorem after1_9 (c : Dev nD) (t : Fin cfg1.N) : (dat1 V c).after 9 t = dnAt V c (t.val + 1) := by dsimp only [dat1]
theorem after1_10 (c : Dev nD) (t : Fin cfg1.N) : (dat1 V c).after 10 t = dwgNext (grid1.coords t) (agAt V c (t.val + 1)) (some_ S1x704x1024 .bf16) := by dsimp only [dat1]
theorem after1_11 (c : Dev nD) (t : Fin cfg1.N) : (dat1 V c).after 11 t = dwuNext (grid1.coords t) (auAt V c (t.val + 1)) (some_ S1x704x1024 .bf16) := by dsimp only [dat1]
theorem after1_12 (c : Dev nD) (t : Fin cfg1.N) : (dat1 V c).after 12 t = dwdNext (grid1.coords t) (adAt V c (t.val + 1)) (some_ S1x704x1024 .bf16) := by dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; rfl) t d).trans rfl
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; rfl) t d).trans rfl
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; rfl) t d).trans rfl
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; rfl) t d).trans rfl
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; rfl) t d).trans rfl
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; rfl) t d).trans rfl
theorem before1_6 (c : Dev nD) (t : Fin cfg1.N) (d) : (dat1 V c).before 6 t d = blk1 V c 6 t :=
  ((dat1 V c).before_in_eq_fetched 6 rfl (fun _ => rfl) (fun _ _ _ => rfl) (fun t => by rw [after1_6]; rfl) t d).trans rfl
theorem before1_7 (c : Dev nD) (t : Fin cfg1.N) (d) : (dat1 V c).before 7 t d = blk1 V c 7 t :=
  ((dat1 V c).before_in_eq_fetched 7 rfl (fun _ => rfl) (fun _ _ _ => rfl) (fun t => by rw [after1_7]; rfl) t d).trans rfl

/-! ## The coordinates of a point, and which outputs it writes -/

theorem coord0 (t : Fin cfg1.N) : ((grid1.coords t) 0).val = t.val / 4 := by
  revert t; decide +kernel
theorem coord1 (t : Fin cfg1.N) : ((grid1.coords t) 1).val = t.val % 4 := by
  revert t; decide +kernel

theorem idle8 : ∀ t : Fin cfg1.N, cfg1.idle 8 (grid1.coords t) = !decide (t.val / 4 = 3) := by decide +kernel
theorem idle9 : ∀ t : Fin cfg1.N, cfg1.idle 9 (grid1.coords t) = !decide (t.val / 4 = 3) := by decide +kernel
theorem idle10 : ∀ t : Fin cfg1.N, cfg1.idle 10 (grid1.coords t) = !decide (t.val % 4 = 3) := by decide +kernel
theorem idle11 : ∀ t : Fin cfg1.N, cfg1.idle 11 (grid1.coords t) = !decide (t.val % 4 = 3) := by decide +kernel
theorem idle12 : ∀ t : Fin cfg1.N, cfg1.idle 12 (grid1.coords t) = !decide (t.val % 4 = 3) := by decide +kernel
theorem flush8 : ∀ t : Fin cfg1.N, t.val / 4 ≠ 3 → (cfg1.win 8).flush t = false := by decide +kernel
theorem flush9 (t : Fin cfg1.N) (h : t.val / 4 ≠ 3) : (cfg1.win 9).flush t = false := by
  have h16 : t.val < 16 := lt_of_lt_of_eq t.isLt N_1
  exact Bool.eq_false_iff.mpr fun e => by have := (flush1_9 t).mp e; omega
theorem flush10 (t : Fin cfg1.N) (h : t.val % 4 ≠ 3) : (cfg1.win 10).flush t = false := Bool.eq_false_iff.mpr fun e => h ((flush1_10 t).mp e)
theorem flush11 (t : Fin cfg1.N) (h : t.val % 4 ≠ 3) : (cfg1.win 11).flush t = false := Bool.eq_false_iff.mpr fun e => h ((flush1_11 t).mp e)
theorem flush12 (t : Fin cfg1.N) (h : t.val % 4 ≠ 3) : (cfg1.win 12).flush t = false := Bool.eq_false_iff.mpr fun e => h ((flush1_12 t).mp e)
theorem carry9 : ∀ t : Fin cfg1.N, cfg1.idle 9 (grid1.coords t) = true → cfg1.fresh 9 t.val = true := by decide +kernel
theorem fresh9 : ∀ t : Fin cfg1.N, 13 ≤ t.val → cfg1.fresh 9 t.val = false := by decide +kernel

/-- The norm weight's gradient is in its staging buffer from one tile of the last chunk to the next. -/
theorem before1_9 (c : Dev nD) (t : Fin cfg1.N) (h : 13 ≤ t.val) (d) : (dat1 V c).before 9 t d = dnAt V c t.val := by
  have e := (dat1 V c).before_out_traj 9 rfl (fun _ _ => rfl) (fun t _ hi hf => absurd (carry9 t hi) (by rw [hf]; decide)) _ t rfl d
  rw [e, fresh9 t h, if_neg Bool.false_ne_true, after1_9]
  show dnAt V c (t.val - 1 + 1) = _
  rw [Nat.sub_add_cancel (by omega)]

/-- An output that a point leaves alone is handed back as it was; else it holds what the point wrote. -/
theorem leaves1 (c : Dev nD) (w : Fin cfg1.W) (t : Fin cfg1.N) (P : Prop) [Decidable P] (hidle : cfg1.idle w (grid1.coords t) = !decide P)
    (hflush : ¬ P → (cfg1.win w).flush t = false) (d) (X : (cfg1.win w).block.Idx → Elt F (cfg1.win w).elt)
    (hlive : P → X = (dat1 V c).after w t) (hkeep : ¬ P → X = (dat1 V c).before w t d) :
    (owns (c : Thread nD τ) ((cfg1.win w).stage (cfg1.slots t w)) fullShare X : sProp 𝕄) ⊢ (dat1 V c).leavesExact w t := by
  by_cases h : P
  · rw [show (dat1 V c).leavesExact w t = owns (c : Thread nD τ) ((cfg1.win w).stage (cfg1.slots t w)) fullShare ((dat1 V c).after w t) from by
      unfold Dat.leavesExact; rw [hidle, decide_eq_true h]; rfl, hlive h]
  · rw [Dat.leavesExact_idle (dat1 V c) w t (by rw [hidle, decide_eq_false h]; rfl) (hflush h), hkeep h]
    iintro H; iexists d; iexact H

/-! ## The kept sums, one point further -/

theorem dhNext_lt (i : grid1.Coords) (T : Vec F S512x1024 .f32) (n : ℕ) (S S' : Vec F S2048x1024 .f32)
    (h : ∀ y : S2048x1024.Idx, (y 0).val < 512 * n → S y = S' y) (h0 : (i 0).val = 0 → (i 1).val = n) (h1 : (i 0).val ≠ 0 → 4 ≤ n) :
    ∀ y : S2048x1024.Idx, (y 0).val < 512 * (n + 1) → dhNext i T S y = dhNext i T S' y := by
  intro y hy
  by_cases hi : (i 0).val = 0
  · unfold dhNext
    rw [if_pos hi, if_pos hi]
    unfold VecWindow.put
    split
    · rfl
    · rename_i hn
      refine h y ?_
      by_contra hc
      refine hn ?_
      have e0 := h0 hi
      have e1 := (y 1).isLt
      have e2 : S2048x1024.size 1 = 1024 := rfl
      rw [Fin.forall_fin_two]
      exact ⟨by show 512 * (i 1).val ≤ _ ∧ _ < 512 * (i 1).val + 512; omega, by show 0 ≤ _ ∧ _ < 0 + 1024; omega⟩
  · have e : S = S' := funext fun y => h y (by have := (y 0).isLt; have h4 := h1 hi; have e : S2048x1024.size 0 = 2048 := rfl; omega)
    rw [e]

theorem good_succ (c : Dev nD) (t : Fin cfg1.N) (S : Vec F S2048x1024 .f32) (G U D : Vec F S704x1024 .f32) (h : Good V c t.val S G U D) :
    Good V c (t.val + 1) (dhNext (grid1.coords t) (term1 V c t) S) (agNext (grid1.coords t) (blk1 V c 0 t) (blk1 V c 1 t) (blk1 V c 4 t) (blk1 V c 5 t) (blk1 V c 6 t) (blk1 V c 7 t) G)
      (auNext (grid1.coords t) (blk1 V c 0 t) (blk1 V c 1 t) (blk1 V c 4 t) (blk1 V c 5 t) (blk1 V c 7 t) U) (adNext (grid1.coords t) (blk1 V c 5 t) (blk1 V c 6 t) (blk1 V c 7 t) D)
      ∧ agNext (grid1.coords t) (blk1 V c 0 t) (blk1 V c 1 t) (blk1 V c 4 t) (blk1 V c 5 t) (blk1 V c 6 t) (blk1 V c 7 t) G = agAt V c (t.val + 1) ∧ auNext (grid1.coords t) (blk1 V c 0 t) (blk1 V c 1 t) (blk1 V c 4 t) (blk1 V c 5 t) (blk1 V c 7 t) U = auAt V c (t.val + 1)
      ∧ adNext (grid1.coords t) (blk1 V c 5 t) (blk1 V c 6 t) (blk1 V c 7 t) D = adAt V c (t.val + 1) := by
  have hsum : agNext (grid1.coords t) (blk1 V c 0 t) (blk1 V c 1 t) (blk1 V c 4 t) (blk1 V c 5 t) (blk1 V c 6 t) (blk1 V c 7 t) G = agAt V c (t.val + 1) ∧ auNext (grid1.coords t) (blk1 V c 0 t) (blk1 V c 1 t) (blk1 V c 4 t) (blk1 V c 5 t) (blk1 V c 7 t) U = auAt V c (t.val + 1)
      ∧ adNext (grid1.coords t) (blk1 V c 5 t) (blk1 V c 6 t) (blk1 V c 7 t) D = adAt V c (t.val + 1) := by
    rw [agAt_succ, auAt_succ, adAt_succ]
    by_cases h0 : t.val % 4 = 0
    · unfold agNext auNext adNext
      simp only [if_pos (show ((grid1.coords t) 1).val = 0 from (coord1 t).trans h0)]
      exact ⟨trivial, trivial, trivial⟩
    · obtain ⟨rfl, rfl, rfl⟩ := h.2 h0
      exact ⟨rfl, rfl, rfl⟩
  refine ⟨⟨?_, fun _ => hsum⟩, hsum⟩
  rw [dhAt_succ]
  exact dhNext_lt _ _ _ _ _ h.1 (fun e => by rw [coord0] at e; rw [coord1]; omega) (fun e => by rw [coord0] at e; omega)

theorem rows_succ (c : Dev nD) (t : Fin cfg1.N) (S : Vec F S2048x1024 .f32) (G U D : Vec F S704x1024 .f32) (h : Good V c t.val S G U D)
    (h3 : t.val / 4 = 3) : dhNext (grid1.coords t) (term1 V c t) S = dhAt V c (t.val + 1) := by
  funext y
  exact (good_succ V c t S G U D h).1.1 y (by have := (y 0).isLt; have e : S2048x1024.size 0 = 2048 := rfl; omega)

/-! ## The body -/

theorem row1 (t : Fin cfg1.N) : defs₀ (F := F) .tc cfg1.body (cfg1.bodyArgs t (cfg1.slots t)) = bodyAt1 t := by
  unfold defs₀; rw [Defs.onTc_tc]

set_option maxHeartbeats 4000000 in
/-- The body meets what the pipeline asks of it. -/
theorem body1 (c : Dev nD) : BodyObligation (dat1 V c) (defs₀ (F := F)) Variants.none () Set.univ := fun t => by
  rw [bigSep_W1, bigSep_W1, row1]
  simp only [before1_0, before1_1, before1_2, before1_3, before1_4, before1_5, before1_6, before1_7]
  rw [show (dat1 V c).Φ t.succ = inv V c (t.val + 1) from rfl, show (dat1 V c).Φ t.castSucc = inv V c t.val from rfl,
    show (dat1 V c).owesAt () t.succ = (dat1 V c).owesAt () t.castSucc from rfl]
  unfold inv
  iintro ⟨⟨%S, %G, %U, %D, %hg, HS, HG, HU, HD, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hs := good_succ V c t S G U D hg
  iapply (run1 c (grid1.coords t) _ _ _ _ _ _ _ _ _ _ _ _ _ _ _ _ _ _ _ _ _ _ _ _ _ _ _ _ _ _ _ _ _ _ _ _  (blk1 V c 0 t) (blk1 V c 1 t) (blk1 V c 2 t) (blk1 V c 3 t) (blk1 V c 4 t) (blk1 V c 5 t) (blk1 V c 6 t) (blk1 V c 7 t) _ _ _ _ _ S G U D Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  isplitl [HG]; · iexact HG
  isplitl [HU]; · iexact HU
  isplitl [HD]; · iexact HD
  iintro ⟨H0, H1, H2, H3, H4, H5, H6, H7, H8, H9, H10, H11, H12, HS, HG, HU, HD⟩
  isplitl [HS HG HU HD Hr]
  · iexists _; iexists _; iexists _; iexists _
    isplitr; · ipureintro; exact hs.1
    isplitl [HS]; · iexact HS
    isplitl [HG]; · iexact HG
    isplitl [HU]; · iexact HU
    isplitl [HD]; · iexact HD
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leaves1 V c 8 t (t.val / 4 = 3) (idle8 t) (flush8 t) d8 _ (fun h => by
      rw [after1_8]; unfold dxNext; rw [if_pos ((coord0 t).trans h), if_pos ((coord0 t).trans h), ← rows_succ V c t S G U D hg h]; rfl)
      (fun h => by unfold dxNext; rw [if_neg (fun e => h ((coord0 t).symm.trans e))])) $$ H8
  isplitl [H9]
  · iapply (leaves1 V c 9 t (t.val / 4 = 3) (idle9 t) (flush9 t) d9 _ (fun h => by
      rw [after1_9, dnAt_succ, ← rows_succ V c t S G U D hg h]
      by_cases h12 : t.val % 4 = 0
      · unfold dnNext; rw [if_pos ((coord0 t).trans h), if_pos ((coord0 t).trans h), if_pos ((coord1 t).trans h12), if_pos ((coord1 t).trans h12)]; rfl
      · rw [before1_9 V c t (by omega)]; rfl)
      (fun h => by unfold dnNext; rw [if_neg (fun e => h ((coord0 t).symm.trans e))])) $$ H9
  isplitl [H10]
  · iapply (leaves1 V c 10 t (t.val % 4 = 3) (idle10 t) (flush10 t) d10 _ (fun h => by
      rw [after1_10]; unfold dwgNext; rw [if_pos ((coord1 t).trans h), if_pos ((coord1 t).trans h), hs.2.1])
      (fun h => by unfold dwgNext; rw [if_neg (fun e => h ((coord1 t).symm.trans e))])) $$ H10
  isplitl [H11]
  · iapply (leaves1 V c 11 t (t.val % 4 = 3) (idle11 t) (flush11 t) d11 _ (fun h => by
      rw [after1_11]; unfold dwuNext; rw [if_pos ((coord1 t).trans h), if_pos ((coord1 t).trans h), hs.2.2.1])
      (fun h => by unfold dwuNext; rw [if_neg (fun e => h ((coord1 t).symm.trans e))])) $$ H11
  iapply (leaves1 V c 12 t (t.val % 4 = 3) (idle12 t) (flush12 t) d12 _ (fun h => by
      rw [after1_12]; unfold dwdNext; rw [if_pos ((coord1 t).trans h), if_pos ((coord1 t).trans h), hs.2.2.2])
      (fun h => by unfold dwdNext; rw [if_neg (fun e => h ((coord1 t).symm.trans e))])) $$ H12

/-- The call's scoped buffers are what the kernel keeps, before the first point and after the last. -/
theorem in1 (c : Dev nD) : (Pipeline.scopedRest (Ix := Unit) (Name := ℕ) (U := UR sig nD τ) (Lvl := ℕ) (Val := Elt F) spec1 c : sProp 𝕄) ⊢ inv V c 0 := by
  rw [scopedRest1_eq]
  unfold inv others
  simp only [owns_whole_eq]
  iintro ⟨K0, K1, K2, K3, K4, K5, K6, K7, K8, K9, K10, K11, ⟨%S, HS⟩, ⟨%G, HG⟩, ⟨%U, HU⟩, ⟨%D, HD⟩⟩
  iexists S; iexists G; iexists U; iexists D
  isplitr
  · ipureintro; exact ⟨fun y hy => absurd hy (by omega), fun h => absurd rfl h⟩
  isplitl [HS]; · iexists S; isplitr; · ipureintro; rfl
                  iexact HS
  isplitl [HG]; · iexists G; isplitr; · ipureintro; rfl
                  iexact HG
  isplitl [HU]; · iexists U; isplitr; · ipureintro; rfl
                  iexact HU
  isplitl [HD]; · iexists D; isplitr; · ipureintro; rfl
                  iexact HD
  isplitl [K0]; · iexact K0
  isplitl [K1]; · iexact K1
  isplitl [K2]; · iexact K2
  isplitl [K3]; · iexact K3
  isplitl [K4]; · iexact K4
  isplitl [K5]; · iexact K5
  isplitl [K6]; · iexact K6
  isplitl [K7]; · iexact K7
  isplitl [K8]; · iexact K8
  isplitl [K9]; · iexact K9
  isplitl [K10]; · iexact K10
  iexact K11

theorem out1 (c : Dev nD) (n : ℕ) : inv V c n ⊢ (Pipeline.scopedRest (Ix := Unit) (Name := ℕ) (U := UR sig nD τ) (Lvl := ℕ) (Val := Elt F) spec1 c : sProp 𝕄) := by
  rw [scopedRest1_eq]
  unfold inv others
  simp only [owns_whole_eq]
  iintro ⟨%S, %G, %U, %D, -, ⟨%fS, -, HS⟩, ⟨%fG, -, HG⟩, ⟨%fU, -, HU⟩, ⟨%fD, -, HD⟩, K0, K1, K2, K3, K4, K5, K6, K7, K8, K9, K10, K11⟩
  isplitl [K0]; · iexact K0
  isplitl [K1]; · iexact K1
  isplitl [K2]; · iexact K2
  isplitl [K3]; · iexact K3
  isplitl [K4]; · iexact K4
  isplitl [K5]; · iexact K5
  isplitl [K6]; · iexact K6
  isplitl [K7]; · iexact K7
  isplitl [K8]; · iexact K8
  isplitl [K9]; · iexact K9
  isplitl [K10]; · iexact K10
  isplitl [K11]; · iexact K11
  isplitl [HS]; · iexists _; iexact HS
  isplitl [HG]; · iexists _; iexact HG
  isplitl [HU]; · iexists _; iexact HU
  iexists _; iexact HD

end Cert.Kernel3Ideal.Gen

end
-- ==== Proof.Ffn.Frame.lean ====
/- The forward and the backward call of the gated block one after the other: the whole run, and the frame. -/
module

public import proofs.«01_k».proof.Proof.Ffn.Call0
public import proofs.«01_k».proof.Proof.Ffn.Call1
public import proofs.«01_k».proof.Proof.Gen.Kernel3Ideal.Regions

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg RegionSeg HostSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at the forward call, -/
def A0 (c : Dev nD) : Valuation τ sig (Elt F) := V1 m c
/-- after it, -/
def A1 (c : Dev nD) : Valuation τ sig (Elt F) := Pipeline.afterRegion (dat0 (A0 m) c) (A0 m c)
/-- and after the backward call. -/
def A2 (c : Dev nD) : Valuation τ sig (Elt F) := Pipeline.afterRegion (dat1 (A1 m) c) (A1 m c)

/-- The two calls' arrays and staging buffers. -/
def pdats : (p : Fin 2) → (c : Dev nD) → Dat τ (Elt F) Unit ℕ (UR sig nD τ) ℕ (cfgs p) c
  | ⟨0, _⟩ => dat0 (A0 m)
  | ⟨1, _⟩ => dat1 (A1 m)

theorem in0 (V : Dev nD → Valuation τ sig (Elt F)) (c : Dev nD) : (Pipeline.scopedRest spec0 c : sProp 𝕄) ⊢ (dat0 V c).Φ 0 := Idealize.SL.BI.Entails.refl _
theorem out0 (V : Dev nD → Valuation τ sig (Elt F)) (c : Dev nD) (n) : (dat0 V c).Φ n ⊢ (Pipeline.scopedRest spec0 c : sProp 𝕄) := Idealize.SL.BI.Entails.refl _

theorem arrays0 : Pipeline.arrRefs (τ := τ) spec0 ⊆ Pipeline.ucRefs τ sig := Pipeline.arrRefs_sub_ucRefs spec0 (by decide)

theorem obligation0 (c : Dev nD) : Pipeline.BodyObligationLoose (pdats m 0 c) (defs₀ (F := F)) Variants.none () Set.univ :=
  (body0 (A0 m) c).loose

set_option backward.isDefEq.respectTransparency.types false in
def call0 : RegionSeg (pcfgs (F := F)) adm (pdats m) () defs₀ Variants.none (fun _ => ∅) (fun _ _ => 0) 0 :=
  Segment.call (pcfgs (F := F)) adm (pdats m) defs₀ Variants.none (fun _ => ∅) (fun _ _ => 0) 0 (launch0.toP) rfl
    (obligation0 m) (fun _ _ => rfl) (fun _ => rfl) (fun c => (dat0 (A0 m) c).share_full fun _ => rfl)
    (fun c => in0 (A0 m) c) (fun c => out0 (A0 m) c _) arrays0 (A0 m) (fun _ _ => rfl)

theorem arrays1 : Pipeline.arrRefs (τ := τ) spec1 ⊆ Pipeline.ucRefs τ sig := Pipeline.arrRefs_sub_ucRefs spec1 (by decide)

theorem obligation1 (c : Dev nD) : Pipeline.BodyObligationLoose (pdats m 1 c) (defs₀ (F := F)) Variants.none () Set.univ :=
  (body1 (A1 m) c).loose

set_option backward.isDefEq.respectTransparency.types false in
def call1 : RegionSeg (pcfgs (F := F)) adm (pdats m) () defs₀ Variants.none (fun _ => ∅) (fun _ _ => 0) 1 :=
  Segment.call (pcfgs (F := F)) adm (pdats m) defs₀ Variants.none (fun _ => ∅) (fun _ _ => 0) 1 (launch1.toP) rfl
    (obligation1 m) (fun _ _ => rfl) (fun _ => rfl) (fun c => (dat1 (A1 m) c).share_full fun _ => rfl)
    (fun c => in1 (A1 m) c) (fun c => out1 (A1 m) c _) arrays1 (A1 m) (fun _ _ => rfl)

/-- Nothing rides along beside the buffers but the dues, which are none. -/
abbrev rides (_ : Fin 3) (c : Dev nD) : sProp 𝕄 := iprop(∃ Wd, owes (c : Thread nD τ) (0 : CellTallies nD τ sig Unit) Wd)

set_option backward.isDefEq.respectTransparency.types false in
/-- The whole run leaves every unscoped buffer at `A2`. -/
theorem run_all : θ_run defs (onTc (τ := τ) (main (F := F))) ⟨m, fun _ => 0, ρ⟩
    (fun r => (∀ c : Dev nD, ∀ b ∈ Pipeline.ucRefs τ sig, r.2.mem (c, b) = A2 m c b) ∧ r.2.sem = fun _ => 0) :=
  Segment.run (pcfgs (F := F)) adm defs₀ Variants.none cellOf_inj (pdats m) m ρ main
    (segs m Variants.none (fun _ => ∅) (fun _ _ => 0) rides () (pdats m) (call0 m) (call1 m))
    (fun c Q => by
      rw [main_chain c, Seg.run_eq_chain]
      exact .rfl)
    (fun c => by simp only [segs, Seg.pipes_host, Seg.pipes_region, Seg.pipes_nil]; decide)
    regions_no_unscoped (V0 m) (A2 m) (fun _ _ => rfl) (fun c => ⟨.rfl, .rfl, .rfl, .rfl⟩)

theorem uc (b : Ref sig .tc) (h : ¬ b.isScoped = true) : Proc.devRef .tc b ∈ Pipeline.ucRefs τ sig :=
  Finset.mem_filter.mpr ⟨StableHlo.devRef_mem_tcRefs b, h⟩

theorem A1_of (c : Dev nD) (r : Ref sig .tc) (h : ∀ w, Pipeline.arrRef spec0 w = r → (cfg0.win w).isOut = false) : A1 m c r = A0 m c r :=
  Pipeline.afterRegion_keeps (dat0 (A0 m) c) (A0 m c) (launch0.win.arr_inj) (fun _ => rfl) r h
theorem A2_of (c : Dev nD) (r : Ref sig .tc) (h : ∀ w, Pipeline.arrRef spec1 w = r → (cfg1.win w).isOut = false) : A2 m c r = A1 m c r :=
  Pipeline.afterRegion_keeps (dat1 (A1 m) c) (A1 m c) (launch1.win.arr_inj) (fun _ => rfl) r h

/-- The arguments end as they were. -/
theorem A2_arg (c : Dev nD) (r : Ref sig .tc) (h : r = main_arg0 ∨ r = main_arg1 ∨ r = main_arg2 ∨ r = main_arg3 ∨ r = main_arg4 ∨ r = main_arg5) :
    A2 m c r = m ((c.tc : Thread nD τ).loc r) := by
  rcases h with rfl | rfl | rfl | rfl | rfl | rfl <;>
    exact (A2_of m c _ (by decide)).trans ((A1_of m c _ (by decide)).trans (V1_of m c _ (by decide)))

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(h.1 c _ (uc main_arg0 (by decide))).trans (A2_arg m c _ (by simp)), (h.1 c _ (uc main_arg1 (by decide))).trans (A2_arg m c _ (by simp)),
      (h.1 c _ (uc main_arg2 (by decide))).trans (A2_arg m c _ (by simp)), (h.1 c _ (uc main_arg3 (by decide))).trans (A2_arg m c _ (by simp)),
      (h.1 c _ (uc main_arg4 (by decide))).trans (A2_arg m c _ (by simp)), (h.1 c _ (uc main_arg5 (by decide))).trans (A2_arg m c _ (by simp))⟩, h.2⟩)
    (run_all m ρ)

end Cert.Kernel3Ideal.Gen

end
-- ==== Proof.Ffn.Base.lean ====
/-
The gated block's forward call: the rows each point writes, against the reference's rows.
-/
module

public import proofs.«01_k».proof.Proof.Ffn.Frame
public import proofs.«01_k».proof.Proof.Gen.Reference3Ideal.Read
public import Idealize.ShloMosaic.Lib.Pipeline.ValueKit
public import Idealize.ShloMosaic.Lib.Pipeline.ReadBack

@[expose] public section

set_option maxRecDepth 16384

noncomputable section

namespace Cert.Kernel3Ideal.Ffn

open Idealize.ShloMosaic Idealize.ShloMosaic.TcCoe Idealize.SL.Sem
open Idealize.ShloMosaic.Pipeline (Dat)
open Cert.Kernel3Ideal Cert.Kernel3Ideal.Gen
open Cert.Reference3Ideal.Read

variable (m : (ℓ : Loc nD τ sig) → Buf (Elt Ideal) ℓ)

theorem idx0 : ∀ t : Fin cfg0.N, win0_0.index t = ![t.val, 0] ∧ win0_1.index t = ![0, 0]
    ∧ win0_2.index t = ![0, 0, 0] ∧ win0_3.index t = ![0, 0, 0] ∧ win0_4.index t = ![0, 0, 0]
    ∧ win0_5.index t = ![t.val, 0] ∧ win0_6.index t = ![0, t.val, 0] ∧ win0_7.index t = ![0, t.val, 0] :=
  (by decide +kernel : ∀ t : Fin grid0.N, _)

/-- The forward call's grid has eight points. -/
theorem lt8 (t : Fin cfg0.N) : t.val < 8 := lt_of_lt_of_eq t.isLt N_0

theorem A0_arg0 (c : Dev nD) : A0 m c main_arg0 = m ((c : Thread nD τ).loc main_arg0) := V1_of m c main_arg0 (by decide)
theorem A0_arg1 (c : Dev nD) : A0 m c main_arg1 = m ((c : Thread nD τ).loc main_arg1) := V1_of m c main_arg1 (by decide)
theorem A0_arg5 (c : Dev nD) : A0 m c main_arg5 = m ((c : Thread nD τ).loc main_arg5) := V1_of m c main_arg5 (by decide)

/-- The weights as the host prepares them: hidden layer first, in four chunks of 704. -/
theorem gate_w (c : Dev nD) (i : S4x704x1024.Idx) (j : S1024x2816.Idx) (h0 : (j 0 : ℕ) = i 2) (h1 : (j 1 : ℕ) = (i 0 : ℕ) * 704 + i 1) :
    A0 m c main_v3 i = m ((c : Thread nD τ).loc main_arg2) j := by
  unfold A0 V1
  entry_read
  pointwise
  refine congrArg (m ((c : Thread nD τ).loc main_arg2)) ?_
  blk_ext []

theorem up_w (c : Dev nD) (i : S4x704x1024.Idx) (j : S1024x2816.Idx) (h0 : (j 0 : ℕ) = i 2) (h1 : (j 1 : ℕ) = (i 0 : ℕ) * 704 + i 1) :
    A0 m c main_v5 i = m ((c : Thread nD τ).loc main_arg3) j := by
  unfold A0 V1
  entry_read
  pointwise
  refine congrArg (m ((c : Thread nD τ).loc main_arg3)) ?_
  blk_ext []

theorem down_w (c : Dev nD) (i : S4x704x1024.Idx) (j : S2816x1024.Idx) (h0 : (j 0 : ℕ) = (i 0 : ℕ) * 704 + i 1) (h1 : (j 1 : ℕ) = i 2) :
    A0 m c main_v7 i = m ((c : Thread nD τ).loc main_arg4) j := by
  unfold A0 V1
  entry_read
  pointwise
  refine congrArg (m ((c : Thread nD τ).loc main_arg4)) ?_
  blk_ext []

/-- The normed rows of a tile. -/
theorem normed0 (c : Dev nD) (t : Fin cfg0.N) (i : S256x1024.Idx) (j : S2048x1024.Idx)
    (h0 : (j 0 : ℕ) = t.val * 256 + i 0) (h1 : (j 1 : ℕ) = i 1) :
    k0_pay1 (F := Ideal) (blk0 (A0 m) c 0 t) (blk0 (A0 m) c 1 t) i
      = val_main_v14 (F := Ideal) (m ((c : Thread nD τ).loc main_arg0)) (m ((c : Thread nD τ).loc main_arg1)) j := by
  pointwise [k0_pay1, val_main_v14, val_main_v13, val_main_v12, val_main_v11, val_main_v7, val_main_v6, val_main_v5,
    val_main_v4, val_main_v3, val_main_v2, val_main_v1, val_main_v0, val_main_cst, val_main_cst_0, val_main_cst_1]
  blk_point [blk0, A0_arg0, A0_arg1, idx0 t]

end Cert.Kernel3Ideal.Ffn

end
-- ==== Proof.Ffn.Fwd.lean ====
/-
The gated block's forward call: its output and the two projections it saves, against the reference's rows.
-/
module

public import proofs.«01_k».proof.Proof.Ffn.Base

@[expose] public section

set_option maxRecDepth 16384

noncomputable section

namespace Cert.Kernel3Ideal.Ffn

open Idealize.ShloMosaic Idealize.ShloMosaic.TcCoe Idealize.SL.Sem
open Idealize.ShloMosaic.Pipeline (Dat)
open Cert.Kernel3Ideal Cert.Kernel3Ideal.Gen
open Cert.Reference3Ideal.Read

variable (m : (ℓ : Loc nD τ sig) → Buf (Elt Ideal) ℓ)

/-- A chunk of a projection's weight, hidden layer first. -/
def Chunk (q : ℕ) (X : S1024x2816.Idx → EReal) (B : Vec Ideal S1x704x1024 .bf16) : Prop :=
  ∀ (i : S1x704x1024.Idx) (j : S1024x2816.Idx), (j 0 : ℕ) = i 2 → (j 1 : ℕ) = q * 704 + i 1 → B i = X j

/-- A chunk of the down projection's weight. -/
def DownChunk (q : ℕ) (X : S2816x1024.Idx → EReal) (B : Vec Ideal S1x704x1024 .bf16) : Prop :=
  ∀ (i : S1x704x1024.Idx) (j : S2816x1024.Idx), (j 0 : ℕ) = q * 704 + i 1 → (j 1 : ℕ) = i 2 → B i = X j

theorem slab_read (x : Vec Ideal S4x704x1024 .bf16) (q : ℕ) (inb) (i : S1x704x1024.Idx) (k : S4x704x1024.Idx)
    (h0 : (k 0 : ℕ) = q) (h1 : (k 1 : ℕ) = i 1) (h2 : (k 2 : ℕ) = i 2) :
    VecWindow.window x ![q, 0, 0] S1x704x1024.size inb i = x k := by
  unfold VecWindow.window
  refine congrArg x (funext fun a => Fin.ext ?_)
  have e : (i 0).val = 0 := by have := (i 0).isLt; have e : S1x704x1024.size 0 = 1 := rfl; omega
  rw [show ((Rect.unit (s := S4x704x1024) ![q, 0, 0] S1x704x1024.size inb).emb i a).val = ![q, 0, 0] a + (i a).val from Rect.idx_unit_val _ _ _ _ _]
  match a with
  | ⟨0, _⟩ => show q + (i 0).val = (k 0).val; omega
  | ⟨1, _⟩ => show 0 + (i 1).val = (k 1).val; omega
  | ⟨2, _⟩ => show 0 + (i 2).val = (k 2).val; omega

theorem gate_slab (c : Dev nD) (t : Fin cfg0.N) (q : ℕ) (hq : q < 4) (inb) :
    Chunk q (m ((c : Thread nD τ).loc main_arg2)) (VecWindow.window (blk0 (A0 m) c 2 t) ![q, 0, 0] S1x704x1024.size inb) := by
  intro i j h0 h1
  obtain_idx k : S4x704x1024 := [q, (i 1 : ℕ), (i 2 : ℕ)] with hk
  rw [slab_read _ q inb i k hk0 hk1 hk2, ← gate_w m c k j (by omega) (by omega)]
  blk_ext [blk0, idx0 t]

theorem up_slab (c : Dev nD) (t : Fin cfg0.N) (q : ℕ) (hq : q < 4) (inb) :
    Chunk q (m ((c : Thread nD τ).loc main_arg3)) (VecWindow.window (blk0 (A0 m) c 3 t) ![q, 0, 0] S1x704x1024.size inb) := by
  intro i j h0 h1
  obtain_idx k : S4x704x1024 := [q, (i 1 : ℕ), (i 2 : ℕ)] with hk
  rw [slab_read _ q inb i k hk0 hk1 hk2, ← up_w m c k j (by omega) (by omega)]
  blk_ext [blk0, idx0 t]

theorem down_slab (c : Dev nD) (t : Fin cfg0.N) (q : ℕ) (hq : q < 4) (inb) :
    DownChunk q (m ((c : Thread nD τ).loc main_arg4)) (VecWindow.window (blk0 (A0 m) c 4 t) ![q, 0, 0] S1x704x1024.size inb) := by
  intro i j h0 h1
  obtain_idx k : S4x704x1024 := [q, (i 1 : ℕ), (i 2 : ℕ)] with hk
  rw [slab_read _ q inb i k hk0 hk1 hk2, ← down_w m c k j (by omega) (by omega)]
  blk_ext [blk0, idx0 t]

/-- A projection of a tile's normed rows. -/
theorem proj0 (c : Dev nD) (t : Fin cfg0.N) (q : ℕ) (X : Vec Ideal S1024x2816 .f32) (B : Vec Ideal S1x704x1024 .bf16) (hB : Chunk q X B)
    (i : S256x704.Idx) (j : Cert.Reference3Ideal.S2048x2816.Idx) (h0 : (j 0 : ℕ) = t.val * 256 + i 0) (h1 : (j 1 : ℕ) = q * 704 + i 1) :
    k0_pay9 (F := Ideal) (k0_pay1 (blk0 (A0 m) c 0 t) (blk0 (A0 m) c 1 t)) B i
      = val_main_v15 (F := Ideal) (m ((c : Thread nD τ).loc main_arg0)) (m ((c : Thread nD τ).loc main_arg1)) X j := by
  pointwise [k0_pay9, val_main_v15]
  refine Finset.sum_congr rfl fun k _ => congrArg₂ (· * ·) (normed0 m c t _ _ h0 rfl) (hB _ _ rfl h1)

/-- The hidden layer, gated. -/
def act (g u : EReal) : EReal := g * Ideal.div 1 (1 + Ideal.exp (0 - g)) * u

theorem act_ref (x0 x1 x2 x3) (j : Cert.Reference3Ideal.S2048x2816.Idx) :
    val_main_v18 (F := Ideal) x0 x1 x2 x3 j = act (val_main_v15 (F := Ideal) x0 x1 x2 j) (val_main_v17 (F := Ideal) x0 x1 x3 j) := by
  pointwise [val_main_v18, val_main_v16_0, val_main_v16_2, val_main_call0_v0, val_main_call0_v1, val_main_call0_v2, val_main_call0_v3, val_main_call0_v4,
    val_main_call0_cst, val_main_call0_cst_0]
  unfold act
  rw [zero_sub]

theorem act0 (c : Dev nD) (t : Fin cfg0.N) (q : ℕ) (B C : Vec Ideal S1x704x1024 .bf16)
    (hB : Chunk q (m ((c : Thread nD τ).loc main_arg2)) B) (hC : Chunk q (m ((c : Thread nD τ).loc main_arg3)) C)
    (i : S256x704.Idx) (j : Cert.Reference3Ideal.S2048x2816.Idx) (h0 : (j 0 : ℕ) = t.val * 256 + i 0) (h1 : (j 1 : ℕ) = q * 704 + i 1) :
    act (k0_pay9 (F := Ideal) (k0_pay1 (blk0 (A0 m) c 0 t) (blk0 (A0 m) c 1 t)) B i) (k0_pay9 (F := Ideal) (k0_pay1 (blk0 (A0 m) c 0 t) (blk0 (A0 m) c 1 t)) C i)
      = val_main_v18 (F := Ideal) (m ((c : Thread nD τ).loc main_arg0)) (m ((c : Thread nD τ).loc main_arg1)) (m ((c : Thread nD τ).loc main_arg2)) (m ((c : Thread nD τ).loc main_arg3)) j :=
  (congrArg₂ act (proj0 m c t q _ B hB i j h0 h1) (proj0 m c t q _ C hC i j h0 h1)).trans (act_ref _ _ _ _ j).symm

theorem out_row (c : Dev nD) (t : Fin cfg0.N) (i : S256x1024.Idx) (j : S2048x1024.Idx)
    (h0 : (j 0 : ℕ) = t.val * 256 + i 0) (h1 : (j 1 : ℕ) = i 1) :
    ffnOut (F := Ideal) (blk0 (A0 m) c 0 t) (blk0 (A0 m) c 1 t) (blk0 (A0 m) c 2 t) (blk0 (A0 m) c 3 t) (blk0 (A0 m) c 4 t) i
      = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) j := by
  unfold ffnOut ffnSum
  pointwise [k0_pay23, k0_pay18, k0_pay13, k0_pay8, k0_pay7, k0_pay2, val_main_v22, val_main_v21, val_main_v20, val_main_v19, val_main_cst_3]
  rw [Fin.sum_univ_tiles 4 704 rfl]
  simp only [Fin.sum_univ_four]
  refine congrArg₂ (· + ·) ?_ (congrArg (_ * ·) (congrArg₂ (· + ·) (congrArg₂ (· + ·) (congrArg₂ (· + ·) ?_ ?_) ?_) ?_))
  · blk_ext [blk0, A0_arg0, idx0 t]
  all_goals refine Finset.sum_congr rfl fun x _ => congrArg₂ (· * ·) ?_ ?_
  · exact act0 m c t 0 _ _ (gate_slab m c t 0 (by omega) _) (up_slab m c t 0 (by omega) _) _ _ h0 rfl
  · exact down_slab m c t 0 (by omega) _ _ _ rfl h1
  · exact act0 m c t 1 _ _ (gate_slab m c t 1 (by omega) _) (up_slab m c t 1 (by omega) _) _ _ h0 rfl
  · exact down_slab m c t 1 (by omega) _ _ _ rfl h1
  · exact act0 m c t 2 _ _ (gate_slab m c t 2 (by omega) _) (up_slab m c t 2 (by omega) _) _ _ h0 rfl
  · exact down_slab m c t 2 (by omega) _ _ _ rfl h1
  · exact act0 m c t 3 _ _ (gate_slab m c t 3 (by omega) _) (up_slab m c t 3 (by omega) _) _ _ h0 rfl
  · exact down_slab m c t 3 (by omega) _ _ _ rfl h1

theorem first_gate (x0 : Vec Ideal S256x1024 .f32) (x1 : Vec Ideal S1x1024 .f32) (B : Vec Ideal S1x704x1024 .bf16) :
    k0_pay5 (F := Ideal) x0 x1 B = k0_pay11 (k0_pay1 x0 x1) B := by sl_kernel_rfl
theorem first_up (x0 : Vec Ideal S256x1024 .f32) (x1 : Vec Ideal S1x1024 .f32) (B : Vec Ideal S1x704x1024 .bf16) :
    k0_pay6 (F := Ideal) x0 x1 B = k0_pay11 (k0_pay1 x0 x1) B := by sl_kernel_rfl

theorem saved_row (c : Dev nD) (t : Fin cfg0.N) (q : ℕ) (X : Vec Ideal S1024x2816 .f32) (B : Vec Ideal S1x704x1024 .bf16) (hB : Chunk q X B)
    (i : S1x256x704.Idx) (j : Cert.Reference3Ideal.S2048x2816.Idx) (h0 : (j 0 : ℕ) = t.val * 256 + i 1) (h1 : (j 1 : ℕ) = q * 704 + i 2) :
    k0_pay11 (F := Ideal) (k0_pay1 (blk0 (A0 m) c 0 t) (blk0 (A0 m) c 1 t)) B i
      = val_main_v15 (F := Ideal) (m ((c : Thread nD τ).loc main_arg0)) (m ((c : Thread nD τ).loc main_arg1)) X j := by
  pointwise [k0_pay11]
  exact proj0 m c t q X B hB _ j h0 h1

set_option maxHeartbeats 1000000 in
/-- The saved projections of a tile, chunk by chunk. -/
theorem gate_saved (c : Dev nD) (t : Fin cfg0.N) (i : S4x256x704.Idx) (j : Cert.Reference3Ideal.S2048x2816.Idx)
    (h0 : (j 0 : ℕ) = t.val * 256 + i 1) (h1 : (j 1 : ℕ) = (i 0 : ℕ) * 704 + i 2) :
    View.canon (gatePieces (F := Ideal) (blk0 (A0 m) c 0 t) (blk0 (A0 m) c 1 t) (blk0 (A0 m) c 2 t)) i
      = val_main_v15 (F := Ideal) (m ((c : Thread nD τ).loc main_arg0)) (m ((c : Thread nD τ).loc main_arg1)) (m ((c : Thread nD τ).loc main_arg2)) j := by
  unfold gatePieces
  canon_tiles x h
  · exact saved_row m c t 3 _ _ (gate_slab m c t 3 (by omega) _) x j (by omega) (by omega)
  · exact saved_row m c t 2 _ _ (gate_slab m c t 2 (by omega) _) x j (by omega) (by omega)
  · exact saved_row m c t 1 _ _ (gate_slab m c t 1 (by omega) _) x j (by omega) (by omega)
  · have e0 : (j 0 : ℕ) = t.val * 256 + x 1 := by omega
    have e1 : (j 1 : ℕ) = 0 * 704 + x 2 := by omega
    rw [first_gate]
    exact saved_row m c t 0 _ _ (gate_slab m c t 0 (by omega) _) x j e0 e1

set_option maxHeartbeats 1000000 in
theorem up_saved (c : Dev nD) (t : Fin cfg0.N) (i : S4x256x704.Idx) (j : Cert.Reference3Ideal.S2048x2816.Idx)
    (h0 : (j 0 : ℕ) = t.val * 256 + i 1) (h1 : (j 1 : ℕ) = (i 0 : ℕ) * 704 + i 2) :
    View.canon (upPieces (F := Ideal) (blk0 (A0 m) c 0 t) (blk0 (A0 m) c 1 t) (blk0 (A0 m) c 3 t)) i
      = val_main_v17 (F := Ideal) (m ((c : Thread nD τ).loc main_arg0)) (m ((c : Thread nD τ).loc main_arg1)) (m ((c : Thread nD τ).loc main_arg3)) j := by
  unfold upPieces
  canon_tiles x h
  · exact saved_row m c t 3 _ _ (up_slab m c t 3 (by omega) _) x j (by omega) (by omega)
  · exact saved_row m c t 2 _ _ (up_slab m c t 2 (by omega) _) x j (by omega) (by omega)
  · exact saved_row m c t 1 _ _ (up_slab m c t 1 (by omega) _) x j (by omega) (by omega)
  · have e0 : (j 0 : ℕ) = t.val * 256 + x 1 := by omega
    have e1 : (j 1 : ℕ) = 0 * 704 + x 2 := by omega
    rw [first_up]
    exact saved_row m c t 0 _ _ (up_slab m c t 0 (by omega) _) x j e0 e1

/-- The output of the forward call. -/
theorem final5 (c : Dev nD) : (dat0 (A0 m) c).arrAt 5 cfg0.N
    = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dat0 (A0 m) c).arrAt_eq_of_covers 5 _ (by decide +kernel) fun t _ y => ?_
  blk_simp
  rw [after0_5]
  refine out_row m c t _ _ ?_ ?_
  all_goals (blk_simp [idx0 t] <;> try omega)

/-- The hidden layer as the kernel keeps it: chunk, row, lane. -/
def chunked (X : Cert.Reference3Ideal.S2048x2816.Idx → EReal) (i : S4x2048x704.Idx) : EReal :=
  X (ValueIdx.ix2 (i 1) ⟨(i 0 : ℕ) * 704 + i 2, by have h0 : (i 0 : ℕ) < 4 := (i 0).isLt; have h2 : (i 2 : ℕ) < 704 := (i 2).isLt; omega⟩)

theorem final6 (c : Dev nD) : (dat0 (A0 m) c).arrAt 6 cfg0.N
    = chunked (val_main_v15 (F := Ideal) (m ((c : Thread nD τ).loc main_arg0)) (m ((c : Thread nD τ).loc main_arg1)) (m ((c : Thread nD τ).loc main_arg2))) := by
  refine (dat0 (A0 m) c).arrAt_eq_of_covers 6 _ (by decide +kernel) fun t _ y => ?_
  blk_simp
  rw [after0_6]
  unfold chunked
  refine gate_saved m c t _ _ ?_ ?_
  · change ((win0_6.blk t).view.emb y 1 : ℕ) = _
    blk_simp [idx0 t] <;> try omega
  · blk_simp [idx0 t] <;> try omega

theorem final7 (c : Dev nD) : (dat0 (A0 m) c).arrAt 7 cfg0.N
    = chunked (val_main_v17 (F := Ideal) (m ((c : Thread nD τ).loc main_arg0)) (m ((c : Thread nD τ).loc main_arg1)) (m ((c : Thread nD τ).loc main_arg3))) := by
  refine (dat0 (A0 m) c).arrAt_eq_of_covers 7 _ (by decide +kernel) fun t _ y => ?_
  blk_simp
  rw [after0_7]
  unfold chunked
  refine up_saved m c t _ _ ?_ ?_
  · change ((win0_7.blk t).view.emb y 1 : ℕ) = _
    blk_simp [idx0 t] <;> try omega
  · blk_simp [idx0 t] <;> try omega

end Cert.Kernel3Ideal.Ffn

end
-- ==== Proof.Ffn.Rows.lean ====
/-
The gated block's backward call: what one point reads and computes, against the reference's rows.
-/
module

public import proofs.«01_k».proof.Proof.Ffn.Fwd

@[expose] public section

set_option maxRecDepth 16384

noncomputable section

namespace Cert.Kernel3Ideal.Ffn

open Idealize.ShloMosaic Idealize.ShloMosaic.TcCoe Idealize.SL.Sem
open Idealize.ShloMosaic.Pipeline (Dat)
open Cert.Kernel3Ideal Cert.Kernel3Ideal.Gen
open Cert.Reference3Ideal.Read

variable (m : (ℓ : Loc nD τ sig) → Buf (Elt Ideal) ℓ)

theorem idx1 : ∀ t : Fin cfg1.N, win1_0.index t = ![t.val % 4, 0] ∧ win1_1.index t = ![0, 0]
    ∧ win1_2.index t = ![t.val / 4, 0, 0] ∧ win1_3.index t = ![t.val / 4, 0, 0] ∧ win1_4.index t = ![t.val / 4, 0, 0]
    ∧ win1_5.index t = ![t.val / 4, t.val % 4, 0] ∧ win1_6.index t = ![t.val / 4, t.val % 4, 0] ∧ win1_7.index t = ![t.val % 4, 0]
    ∧ win1_9.index t = ![0, 0] ∧ win1_10.index t = ![t.val / 4, 0, 0] ∧ win1_11.index t = ![t.val / 4, 0, 0] ∧ win1_12.index t = ![t.val / 4, 0, 0] :=
  (by decide +kernel : ∀ t : Fin grid1.N, _)

theorem idx1_8 : ∀ t : Fin cfg1.N, t.val / 4 = 3 → win1_8.index t = ![t.val % 4, 0] :=
  (by decide +kernel : ∀ t : Fin grid1.N, _)

theorem lt16 (t : Fin cfg1.N) : t.val < 16 := lt_of_lt_of_eq t.isLt N_1

theorem A1_arg0 (c : Dev nD) : A1 m c main_arg0 = m ((c : Thread nD τ).loc main_arg0) := (A1_of m c _ (by decide)).trans (A0_arg0 m c)
theorem A1_arg1 (c : Dev nD) : A1 m c main_arg1 = m ((c : Thread nD τ).loc main_arg1) := (A1_of m c _ (by decide)).trans (A0_arg1 m c)
theorem A1_arg5 (c : Dev nD) : A1 m c main_arg5 = m ((c : Thread nD τ).loc main_arg5) := (A1_of m c _ (by decide)).trans (A0_arg5 m c)
theorem A1_v3 (c : Dev nD) : A1 m c main_v3 = A0 m c main_v3 := A1_of m c _ (by decide)
theorem A1_v5 (c : Dev nD) : A1 m c main_v5 = A0 m c main_v5 := A1_of m c _ (by decide)
theorem A1_v7 (c : Dev nD) : A1 m c main_v7 = A0 m c main_v7 := A1_of m c _ (by decide)

/-- The saved projections are where the forward call left them. -/
theorem A1_gate (c : Dev nD) : A1 m c main_v9_1
    = chunked (val_main_v15 (F := Ideal) (m ((c : Thread nD τ).loc main_arg0)) (m ((c : Thread nD τ).loc main_arg1)) (m ((c : Thread nD τ).loc main_arg2))) :=
  (Pipeline.afterRegion_arr (dat0 (A0 m) c) (A0 m c) launch0.win.arr_inj 6).trans (final6 m c)
theorem A1_up (c : Dev nD) : A1 m c main_v9_2
    = chunked (val_main_v17 (F := Ideal) (m ((c : Thread nD τ).loc main_arg0)) (m ((c : Thread nD τ).loc main_arg1)) (m ((c : Thread nD τ).loc main_arg3))) :=
  (Pipeline.afterRegion_arr (dat0 (A0 m) c) (A0 m c) launch0.win.arr_inj 7).trans (final7 m c)

theorem chunked_apply (X : Cert.Reference3Ideal.S2048x2816.Idx → EReal) (i : S4x2048x704.Idx) (j : Cert.Reference3Ideal.S2048x2816.Idx)
    (h0 : (j 0 : ℕ) = i 1) (h1 : (j 1 : ℕ) = (i 0 : ℕ) * 704 + i 2) : chunked X i = X j := by
  unfold chunked
  refine congrArg X (funext fun a => Fin.ext ?_)
  match a with
  | ⟨0, _⟩ => exact h0.symm
  | ⟨1, _⟩ => exact h1.symm

/-! ## The blocks of a point -/

theorem x_blk (c : Dev nD) (t : Fin cfg1.N) (i : S512x1024.Idx) (j : S2048x1024.Idx)
    (h0 : (j 0 : ℕ) = t.val % 4 * 512 + i 0) (h1 : (j 1 : ℕ) = i 1) : blk1 (A1 m) c 0 t i = m ((c : Thread nD τ).loc main_arg0) j := by
  rw [← A1_arg0 m c]
  blk_ext [blk1, idx1 t]
theorem n_blk (c : Dev nD) (t : Fin cfg1.N) (i j : S1x1024.Idx) (h1 : (j 1 : ℕ) = i 1) : blk1 (A1 m) c 1 t i = m ((c : Thread nD τ).loc main_arg1) j := by
  rw [← A1_arg1 m c]
  blk_ext [blk1, idx1 t]
theorem dy_blk (c : Dev nD) (t : Fin cfg1.N) (i : S512x1024.Idx) (j : S2048x1024.Idx)
    (h0 : (j 0 : ℕ) = t.val % 4 * 512 + i 0) (h1 : (j 1 : ℕ) = i 1) : blk1 (A1 m) c 7 t i = m ((c : Thread nD τ).loc main_arg5) j := by
  rw [← A1_arg5 m c]
  blk_ext [blk1, idx1 t]
theorem wg_blk (c : Dev nD) (t : Fin cfg1.N) (i : S1x704x1024.Idx) (j : S1024x2816.Idx)
    (h0 : (j 0 : ℕ) = i 2) (h1 : (j 1 : ℕ) = t.val / 4 * 704 + i 1) : blk1 (A1 m) c 2 t i = m ((c : Thread nD τ).loc main_arg2) j := by
  have ht := lt16 t
  obtain_idx k : S4x704x1024 := [t.val / 4, (i 1 : ℕ), (i 2 : ℕ)] with hk
  rw [← gate_w m c k j (by omega) (by omega), ← A1_v3]
  blk_ext [blk1, idx1 t]
theorem wu_blk (c : Dev nD) (t : Fin cfg1.N) (i : S1x704x1024.Idx) (j : S1024x2816.Idx)
    (h0 : (j 0 : ℕ) = i 2) (h1 : (j 1 : ℕ) = t.val / 4 * 704 + i 1) : blk1 (A1 m) c 3 t i = m ((c : Thread nD τ).loc main_arg3) j := by
  have ht := lt16 t
  obtain_idx k : S4x704x1024 := [t.val / 4, (i 1 : ℕ), (i 2 : ℕ)] with hk
  rw [← up_w m c k j (by omega) (by omega), ← A1_v5]
  blk_ext [blk1, idx1 t]
theorem wd_blk (c : Dev nD) (t : Fin cfg1.N) (i : S1x704x1024.Idx) (j : S2816x1024.Idx)
    (h0 : (j 0 : ℕ) = t.val / 4 * 704 + i 1) (h1 : (j 1 : ℕ) = i 2) : blk1 (A1 m) c 4 t i = m ((c : Thread nD τ).loc main_arg4) j := by
  have ht := lt16 t
  obtain_idx k : S4x704x1024 := [t.val / 4, (i 1 : ℕ), (i 2 : ℕ)] with hk
  rw [← down_w m c k j (by omega) (by omega), ← A1_v7]
  blk_ext [blk1, idx1 t]
theorem gate_blk (c : Dev nD) (t : Fin cfg1.N) (i : S1x512x704.Idx) (j : Cert.Reference3Ideal.S2048x2816.Idx)
    (h0 : (j 0 : ℕ) = t.val % 4 * 512 + i 1) (h1 : (j 1 : ℕ) = t.val / 4 * 704 + i 2) : blk1 (A1 m) c 5 t i
      = val_main_v15 (F := Ideal) (m ((c : Thread nD τ).loc main_arg0)) (m ((c : Thread nD τ).loc main_arg1)) (m ((c : Thread nD τ).loc main_arg2)) j := by
  have ht := lt16 t
  obtain_idx k : S4x2048x704 := [t.val / 4, t.val % 4 * 512 + (i 1 : ℕ), (i 2 : ℕ)] with hk
  rw [← chunked_apply (val_main_v15 (F := Ideal) (m ((c : Thread nD τ).loc main_arg0)) (m ((c : Thread nD τ).loc main_arg1)) (m ((c : Thread nD τ).loc main_arg2))) k j (by omega) (by omega), ← A1_gate]
  blk_ext [blk1, idx1 t]
theorem up_blk (c : Dev nD) (t : Fin cfg1.N) (i : S1x512x704.Idx) (j : Cert.Reference3Ideal.S2048x2816.Idx)
    (h0 : (j 0 : ℕ) = t.val % 4 * 512 + i 1) (h1 : (j 1 : ℕ) = t.val / 4 * 704 + i 2) : blk1 (A1 m) c 6 t i
      = val_main_v17 (F := Ideal) (m ((c : Thread nD τ).loc main_arg0)) (m ((c : Thread nD τ).loc main_arg1)) (m ((c : Thread nD τ).loc main_arg3)) j := by
  have ht := lt16 t
  obtain_idx k : S4x2048x704 := [t.val / 4, t.val % 4 * 512 + (i 1 : ℕ), (i 2 : ℕ)] with hk
  rw [← chunked_apply (val_main_v17 (F := Ideal) (m ((c : Thread nD τ).loc main_arg0)) (m ((c : Thread nD τ).loc main_arg1)) (m ((c : Thread nD τ).loc main_arg3))) k j (by omega) (by omega), ← A1_up]
  blk_ext [blk1, idx1 t]

/-! ## What the point makes of them -/

theorem normed1 (c : Dev nD) (t : Fin cfg1.N) (i : S512x1024.Idx) (j : S2048x1024.Idx) (h0 : (j 0 : ℕ) = t.val % 4 * 512 + i 0) (h1 : (j 1 : ℕ) = i 1) :
    k1_pay8 (F := Ideal) (blk1 (A1 m) c 0 t) (blk1 (A1 m) c 1 t) i
      = val_main_v14 (F := Ideal) (m ((c : Thread nD τ).loc main_arg0)) (m ((c : Thread nD τ).loc main_arg1)) j := by
  pointwise [k1_pay8, val_main_v14, val_main_v13, val_main_v12, val_main_v11, val_main_v7, val_main_v6, val_main_v5,
    val_main_v4, val_main_v3, val_main_v2, val_main_v1, val_main_v0, val_main_cst, val_main_cst_0, val_main_cst_1]
  blk_point [blk1, idx1 t]
  · exact x_blk m c t i j h0 h1
  · exact x_blk m c t _ _ h0 rfl
  · exact n_blk m c t _ _ h1

theorem half_dy (c : Dev nD) (t : Fin cfg1.N) (i : S512x1024.Idx) (j : S2048x1024.Idx) (h0 : (j 0 : ℕ) = t.val % 4 * 512 + i 0) (h1 : (j 1 : ℕ) = i 1) :
    k1_pay9 (F := Ideal) (blk1 (A1 m) c 7 t) i = val_main_v25 (F := Ideal) (m ((c : Thread nD τ).loc main_arg5)) j := by
  pointwise [k1_pay9, val_main_v25, val_main_v24, val_main_v23, val_main_cst_4]
  exact congrArg (_ * ·) (dy_blk m c t _ _ h0 h1)

theorem gate1 (c : Dev nD) (t : Fin cfg1.N) (i : S512x704.Idx) (j : Cert.Reference3Ideal.S2048x2816.Idx)
    (h0 : (j 0 : ℕ) = t.val % 4 * 512 + i 0) (h1 : (j 1 : ℕ) = t.val / 4 * 704 + i 1) :
    k1_pay10 (F := Ideal) (blk1 (A1 m) c 5 t) i
      = val_main_v15 (F := Ideal) (m ((c : Thread nD τ).loc main_arg0)) (m ((c : Thread nD τ).loc main_arg1)) (m ((c : Thread nD τ).loc main_arg2)) j := by
  pointwise [k1_pay10]
  exact gate_blk m c t _ j h0 h1
theorem up1 (c : Dev nD) (t : Fin cfg1.N) (i : S512x704.Idx) (j : Cert.Reference3Ideal.S2048x2816.Idx)
    (h0 : (j 0 : ℕ) = t.val % 4 * 512 + i 0) (h1 : (j 1 : ℕ) = t.val / 4 * 704 + i 1) :
    k1_pay11 (F := Ideal) (blk1 (A1 m) c 6 t) i
      = val_main_v17 (F := Ideal) (m ((c : Thread nD τ).loc main_arg0)) (m ((c : Thread nD τ).loc main_arg1)) (m ((c : Thread nD τ).loc main_arg3)) j := by
  pointwise [k1_pay11]
  exact up_blk m c t _ j h0 h1

/-- The logistic function. -/
def sgm (g : EReal) : EReal := Ideal.div 1 (1 + Ideal.exp (0 - g))

theorem sgm1 (c : Dev nD) (t : Fin cfg1.N) (i : S512x704.Idx) (j : Cert.Reference3Ideal.S2048x2816.Idx)
    (h0 : (j 0 : ℕ) = t.val % 4 * 512 + i 0) (h1 : (j 1 : ℕ) = t.val / 4 * 704 + i 1) :
    k1_pay12 (F := Ideal) (blk1 (A1 m) c 5 t) i
      = sgm (val_main_v15 (F := Ideal) (m ((c : Thread nD τ).loc main_arg0)) (m ((c : Thread nD τ).loc main_arg1)) (m ((c : Thread nD τ).loc main_arg2)) j) := by
  pointwise [k1_pay12]
  exact congrArg sgm (gate1 m c t i j h0 h1)

theorem sgm_ref (x0 x1 x2) (j : Cert.Reference3Ideal.S2048x2816.Idx) :
    val_main_v16_2 (F := Ideal) x0 x1 x2 j = sgm (val_main_v15 (F := Ideal) x0 x1 x2 j) := by
  pointwise [val_main_v16_2, val_main_call0_v0, val_main_call0_v1, val_main_call0_v2, val_main_call0_v3, val_main_call0_v4,
    val_main_call0_cst, val_main_call0_cst_0]
  unfold sgm
  rw [zero_sub]

theorem silu1 (c : Dev nD) (t : Fin cfg1.N) (i : S512x704.Idx) (j : Cert.Reference3Ideal.S2048x2816.Idx)
    (h0 : (j 0 : ℕ) = t.val % 4 * 512 + i 0) (h1 : (j 1 : ℕ) = t.val / 4 * 704 + i 1) :
    k1_pay13 (F := Ideal) (blk1 (A1 m) c 5 t) i
      = val_main_v16_0 (F := Ideal) (m ((c : Thread nD τ).loc main_arg0)) (m ((c : Thread nD τ).loc main_arg1)) (m ((c : Thread nD τ).loc main_arg2)) j := by
  pointwise [k1_pay13, val_main_v16_0]
  exact congrArg₂ (· * ·) (gate1 m c t i j h0 h1) ((sgm1 m c t i j h0 h1).trans (sgm_ref _ _ _ j).symm)

theorem act1 (c : Dev nD) (t : Fin cfg1.N) (i : S512x704.Idx) (j : Cert.Reference3Ideal.S2048x2816.Idx)
    (h0 : (j 0 : ℕ) = t.val % 4 * 512 + i 0) (h1 : (j 1 : ℕ) = t.val / 4 * 704 + i 1) :
    k1_pay14 (F := Ideal) (blk1 (A1 m) c 5 t) (blk1 (A1 m) c 6 t) i
      = val_main_v18 (F := Ideal) (m ((c : Thread nD τ).loc main_arg0)) (m ((c : Thread nD τ).loc main_arg1)) (m ((c : Thread nD τ).loc main_arg2)) (m ((c : Thread nD τ).loc main_arg3)) j := by
  pointwise [k1_pay14, val_main_v18]
  exact congrArg₂ (· * ·) (silu1 m c t i j h0 h1) (up1 m c t i j h0 h1)

/-- The gradient at the gated hidden layer. -/
theorem da1 (c : Dev nD) (t : Fin cfg1.N) (i : S512x704.Idx) (j : Cert.Reference3Ideal.S2048x2816.Idx)
    (h0 : (j 0 : ℕ) = t.val % 4 * 512 + i 0) (h1 : (j 1 : ℕ) = t.val / 4 * 704 + i 1) :
    k1_pay15 (F := Ideal) (k1_pay9 (blk1 (A1 m) c 7 t)) (blk1 (A1 m) c 4 t) i
      = val_main_v28 (F := Ideal) (m ((c : Thread nD τ).loc main_arg4)) (m ((c : Thread nD τ).loc main_arg5)) j := by
  pointwise [k1_pay15, val_main_v28]
  exact Finset.sum_congr rfl fun k _ => congrArg₂ (· * ·) (half_dy m c t _ _ h0 rfl) (wd_blk m c t _ _ h1 rfl)

/-- The gradient at the up projection. -/
theorem du1 (c : Dev nD) (t : Fin cfg1.N) (i : S512x704.Idx) (j : Cert.Reference3Ideal.S2048x2816.Idx)
    (h0 : (j 0 : ℕ) = t.val % 4 * 512 + i 0) (h1 : (j 1 : ℕ) = t.val / 4 * 704 + i 1) :
    k1_pay16 (F := Ideal) (k1_pay9 (blk1 (A1 m) c 7 t)) (k1_pay13 (blk1 (A1 m) c 5 t)) (blk1 (A1 m) c 4 t) i
      = val_main_v29 (F := Ideal) (m ((c : Thread nD τ).loc main_arg0)) (m ((c : Thread nD τ).loc main_arg1)) (m ((c : Thread nD τ).loc main_arg2)) (m ((c : Thread nD τ).loc main_arg4)) (m ((c : Thread nD τ).loc main_arg5)) j := by
  pointwise [k1_pay16, val_main_v29]
  exact (congrArg₂ (· * ·) (da1 m c t i j h0 h1) (silu1 m c t i j h0 h1)).trans (EReal.mul_comm _ _)

end Cert.Kernel3Ideal.Ffn

end
-- ==== Proof.Ffn.Gate.lean ====
/-
The gate's gradient: the kernel's factored form is the derivative's sum form wherever the cotangent is finite, and finite
arguments make it so.
-/
module

public import proofs.«01_k».proof.Proof.Ffn.Rows
public import proofs.«01_k».proof.Proof.Norm

@[expose] public section

set_option maxRecDepth 16384

noncomputable section

namespace Cert.Kernel3Ideal.Ffn

open Idealize.ShloMosaic Idealize.ShloMosaic.TcCoe Idealize.SL.Sem
open Idealize.ShloMosaic.Pipeline (Dat)
open Cert.Kernel3Ideal Cert.Kernel3Ideal.Gen
open Cert.Reference3Ideal.Read

variable (m : (ℓ : Loc nD τ sig) → Buf (Elt Ideal) ℓ)

/-- A finite number. -/
def Finite (x : EReal) : Prop := ∃ r : ℝ, x = (r : EReal)

theorem Finite.mul {x y : EReal} (hx : Finite x) (hy : Finite y) : Finite (x * y) := by
  obtain ⟨a, rfl⟩ := hx
  obtain ⟨b, rfl⟩ := hy
  exact ⟨a * b, (EReal.coe_mul a b).symm⟩

theorem Finite.sum {ι : Type*} (A : Finset ι) (f : ι → EReal) (h : ∀ l, Finite (f l)) : Finite (∑ l ∈ A, f l) := by
  classical
  refine Finset.induction_on A ⟨0, by simp⟩ fun a A ha ih => ?_
  rw [Finset.sum_insert ha]
  obtain ⟨p, hp⟩ := h a
  obtain ⟨q, hq⟩ := ih
  exact ⟨p + q, by rw [hp, hq, EReal.coe_add]⟩

theorem half_finite : Finite (Ideal.ofBits FTy.f32 0x3F000000#32) := ⟨1 / 2, by simp [Ideal.ofBits, Ideal.ieee, -EReal.coe_mul]; norm_num⟩

theorem sgm_top : sgm ⊤ = 1 := by
  unfold sgm
  rw [zero_sub, EReal.neg_top, show Ideal.exp ⊥ = 0 from rfl]
  simp [Ideal.div]

theorem sgm_bot : sgm ⊥ = 0 := by
  unfold sgm
  rw [zero_sub, EReal.neg_bot, show Ideal.exp ⊤ = ⊤ from rfl, show (1 : EReal) + ⊤ = ⊤ from EReal.coe_add_top 1]
  simp [Ideal.div]

theorem sgm_coe (r : ℝ) : ∃ s : ℝ, sgm (r : EReal) = (s : EReal) := by
  have h : (0 : ℝ) < 1 + Real.exp (0 - r) := by positivity
  refine ⟨1 * (1 + Real.exp (0 - r))⁻¹, ?_⟩
  unfold sgm
  rw [show (0 - (r : EReal)) = ((0 - r : ℝ) : EReal) by rw [EReal.coe_sub]; rfl]
  rw [show Ideal.exp ((0 - r : ℝ) : EReal) = (Real.exp (0 - r) : EReal) from rfl, show (1 : EReal) = ((1 : ℝ) : EReal) from rfl, ← EReal.coe_add,
    Ideal.div, if_neg (by norm_cast; exact h.ne'), ← EReal.coe_inv, ← EReal.coe_mul]

/-- The derivative of `g * sgm g`, factored and as the two terms. -/
theorem gate_grad (t g : EReal) (ht : Finite t) : t * (sgm g * (1 + g * (1 - sgm g))) = t * sgm g + g * t * (sgm g * (1 - sgm g)) := by
  obtain ⟨t, rfl⟩ := ht
  have h1 : (1 : EReal) - 1 = 0 := by rw [show (1 : EReal) = ((1 : ℝ) : EReal) from rfl, ← EReal.coe_sub, sub_self]; rfl
  induction g with
  | top => rw [sgm_top, h1]; simp
  | bot => rw [sgm_bot]; simp
  | coe r =>
    obtain ⟨s, hs⟩ := sgm_coe r
    rw [hs, show (1 : EReal) = ((1 : ℝ) : EReal) from rfl]
    simp only [← EReal.coe_sub, ← EReal.coe_mul, ← EReal.coe_add]
    refine congrArg _ ?_
    ring

/-- A row times the reciprocal of its root mean square is finite. -/
theorem normed_finite (x : Fin 1024 → EReal) (k : Fin 1024) :
    Finite (x k * Ideal.rsqrt (Ideal.div (∑ l, x l * x l) (Ideal.ofBits FTy.f32 1149239296#32) + Ideal.ofBits FTy.f32 897988541#32)) := by
  obtain ⟨e, he, hE⟩ := Norm.ofBits_eps
  rw [Norm.div_1024, hE]
  by_cases hQ : (∑ l, x l * x l) = ⊤
  · rw [hQ, EReal.top_mul_coe_of_pos (by norm_num), EReal.top_add_coe, Ideal.rsqrt_top]
    exact ⟨0, by simp⟩
  · have h0 : (0 : EReal) ≤ ∑ l, x l * x l := Finset.sum_nonneg fun l _ => Norm.sq_nonneg (x l)
    have h1 : x k * x k ≤ ∑ l, x l * x l :=
      Finset.single_le_sum (f := fun l => x l * x l) (fun l _ => Norm.sq_nonneg (x l)) (Finset.mem_univ k)
    have h2 : x k ≠ ⊤ := fun h => by rw [h] at h1; exact hQ (top_le_iff.mp (by simpa using h1))
    have h3 : x k ≠ ⊥ := fun h => by rw [h] at h1; exact hQ (top_le_iff.mp (by simpa using h1))
    have hb : (∑ l, x l * x l) ≠ ⊥ := fun h => by rw [h] at h0; simp at h0
    have hw : 0 < (∑ l, x l * x l).toReal * 1024⁻¹ + e := by
      have := EReal.toReal_nonneg h0
      positivity
    rw [← EReal.coe_toReal hQ hb, ← EReal.coe_mul, ← EReal.coe_add, Ideal.rsqrt_coe, if_neg (not_lt.mpr hw.le), if_neg hw.ne']
    exact Finite.mul ⟨_, (EReal.coe_toReal h2 h3).symm⟩ ⟨_, rfl⟩

/-- The arguments that have to be finite: the norm's gain, the up and down weights, and the cotangent. -/
def FiniteArgs (c : Dev nD) : Prop :=
  (∀ i : S1x1024.Idx, Finite (m ((c : Thread nD τ).loc main_arg1) i)) ∧ (∀ i : S1024x2816.Idx, Finite (m ((c : Thread nD τ).loc main_arg3) i))
    ∧ (∀ i : S2816x1024.Idx, Finite (m ((c : Thread nD τ).loc main_arg4) i)) ∧ (∀ i : S2048x1024.Idx, Finite (m ((c : Thread nD τ).loc main_arg5) i))

theorem v14_finite (c : Dev nD) (h : FiniteArgs m c) (j : S2048x1024.Idx) :
    Finite (val_main_v14 (F := Ideal) (m ((c : Thread nD τ).loc main_arg0)) (m ((c : Thread nD τ).loc main_arg1)) j) := by
  pointwise [val_main_v14, val_main_v13, val_main_v12, val_main_v11, val_main_v7, val_main_v6, val_main_v5,
    val_main_v4, val_main_v3, val_main_v2, val_main_v1, val_main_v0, val_main_cst, val_main_cst_0, val_main_cst_1]
  refine Finite.mul ?_ (h.1 _)
  have e := normed_finite (fun l => m ((c : Thread nD τ).loc main_arg0) (ValueIdx.ix2 (j 0) l)) (j 1)
  have hj : (ValueIdx.ix2 (j 0) (j 1) : S2048x1024.Idx) = j := funext fun a => Fin.ext (match a with | ⟨0, _⟩ => rfl | ⟨1, _⟩ => rfl)
  rw [hj] at e
  exact e

theorem v17_finite (c : Dev nD) (h : FiniteArgs m c) (j : Cert.Reference3Ideal.S2048x2816.Idx) :
    Finite (val_main_v17 (F := Ideal) (m ((c : Thread nD τ).loc main_arg0)) (m ((c : Thread nD τ).loc main_arg1)) (m ((c : Thread nD τ).loc main_arg3)) j) := by
  pointwise [val_main_v17]
  exact Finite.sum _ _ fun k => (v14_finite m c h _).mul (h.2.1 _)

theorem v28_finite (c : Dev nD) (h : FiniteArgs m c) (j : Cert.Reference3Ideal.S2048x2816.Idx) :
    Finite (val_main_v28 (F := Ideal) (m ((c : Thread nD τ).loc main_arg4)) (m ((c : Thread nD τ).loc main_arg5)) j) := by
  pointwise [val_main_v28, val_main_v25, val_main_v24, val_main_v23, val_main_cst_4]
  exact Finite.sum _ _ fun k => (half_finite.mul (h.2.2.2 _)).mul (h.2.2.1 _)

/-- The gradient at the gate projection. -/
theorem dg1 (c : Dev nD) (h : FiniteArgs m c) (t : Fin cfg1.N) (i : S512x704.Idx) (j : Cert.Reference3Ideal.S2048x2816.Idx)
    (h0 : (j 0 : ℕ) = t.val % 4 * 512 + i 0) (h1 : (j 1 : ℕ) = t.val / 4 * 704 + i 1) :
    k1_pay17 (F := Ideal) (k1_pay9 (blk1 (A1 m) c 7 t)) (k1_pay10 (blk1 (A1 m) c 5 t)) (k1_pay11 (blk1 (A1 m) c 6 t)) (k1_pay12 (blk1 (A1 m) c 5 t)) (blk1 (A1 m) c 4 t) i
      = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  have ht := (v28_finite m c h j).mul (v17_finite m c h j)
  have e := gate_grad _ (val_main_v15 (F := Ideal) (m ((c : Thread nD τ).loc main_arg0)) (m ((c : Thread nD τ).loc main_arg1)) (m ((c : Thread nD τ).loc main_arg2)) j) ht
  refine Eq.trans ?_ (e.trans ?_)
  · have hs := sgm1 m c t i j h0 h1
    have hg := gate1 m c t i j h0 h1
    pointwise [k1_pay17]
    refine congrArg₂ (· * ·) (congrArg₂ (· * ·) (da1 m c t i j h0 h1) (up1 m c t i j h0 h1)) (congrArg₂ (· * ·) hs (congrArg (1 + ·) (congrArg₂ (· * ·) hg (congrArg (1 - ·) hs))))
  · rw [← sgm_ref]
    pointwise [val_main_v34, val_main_call1_v2, val_main_call1_v1, val_main_call1_v0, val_main_v30, val_main_v16_1, val_main_call0_v7, val_main_call0_v6, val_main_call0_cst_1]

end Cert.Kernel3Ideal.Ffn

end
-- ==== Proof.Ffn.Sums.lean ====
/-
The gated block's backward call: the sums it keeps between the points, read entry by entry.
-/
module

public import proofs.«01_k».proof.Proof.Ffn.Gate

@[expose] public section

set_option maxRecDepth 16384

noncomputable section

namespace Cert.Kernel3Ideal.Ffn

open Idealize.ShloMosaic Idealize.ShloMosaic.TcCoe Idealize.SL.Sem
open Idealize.ShloMosaic.Pipeline (Dat)
open Cert.Kernel3Ideal Cert.Kernel3Ideal.Gen
open Cert.Reference3Ideal.Read

variable (V : Dev nD → Valuation τ sig (Elt Ideal))

/-- A sum started by the first tile of a chunk and carried to its last. -/
theorem sum_tiles {S : Type} (f : Fin cfg1.N → (S → EReal) → S → EReal) (z : S → EReal) (A : Fin cfg1.N → S → EReal) (q : ℕ) (hq : q < 4) (i : S)
    (h : ∀ (t : Fin cfg1.N) (G : S → EReal), t.val / 4 = q → f t G i = if t.val % 4 = 0 then A t i else G i + A t i)
    (t0 t1 t2 t3 : Fin cfg1.N) (e0 : t0.val = 4 * q) (e1 : t1.val = 4 * q + 1) (e2 : t2.val = 4 * q + 2) (e3 : t3.val = 4 * q + 3) :
    sumAt f z (t3.val + 1) i = ((A t0 i + A t1 i) + A t2 i) + A t3 i := by
  rw [sumAt_succ, h t3 _ (by omega), if_neg (by omega), show t3.val = t2.val + 1 by omega, sumAt_succ, h t2 _ (by omega), if_neg (by omega),
    show t2.val = t1.val + 1 by omega, sumAt_succ, h t1 _ (by omega), if_neg (by omega), show t1.val = t0.val + 1 by omega, sumAt_succ,
    h t0 _ (by omega), if_pos (by omega)]

/-- The rows of a point's tile. -/
theorem rows_read (t : Fin cfg1.N) (S : Vec Ideal S2048x1024 .f32) (i : S512x1024.Idx) (y : S2048x1024.Idx)
    (h0 : (y 0 : ℕ) = t.val % 4 * 512 + i 0) (h1 : (y 1 : ℕ) = i 1) : rowsOf (grid1.coords t) S i = S y := by
  unfold rowsOf VecWindow.window
  refine congrArg S (funext fun a => Fin.ext ?_)
  rw [show ((Rect.unit (s := S2048x1024) (tileOff (grid1.coords t)) S512x1024.size (tileOff_inb _)).emb i a).val = tileOff (grid1.coords t) a + (i a).val from Rect.idx_unit_val _ _ _ _ _]
  have e := coord1 t
  match a with
  | ⟨0, _⟩ => show 512 * ((grid1.coords t) 1).val + (i 0).val = (y 0).val; rw [e]; omega
  | ⟨1, _⟩ => show 0 + (i 1).val = (y 1).val; omega

/-- A point adds its part to the rows of its own tile, -/
theorem dhAt_own (c : Dev nD) (t : Fin cfg1.N) (i : S512x1024.Idx) (y : S2048x1024.Idx)
    (h0 : (y 0 : ℕ) = t.val % 4 * 512 + i 0) (h1 : (y 1 : ℕ) = i 1) :
    dhAt V c (t.val + 1) y = if t.val / 4 = 0 then term1 V c t i else dhAt V c t.val y + term1 V c t i := by
  have e : dhAt V c (t.val + 1) y = rowsOf (grid1.coords t) (dhAt V c (t.val + 1)) i := (rows_read t _ i y h0 h1).symm
  rw [e, dhAt_succ]
  unfold dhNext
  rw [rowsOf_put, coord0]
  by_cases h : t.val / 4 = 0
  · rw [if_pos h, if_pos h]
    pointwise [k1_pay1]
  · rw [if_neg h, if_neg h]
    pointwise [k1_pay2]
    exact congrArg (· + _) (rows_read t _ i y h0 h1)

/-- and leaves the others. -/
theorem dhAt_other (c : Dev nD) (t : Fin cfg1.N) (y : S2048x1024.Idx) (h : (y 0 : ℕ) / 512 ≠ t.val % 4) : dhAt V c (t.val + 1) y = dhAt V c t.val y := by
  rw [dhAt_succ]
  unfold dhNext VecWindow.put
  rw [dif_neg]
  intro hy
  have h2 : 512 * ((grid1.coords t) 1).val ≤ (y 0).val ∧ (y 0).val < 512 * ((grid1.coords t) 1).val + 512 := hy 0
  rw [coord1] at h2
  omega

/-- The rows of a tile from one chunk to the next. -/
theorem dhAt_chunk (c : Dev nD) (t t' : Fin cfg1.N) (i : S512x1024.Idx) (y : S2048x1024.Idx) (e : t'.val = t.val + 4)
    (h0 : (y 0 : ℕ) = t.val % 4 * 512 + i 0) (h1 : (y 1 : ℕ) = i 1) : dhAt V c (t'.val + 1) y = dhAt V c (t.val + 1) y + term1 V c t' i := by
  have hi : (i 0).val < 512 := (i 0).isLt
  have ht := lt16 t'
  rw [dhAt_own V c t' i y (by omega) h1, if_neg (by omega)]
  refine congrArg (· + _) ?_
  have e1 := dhAt_other V c ⟨t.val + 1, lt_of_lt_of_eq (by omega) N_1.symm⟩ y (by show _ ≠ (t.val + 1) % 4; omega)
  have e2 := dhAt_other V c ⟨t.val + 2, lt_of_lt_of_eq (by omega) N_1.symm⟩ y (by show _ ≠ (t.val + 2) % 4; omega)
  have e3 := dhAt_other V c ⟨t.val + 3, lt_of_lt_of_eq (by omega) N_1.symm⟩ y (by show _ ≠ (t.val + 3) % 4; omega)
  rw [e]
  exact e3.trans (e2.trans e1)

/-- After the last chunk a tile's rows hold the four chunks' parts. -/
theorem dhAt_last (c : Dev nD) (t0 t1 t2 t3 : Fin cfg1.N) (p : ℕ) (hp : p < 4) (e0 : t0.val = p) (e1 : t1.val = p + 4) (e2 : t2.val = p + 8) (e3 : t3.val = p + 12)
    (i : S512x1024.Idx) (y : S2048x1024.Idx) (h0 : (y 0 : ℕ) = p * 512 + i 0) (h1 : (y 1 : ℕ) = i 1) :
    dhAt V c (t3.val + 1) y = ((term1 V c t0 i + term1 V c t1 i) + term1 V c t2 i) + term1 V c t3 i := by
  rw [dhAt_chunk V c t2 t3 i y (by omega) (by omega) h1, dhAt_chunk V c t1 t2 i y (by omega) (by omega) h1,
    dhAt_chunk V c t0 t1 i y (by omega) (by omega) h1, dhAt_own V c t0 i y (by omega) h1, if_pos (by omega)]

end Cert.Kernel3Ideal.Ffn

end
-- ==== Proof.Ffn.Weights.lean ====
/-
The gated block's backward call: its five result arrays, as the reference's arrays.
-/
module

public import proofs.«01_k».proof.Proof.Ffn.Sums

@[expose] public section

set_option maxRecDepth 16384

noncomputable section

namespace Cert.Kernel3Ideal.Ffn

open Idealize.ShloMosaic Idealize.ShloMosaic.TcCoe Idealize.SL.Sem
open Idealize.ShloMosaic.Pipeline (Dat)
open Cert.Kernel3Ideal Cert.Kernel3Ideal.Gen
open Cert.Reference3Ideal.Read

variable (m : (ℓ : Loc nD τ sig) → Buf (Elt Ideal) ℓ)

/-- The point of chunk `q` and tile `p`. -/
def pt (q p : ℕ) (hq : q < 4) (hp : p < 4) : Fin cfg1.N := ⟨4 * q + p, lt_of_lt_of_eq (by omega) N_1.symm⟩

/-- A point's part of the gate weight's gradient. -/
def agPart (c : Dev nD) (t : Fin cfg1.N) : S704x1024.Idx → EReal :=
  k1_pay19 (F := Ideal) (k1_pay8 (blk1 (A1 m) c 0 t) (blk1 (A1 m) c 1 t)) (k1_pay9 (blk1 (A1 m) c 7 t)) (k1_pay10 (blk1 (A1 m) c 5 t)) (k1_pay11 (blk1 (A1 m) c 6 t)) (k1_pay12 (blk1 (A1 m) c 5 t)) (blk1 (A1 m) c 4 t)

theorem ag_part (c : Dev nD) (h : FiniteArgs m c) (t : Fin cfg1.N) (i : S704x1024.Idx) (J : Fin 512 → Cert.Reference3Ideal.S2048x2816.Idx) (L : Fin 512 → S2048x1024.Idx)
    (hJ0 : ∀ r, (J r 0 : ℕ) = t.val % 4 * 512 + r) (hJ1 : ∀ r, (J r 1 : ℕ) = t.val / 4 * 704 + i 0)
    (hL0 : ∀ r, (L r 0 : ℕ) = t.val % 4 * 512 + r) (hL1 : ∀ r, (L r 1 : ℕ) = i 1) :
    agPart m c t i = ∑ r : Fin 512, val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (J r) * val_main_v14 (F := Ideal) (m ((c : Thread nD τ).loc main_arg0)) (m ((c : Thread nD τ).loc main_arg1)) (L r) := by
  unfold agPart
  pointwise [k1_pay19]
  exact Finset.sum_congr rfl fun r _ => congrArg₂ (· * ·) (dg1 m c h t _ _ (hJ0 r) (hJ1 r)) (normed1 m c t _ _ (hL0 r) (hL1 r))

theorem ag_sum (c : Dev nD) (q : ℕ) (hq : q < 4) (i : S704x1024.Idx) : agAt (A1 m) c (4 * q + 4) i
    = ((agPart m c (pt q 0 hq (by omega)) i + agPart m c (pt q 1 hq (by omega)) i) + agPart m c (pt q 2 hq (by omega)) i) + agPart m c (pt q 3 hq (by omega)) i := by
  refine sum_tiles _ _ (agPart m c) q hq i (fun t G _ => ?_) (pt q 0 hq (by omega)) (pt q 1 hq (by omega)) (pt q 2 hq (by omega)) (pt q 3 hq (by omega)) rfl rfl rfl rfl
  unfold agNext
  rw [coord1]
  by_cases h0 : t.val % 4 = 0
  · rw [if_pos h0, if_pos h0]
    pointwise [k1_pay23, agPart]
  · rw [if_neg h0, if_neg h0]
    pointwise [k1_pay26, agPart]

/-- A point's part of the up weight's gradient. -/
def auPart (c : Dev nD) (t : Fin cfg1.N) : S704x1024.Idx → EReal :=
  k1_pay20 (F := Ideal) (k1_pay8 (blk1 (A1 m) c 0 t) (blk1 (A1 m) c 1 t)) (k1_pay9 (blk1 (A1 m) c 7 t)) (k1_pay13 (blk1 (A1 m) c 5 t)) (blk1 (A1 m) c 4 t)

theorem au_part (c : Dev nD) (t : Fin cfg1.N) (i : S704x1024.Idx) (J : Fin 512 → Cert.Reference3Ideal.S2048x2816.Idx) (L : Fin 512 → S2048x1024.Idx)
    (hJ0 : ∀ r, (J r 0 : ℕ) = t.val % 4 * 512 + r) (hJ1 : ∀ r, (J r 1 : ℕ) = t.val / 4 * 704 + i 0)
    (hL0 : ∀ r, (L r 0 : ℕ) = t.val % 4 * 512 + r) (hL1 : ∀ r, (L r 1 : ℕ) = i 1) :
    auPart m c t i = ∑ r : Fin 512, val_main_v29 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (J r) * val_main_v14 (F := Ideal) (m ((c : Thread nD τ).loc main_arg0)) (m ((c : Thread nD τ).loc main_arg1)) (L r) := by
  unfold auPart
  pointwise [k1_pay20]
  exact Finset.sum_congr rfl fun r _ => congrArg₂ (· * ·) (du1 m c t _ _ (hJ0 r) (hJ1 r)) (normed1 m c t _ _ (hL0 r) (hL1 r))

theorem au_sum (c : Dev nD) (q : ℕ) (hq : q < 4) (i : S704x1024.Idx) : auAt (A1 m) c (4 * q + 4) i
    = ((auPart m c (pt q 0 hq (by omega)) i + auPart m c (pt q 1 hq (by omega)) i) + auPart m c (pt q 2 hq (by omega)) i) + auPart m c (pt q 3 hq (by omega)) i := by
  refine sum_tiles _ _ (auPart m c) q hq i (fun t G _ => ?_) (pt q 0 hq (by omega)) (pt q 1 hq (by omega)) (pt q 2 hq (by omega)) (pt q 3 hq (by omega)) rfl rfl rfl rfl
  unfold auNext
  rw [coord1]
  by_cases h0 : t.val % 4 = 0
  · rw [if_pos h0, if_pos h0]
    pointwise [k1_pay24, auPart]
  · rw [if_neg h0, if_neg h0]
    pointwise [k1_pay27, auPart]

/-- A point's part of the down weight's gradient. -/
def adPart (c : Dev nD) (t : Fin cfg1.N) : S704x1024.Idx → EReal :=
  k1_pay18 (F := Ideal) (k1_pay9 (blk1 (A1 m) c 7 t)) (k1_pay14 (blk1 (A1 m) c 5 t) (blk1 (A1 m) c 6 t))

theorem ad_part (c : Dev nD) (t : Fin cfg1.N) (i : S704x1024.Idx) (J : Fin 512 → Cert.Reference3Ideal.S2048x2816.Idx) (L : Fin 512 → S2048x1024.Idx)
    (hJ0 : ∀ r, (J r 0 : ℕ) = t.val % 4 * 512 + r) (hJ1 : ∀ r, (J r 1 : ℕ) = t.val / 4 * 704 + i 0)
    (hL0 : ∀ r, (L r 0 : ℕ) = t.val % 4 * 512 + r) (hL1 : ∀ r, (L r 1 : ℕ) = i 1) :
    adPart m c t i = ∑ r : Fin 512, val_main_v18 (F := Ideal) (m ((c : Thread nD τ).loc main_arg0)) (m ((c : Thread nD τ).loc main_arg1)) (m ((c : Thread nD τ).loc main_arg2)) (m ((c : Thread nD τ).loc main_arg3)) (J r) * val_main_v25 (F := Ideal) (m ((c : Thread nD τ).loc main_arg5)) (L r) := by
  unfold adPart
  pointwise [k1_pay18]
  exact Finset.sum_congr rfl fun r _ => congrArg₂ (· * ·) (act1 m c t _ _ (hJ0 r) (hJ1 r)) (half_dy m c t _ _ (hL0 r) (hL1 r))

theorem ad_sum (c : Dev nD) (q : ℕ) (hq : q < 4) (i : S704x1024.Idx) : adAt (A1 m) c (4 * q + 4) i
    = ((adPart m c (pt q 0 hq (by omega)) i + adPart m c (pt q 1 hq (by omega)) i) + adPart m c (pt q 2 hq (by omega)) i) + adPart m c (pt q 3 hq (by omega)) i := by
  refine sum_tiles _ _ (adPart m c) q hq i (fun t G _ => ?_) (pt q 0 hq (by omega)) (pt q 1 hq (by omega)) (pt q 2 hq (by omega)) (pt q 3 hq (by omega)) rfl rfl rfl rfl
  unfold adNext
  rw [coord1]
  by_cases h0 : t.val % 4 = 0
  · rw [if_pos h0, if_pos h0]
    pointwise [k1_pay22, adPart]
  · rw [if_neg h0, if_neg h0]
    pointwise [k1_pay25, adPart]

theorem ag_tile (c : Dev nD) (h : FiniteArgs m c) (q p : ℕ) (hq : q < 4) (hp : p < 4) (i : S704x1024.Idx) (n : Fin 2816) (l : Fin 1024)
    (hn : (n : ℕ) = q * 704 + i 0) (hl : (l : ℕ) = i 1) : agPart m c (pt q p hq hp) i
      = ∑ r : Fin 512, val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ValueIdx.ix2 ⟨p * 512 + r.val, by omega⟩ n)
          * val_main_v14 (F := Ideal) (m ((c : Thread nD τ).loc main_arg0)) (m ((c : Thread nD τ).loc main_arg1)) (ValueIdx.ix2 ⟨p * 512 + r.val, by omega⟩ l) := by
  refine ag_part m c h (pt q p hq hp) i _ _ ?_ ?_ ?_ ?_ <;> intro r
  · show p * 512 + r.val = (4 * q + p) % 4 * 512 + r.val; omega
  · show n.val = (4 * q + p) / 4 * 704 + i 0; omega
  · show p * 512 + r.val = (4 * q + p) % 4 * 512 + r.val; omega
  · exact hl

theorem dwg_row (c : Dev nD) (h : FiniteArgs m c) (t : Fin cfg1.N) (ht : t.val % 4 = 3) (i : S1x704x1024.Idx) (j : S4x704x1024.Idx)
    (h0 : (j 0 : ℕ) = t.val / 4) (h1 : (j 1 : ℕ) = i 1) (h2 : (j 2 : ℕ) = i 2) :
    dwgNext (grid1.coords t) (agAt (A1 m) c (t.val + 1)) (some_ S1x704x1024 .bf16) i = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  have ht16 := lt16 t
  unfold dwgNext
  rw [if_pos ((coord1 t).trans ht), show t.val + 1 = 4 * (t.val / 4) + 4 by omega]
  pointwise [k1_pay29, val_main_v62, val_main_v61, val_main_v59, val_main_v36, val_main_v35]
  rw [ag_sum m c (t.val / 4) (by omega), Fin.sum_univ_tiles 4 512 rfl]
  simp only [Fin.sum_univ_four]
  have e := ag_tile m c h (t.val / 4)
  exact congrArg₂ (· + ·) (congrArg₂ (· + ·) (congrArg₂ (· + ·) (e 0 (by omega) (by omega) _ _ _ (congrArg₂ (fun a b => a * 704 + b) h0 h1) h2)
    (e 1 (by omega) (by omega) _ _ _ (congrArg₂ (fun a b => a * 704 + b) h0 h1) h2)) (e 2 (by omega) (by omega) _ _ _ (congrArg₂ (fun a b => a * 704 + b) h0 h1) h2))
    (e 3 (by omega) (by omega) _ _ _ (congrArg₂ (fun a b => a * 704 + b) h0 h1) h2)

theorem final10 (c : Dev nD) (h : FiniteArgs m c) : (dat1 (A1 m) c).arrAt 10 cfg1.N
    = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dat1 (A1 m) c).arrAt_eq_of_covers 10 _ (by decide +kernel) fun t hf y => ?_
  blk_simp
  rw [after1_10]
  refine dwg_row m c h t ((flush1_10 t).mp hf) _ _ ?_ ?_ ?_
  all_goals (blk_simp [idx1 t] <;> try omega)

theorem au_tile (c : Dev nD) (q p : ℕ) (hq : q < 4) (hp : p < 4) (i : S704x1024.Idx) (n : Fin 2816) (l : Fin 1024)
    (hn : (n : ℕ) = q * 704 + i 0) (hl : (l : ℕ) = i 1) : auPart m c (pt q p hq hp) i
      = ∑ r : Fin 512, val_main_v29 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (ValueIdx.ix2 ⟨p * 512 + r.val, by omega⟩ n)
          * val_main_v14 (F := Ideal) (m ((c : Thread nD τ).loc main_arg0)) (m ((c : Thread nD τ).loc main_arg1)) (ValueIdx.ix2 ⟨p * 512 + r.val, by omega⟩ l) := by
  refine au_part m c (pt q p hq hp) i _ _ ?_ ?_ ?_ ?_ <;> intro r
  · show p * 512 + r.val = (4 * q + p) % 4 * 512 + r.val; omega
  · show n.val = (4 * q + p) / 4 * 704 + i 0; omega
  · show p * 512 + r.val = (4 * q + p) % 4 * 512 + r.val; omega
  · exact hl

theorem dwu_row (c : Dev nD) (t : Fin cfg1.N) (ht : t.val % 4 = 3) (i : S1x704x1024.Idx) (j : S4x704x1024.Idx)
    (h0 : (j 0 : ℕ) = t.val / 4) (h1 : (j 1 : ℕ) = i 1) (h2 : (j 2 : ℕ) = i 2) :
    dwuNext (grid1.coords t) (auAt (A1 m) c (t.val + 1)) (some_ S1x704x1024 .bf16) i = val_main_v64 (F := Ideal) (m ((c : Thread nD τ).loc main_arg0)) (m ((c : Thread nD τ).loc main_arg1)) (m ((c : Thread nD τ).loc main_arg2)) (m ((c : Thread nD τ).loc main_arg4)) (m ((c : Thread nD τ).loc main_arg5)) j := by
  have ht16 := lt16 t
  unfold dwuNext
  rw [if_pos ((coord1 t).trans ht), show t.val + 1 = 4 * (t.val / 4) + 4 by omega]
  pointwise [k1_pay30, val_main_v64, val_main_v63, val_main_v60, val_main_v32, val_main_v31]
  rw [au_sum m c (t.val / 4) (by omega), Fin.sum_univ_tiles 4 512 rfl]
  simp only [Fin.sum_univ_four]
  have e := au_tile m c (t.val / 4)
  exact congrArg₂ (· + ·) (congrArg₂ (· + ·) (congrArg₂ (· + ·) (e 0 (by omega) (by omega) _ _ _ (congrArg₂ (fun a b => a * 704 + b) h0 h1) h2)
    (e 1 (by omega) (by omega) _ _ _ (congrArg₂ (fun a b => a * 704 + b) h0 h1) h2)) (e 2 (by omega) (by omega) _ _ _ (congrArg₂ (fun a b => a * 704 + b) h0 h1) h2))
    (e 3 (by omega) (by omega) _ _ _ (congrArg₂ (fun a b => a * 704 + b) h0 h1) h2)

theorem final11 (c : Dev nD) : (dat1 (A1 m) c).arrAt 11 cfg1.N
    = val_main_v64 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (dat1 (A1 m) c).arrAt_eq_of_covers 11 _ (by decide +kernel) fun t hf y => ?_
  blk_simp
  rw [after1_11]
  refine dwu_row m c t ((flush1_11 t).mp hf) _ _ ?_ ?_ ?_
  all_goals (blk_simp [idx1 t] <;> try omega)

theorem ad_tile (c : Dev nD) (q p : ℕ) (hq : q < 4) (hp : p < 4) (i : S704x1024.Idx) (n : Fin 2816) (l : Fin 1024)
    (hn : (n : ℕ) = q * 704 + i 0) (hl : (l : ℕ) = i 1) : adPart m c (pt q p hq hp) i
      = ∑ r : Fin 512, val_main_v18 (F := Ideal) (m ((c : Thread nD τ).loc main_arg0)) (m ((c : Thread nD τ).loc main_arg1)) (m ((c : Thread nD τ).loc main_arg2)) (m ((c : Thread nD τ).loc main_arg3)) (ValueIdx.ix2 ⟨p * 512 + r.val, by omega⟩ n)
          * val_main_v25 (F := Ideal) (m ((c : Thread nD τ).loc main_arg5)) (ValueIdx.ix2 ⟨p * 512 + r.val, by omega⟩ l) := by
  refine ad_part m c (pt q p hq hp) i _ _ ?_ ?_ ?_ ?_ <;> intro r
  · show p * 512 + r.val = (4 * q + p) % 4 * 512 + r.val; omega
  · show n.val = (4 * q + p) / 4 * 704 + i 0; omega
  · show p * 512 + r.val = (4 * q + p) % 4 * 512 + r.val; omega
  · exact hl

theorem dwd_row (c : Dev nD) (t : Fin cfg1.N) (ht : t.val % 4 = 3) (i : S1x704x1024.Idx) (j : S4x704x1024.Idx)
    (h0 : (j 0 : ℕ) = t.val / 4) (h1 : (j 1 : ℕ) = i 1) (h2 : (j 2 : ℕ) = i 2) :
    dwdNext (grid1.coords t) (adAt (A1 m) c (t.val + 1)) (some_ S1x704x1024 .bf16) i = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg5)) j := by
  have ht16 := lt16 t
  unfold dwdNext
  rw [if_pos ((coord1 t).trans ht), show t.val + 1 = 4 * (t.val / 4) + 4 by omega]
  pointwise [k1_pay28, val_main_v66, val_main_v65, val_main_v27, val_main_v26]
  rw [ad_sum m c (t.val / 4) (by omega), Fin.sum_univ_tiles 4 512 rfl]
  simp only [Fin.sum_univ_four]
  simp only [EReal.mul_comm (val_main_v25 (F := Ideal) (m ((c : Thread nD τ).loc main_arg5)) _)]
  have e := ad_tile m c (t.val / 4)
  exact congrArg₂ (· + ·) (congrArg₂ (· + ·) (congrArg₂ (· + ·) (e 0 (by omega) (by omega) _ _ _ (congrArg₂ (fun a b => a * 704 + b) h0 h1) h2)
    (e 1 (by omega) (by omega) _ _ _ (congrArg₂ (fun a b => a * 704 + b) h0 h1) h2)) (e 2 (by omega) (by omega) _ _ _ (congrArg₂ (fun a b => a * 704 + b) h0 h1) h2))
    (e 3 (by omega) (by omega) _ _ _ (congrArg₂ (fun a b => a * 704 + b) h0 h1) h2)

theorem final12 (c : Dev nD) : (dat1 (A1 m) c).arrAt 12 cfg1.N
    = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dat1 (A1 m) c).arrAt_eq_of_covers 12 _ (by decide +kernel) fun t hf y => ?_
  blk_simp
  rw [after1_12]
  refine dwd_row m c t ((flush1_12 t).mp hf) _ _ ?_ ?_ ?_
  all_goals (blk_simp [idx1 t] <;> try omega)

end Cert.Kernel3Ideal.Ffn

end
-- ==== Proof.Ffn.Bwd.lean ====
/-
The gated block's backward call: the gradients at the input and at the norm's gain, as the reference's arrays.
-/
module

public import proofs.«01_k».proof.Proof.Ffn.Weights

@[expose] public section

set_option maxRecDepth 16384

noncomputable section

namespace Cert.Kernel3Ideal.Ffn

open Idealize.ShloMosaic Idealize.ShloMosaic.TcCoe Idealize.SL.Sem
open Idealize.ShloMosaic.Pipeline (Dat)
open Cert.Kernel3Ideal Cert.Kernel3Ideal.Gen
open Cert.Reference3Ideal.Read

variable (m : (ℓ : Loc nD τ sig) → Buf (Elt Ideal) ℓ)

/-- A chunk's part of the gradient at the norm's output. -/
def dhPart (c : Dev nD) (q : ℕ) (hq : q < 4) (k : Fin 2048) (l : Fin 1024) : EReal :=
  (∑ r : Fin 704, val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ValueIdx.ix2 k ⟨q * 704 + r.val, by omega⟩) * (m ((c : Thread nD τ).loc main_arg2)) (ValueIdx.ix2 l ⟨q * 704 + r.val, by omega⟩))
    + ∑ r : Fin 704, val_main_v29 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (ValueIdx.ix2 k ⟨q * 704 + r.val, by omega⟩) * (m ((c : Thread nD τ).loc main_arg3)) (ValueIdx.ix2 l ⟨q * 704 + r.val, by omega⟩)

theorem term_row (c : Dev nD) (h : FiniteArgs m c) (q p : ℕ) (hq : q < 4) (hp : p < 4) (i : S512x1024.Idx) (j : S2048x1024.Idx)
    (h0 : (j 0 : ℕ) = p * 512 + i 0) (h1 : (j 1 : ℕ) = i 1) : term1 (A1 m) c (pt q p hq hp) i = dhPart m c q hq (j 0) (j 1) := by
  have e0 : (pt q p hq hp).val % 4 = p := by show (4 * q + p) % 4 = p; omega
  have e1 : (pt q p hq hp).val / 4 = q := by show (4 * q + p) / 4 = q; omega
  have k0 : (j 0 : ℕ) = (pt q p hq hp).val % 4 * 512 + i 0 := by rw [e0]; exact h0
  have k1 : ∀ r : ℕ, q * 704 + r = (pt q p hq hp).val / 4 * 704 + r := fun r => by rw [e1]
  unfold term1 dhTerm dhPart
  pointwise [k1_pay21]
  exact congrArg₂ (· + ·)
    (Finset.sum_congr rfl fun r _ => congrArg₂ (· * ·) (dg1 m c h _ _ _ k0 (k1 r.val)) (wg_blk m c _ _ _ h1 (k1 r.val)))
    (Finset.sum_congr rfl fun r _ => congrArg₂ (· * ·) (du1 m c _ _ _ k0 (k1 r.val)) (wu_blk m c _ _ _ h1 (k1 r.val)))

theorem regroup (a b c d e f g h : EReal) : (((a + b) + c) + d) + (((e + f) + g) + h) = (((e + a) + (f + b)) + (g + c)) + (h + d) := by
  ac_rfl

/-- The four chunks' parts make the gradient. -/
theorem dh_ref (c : Dev nD) (j : S2048x1024.Idx) : val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j
    = ((dhPart m c 0 (by omega) (j 0) (j 1) + dhPart m c 1 (by omega) (j 0) (j 1)) + dhPart m c 2 (by omega) (j 0) (j 1)) + dhPart m c 3 (by omega) (j 0) (j 1) := by
  pointwise [val_main_v38, val_main_v37, val_main_v33]
  rw [Fin.sum_univ_tiles 4 704 rfl, Fin.sum_univ_tiles 4 704 rfl]
  simp only [Fin.sum_univ_four]
  unfold dhPart
  exact regroup _ _ _ _ _ _ _ _

theorem dh_row (c : Dev nD) (h : FiniteArgs m c) (t : Fin cfg1.N) (ht : t.val / 4 = 3) (i : S512x1024.Idx) (j : S2048x1024.Idx)
    (h0 : (j 0 : ℕ) = t.val % 4 * 512 + i 0) (h1 : (j 1 : ℕ) = i 1) :
    rowsOf (grid1.coords t) (dhAt (A1 m) c (t.val + 1)) i = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  obtain ⟨p, hp, rfl⟩ : ∃ (p : ℕ) (hp : p < 4), t = pt 3 p (by decide) hp :=
    ⟨t.val % 4, Nat.mod_lt _ (by omega), Fin.ext (by have := lt16 t; show t.val = 4 * 3 + t.val % 4; omega)⟩
  have h0' : (j 0 : ℕ) = p * 512 + i 0 := h0.trans (by show (4 * 3 + p) % 4 * 512 + _ = _; rw [show (4 * 3 + p) % 4 = p by omega])
  rw [rows_read _ _ i j h0 h1, dhAt_last (A1 m) c (pt 0 p (by omega) hp) (pt 1 p (by omega) hp) (pt 2 p (by omega) hp) (pt 3 p (by omega) hp) p hp
    (by show 4 * 0 + p = _; omega) (by show 4 * 1 + p = _; omega) (by show 4 * 2 + p = _; omega) (by show 4 * 3 + p = _; omega) i j h0' h1, dh_ref]
  have e := fun q hq => term_row m c h q p hq hp i j h0' h1
  exact congrArg₂ (· + ·) (congrArg₂ (· + ·) (congrArg₂ (· + ·) (e 0 (by omega)) (e 1 (by omega))) (e 2 (by omega))) (e 3 (by omega))

/-! ## The input's gradient -/

/-- A row of the input, and the row's cotangent times the gain. -/
def xRow (c : Dev nD) (k : Fin 2048) (l : Fin 1024) : EReal := (m ((c : Thread nD τ).loc main_arg0)) (ValueIdx.ix2 k l)
def dRow (c : Dev nD) (k : Fin 2048) (l : Fin 1024) : EReal := val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ValueIdx.ix2 k l) * (m ((c : Thread nD τ).loc main_arg1)) (ValueIdx.ix2 0 l)

theorem rs_eq (c : Dev nD) (t : Fin cfg1.N) (k : Fin 512) (j : S2048x1024.Idx) (h0 : (j 0 : ℕ) = t.val % 4 * 512 + k) :
    k1_pay3 (F := Ideal) (blk1 (A1 m) c 0 t) (ValueIdx.ix2 k 0) = val_main_v7 (F := Ideal) (m ((c : Thread nD τ).loc main_arg0)) (ValueIdx.ix2 (j 0) 0) := by
  pointwise [k1_pay3, val_main_v7, val_main_v6, val_main_v5, val_main_v4, val_main_v3, val_main_v2, val_main_v1, val_main_v0, val_main_cst, val_main_cst_0, val_main_cst_1]
  refine congrArg Ideal.rsqrt (congrArg (· + _) (congrArg (Ideal.div · _) (Finset.sum_congr rfl fun l _ => ?_)))
  exact congrArg₂ (· * ·) (x_blk m c t _ _ h0 rfl) (x_blk m c t _ _ h0 rfl)

theorem dx_row (c : Dev nD) (h : FiniteArgs m c) (t : Fin cfg1.N) (ht : t.val / 4 = 3) (i : S512x1024.Idx) (j : S2048x1024.Idx)
    (h0 : (j 0 : ℕ) = t.val % 4 * 512 + i 0) (h1 : (j 1 : ℕ) = i 1) :
    dxNext (grid1.coords t) (blk1 (A1 m) c 0 t) (blk1 (A1 m) c 1 t) (blk1 (A1 m) c 7 t) (dhAt (A1 m) c (t.val + 1)) (some_ S512x1024 .f32) i
      = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  have hv : val_main_v6 (F := Ideal) (m ((c : Thread nD τ).loc main_arg0)) (ValueIdx.ix2 (j 0) 0)
      = Ideal.div (∑ l : Fin 1024, xRow m c (j 0) l * xRow m c (j 0) l) (Ideal.ofBits FTy.f32 1149239296#32) + Ideal.ofBits FTy.f32 897988541#32 := by
    pointwise [val_main_v6, val_main_v5, val_main_v4, val_main_v3, val_main_v2, val_main_v1, val_main_v0, val_main_cst, val_main_cst_0, val_main_cst_1]
    rfl
  have hr : val_main_v7 (F := Ideal) (m ((c : Thread nD τ).loc main_arg0)) (ValueIdx.ix2 (j 0) 0) = Ideal.rsqrt (val_main_v6 (F := Ideal) (m ((c : Thread nD τ).loc main_arg0)) (ValueIdx.ix2 (j 0) 0)) := by
    pointwise [val_main_v7]
  have hg := Norm.grad (xRow m c (j 0)) (dRow m c (j 0)) (j 1) ((m ((c : Thread nD τ).loc main_arg5)) j) _ _ hv hr
  unfold xRow dRow at hg
  unfold dxNext
  rw [if_pos ((coord0 t).trans ht)]
  refine Eq.trans ?_ (hg.trans ?_)
  · have hd : ∀ x : Fin 1024, rowsOf (grid1.coords t) (dhAt (A1 m) c (t.val + 1)) (ValueIdx.ix2 (i 0) x) = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ValueIdx.ix2 (j 0) x) :=
      fun x => dh_row m c h t ht _ _ h0 rfl
    have hd' : rowsOf (grid1.coords t) (dhAt (A1 m) c (t.val + 1)) i = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ValueIdx.ix2 (j 0) (j 1)) := dh_row m c h t ht i _ h0 h1
    have hs := rs_eq m c t (i 0) j h0
    have hn : ∀ x : Fin 1024, blk1 (A1 m) c 1 t (ValueIdx.ix2 0 x) = (m ((c : Thread nD τ).loc main_arg1)) (ValueIdx.ix2 0 x) := fun x => n_blk m c t _ _ rfl
    have hn' : blk1 (A1 m) c 1 t (ValueIdx.ix2 0 (i 1)) = (m ((c : Thread nD τ).loc main_arg1)) (ValueIdx.ix2 0 (j 1)) := n_blk m c t _ _ h1
    have hx : ∀ x : Fin 1024, blk1 (A1 m) c 0 t (ValueIdx.ix2 (i 0) x) = (m ((c : Thread nD τ).loc main_arg0)) (ValueIdx.ix2 (j 0) x) := fun x => x_blk m c t _ _ h0 rfl
    have hx' : blk1 (A1 m) c 0 t i = (m ((c : Thread nD τ).loc main_arg0)) (ValueIdx.ix2 (j 0) (j 1)) := x_blk m c t i _ h0 h1
    have hy := dy_blk m c t i j h0 h1
    pointwise [k1_pay6, k1_pay4]
    exact congrArg₂ (· + ·) (congrArg₂ (· * ·) hs (congrArg₂ (· - ·) (congrArg₂ (· * ·) hd' hn')
      (congrArg₂ (· * ·) (congrArg₂ (· * ·) hx' hs) (congrArg₂ Ideal.div
        (Finset.sum_congr rfl fun x _ => congrArg₂ (· * ·) (congrArg₂ (· * ·) (hd x) (hn x)) (congrArg₂ (· * ·) (hx x) hs)) rfl)))) hy
  · pointwise [val_main_v58, val_main_v57, val_main_v56, val_main_v55, val_main_v54, val_main_v53, val_main_v52, val_main_v51, val_main_v50, val_main_v49, val_main_v48,
      val_main_v47, val_main_v46, val_main_v45, val_main_v44, val_main_v43, val_main_v42, val_main_v23, val_main_v8, val_main_v9, val_main_v10, val_main_cst_2, val_main_cst_5, val_main_cst_6, val_main_cst_7, val_main_cst_8]
    simp only [Fin.sum_univ_one]
    blk_point []

theorem final8 (c : Dev nD) (h : FiniteArgs m c) : (dat1 (A1 m) c).arrAt 8 cfg1.N = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dat1 (A1 m) c).arrAt_eq_of_covers 8 _ (by decide +kernel) fun t hf y => ?_
  have ht : t.val / 4 = 3 := by
    by_contra hn
    rw [flush8 t hn] at hf
    exact absurd hf (by decide)
  blk_simp
  rw [after1_8]
  refine dx_row m c h t ht _ _ ?_ ?_
  all_goals (blk_simp [idx1_8 t ht] <;> try omega)

/-! ## The gain's gradient -/

/-- A tile's part of it. -/
def dnPart (c : Dev nD) (t : Fin cfg1.N) : S1x1024.Idx → EReal := k1_pay5 (F := Ideal) (blk1 (A1 m) c 0 t) (rowsOf (grid1.coords t) (dhAt (A1 m) c (t.val + 1)))

theorem dn_tile (c : Dev nD) (h : FiniteArgs m c) (p : ℕ) (hp : p < 4) (i : S1x1024.Idx) (l : Fin 1024) (hl : (l : ℕ) = i 1) :
    dnPart m c (pt 3 p (by omega) hp) i
      = ∑ r : Fin 512, val_main_v12 (F := Ideal) (m ((c : Thread nD τ).loc main_arg0)) (ValueIdx.ix2 ⟨p * 512 + r.val, by omega⟩ l) * val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ValueIdx.ix2 ⟨p * 512 + r.val, by omega⟩ l) := by
  have e : (pt 3 p (by omega) hp).val % 4 = p := by show (4 * 3 + p) % 4 = p; omega
  have e' : (pt 3 p (by omega) hp).val / 4 = 3 := by show (4 * 3 + p) / 4 = 3; omega
  have k0 : ∀ r : ℕ, p * 512 + r = (pt 3 p (by omega) hp).val % 4 * 512 + r := fun r => by rw [e]
  have hr : ∀ r : Fin 512, k1_pay3 (F := Ideal) (blk1 (A1 m) c 0 (pt 3 p (by omega) hp)) (ValueIdx.ix2 r 0)
      = val_main_v7 (F := Ideal) (m ((c : Thread nD τ).loc main_arg0)) (ValueIdx.ix2 ⟨p * 512 + r.val, by omega⟩ 0) :=
    fun r => rs_eq m c (pt 3 p (by omega) hp) r (ValueIdx.ix2 ⟨p * 512 + r.val, by omega⟩ l) (k0 r.val)
  have hx : ∀ r : Fin 512, blk1 (A1 m) c 0 (pt 3 p (by omega) hp) (ValueIdx.ix2 r (i 1)) = (m ((c : Thread nD τ).loc main_arg0)) (ValueIdx.ix2 ⟨p * 512 + r.val, by omega⟩ l) :=
    fun r => x_blk m c _ _ _ (k0 r.val) hl
  unfold dnPart
  pointwise [k1_pay5, k1_pay4, val_main_v12, val_main_v11]
  refine Finset.sum_congr rfl fun r _ => (congrArg₂ (· * ·) (dh_row m c h _ e' _ _ (k0 r.val) hl)
    (congrArg₂ (fun a b : EReal => a * b) (hx r) (hr r))).trans (EReal.mul_comm _ _)

theorem dn_row (c : Dev nD) (h : FiniteArgs m c) (t : Fin cfg1.N) (ht : t.val = 15) (i j : S1x1024.Idx) (h1 : (j 1 : ℕ) = i 1) :
    dnAt (A1 m) c (t.val + 1) i = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  have e := sum_tiles (fun t y => dnNext (grid1.coords t) (blk1 (A1 m) c 0 t) (dhAt (A1 m) c (t.val + 1)) y) (some_ (F := Ideal) S1x1024 .f32) (dnPart m c) 3 (by omega) i
    (fun t G ht => by
      unfold dnNext
      rw [if_pos ((coord0 t).trans ht), coord1]
      by_cases h0 : t.val % 4 = 0
      · rw [if_pos h0, if_pos h0]
        rfl
      · rw [if_neg h0, if_neg h0]
        pointwise [k1_pay7, dnPart])
    (pt 3 0 (by omega) (by omega)) (pt 3 1 (by omega) (by omega)) (pt 3 2 (by omega) (by omega)) (pt 3 3 (by omega) (by omega)) rfl rfl rfl rfl
  rw [show t.val + 1 = (pt 3 3 (by omega) (by omega)).val + 1 by show _ = 4 * 3 + 3 + 1; omega]
  refine e.trans ?_
  pointwise [val_main_v41, val_main_v40, val_main_v39, val_main_cst_5, val_main_cst_6, val_main_cst_7, val_main_cst_8]
  rw [Fin.sum_univ_tiles 4 512 rfl]
  simp only [Fin.sum_univ_four]
  have e := fun p hp => dn_tile m c h p hp i (j 1) h1
  exact congrArg₂ (· + ·) (congrArg₂ (· + ·) (congrArg₂ (· + ·) (e 0 (by omega)) (e 1 (by omega))) (e 2 (by omega))) (e 3 (by omega))

theorem final9 (c : Dev nD) (h : FiniteArgs m c) : (dat1 (A1 m) c).arrAt 9 cfg1.N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dat1 (A1 m) c).arrAt_eq_of_covers 9 _ (by decide +kernel) fun t hf y => ?_
  have ht := (flush1_9 t).mp hf
  have ht16 := lt16 t
  blk_simp
  rw [after1_9]
  refine dn_row m c h t (by omega) _ _ ?_
  all_goals (blk_simp [idx1 t] <;> try omega)

end Cert.Kernel3Ideal.Ffn

end
-- ==== Proof.Ffn.Claim.lean ====
/-
The claims about the gated block's forward and backward calls.
-/
module

public import proofs.«01_k».proof.Defs
public import proofs.«01_k».proof.Proof.Gen.Kernel3
public import proofs.«01_k».proof.Proof.Gen.Pre_finite3
public import proofs.«01_k».proof.Proof.Ffn.Bwd
public import Idealize.ShloMosaic.Lib.Claim

@[expose] public section

noncomputable section

namespace Cert.Proof.Ffn

open Idealize.ShloMosaic Idealize.SL.Sem
open Cert.Reference3Ideal.Read Cert.Kernel3Ideal.Ffn Cert.Kernel3Ideal.Gen
open Idealize.ShloMosaic.Pipeline (Dat)

/-- The two programs are one text, so the claim about the first reads as one about the second. -/
theorem frame_eq : Cert.quiescent_Kernel3 = ∀ (m : (ℓ : Loc Cert.Kernel3Ideal.nD Cert.Kernel3Ideal.τ Cert.Kernel3Ideal.sig) → Buf (Elt Bits) ℓ) (ρ : Dev Cert.Kernel3Ideal.nD → PrngReg), True →
    θ_run (Cert.Kernel3Ideal.defs (F := Bits)) (onTc (τ := Cert.Kernel3Ideal.τ) (Cert.Kernel3Ideal.main (F := Bits))) ⟨m, fun _ => 0, ρ⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0) ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1) ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2) ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3) ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4) ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0) := by sl_kernel_rfl

theorem frame : Cert.quiescent_Kernel3 := frame_eq.mpr fun m ρ _ => Cert.Kernel3Ideal.Gen.frame (F := Bits) m ρ

theorem frame_ideal : Cert.quiescent_Kernel3Ideal := fun m ρ _ => Cert.Kernel3Ideal.Gen.frame m ρ

theorem frame_ideal_finite : Cert.quiescent_Kernel3Ideal_pre_finite3 := fun m ρ _ => Cert.Kernel3Ideal.Gen.frame m ρ

theorem frame_reference : Cert.quiescent_Reference3Ideal := by
  intro m g _
  exact θ_run_mono (Cert.Reference3Ideal.Value.run m g) fun r h =>
    ⟨fun c => (h c).2.2.2.2.2.2, sem_eq_zero_of_no_sems (by decide) r.2⟩

theorem frame_reference_finite : Cert.quiescent_Reference3Ideal_pre_finite3 := fun m ρ _ =>
  frame_reference m ρ trivial

/-- A number whose absolute value lies below infinity is a real. -/
theorem finite_of_lt {s : Shape} (x : FVec Ideal s .f32) (h : (⟨0, ![]⟩ : Shape).BroadcastsInDim s ![]) (i : s.Idx)
    (e : cmpf .olt (Host.absf x) (broadcastInDim s ![] h (constant ⟨0, ![]⟩ .f32 0x7F800000#32)) = fun _ => 1#1) : Finite (x i) := by
  have e : Ideal.cmp .olt (max (x i) (-(x i))) (Ideal.ofBits .f32 0x7F800000#32) = 1#1 := congrFun e i
  have t : Ideal.ofBits .f32 0x7F800000#32 = (⊤ : EReal) := by simp [Ideal.ofBits, Ideal.ieee]
  rw [t] at e
  induction hx : x i using EReal.rec with
  | bot => simp [hx, Ideal.cmp] at e
  | top => simp [hx, Ideal.cmp] at e
  | coe r => exact ⟨r, rfl⟩

theorem finite_args (m : (ℓ : Loc Cert.Kernel3Ideal.nD Cert.Kernel3Ideal.τ Cert.Kernel3Ideal.sig) → Buf (Elt Ideal) ℓ) (h : Cert.Pre_Kernel3Ideal_finite3 m) (c : Dev Cert.Kernel3Ideal.nD) : FiniteArgs m c := by
  obtain ⟨h1, h3, h4, h5⟩ := h c
  exact ⟨fun i => finite_of_lt _ _ i h1, fun i => finite_of_lt _ _ i h3, fun i => finite_of_lt _ _ i h4, fun i => finite_of_lt _ _ i h5⟩

/-- The kernel's run, each result at the reference's stage. -/
theorem kernel_run (m : (ℓ : Loc Cert.Kernel3Ideal.nD Cert.Kernel3Ideal.τ Cert.Kernel3Ideal.sig) → Buf (Elt Ideal) ℓ) (ρ : Dev Cert.Kernel3Ideal.nD → PrngReg) (h : ∀ c, FiniteArgs m c) :
    θ_run (Cert.Kernel3Ideal.defs (F := Ideal)) (onTc (τ := Cert.Kernel3Ideal.τ) (Cert.Kernel3Ideal.main (F := Ideal))) ⟨m, fun _ => 0, ρ⟩ fun r => ∀ c : Dev Cert.Kernel3Ideal.nD,
        r.2.mem ((c.tc : Thread Cert.Kernel3Ideal.nD Cert.Kernel3Ideal.τ).loc Cert.Kernel3Ideal.main_v9_0) = val_main_v22 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))
        ∧ r.2.mem ((c.tc : Thread Cert.Kernel3Ideal.nD Cert.Kernel3Ideal.τ).loc Cert.Kernel3Ideal.main_v10_0) = val_main_v58 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))
        ∧ r.2.mem ((c.tc : Thread Cert.Kernel3Ideal.nD Cert.Kernel3Ideal.τ).loc Cert.Kernel3Ideal.main_v10_1) = val_main_v41 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))
        ∧ r.2.mem ((c.tc : Thread Cert.Kernel3Ideal.nD Cert.Kernel3Ideal.τ).loc Cert.Kernel3Ideal.main_v10_2) = val_main_v62 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))
        ∧ r.2.mem ((c.tc : Thread Cert.Kernel3Ideal.nD Cert.Kernel3Ideal.τ).loc Cert.Kernel3Ideal.main_v10_3) = val_main_v64 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))
        ∧ r.2.mem ((c.tc : Thread Cert.Kernel3Ideal.nD Cert.Kernel3Ideal.τ).loc Cert.Kernel3Ideal.main_v10_4) = val_main_v66 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg5))
        ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
        ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
        ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
        ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
        ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
        ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5) := by
  refine (θ_run _ _ _).mono (fun r hr c => ?_) (run_all m ρ)
  have out : ∀ b : Ref Cert.Kernel3Ideal.sig .tc, ¬ b.isScoped = true → r.2.mem ((c.tc : Thread Cert.Kernel3Ideal.nD Cert.Kernel3Ideal.τ).loc b) = A2 m c (Proc.devRef .tc b) := fun b hb => hr.1 c _ (uc b hb)
  have arg : ∀ b : Ref Cert.Kernel3Ideal.sig .tc, b = Cert.Kernel3Ideal.main_arg0 ∨ b = Cert.Kernel3Ideal.main_arg1 ∨ b = Cert.Kernel3Ideal.main_arg2 ∨ b = Cert.Kernel3Ideal.main_arg3 ∨ b = Cert.Kernel3Ideal.main_arg4 ∨ b = Cert.Kernel3Ideal.main_arg5 →
      ¬ b.isScoped = true → r.2.mem ((c.tc : Thread Cert.Kernel3Ideal.nD Cert.Kernel3Ideal.τ).loc b) = m ((c.tc : Thread Cert.Kernel3Ideal.nD Cert.Kernel3Ideal.τ).loc b) := fun b hb hs => (out b hs).trans (A2_arg m c b hb)
  have two := Pipeline.afterRegion_arr (dat1 (A1 m) c) (A1 m c) launch1.win.arr_inj
  refine ⟨(out Cert.Kernel3Ideal.main_v9_0 (by decide)).trans ((A2_of m c _ (by decide)).trans ((Pipeline.afterRegion_arr (dat0 (A0 m) c) (A0 m c) launch0.win.arr_inj 5).trans (final5 m c))),
    (out Cert.Kernel3Ideal.main_v10_0 (by decide)).trans ((two 8).trans (final8 m c (h c))), (out Cert.Kernel3Ideal.main_v10_1 (by decide)).trans ((two 9).trans (final9 m c (h c))),
    (out Cert.Kernel3Ideal.main_v10_2 (by decide)).trans ((two 10).trans (final10 m c (h c))), (out Cert.Kernel3Ideal.main_v10_3 (by decide)).trans ((two 11).trans (final11 m c)),
    (out Cert.Kernel3Ideal.main_v10_4 (by decide)).trans ((two 12).trans (final12 m c)), ?_, ?_, ?_, ?_, ?_, ?_⟩ <;> exact arg _ (by simp) (by decide)

set_option maxHeartbeats 1000000 in
/-- The reference's run, each result at its last stage. -/
theorem reference_run (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ fun r => ∀ c : Dev Cert.Reference3Ideal.nD,
        r.2.mem ((c.tc : Thread Cert.Reference3Ideal.nD Cert.Reference3Ideal.τ).loc Cert.Reference3Ideal.main_v22) = val_main_v22 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))
        ∧ r.2.mem ((c.tc : Thread Cert.Reference3Ideal.nD Cert.Reference3Ideal.τ).loc Cert.Reference3Ideal.main_v58) = val_main_v58 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))
        ∧ r.2.mem ((c.tc : Thread Cert.Reference3Ideal.nD Cert.Reference3Ideal.τ).loc Cert.Reference3Ideal.main_v41) = val_main_v41 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))
        ∧ r.2.mem ((c.tc : Thread Cert.Reference3Ideal.nD Cert.Reference3Ideal.τ).loc Cert.Reference3Ideal.main_v62) = val_main_v62 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))
        ∧ r.2.mem ((c.tc : Thread Cert.Reference3Ideal.nD Cert.Reference3Ideal.τ).loc Cert.Reference3Ideal.main_v64) = val_main_v64 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))
        ∧ r.2.mem ((c.tc : Thread Cert.Reference3Ideal.nD Cert.Reference3Ideal.τ).loc Cert.Reference3Ideal.main_v66) = val_main_v66 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg5))
        ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5) :=
  θ_run_mono (Cert.Reference3Ideal.Value.run m ρ) fun r h c =>
    ⟨(h c).1.trans (val_main_v22_eq (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))), (h c).2.1.trans (val_main_v58_eq m c), (h c).2.2.1.trans (val_main_v41_eq m c),
      (h c).2.2.2.1.trans (val_main_v62_eq m c), (h c).2.2.2.2.1.trans (val_main_v64_eq (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))), (h c).2.2.2.2.2.1.trans (val_main_v66_eq (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg5))), (h c).2.2.2.2.2.2⟩

set_option maxHeartbeats 4000000 in
theorem value : Cert.algebraic_Kernel3Ideal_Reference3Ideal_pre_finite3 := by
  pair_intro
  · run_from kernel_run m g (finite_args m ‹_›)
  · run_from reference_run m' g'

end Cert.Proof.Ffn

end
-- ==== Proof.Pre.Stages.lean ====
/- The token-shift kernel at one point of its grid: each value its body computes, as a function of the blocks the point reads. -/
module

public import proofs.«01_k».proof.Proof.Gen.Kernel4Ideal.Skeleton
public import Idealize.ShloMosaic.Lib.VecWindow

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What one point reads: its coordinate and the blocks of the sixteen inputs. -/
structure Ins (F : FTy → Type) [FloatOps F] where
  i : grid0.Coords
  x0 : Vec F S256x2048 .f32
  x1 : Vec F S8x2048 .f32
  x2 : Vec F S10x512 .f32
  x3 : Vec F S32x512 .f32
  x4 : Vec F S32x512 .f32
  x5 : Vec F S32x512 .f32
  x6 : Vec F S32x512 .f32
  x7 : Vec F S96x512 .f32
  x8 : Vec F S96x512 .f32
  x9 : Vec F S8x256x64 .f32
  x10 : Vec F S8x256x64 .f32
  x11 : Vec F S8x256x64 .f32
  x12 : Vec F S8x256x64 .f32
  x13 : Vec F S8x256x64 .f32
  x14 : Vec F S8x256x64 .f32
  x15 : Vec F S256x512 .f32

theorem head_inb (h : Fin 8) : ∀ a, (![h.val, 0, 0] : Fin 3 → ℕ) a + S1x256x64.size a ≤ S8x256x64.size a := by
  revert h; decide +kernel

/-- One head of a block. -/
def head (x : Vec F S8x256x64 .f32) (h : Fin 8) : Vec F S1x256x64 .f32 := VecWindow.window x ![h.val, 0, 0] S1x256x64.size (head_inb h)

/-! ## The values of the body, in its order -/

def s3 (I : Ins F) : Vec F S256x2048 .f32 := I.x0
def s16 (I : Ins F) : FVec F S256x2048 .f32 := k0_pay13 I.i I.x0 I.x1
def s18 (I : Ins F) : FVec F S10x512 .f32 := k0_pay14 I.x2
def s20 (I : Ins F) : FVec F S32x512 .f32 := k0_pay15 I.x3
def s22 (I : Ins F) : FVec F S32x512 .f32 := k0_pay16 I.x4
def s24 (I : Ins F) : FVec F S32x512 .f32 := k0_pay17 I.x5
def s26 (I : Ins F) : FVec F S32x512 .f32 := k0_pay18 I.x6
def s28 (I : Ins F) : FVec F S96x512 .f32 := k0_pay19 I.x7
def s30 (I : Ins F) : FVec F S96x512 .f32 := k0_pay20 I.x8
def s31 (I : Ins F) : FVec F S1x512 .f32 := k0_pay21 I.x2
def s32 (I : Ins F) : FVec F S1x512 .f32 := k0_pay22 I.x2
def s33 (I : Ins F) : FVec F S1x512 .f32 := k0_pay23 (s18 I)
def s34 (I : Ins F) : FVec F S1x512 .f32 := k0_pay24 (s18 I)
def s35 (I : Ins F) : FVec F S1x512 .f32 := k0_pay25 (s18 I)
def s36 (I : Ins F) : FVec F S1x512 .f32 := k0_pay26 (s18 I)
def s38 (I : Ins F) : FVec F S1x512 .f32 := k0_pay27 (s18 I)
def s39 (I : Ins F) : FVec F S1x512 .f32 := k0_pay28 (s18 I)
def s40 (I : Ins F) : FVec F S1x512 .f32 := k0_pay29 (s18 I)
def s43 (I : Ins F) : FVec F S256x512 .f32 := k0_pay30 (s3 I) (s16 I)
def s46 (I : Ins F) : FVec F S256x512 .f32 := k0_pay32 (s3 I) (s16 I)
def s49 (I : Ins F) : FVec F S256x512 .f32 := k0_pay33 (s3 I) (s16 I) (s32 I)
def s52 (I : Ins F) : FVec F S256x512 .f32 := k0_pay34 (s3 I) (s16 I)
def s55 (I : Ins F) : FVec F S256x512 .f32 := k0_pay36 (s3 I) (s16 I)
def s58 (I : Ins F) : FVec F S256x512 .f32 := k0_pay37 (s3 I) (s16 I) (s18 I)
def s61 (I : Ins F) : FVec F S256x512 .f32 := k0_pay39 (s3 I) (s16 I)
def s64 (I : Ins F) : FVec F S256x512 .f32 := k0_pay40 (s3 I) (s16 I) (s18 I)
def s67 (I : Ins F) : FVec F S256x512 .f32 := k0_pay42 (s3 I) (s16 I)
def s70 (I : Ins F) : FVec F S256x512 .f32 := k0_pay43 (s3 I) (s16 I) (s18 I)
def s74 (I : Ins F) : FVec F S256x32 .f32 := k0_pay44 (s3 I) (s16 I) (s18 I) (s20 I)
def s79 (I : Ins F) : FVec F S256x32 .f32 := k0_pay45 (s3 I) (s16 I) (s18 I) (s20 I)
def s84 (I : Ins F) : FVec F S256x512 .f32 := k0_pay46 (s3 I) (s16 I) (s18 I) (s20 I) (s22 I)
def s86 (I : Ins F) : FVec F S256x512 .f32 := k0_pay47 (s3 I) (s16 I) (s18 I) (s20 I) (s22 I)
def s95 (I : Ins F) : FVec F S256x512 .f32 := k0_pay48 (s84 I) (Scalar.ofBits .f32 0x00000000#32)
def s98 (I : Ins F) : IVec S256x512 1 := k0_pay49 (s84 I)
def s101 (I : Ins F) : FVec F S256x512 .f32 := k0_pay50 (s84 I)
def s103 (I : Ins F) : FVec F S256x512 .f32 := k0_pay51 (s84 I)
def s108 (I : Ins F) : FVec F S256x512 .f32 := k0_pay52 (s84 I) (s86 I)
def s111 (I : Ins F) : FVec F S256x32 .f32 := k0_pay53 (s24 I) (s64 I)
def s119 (I : Ins F) : FVec F S256x512 .f32 := k0_pay54 (s24 I) (s26 I) (s38 I) (s64 I)
def s123 (I : Ins F) : FVec F S256x512 .f32 := k0_pay56 (s24 I) (s26 I) (s38 I) (s64 I)
def s126 (I : Ins F) : FVec F S256x512 .f32 := k0_pay57 (s24 I) (s26 I) (s38 I) (s64 I)
def s129 (I : Ins F) : FVec F S256x96 .f32 := k0_pay58 (s28 I) (s70 I)
def s130 (I : Ins F) : FVec F S256x96 .f32 := k0_pay59 (F := F)
def s132 (I : Ins F) : FVec F S256x96 .f32 := k0_pay60 (s129 I) (s130 I)
def s136 (I : Ins F) : FVec F S256x96 .f32 := k0_pay62 (s129 I) (s130 I)
def s139 (I : Ins F) : FVec F S256x96 .f32 := k0_pay63 (s129 I) (s130 I)
def s141 (I : Ins F) : FVec F S256x512 .f32 := k0_pay64 (s123 I)
def s145 (I : Ins F) : FVec F S256x512 .f32 := k0_pay65 (s40 I) (s123 I)
def s147 (I : Ins F) : FVec F S256x64 .f32 := k0_pay66 (head I.x9 0)
def s149 (I : Ins F) : FVec F S256x64 .f32 := k0_pay67 (head I.x9 1)
def s151 (I : Ins F) : FVec F S256x64 .f32 := k0_pay68 (head I.x9 2)
def s153 (I : Ins F) : FVec F S256x64 .f32 := k0_pay69 (head I.x9 3)
def s155 (I : Ins F) : FVec F S256x64 .f32 := k0_pay70 (head I.x9 4)
def s157 (I : Ins F) : FVec F S256x64 .f32 := k0_pay71 (head I.x9 5)
def s159 (I : Ins F) : FVec F S256x64 .f32 := k0_pay72 (head I.x9 6)
def s161 (I : Ins F) : FVec F S256x64 .f32 := k0_pay73 (head I.x9 7)
def s162 (I : Ins F) : FVec F S256x512 .f32 := k0_pay74 (s147 I) (s149 I) (s151 I) (s153 I) (s155 I) (s157 I) (s159 I) (s161 I)
def s179 (I : Ins F) : FVec F S256x512 .f32 := k0_pay75 (head I.x10 0) (head I.x10 1) (head I.x10 2) (head I.x10 3) (head I.x10 4) (head I.x10 5) (head I.x10 6) (head I.x10 7)
def s181 (I : Ins F) : FVec F S256x64 .f32 := k0_pay76 (head I.x11 0)
def s183 (I : Ins F) : FVec F S256x64 .f32 := k0_pay77 (head I.x11 1)
def s185 (I : Ins F) : FVec F S256x64 .f32 := k0_pay78 (head I.x11 2)
def s196 (I : Ins F) : FVec F S256x512 .f32 := k0_pay79 (s181 I) (s183 I) (s185 I) (head I.x11 3) (head I.x11 4) (head I.x11 5) (head I.x11 6) (head I.x11 7)
def s198 (I : Ins F) : FVec F S256x64 .f32 := k0_pay80 (head I.x12 0)
def s200 (I : Ins F) : FVec F S256x64 .f32 := k0_pay81 (head I.x12 1)
def s202 (I : Ins F) : FVec F S256x64 .f32 := k0_pay82 (head I.x12 2)
def s204 (I : Ins F) : FVec F S256x64 .f32 := k0_pay83 (head I.x12 3)
def s206 (I : Ins F) : FVec F S256x64 .f32 := k0_pay84 (head I.x12 4)
def s208 (I : Ins F) : FVec F S256x64 .f32 := k0_pay85 (head I.x12 5)
def s210 (I : Ins F) : FVec F S256x64 .f32 := k0_pay86 (head I.x12 6)
def s213 (I : Ins F) : FVec F S256x512 .f32 := k0_pay87 (s198 I) (s200 I) (s202 I) (s204 I) (s206 I) (s208 I) (s210 I) (head I.x12 7)
def s230 (I : Ins F) : FVec F S256x512 .f32 := k0_pay88 (head I.x13 0) (head I.x13 1) (head I.x13 2) (head I.x13 3) (head I.x13 4) (head I.x13 5) (head I.x13 6) (head I.x13 7)
def s232 (I : Ins F) : FVec F S256x64 .f32 := k0_pay89 (head I.x14 0)
def s234 (I : Ins F) : FVec F S256x64 .f32 := k0_pay90 (head I.x14 1)
def s236 (I : Ins F) : FVec F S256x64 .f32 := k0_pay91 (head I.x14 2)
def s253 (I : Ins F) : FVec F S1x512 .f32 := k0_pay93 (s49 I) (s141 I) (s196 I)
def s256 (I : Ins F) : FVec F S256x512 .f32 := k0_pay94 (s40 I) (s49 I) (s196 I) (s232 I) (s234 I) (s236 I) (head I.x14 3) (head I.x14 4) (head I.x14 5) (head I.x14 6) (head I.x14 7)
def s259 (I : Ins F) : FVec F S1x512 .f32 := k0_pay95 (s49 I) (s230 I)
def s262 (I : Ins F) : FVec F S256x512 .f32 := k0_pay96 (s39 I) (s145 I) (s196 I) (s230 I)
def s268 (I : Ins F) : FVec F S96x512 .f32 := k0_pay97 (s136 I) I.x15
def s273 (I : Ins F) : FVec F S256x96 .f32 := k0_pay98 (s30 I) (s139 I) I.x15
def s279 (I : Ins F) : FVec F S256x512 .f32 := k0_pay100 (s28 I) (s132 I) (s273 I)
def s282 (I : Ins F) : FVec F S96x512 .f32 := k0_pay101 (s70 I) (s132 I) (s273 I)
def s292 (I : Ins F) : FVec F S1x512 .f32 := k0_pay103 (s119 I) (s126 I) (s256 I)
def s298 (I : Ins F) : FVec F S32x512 .f32 := k0_pay105 (s111 I) (s119 I) (s126 I) (s256 I)
def s301 (I : Ins F) : FVec F S256x512 .f32 := k0_pay106 (s24 I) (s26 I) (s119 I) (s126 I) (s256 I)
def s304 (I : Ins F) : FVec F S32x512 .f32 := k0_pay107 (s26 I) (s64 I) (s119 I) (s126 I) (s256 I)
def s307 (I : Ins F) : FVec F S256x512 .f32 := k0_pay108 (s108 I) (s179 I)
def s315 (I : Ins F) : FVec F S256x512 .f32 := k0_pay111 (s98 I) (s101 I) (s103 I) (s108 I) (s179 I)
def s316 (I : Ins F) : FVec F S256x512 .f32 := k0_pay112 (s98 I) (s101 I) (s103 I) (s108 I) (s179 I)
def s317 (I : Ins F) : FVec F S256x512 .f32 := k0_pay113 (F := F)
def s323 (I : Ins F) : FVec F S1x512 .f32 := k0_pay115 (s95 I) (s307 I) (s315 I) (s316 I) (s317 I)
def s329 (I : Ins F) : FVec F S32x512 .f32 := k0_pay116 (s74 I) (s95 I) (s307 I) (s315 I) (s316 I) (s317 I)
def s333 (I : Ins F) : FVec F S256x512 .f32 := k0_pay118 (s20 I) (s22 I) (s79 I) (s95 I) (s307 I) (s315 I) (s316 I) (s317 I)
def s336 (I : Ins F) : FVec F S32x512 .f32 := k0_pay119 (s22 I) (s58 I) (s79 I) (s95 I) (s307 I) (s315 I) (s316 I) (s317 I)
def s339 (I : Ins F) : FVec F S1x512 .f32 := k0_pay120 (s67 I) (s279 I)
def s351 (I : Ins F) : FVec F S1x512 .f32 := k0_pay122 (s61 I) (s301 I)
def s359 (I : Ins F) : FVec F S256x2048 .f32 := k0_pay124 (s35 I) (s36 I) (s279 I) (s301 I)
def s362 (I : Ins F) : FVec F S256x2048 .f32 := k0_pay125 (s35 I) (s36 I) (s279 I) (s301 I)
def s363 (I : Ins F) : FVec F S256x512 .f32 := k0_pay126 (s20 I) (s22 I) (s55 I) (s79 I) (s95 I) (s307 I) (s315 I) (s316 I) (s317 I)
def s365 (I : Ins F) : FVec F S1x512 .f32 := k0_pay127 (s363 I)
def s379 (I : Ins F) : FVec F S1x512 .f32 := k0_pay129 (s52 I) (s213 I)
def s397 (I : Ins F) : FVec F S1x512 .f32 := k0_pay131 (s46 I) (s262 I)
def s407 (I : Ins F) : FVec F S256x2048 .f32 := k0_pay133 (s32 I) (s33 I) (s34 I) (s213 I) (s262 I) (s333 I) (s359 I)
def s412 (I : Ins F) : FVec F S256x2048 .f32 := k0_pay134 (s32 I) (s33 I) (s34 I) (s213 I) (s262 I) (s333 I) (s362 I)
def s415 (I : Ins F) : FVec F S1x512 .f32 := k0_pay135 (s43 I) (s162 I)
def s423 (I : Ins F) : FVec F S256x2048 .f32 := k0_pay137 (s31 I) (s162 I) (s407 I)
def s426 (I : Ins F) : FVec F S256x2048 .f32 := k0_pay138 (s31 I) (s162 I) (s412 I)
def s458 (I : Ins F) : FVec F S10x512 .f32 := k0_pay139 (s253 I) (s259 I) (s292 I) (s323 I) (s339 I) (s351 I) (s365 I)
def s460 (I : Ins F) : FVec F S3x512 .f32 := k0_pay140 (s379 I)

/-! ## What the point leaves

The seven sums and the carried row start from zero at the first point. -/

/-- A kept value at the start of the point: `z` at the first point. -/
def start {α : Type} (i : grid0.Coords) (z x : α) : α := if (i 0).val = 0 then z else x

theorem row_inb : ∀ a, (![0, 0] : Fin 2 → ℕ) a + S1x2048.size a ≤ S8x2048.size a := inb_S8x2048_S1x2048_0_0

/-- The carried row. -/
def carried (S : Vec F S8x2048 .f32) : Vec F S1x2048 .f32 := VecWindow.window S ![0, 0] S1x2048.size row_inb

def out16 (I : Ins F) (S : Vec F S8x2048 .f32) : Vec F S256x2048 .f32 := k0_pay141 (s423 I) (s426 I) (carried (start I.i k0_pay5 S))
def out17 (I : Ins F) (y : Vec F S10x512 .f32) : Vec F S10x512 .f32 := k0_pay143 (s397 I) (s415 I) (s458 I) (Scalar.ofBits .f32 0x00000000#32) (s460 I) (start I.i k0_pay6 y)
def out18 (I : Ins F) (y : Vec F S32x512 .f32) : Vec F S32x512 .f32 := k0_pay144 (s336 I) (start I.i k0_pay7 y)
def out19 (I : Ins F) (y : Vec F S32x512 .f32) : Vec F S32x512 .f32 := k0_pay145 (s329 I) (start I.i k0_pay8 y)
def out20 (I : Ins F) (y : Vec F S32x512 .f32) : Vec F S32x512 .f32 := k0_pay1 (s304 I) (start I.i k0_pay9 y)
def out21 (I : Ins F) (y : Vec F S32x512 .f32) : Vec F S32x512 .f32 := k0_pay2 (s298 I) (start I.i k0_pay10 y)
def out22 (I : Ins F) (y : Vec F S96x512 .f32) : Vec F S96x512 .f32 := k0_pay3 (s282 I) (start I.i k0_pay11 y)
def out23 (I : Ins F) (y : Vec F S96x512 .f32) : Vec F S96x512 .f32 := k0_pay4 (s268 I) (start I.i k0_pay12 y)
def outC (I : Ins F) (S : Vec F S8x2048 .f32) : Vec F S8x2048 .f32 := VecWindow.put (start I.i k0_pay5 S) ![0, 0] S1x2048.size (k0_pay142 (s423 I))

end Cert.Kernel4Ideal.Gen

end
-- ==== Proof.Pre.Run.lean ====
/- One point of the token-shift kernel: what it leaves in each buffer. -/
module

public import proofs.«01_k».proof.Proof.Pre.Stages
public import proofs.«01_k».proof.Proof.Gen.Kernel4Ideal.Frame.Runs

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem cond0_iff (i : grid0.Coords) : cond0_0 i ↔ (i 0).val = 0 := by
  have h : (i 0).val < 8 := (i 0).isLt
  unfold cond0_0; generalize (i 0).val = p at *
  rcases (show p = 0 ∨ p = 1 ∨ p = 2 ∨ p = 3 ∨ p = 4 ∨ p = 5 ∨ p = 6 ∨ p = 7 by omega) with rfl | rfl | rfl | rfl | rfl | rfl | rfl | rfl <;> decide

/-- A load of one head of a block. -/
theorem load_head (v : View sig .tc .vmem S8x256x64 .f32) (f : v.ty.Contents (Elt F)) (h : Fin 8) {off : Fin 3 → ℕ}
    (inb : ∀ a, off a + S1x256x64.size a ≤ S8x256x64.size a) (e : off = ![h.val, 0, 0]) :
    v.readAt (Elt F) (Rect.unit (s := S8x256x64) off S1x256x64.size inb).toLoadRect f = head (v.read (Elt F) f) h :=
  View.readAt_unit v f inb e (head_inb h)

/-- A load of the carried row. -/
theorem load_row (v : View sig .tc .vmem S8x2048 .f32) (f : v.ty.Contents (Elt F)) {off : Fin 2 → ℕ}
    (inb : ∀ a, off a + S1x2048.size a ≤ S8x2048.size a) (e : off = ![0, 0]) :
    v.readAt (Elt F) (Rect.unit (s := S8x2048) off S1x2048.size inb).toLoadRect f = carried (v.read (Elt F) f) :=
  View.readAt_unit v f inb e row_inb

/-- A store of the carried row. -/
theorem store_row (v : View sig .tc .vmem S8x2048 .f32) (f : v.ty.Contents (Elt F)) {off : Fin 2 → ℕ}
    (inb : ∀ a, off a + S1x2048.size a ≤ S8x2048.size a) (w : Vec F S1x2048 .f32) (L : List (View.Piece (Elt F) S8x2048 .f32)) (e : off = ![0, 0]) :
    v.read (Elt F) (v.writes (Elt F) f (⟨Rect.unit (s := S8x2048) off S1x2048.size inb, w⟩ :: L)) = VecWindow.put (v.read (Elt F) (v.writes (Elt F) f L)) ![0, 0] S1x2048.size w :=
  View.read_writes_cons_put v f inb w L e

theorem start_pos {α : Type} {i : grid0.Coords} (h : (i 0).val = 0) (z x : α) : start i z x = z := if_pos h
theorem start_neg {α : Type} {i : grid0.Coords} (h : ¬(i 0).val = 0) (z x : α) : start i z x = x := if_neg h

set_option maxHeartbeats 6000000 in
/-- The body on whole buffers: the inputs stay, the outputs and the carried row are left as `out16`, …, `outC`. -/
theorem run_point (c : Dev nD) (i : grid0.Coords) (arg1 : Memref sig .tc .vmem S256x2048 .f32) (harg1 : arg1.IsWhole) (arg2 : Memref sig .tc .vmem S8x2048 .f32) (harg2 : arg2.IsWhole) (arg3 : Memref sig .tc .vmem S10x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S32x512 .f32) (harg7 : arg7.IsWhole) (arg8 : Memref sig .tc .vmem S96x512 .f32) (harg8 : arg8.IsWhole) (arg9 : Memref sig .tc .vmem S96x512 .f32) (harg9 : arg9.IsWhole) (arg10 : Memref sig .tc .vmem S8x256x64 .f32) (harg10 : arg10.IsWhole) (arg11 : Memref sig .tc .vmem S8x256x64 .f32) (harg11 : arg11.IsWhole) (arg12 : Memref sig .tc .vmem S8x256x64 .f32) (harg12 : arg12.IsWhole) (arg13 : Memref sig .tc .vmem S8x256x64 .f32) (harg13 : arg13.IsWhole) (arg14 : Memref sig .tc .vmem S8x256x64 .f32) (harg14 : arg14.IsWhole) (arg15 : Memref sig .tc .vmem S8x256x64 .f32) (harg15 : arg15.IsWhole) (arg16 : Memref sig .tc .vmem S256x512 .f32) (harg16 : arg16.IsWhole) (arg17 : Memref sig .tc .vmem S256x2048 .f32) (harg17 : arg17.IsWhole) (arg18 : Memref sig .tc .vmem S10x512 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S32x512 .f32) (harg21 : arg21.IsWhole) (arg22 : Memref sig .tc .vmem S32x512 .f32) (harg22 : arg22.IsWhole) (arg23 : Memref sig .tc .vmem S96x512 .f32) (harg23 : arg23.IsWhole) (arg24 : Memref sig .tc .vmem S96x512 .f32) (harg24 : arg24.IsWhole) (arg25 : Memref sig .tc .vmem S8x2048 .f32) (harg25 : arg25.IsWhole)
    (x0 : Vec F S256x2048 .f32) (x1 : Vec F S8x2048 .f32) (x2 : Vec F S10x512 .f32) (x3 : Vec F S32x512 .f32) (x4 : Vec F S32x512 .f32) (x5 : Vec F S32x512 .f32) (x6 : Vec F S32x512 .f32) (x7 : Vec F S96x512 .f32) (x8 : Vec F S96x512 .f32) (x9 : Vec F S8x256x64 .f32) (x10 : Vec F S8x256x64 .f32) (x11 : Vec F S8x256x64 .f32) (x12 : Vec F S8x256x64 .f32) (x13 : Vec F S8x256x64 .f32) (x14 : Vec F S8x256x64 .f32) (x15 : Vec F S256x512 .f32)
    (y16 : Vec F S256x2048 .f32) (y17 : Vec F S10x512 .f32) (y18 : Vec F S32x512 .f32) (y19 : Vec F S32x512 .f32) (y20 : Vec F S32x512 .f32) (y21 : Vec F S32x512 .f32) (y22 : Vec F S96x512 .f32) (y23 : Vec F S96x512 .f32) (S : Vec F S8x2048 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare y16 ∗ owns (c : Thread nD τ) arg18 fullShare y17 ∗ owns (c : Thread nD τ) arg19 fullShare y18 ∗ owns (c : Thread nD τ) arg20 fullShare y19 ∗ owns (c : Thread nD τ) arg21 fullShare y20 ∗ owns (c : Thread nD τ) arg22 fullShare y21 ∗ owns (c : Thread nD τ) arg23 fullShare y22 ∗ owns (c : Thread nD τ) arg24 fullShare y23 ∗ owns (c : Thread nD τ) arg25 fullShare S
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out16 ⟨i, x0, x1, x2, x3, x4, x5, x6, x7, x8, x9, x10, x11, x12, x13, x14, x15⟩ S) ∗ owns (c : Thread nD τ) arg18 fullShare (out17 ⟨i, x0, x1, x2, x3, x4, x5, x6, x7, x8, x9, x10, x11, x12, x13, x14, x15⟩ y17) ∗ owns (c : Thread nD τ) arg19 fullShare (out18 ⟨i, x0, x1, x2, x3, x4, x5, x6, x7, x8, x9, x10, x11, x12, x13, x14, x15⟩ y18) ∗ owns (c : Thread nD τ) arg20 fullShare (out19 ⟨i, x0, x1, x2, x3, x4, x5, x6, x7, x8, x9, x10, x11, x12, x13, x14, x15⟩ y19) ∗ owns (c : Thread nD τ) arg21 fullShare (out20 ⟨i, x0, x1, x2, x3, x4, x5, x6, x7, x8, x9, x10, x11, x12, x13, x14, x15⟩ y20) ∗ owns (c : Thread nD τ) arg22 fullShare (out21 ⟨i, x0, x1, x2, x3, x4, x5, x6, x7, x8, x9, x10, x11, x12, x13, x14, x15⟩ y21) ∗ owns (c : Thread nD τ) arg23 fullShare (out22 ⟨i, x0, x1, x2, x3, x4, x5, x6, x7, x8, x9, x10, x11, x12, x13, x14, x15⟩ y22) ∗ owns (c : Thread nD τ) arg24 fullShare (out23 ⟨i, x0, x1, x2, x3, x4, x5, x6, x7, x8, x9, x10, x11, x12, x13, x14, x15⟩ y23) ∗ owns (c : Thread nD τ) arg25 fullShare (outC ⟨i, x0, x1, x2, x3, x4, x5, x6, x7, x8, x9, x10, x11, x12, x13, x14, x15⟩ S)) -∗ K ()))
      ⊢ wp frame (wpE (defs₀ (F := F)) Variants.none c none) E (cc0_rwkv_pre_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_rwkv_pre_bwd_eq_skeleton]; unfold cc0_rwkv_pre_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24
  by_cases hp : (i 0).val = 0
  on_goal 1 => have hc : cond0_0 i := (cond0_iff i).mpr hp
  on_goal 2 => have hc : ¬cond0_0 i := fun h => hp ((cond0_iff i).mp h)
  all_goals sl_exec (disch := first | sl_exact hc)
  all_goals
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    on_goal 1 => (iexists _; isplitr; on_goal 2 => iexact H16)
    rotate_left
    isplitl [H17]
    on_goal 1 => (iexists _; isplitr; on_goal 2 => iexact H17)
    rotate_left
    isplitl [H18]
    on_goal 1 => (iexists _; isplitr; on_goal 2 => iexact H18)
    rotate_left
    isplitl [H19]
    on_goal 1 => (iexists _; isplitr; on_goal 2 => iexact H19)
    rotate_left
    isplitl [H20]
    on_goal 1 => (iexists _; isplitr; on_goal 2 => iexact H20)
    rotate_left
    isplitl [H21]
    on_goal 1 => (iexists _; isplitr; on_goal 2 => iexact H21)
    rotate_left
    isplitl [H22]
    on_goal 1 => (iexists _; isplitr; on_goal 2 => iexact H22)
    rotate_left
    isplitl [H23]
    on_goal 1 => (iexists _; isplitr; on_goal 2 => iexact H23)
    rotate_left
    iexists _; isplitr; on_goal 2 => iexact H24
    all_goals (ipureintro; sl_unfold_run_names)
    all_goals simp (decide := true) (proj := false) only [View.readAt_full, Memref.IsWhole.read_unread, load_head (off := ![0, 0, 0]) _ _ 0 _ rfl, load_head (off := ![1, 0, 0]) _ _ 1 _ rfl, load_head (off := ![2, 0, 0]) _ _ 2 _ rfl, load_head (off := ![3, 0, 0]) _ _ 3 _ rfl, load_head (off := ![4, 0, 0]) _ _ 4 _ rfl, load_head (off := ![5, 0, 0]) _ _ 5 _ rfl, load_head (off := ![6, 0, 0]) _ _ 6 _ rfl, load_head (off := ![7, 0, 0]) _ _ 7 _ rfl]
  · refine (store_row _ _ _ _ _ rfl).trans ?_
    unfold outC
    rw [start_pos hp]
    rw [show View.read (Elt F) arg25.view (arg25.view.writes (Elt F) (harg25.unread S) [⟨Rect.unit ![0, 0] S8x2048.size inb_S8x2048_S8x2048_0_0, k0_pay5⟩]) = k0_pay5 from View.read_writes_full _ _ _ _ _]
    refine congrArg (VecWindow.put k0_pay5 ![0, 0] S1x2048.size) ?_
    rfl
  · refine (View.read_writes_full _ _ _ _ _).trans ?_
    unfold out16
    rw [start_pos hp]
    refine (congrArg (k0_pay141 _ _) ((load_row _ _ _ rfl).trans (congrArg carried (View.read_writes_full _ _ _ _ _)))).trans ?_
    rfl
  · refine (View.read_writes_full _ _ _ _ _).trans ?_
    unfold out17
    rw [start_pos hp]
    refine (congrArg (k0_pay143 _ _ _ _ _) (View.readCov_full _ _ _ _ _)).trans ?_
    rfl
  · refine (View.read_writes_full _ _ _ _ _).trans ?_
    unfold out18
    rw [start_pos hp]
    refine (congrArg (k0_pay144 _) (View.readCov_full _ _ _ _ _)).trans ?_
    rfl
  · refine (View.read_writes_full _ _ _ _ _).trans ?_
    unfold out19
    rw [start_pos hp]
    refine (congrArg (k0_pay145 _) (View.readCov_full _ _ _ _ _)).trans ?_
    rfl
  · refine (View.read_writes_full _ _ _ _ _).trans ?_
    unfold out20
    rw [start_pos hp]
    refine (congrArg (k0_pay1 _) (View.readCov_full _ _ _ _ _)).trans ?_
    rfl
  · refine (View.read_writes_full _ _ _ _ _).trans ?_
    unfold out21
    rw [start_pos hp]
    refine (congrArg (k0_pay2 _) (View.readCov_full _ _ _ _ _)).trans ?_
    rfl
  · refine (View.read_writes_full _ _ _ _ _).trans ?_
    unfold out22
    rw [start_pos hp]
    refine (congrArg (k0_pay3 _) (View.readCov_full _ _ _ _ _)).trans ?_
    rfl
  · refine (View.read_writes_full _ _ _ _ _).trans ?_
    unfold out23
    rw [start_pos hp]
    refine (congrArg (k0_pay4 _) (View.readCov_full _ _ _ _ _)).trans ?_
    rfl
  · refine (store_row _ _ _ _ _ rfl).trans ?_
    unfold outC
    rw [start_neg hp]
    rw [show View.read (Elt F) arg25.view (arg25.view.writes (Elt F) (harg25.unread S) []) = S from harg25.read_unread _]
    refine congrArg (VecWindow.put S ![0, 0] S1x2048.size) ?_
    rfl
  · refine (View.read_writes_full _ _ _ _ _).trans ?_
    unfold out16
    rw [start_neg hp]
    refine (congrArg (k0_pay141 _ _) ((load_row _ _ _ rfl).trans (congrArg carried (harg25.read_unread _)))).trans ?_
    rfl
  · refine (View.read_writes_full _ _ _ _ _).trans ?_
    unfold out17
    rw [start_neg hp]
    rfl
  · refine (View.read_writes_full _ _ _ _ _).trans ?_
    unfold out18
    rw [start_neg hp]
    rfl
  · refine (View.read_writes_full _ _ _ _ _).trans ?_
    unfold out19
    rw [start_neg hp]
    rfl
  · refine (View.read_writes_full _ _ _ _ _).trans ?_
    unfold out20
    rw [start_neg hp]
    refine (congrArg (k0_pay1 _) ((View.readAt_full _ _ _).trans (harg21.read_unread _))).trans ?_
    rfl
  · refine (View.read_writes_full _ _ _ _ _).trans ?_
    unfold out21
    rw [start_neg hp]
    refine (congrArg (k0_pay2 _) ((View.readAt_full _ _ _).trans (harg22.read_unread _))).trans ?_
    rfl
  · refine (View.read_writes_full _ _ _ _ _).trans ?_
    unfold out22
    rw [start_neg hp]
    refine (congrArg (k0_pay3 _) ((View.readAt_full _ _ _).trans (harg23.read_unread _))).trans ?_
    rfl
  · refine (View.read_writes_full _ _ _ _ _).trans ?_
    unfold out23
    rw [start_neg hp]
    refine (congrArg (k0_pay4 _) ((View.readAt_full _ _ _).trans (harg24.read_unread _))).trans ?_
    rfl

end Cert.Kernel4Ideal.Gen

end
-- ==== Proof.Pre.Frame.lean ====
/- The token-shift gradient run: its sums point by point, and the arrays it leaves. -/
module

public import proofs.«01_k».proof.Proof.Pre.Run
public import Idealize.ShloMosaic.Lib.Claim

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is kept between the points -/

/-- A value kept between the points: `f` at each point. -/
def sumAt {α : Type} (f : Fin cfg0.N → α → α) (z : α) : ℕ → α
  | 0 => z
  | n + 1 => if h : n < cfg0.N then f ⟨n, h⟩ (sumAt f z n) else sumAt f z n

theorem sumAt_succ {α : Type} (f : Fin cfg0.N → α → α) (z : α) (t : Fin cfg0.N) : sumAt f z (t.val + 1) = f t (sumAt f z t.val) := by
  rw [sumAt, dif_pos t.isLt]

/-- One more point: at the first one what was there before doesn't matter. -/
theorem sumAt_next {α : Type} (f : Fin cfg0.N → α → α) (z : α) (t : Fin cfg0.N) (y : α) (h0 : t.val = 0 → ∀ y y', f t y = f t y')
    (h : t.val ≠ 0 → y = sumAt f z t.val) : f t y = sumAt f z (t.val + 1) := by
  rw [sumAt_succ]
  by_cases e : t.val = 0
  · exact h0 e _ _
  · rw [h e]

abbrev some_ (S : Shape) (e : EltTy) : Vec F S e := fun _ => Classical.arbitrary _

/-- What the body reads at point `t`. -/
def insAt (c : Dev nD) (t : Fin cfg0.N) : Ins F :=
  ⟨grid0.coords t, iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t⟩

def carryAt (c : Dev nD) : ℕ → Vec F S8x2048 .f32 := sumAt (fun t S => outC (insAt m c t) S) (some_ S8x2048 .f32)
def kept17 (c : Dev nD) : ℕ → Vec F S10x512 .f32 := sumAt (fun t y => out17 (insAt m c t) y) (some_ S10x512 .f32)
def kept18 (c : Dev nD) : ℕ → Vec F S32x512 .f32 := sumAt (fun t y => out18 (insAt m c t) y) (some_ S32x512 .f32)
def kept19 (c : Dev nD) : ℕ → Vec F S32x512 .f32 := sumAt (fun t y => out19 (insAt m c t) y) (some_ S32x512 .f32)
def kept20 (c : Dev nD) : ℕ → Vec F S32x512 .f32 := sumAt (fun t y => out20 (insAt m c t) y) (some_ S32x512 .f32)
def kept21 (c : Dev nD) : ℕ → Vec F S32x512 .f32 := sumAt (fun t y => out21 (insAt m c t) y) (some_ S32x512 .f32)
def kept22 (c : Dev nD) : ℕ → Vec F S96x512 .f32 := sumAt (fun t y => out22 (insAt m c t) y) (some_ S96x512 .f32)
def kept23 (c : Dev nD) : ℕ → Vec F S96x512 .f32 := sumAt (fun t y => out23 (insAt m c t) y) (some_ S96x512 .f32)

/-- The carried row between the points. -/
def inv (c : Dev nD) (n : ℕ) : sProp 𝕄 :=
  iprop((∃ S, ⌜n ≠ 0 → S = carryAt m c n⌝ ∗ owns (c : Thread nD τ) scM0_0 fullShare S) ∗ (∃ r, prngReg c r))

/-- The arrays at the start, and what each staging buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out16 (insAt m c t) (carryAt m c t.val)
    | ⟨17, _⟩ => kept17 m c (t.val + 1)
    | ⟨18, _⟩ => kept18 m c (t.val + 1)
    | ⟨19, _⟩ => kept19 m c (t.val + 1)
    | ⟨20, _⟩ => kept20 m c (t.val + 1)
    | ⟨21, _⟩ => kept21 m c (t.val + 1)
    | ⟨22, _⟩ => kept22 m c (t.val + 1)
    | ⟨23, _⟩ => kept23 m c (t.val + 1)
    | ⟨_ + 24, h⟩ => absurd h (Nat.not_lt.2 (Nat.le_add_left _ _))
  Φ t := inv m c t.val
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out16 (insAt m c t) (carryAt m c t.val) := by dsimp only [dats]
theorem after0_17 (c : Dev nD) (t : Fin cfg0.N) : (dats m 0 c).after 17 t = kept17 m c (t.val + 1) := by dsimp only [dats]
theorem after0_18 (c : Dev nD) (t : Fin cfg0.N) : (dats m 0 c).after 18 t = kept18 m c (t.val + 1) := by dsimp only [dats]
theorem after0_19 (c : Dev nD) (t : Fin cfg0.N) : (dats m 0 c).after 19 t = kept19 m c (t.val + 1) := by dsimp only [dats]
theorem after0_20 (c : Dev nD) (t : Fin cfg0.N) : (dats m 0 c).after 20 t = kept20 m c (t.val + 1) := by dsimp only [dats]
theorem after0_21 (c : Dev nD) (t : Fin cfg0.N) : (dats m 0 c).after 21 t = kept21 m c (t.val + 1) := by dsimp only [dats]
theorem after0_22 (c : Dev nD) (t : Fin cfg0.N) : (dats m 0 c).after 22 t = kept22 m c (t.val + 1) := by dsimp only [dats]
theorem after0_23 (c : Dev nD) (t : Fin cfg0.N) : (dats m 0 c).after 23 t = kept23 m c (t.val + 1) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d
theorem before0_12 (c : Dev nD) (t : Fin cfg0.N) (d) : (dats m 0 c).before 12 t d = iblk m c 12 t := before0_12_of m (dats m 0 c) (A_eq m c 12) (after0_12 m c) t d
theorem before0_13 (c : Dev nD) (t : Fin cfg0.N) (d) : (dats m 0 c).before 13 t d = iblk m c 13 t := before0_13_of m (dats m 0 c) (A_eq m c 13) (after0_13 m c) t d
theorem before0_14 (c : Dev nD) (t : Fin cfg0.N) (d) : (dats m 0 c).before 14 t d = iblk m c 14 t := before0_14_of m (dats m 0 c) (A_eq m c 14) (after0_14 m c) t d
theorem before0_15 (c : Dev nD) (t : Fin cfg0.N) (d) : (dats m 0 c).before 15 t d = iblk m c 15 t := before0_15_of m (dats m 0 c) (A_eq m c 15) (after0_15 m c) t d

theorem coord (t : Fin cfg0.N) : ((grid0.coords t) 0).val = t.val := by
  revert t; decide +kernel

theorem no_flush (w : Fin cfg0.W) (hw : ∀ t : Fin cfg0.N, (cfg0.win w).flush t = true ↔ t.val % 8 = 7) (t : Fin cfg0.N) (h : t.val ≠ 0)
    (hlt : t.val - 1 < cfg0.N) : (cfg0.win w).flush ⟨t.val - 1, hlt⟩ = false :=
  Bool.eq_false_iff.mpr fun e => by
    have h1 := (hw _).mp e
    have hN : t.val < 8 := lt_of_lt_of_eq t.isLt N_0
    dsimp only at h1; omega

theorem start_any {α : Type} {i : grid0.Coords} (h : (i 0).val = 0) (z x x' : α) : start i z x = start i z x' := by
  rw [start_pos h, start_pos h]

theorem firstC (I : Ins F) (h : (I.i 0).val = 0) (S S' : Vec F S8x2048 .f32) : outC I S = outC I S' := by
  unfold outC; rw [start_any h]

theorem first16 (I : Ins F) (h : (I.i 0).val = 0) (S S' : Vec F S8x2048 .f32) : out16 I S = out16 I S' := by
  unfold out16; rw [start_any h]

theorem nextC (c : Dev nD) (t : Fin cfg0.N) (S : Vec F S8x2048 .f32) (h : t.val ≠ 0 → S = carryAt m c t.val) : outC (insAt m c t) S = carryAt m c (t.val + 1) :=
  sumAt_next (fun t S => outC (insAt m c t) S) (some_ S8x2048 .f32) t S (fun e y y' => firstC _ ((coord t).trans e) y y') h

theorem out16_next (c : Dev nD) (t : Fin cfg0.N) (S : Vec F S8x2048 .f32) (h : t.val ≠ 0 → S = carryAt m c t.val) : out16 (insAt m c t) S = out16 (insAt m c t) (carryAt m c t.val) := by
  by_cases e : t.val = 0
  · exact first16 _ ((coord t).trans e) _ _
  · rw [h e]

theorem first17 (I : Ins F) (h : (I.i 0).val = 0) (y y' : Vec F S10x512 .f32) : out17 I y = out17 I y' := by
  unfold out17; rw [start_any h]

theorem next17 (c : Dev nD) (t : Fin cfg0.N) (d) : out17 (insAt m c t) ((dats m 0 c).before 17 t d) = kept17 m c (t.val + 1) :=
  sumAt_next (fun t y => out17 (insAt m c t) y) (some_ S10x512 .f32) t ((dats m 0 c).before 17 t d) (fun e y y' => first17 _ ((coord t).trans e) y y') fun h => by
    rw [Dat.before_out_kept _ 17 rfl t h (no_flush 17 flush0_17 t h _) (fun _ => rfl) (fun _ _ => rfl), after0_17]
    show kept17 m c (t.val - 1 + 1) = _
    rw [Nat.sub_add_cancel (Nat.one_le_iff_ne_zero.mpr h)]
    rfl

theorem first18 (I : Ins F) (h : (I.i 0).val = 0) (y y' : Vec F S32x512 .f32) : out18 I y = out18 I y' := by
  unfold out18; rw [start_any h]

theorem next18 (c : Dev nD) (t : Fin cfg0.N) (d) : out18 (insAt m c t) ((dats m 0 c).before 18 t d) = kept18 m c (t.val + 1) :=
  sumAt_next (fun t y => out18 (insAt m c t) y) (some_ S32x512 .f32) t ((dats m 0 c).before 18 t d) (fun e y y' => first18 _ ((coord t).trans e) y y') fun h => by
    rw [Dat.before_out_kept _ 18 rfl t h (no_flush 18 flush0_18 t h _) (fun _ => rfl) (fun _ _ => rfl), after0_18]
    show kept18 m c (t.val - 1 + 1) = _
    rw [Nat.sub_add_cancel (Nat.one_le_iff_ne_zero.mpr h)]
    rfl

theorem first19 (I : Ins F) (h : (I.i 0).val = 0) (y y' : Vec F S32x512 .f32) : out19 I y = out19 I y' := by
  unfold out19; rw [start_any h]

theorem next19 (c : Dev nD) (t : Fin cfg0.N) (d) : out19 (insAt m c t) ((dats m 0 c).before 19 t d) = kept19 m c (t.val + 1) :=
  sumAt_next (fun t y => out19 (insAt m c t) y) (some_ S32x512 .f32) t ((dats m 0 c).before 19 t d) (fun e y y' => first19 _ ((coord t).trans e) y y') fun h => by
    rw [Dat.before_out_kept _ 19 rfl t h (no_flush 19 flush0_19 t h _) (fun _ => rfl) (fun _ _ => rfl), after0_19]
    show kept19 m c (t.val - 1 + 1) = _
    rw [Nat.sub_add_cancel (Nat.one_le_iff_ne_zero.mpr h)]
    rfl

theorem first20 (I : Ins F) (h : (I.i 0).val = 0) (y y' : Vec F S32x512 .f32) : out20 I y = out20 I y' := by
  unfold out20; rw [start_any h]

theorem next20 (c : Dev nD) (t : Fin cfg0.N) (d) : out20 (insAt m c t) ((dats m 0 c).before 20 t d) = kept20 m c (t.val + 1) :=
  sumAt_next (fun t y => out20 (insAt m c t) y) (some_ S32x512 .f32) t ((dats m 0 c).before 20 t d) (fun e y y' => first20 _ ((coord t).trans e) y y') fun h => by
    rw [Dat.before_out_kept _ 20 rfl t h (no_flush 20 flush0_20 t h _) (fun _ => rfl) (fun _ _ => rfl), after0_20]
    show kept20 m c (t.val - 1 + 1) = _
    rw [Nat.sub_add_cancel (Nat.one_le_iff_ne_zero.mpr h)]
    rfl

theorem first21 (I : Ins F) (h : (I.i 0).val = 0) (y y' : Vec F S32x512 .f32) : out21 I y = out21 I y' := by
  unfold out21; rw [start_any h]

theorem next21 (c : Dev nD) (t : Fin cfg0.N) (d) : out21 (insAt m c t) ((dats m 0 c).before 21 t d) = kept21 m c (t.val + 1) :=
  sumAt_next (fun t y => out21 (insAt m c t) y) (some_ S32x512 .f32) t ((dats m 0 c).before 21 t d) (fun e y y' => first21 _ ((coord t).trans e) y y') fun h => by
    rw [Dat.before_out_kept _ 21 rfl t h (no_flush 21 flush0_21 t h _) (fun _ => rfl) (fun _ _ => rfl), after0_21]
    show kept21 m c (t.val - 1 + 1) = _
    rw [Nat.sub_add_cancel (Nat.one_le_iff_ne_zero.mpr h)]
    rfl

theorem first22 (I : Ins F) (h : (I.i 0).val = 0) (y y' : Vec F S96x512 .f32) : out22 I y = out22 I y' := by
  unfold out22; rw [start_any h]

theorem next22 (c : Dev nD) (t : Fin cfg0.N) (d) : out22 (insAt m c t) ((dats m 0 c).before 22 t d) = kept22 m c (t.val + 1) :=
  sumAt_next (fun t y => out22 (insAt m c t) y) (some_ S96x512 .f32) t ((dats m 0 c).before 22 t d) (fun e y y' => first22 _ ((coord t).trans e) y y') fun h => by
    rw [Dat.before_out_kept _ 22 rfl t h (no_flush 22 flush0_22 t h _) (fun _ => rfl) (fun _ _ => rfl), after0_22]
    show kept22 m c (t.val - 1 + 1) = _
    rw [Nat.sub_add_cancel (Nat.one_le_iff_ne_zero.mpr h)]
    rfl

theorem first23 (I : Ins F) (h : (I.i 0).val = 0) (y y' : Vec F S96x512 .f32) : out23 I y = out23 I y' := by
  unfold out23; rw [start_any h]

theorem next23 (c : Dev nD) (t : Fin cfg0.N) (d) : out23 (insAt m c t) ((dats m 0 c).before 23 t d) = kept23 m c (t.val + 1) :=
  sumAt_next (fun t y => out23 (insAt m c t) y) (some_ S96x512 .f32) t ((dats m 0 c).before 23 t d) (fun e y y' => first23 _ ((coord t).trans e) y y') fun h => by
    rw [Dat.before_out_kept _ 23 rfl t h (no_flush 23 flush0_23 t h _) (fun _ => rfl) (fun _ _ => rfl), after0_23]
    show kept23 m c (t.val - 1 + 1) = _
    rw [Nat.sub_add_cancel (Nat.one_le_iff_ne_zero.mpr h)]
    rfl

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.succ = inv m c (t.val + 1) from rfl, show (dats m 0 c).Φ t.castSucc = inv m c t.val from rfl]
  unfold inv
  iintro ⟨⟨⟨%S, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (run_point c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ((dats m 0 c).before 16 t d16) ((dats m 0 c).before 17 t d17) ((dats m 0 c).before 18 t d18) ((dats m 0 c).before 19 t d19) ((dats m 0 c).before 20 t d20) ((dats m 0 c).before 21 t d21) ((dats m 0 c).before 22 t d22) ((dats m 0 c).before 23 t d23) S Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [HS]; · iexact HS
  iintro ⟨H0, H1, H2, H3, H4, H5, H6, H7, H8, H9, H10, H11, H12, H13, H14, H15, H16, H17, H18, H19, H20, H21, H22, H23, HS⟩
  isplitl [HS Hg]
  · isplitl [HS]
    · iexists _; isplitr
      on_goal 2 => iexact HS
      ipureintro; exact fun _ => nextC m c t S hS
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · rw [← out16_next m c t S hS]; iexact H16
  isplitl [H17]
  · rw [← next17 m c t d17]; iexact H17
  isplitl [H18]
  · rw [← next18 m c t d18]; iexact H18
  isplitl [H19]
  · rw [← next19 m c t d19]; iexact H19
  isplitl [H20]
  · rw [← next20 m c t d20]; iexact H20
  isplitl [H21]
  · rw [← next21 m c t d21]; iexact H21
  isplitl [H22]
  · rw [← next22 m c t d22]; iexact H22
  rw [← next23 m c t d23]; iexact H23

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 from rfl, PhiA0_eq]
  unfold inv
  iintro ⟨⟨%S, HS⟩, Hg⟩
  isplitl [HS]
  · iexists S; isplitr
    · ipureintro; exact fun h => absurd rfl h
    · iexact HS
  iexact Hg

theorem hout (c : Dev nD) : (dats m 0 c).Φ (Fin.last cfg0.N) ⊢ Pipeline.ΦA spec0 c := by
  rw [show (dats m 0 c).Φ (Fin.last cfg0.N) = inv m c cfg0.N from rfl, PhiA0_eq]
  unfold inv
  iintro ⟨⟨%S, %hS, HS⟩, Hg⟩
  isplitl [HS]
  · iexists S; iexact HS
  iexact Hg

/-! ## The run and the frame -/

set_option backward.isDefEq.respectTransparency.types false in
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_all m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  θ_run_and (frame_of m ρ (dats m) (A_eq m) (run_main m ρ)) ((θ_run defs _ _).mono (fun _ h => h.2) (run_all m ρ))

end Cert.Kernel4Ideal.Gen

end
-- ==== Proof.Pre.Base.lean ====
/-
The token-shift gradient: what the points read, as the argument arrays.
-/
module

public import proofs.«01_k».proof.Proof.Pre.Frame
public import proofs.«01_k».proof.Proof.Gen.Reference4Ideal.Read
public import Idealize.ShloMosaic.Lib.Pipeline.ValueKit
public import Idealize.ShloMosaic.Lib.Pipeline.ReadBack

@[expose] public section

set_option maxRecDepth 16384

noncomputable section

namespace Cert.Kernel4Ideal.Pre

open Idealize.ShloMosaic Idealize.ShloMosaic.TcCoe Idealize.SL.Sem
open Idealize.ShloMosaic.Pipeline (Dat)
open Cert.Kernel4Ideal Cert.Kernel4Ideal.Gen
open Cert.Reference4Ideal.Read

variable (m : (ℓ : Loc nD τ sig) → Buf (Elt Ideal) ℓ)

/-- The tiles come in reverse order: point `t` works on tile `7 - t`. -/
theorem idx : ∀ t : Fin cfg0.N, win0_0.index t = ![7 - t.val, 0] ∧ win0_1.index t = ![(7 - t.val) * 32 - 1, 0]
    ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0]
    ∧ win0_9.index t = ![0, 7 - t.val, 0] ∧ win0_10.index t = ![0, 7 - t.val, 0] ∧ win0_11.index t = ![0, 7 - t.val, 0] ∧ win0_12.index t = ![0, 7 - t.val, 0] ∧ win0_13.index t = ![0, 7 - t.val, 0] ∧ win0_14.index t = ![0, 7 - t.val, 0] ∧ win0_15.index t = ![7 - t.val, 0]
    ∧ win0_16.index t = ![7 - t.val, 0] ∧ win0_17.index t = ![0, 0] ∧ win0_18.index t = ![0, 0] ∧ win0_19.index t = ![0, 0] ∧ win0_20.index t = ![0, 0] ∧ win0_21.index t = ![0, 0] ∧ win0_22.index t = ![0, 0] ∧ win0_23.index t = ![0, 0] :=
  (by decide +kernel : ∀ t : Fin grid0.N, _)

theorem lt8 (t : Fin cfg0.N) : t.val < 8 := lt_of_lt_of_eq t.isLt N_0

theorem cur_blk (c : Dev nD) (t : Fin cfg0.N) (i : S256x2048.Idx) (j : S2048x2048.Idx) (h0 : (j 0 : ℕ) = (7 - t.val) * 256 + i 0) (h1 : (j 1 : ℕ) = i 1) :
    iblk m c 0 t i = (m ((c : Thread nD τ).loc main_arg0)) j := by
  blk_ext [iblk, V, idx t]

theorem halo_blk (c : Dev nD) (t : Fin cfg0.N) (i : S8x2048.Idx) (j : S2048x2048.Idx) (h0 : (j 0 : ℕ) = ((7 - t.val) * 32 - 1) * 8 + i 0) (h1 : (j 1 : ℕ) = i 1) :
    iblk m c 1 t i = (m ((c : Thread nD τ).loc main_arg0)) j := by
  blk_ext [iblk, V, idx t]

theorem gate_blk (c : Dev nD) (t : Fin cfg0.N) (i : S256x512.Idx) (j : S2048x512.Idx) (h0 : (j 0 : ℕ) = (7 - t.val) * 256 + i 0) (h1 : (j 1 : ℕ) = i 1) :
    iblk m c 15 t i = (m ((c : Thread nD τ).loc main_arg23)) j := by
  blk_ext [iblk, V, idx t]

theorem w3_host (c : Dev nD) (i : S32x512.Idx) (j : S512x32.Idx) (h0 : (j 0 : ℕ) = i 1) (h1 : (j 1 : ℕ) = i 0) : V m c main_v5 i = (m ((c : Thread nD τ).loc main_arg8)) j := by
  unfold V
  entry_read
  pointwise
  refine congrArg (m ((c : Thread nD τ).loc main_arg8)) ?_
  blk_ext []

theorem w3_blk (c : Dev nD) (t : Fin cfg0.N) (i : S32x512.Idx) (j : S512x32.Idx) (h0 : (j 0 : ℕ) = i 1) (h1 : (j 1 : ℕ) = i 0) : iblk m c 3 t i = (m ((c : Thread nD τ).loc main_arg8)) j := by
  rw [← w3_host m c i j h0 h1]
  blk_ext [iblk, idx t]

theorem w4_host (c : Dev nD) (i : S32x512.Idx) (j : S32x512.Idx) (h0 : (j 0 : ℕ) = i 0) (h1 : (j 1 : ℕ) = i 1) : V m c main_v7 i = (m ((c : Thread nD τ).loc main_arg9)) j := by
  unfold V
  entry_read
  pointwise
  refine congrArg (m ((c : Thread nD τ).loc main_arg9)) ?_
  blk_ext []

theorem w4_blk (c : Dev nD) (t : Fin cfg0.N) (i : S32x512.Idx) (j : S32x512.Idx) (h0 : (j 0 : ℕ) = i 0) (h1 : (j 1 : ℕ) = i 1) : iblk m c 4 t i = (m ((c : Thread nD τ).loc main_arg9)) j := by
  rw [← w4_host m c i j h0 h1]
  blk_ext [iblk, idx t]

theorem w5_host (c : Dev nD) (i : S32x512.Idx) (j : S512x32.Idx) (h0 : (j 0 : ℕ) = i 1) (h1 : (j 1 : ℕ) = i 0) : V m c main_v9 i = (m ((c : Thread nD τ).loc main_arg11)) j := by
  unfold V
  entry_read
  pointwise
  refine congrArg (m ((c : Thread nD τ).loc main_arg11)) ?_
  blk_ext []

theorem w5_blk (c : Dev nD) (t : Fin cfg0.N) (i : S32x512.Idx) (j : S512x32.Idx) (h0 : (j 0 : ℕ) = i 1) (h1 : (j 1 : ℕ) = i 0) : iblk m c 5 t i = (m ((c : Thread nD τ).loc main_arg11)) j := by
  rw [← w5_host m c i j h0 h1]
  blk_ext [iblk, idx t]

theorem w6_host (c : Dev nD) (i : S32x512.Idx) (j : S32x512.Idx) (h0 : (j 0 : ℕ) = i 0) (h1 : (j 1 : ℕ) = i 1) : V m c main_v11 i = (m ((c : Thread nD τ).loc main_arg12)) j := by
  unfold V
  entry_read
  pointwise
  refine congrArg (m ((c : Thread nD τ).loc main_arg12)) ?_
  blk_ext []

theorem w6_blk (c : Dev nD) (t : Fin cfg0.N) (i : S32x512.Idx) (j : S32x512.Idx) (h0 : (j 0 : ℕ) = i 0) (h1 : (j 1 : ℕ) = i 1) : iblk m c 6 t i = (m ((c : Thread nD τ).loc main_arg12)) j := by
  rw [← w6_host m c i j h0 h1]
  blk_ext [iblk, idx t]

theorem w7_host (c : Dev nD) (i : S96x512.Idx) (j : S512x96.Idx) (h0 : (j 0 : ℕ) = i 1) (h1 : (j 1 : ℕ) = i 0) : V m c main_v13 i = (m ((c : Thread nD τ).loc main_arg13)) j := by
  unfold V
  entry_read
  pointwise
  refine congrArg (m ((c : Thread nD τ).loc main_arg13)) ?_
  blk_ext []

theorem w7_blk (c : Dev nD) (t : Fin cfg0.N) (i : S96x512.Idx) (j : S512x96.Idx) (h0 : (j 0 : ℕ) = i 1) (h1 : (j 1 : ℕ) = i 0) : iblk m c 7 t i = (m ((c : Thread nD τ).loc main_arg13)) j := by
  rw [← w7_host m c i j h0 h1]
  blk_ext [iblk, idx t]

theorem w8_host (c : Dev nD) (i : S96x512.Idx) (j : S96x512.Idx) (h0 : (j 0 : ℕ) = i 0) (h1 : (j 1 : ℕ) = i 1) : V m c main_v15 i = (m ((c : Thread nD τ).loc main_arg14)) j := by
  unfold V
  entry_read
  pointwise
  refine congrArg (m ((c : Thread nD τ).loc main_arg14)) ?_
  blk_ext []

theorem w8_blk (c : Dev nD) (t : Fin cfg0.N) (i : S96x512.Idx) (j : S96x512.Idx) (h0 : (j 0 : ℕ) = i 0) (h1 : (j 1 : ℕ) = i 1) : iblk m c 8 t i = (m ((c : Thread nD τ).loc main_arg14)) j := by
  rw [← w8_host m c i j h0 h1]
  blk_ext [iblk, idx t]

/-- Ten rows laid one below the other. -/
theorem ten_rows (x0 x1 x2 x3 x4 x5 x6 x7 x8 x9 : S1x512.Idx → EReal) (h) (n : Fin 10) (i : S10x512.Idx) (j : S1x512.Idx) (h0 : (i 0 : ℕ) = n) (h1 : (j 1 : ℕ) = i 1) :
    concatenate S10x512 0 [⟨S1x512, x0⟩, ⟨S1x512, x1⟩, ⟨S1x512, x2⟩, ⟨S1x512, x3⟩, ⟨S1x512, x4⟩, ⟨S1x512, x5⟩, ⟨S1x512, x6⟩, ⟨S1x512, x7⟩, ⟨S1x512, x8⟩, ⟨S1x512, x9⟩] h i = ![x0, x1, x2, x3, x4, x5, x6, x7, x8, x9] n j := by
  refine (concatenate_ofFn_unit_apply' (s₁ := S1x512) (t := S10x512) 0 ![x0, x1, x2, x3, x4, x5, x6, x7, x8, x9] h rfl i).trans ?_
  have e : (⟨(i 0 : ℕ), (i 0).isLt⟩ : Fin 10) = n := Fin.ext h0
  refine (congrFun (congrArg ![x0, x1, x2, x3, x4, x5, x6, x7, x8, x9] e) _).trans (congrArg _ ?_)
  blk_ext []
  rw [Shape.Idx.norm_def]
  exact h1.symm

/-- The ten rows of coefficients. -/
theorem vec_host (c : Dev nD) (n : Fin 10) (i : S10x512.Idx) (j : S1x512.Idx) (h0 : (i 0 : ℕ) = n) (h1 : (j 1 : ℕ) = i 1) :
    V m c main_v0 i = ![m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg10), m ((c : Thread nD τ).loc main_arg15), m ((c : Thread nD τ).loc main_arg16)] n j := by
  unfold V
  entry_read
  exact ten_rows _ _ _ _ _ _ _ _ _ _ _ n i j h0 h1

theorem vec_blk (c : Dev nD) (t : Fin cfg0.N) (n : Fin 10) (i : S10x512.Idx) (j : S1x512.Idx) (h0 : (i 0 : ℕ) = n) (h1 : (j 1 : ℕ) = i 1) :
    iblk m c 2 t i = ![m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg10), m ((c : Thread nD τ).loc main_arg15), m ((c : Thread nD τ).loc main_arg16)] n j := by
  rw [← vec_host m c n i j h0 h1]
  blk_ext [iblk, idx t]

end Cert.Kernel4Ideal.Pre

end
-- ==== Proof.Pre.Prev.lean ====
/-
The token before: the reference takes it by a shifted copy, the points by turning their rows round.
-/
module

public import proofs.«01_k».proof.Proof.Pre.Base

@[expose] public section

set_option maxRecDepth 16384

noncomputable section

namespace Cert.Kernel4Ideal.Pre

open Idealize.ShloMosaic Idealize.ShloMosaic.TcCoe Idealize.SL.Sem
open Idealize.ShloMosaic.Pipeline (Dat)
open Cert.Kernel4Ideal Cert.Kernel4Ideal.Gen
open Cert.Reference4Ideal.Read

variable (m : (ℓ : Loc nD τ sig) → Buf (Elt Ideal) ℓ)

/-- The row before row `k` of the activations; before the first there is zero. -/
def prevAt (c : Dev nD) (k l : Fin 2048) : EReal :=
  if h : k.val = 0 then 0 else (m ((c : Thread nD τ).loc main_arg0)) (ValueIdx.ix2 ⟨k.val - 1, by omega⟩ l)

theorem zero_f32 : Ideal.ofBits FTy.f32 0#32 = (0 : EReal) := by simp [Ideal.ofBits, Ideal.ieee]

theorem prev_ref6 (c : Dev nD) (j : S2048x512.Idx) (k l : Fin 2048) (h0 : (k : ℕ) = j 0) (h1 : (l : ℕ) = j 1) : val_main_v6 (F := Ideal) (m ((c : Thread nD τ).loc main_arg0)) j = prevAt m c k l := by
  unfold prevAt
  by_cases h : k.val = 0
  · rw [dif_pos h]
    pointwise [val_main_v6, val_main_v5, val_main_v4, val_main_v0, val_main_cst]
    blk_point []
    all_goals omega
  · rw [dif_neg h]
    pointwise [val_main_v6, val_main_v5, val_main_v4, val_main_v0, val_main_cst]
    blk_point []
    all_goals first
      | omega
      | exact h1.symm
      | exact congrArg (· - 1) h0.symm

theorem prev_ref14 (c : Dev nD) (j : S2048x512.Idx) (k l : Fin 2048) (h0 : (k : ℕ) = j 0) (h1 : (l : ℕ) = 512 + j 1) : val_main_v14 (F := Ideal) (m ((c : Thread nD τ).loc main_arg0)) j = prevAt m c k l := by
  unfold prevAt
  by_cases h : k.val = 0
  · rw [dif_pos h]
    pointwise [val_main_v14, val_main_v13, val_main_v12, val_main_v1, val_main_cst_1]
    blk_point []
    all_goals omega
  · rw [dif_neg h]
    pointwise [val_main_v14, val_main_v13, val_main_v12, val_main_v1, val_main_cst_1]
    blk_point []
    all_goals first
      | omega
      | exact h1.symm
      | exact congrArg (· - 1) h0.symm

theorem prev_ref22 (c : Dev nD) (j : S2048x512.Idx) (k l : Fin 2048) (h0 : (k : ℕ) = j 0) (h1 : (l : ℕ) = 1024 + j 1) : val_main_v22 (F := Ideal) (m ((c : Thread nD τ).loc main_arg0)) j = prevAt m c k l := by
  unfold prevAt
  by_cases h : k.val = 0
  · rw [dif_pos h]
    pointwise [val_main_v22, val_main_v21, val_main_v20, val_main_v2, val_main_cst_3]
    blk_point []
    all_goals omega
  · rw [dif_neg h]
    pointwise [val_main_v22, val_main_v21, val_main_v20, val_main_v2, val_main_cst_3]
    blk_point []
    all_goals first
      | omega
      | exact h1.symm
      | exact congrArg (· - 1) h0.symm

theorem prev_ref30 (c : Dev nD) (j : S2048x512.Idx) (k l : Fin 2048) (h0 : (k : ℕ) = j 0) (h1 : (l : ℕ) = 1536 + j 1) : val_main_v30 (F := Ideal) (m ((c : Thread nD τ).loc main_arg0)) j = prevAt m c k l := by
  unfold prevAt
  by_cases h : k.val = 0
  · rw [dif_pos h]
    pointwise [val_main_v30, val_main_v29, val_main_v28, val_main_v3, val_main_cst_5]
    blk_point []
    all_goals omega
  · rw [dif_neg h]
    pointwise [val_main_v30, val_main_v29, val_main_v28, val_main_v3, val_main_cst_5]
    blk_point []
    all_goals first
      | omega
      | exact h1.symm
      | exact congrArg (· - 1) h0.symm

theorem prev_ref38 (c : Dev nD) : val_main_v38 (F := Ideal) (m ((c : Thread nD τ).loc main_arg0)) = val_main_v30 (F := Ideal) (m ((c : Thread nD τ).loc main_arg0)) := rfl
theorem prev_ref46 (c : Dev nD) : val_main_v46 (F := Ideal) (m ((c : Thread nD τ).loc main_arg0)) = val_main_v30 (F := Ideal) (m ((c : Thread nD τ).loc main_arg0)) := rfl

theorem row_is : ∀ r n : Fin 256, IntOp.cmpi .eq (BitVec.ofNat 32 n.val) (BitVec.ofNat 32 r.val) = if n.val = r.val then 1#1 else 0#1 := by decide +kernel

theorem tile_pos : ∀ n : Fin 8, Scalar.cmpi .sgt (Scalar.subi (7#32) (BitVec.ofNat 32 n.val)) 0#32 = if n.val = 7 then 0#1 else 1#1 := by decide +kernel

theorem e16 (c : Dev nD) (t : Fin cfg0.N) (i : S256x2048.Idx) (k l : Fin 2048) (h0 : (k : ℕ) = (7 - t.val) * 256 + i 0) (h1 : (l : ℕ) = i 1) :
    s16 (insAt m c t) i = prevAt m c k l := by
  have ht := lt8 t
  have hc := coord t
  unfold prevAt s16 insAt
  pointwise [k0_pay13]
  rw [hc]
  have hb : (i 0 : ℕ) < 256 := (i 0).isLt
  have e1 : IntOp.cmpi .eq (BitVec.ofNat 32 (i 0 : ℕ)) 0#32 = if (i 0 : ℕ) = 0 then 1#1 else 0#1 := row_is 0 ⟨i 0, hb⟩
  have e2 : Scalar.cmpi .sgt (Scalar.subi (7#32) (BitVec.ofNat 32 t.val)) 0#32 = if t.val = 7 then 0#1 else 1#1 := tile_pos ⟨t.val, ht⟩
  rw [e1, e2]
  by_cases hi : (i 0 : ℕ) = 0
  · rw [if_pos hi]
    by_cases h7 : t.val = 7
    · rw [if_pos h7, dif_pos (show k.val = 0 by omega)]
      rfl
    · rw [if_neg h7, dif_neg (show ¬k.val = 0 by omega)]
      exact halo_blk m c t _ _ (by show k.val - 1 = ((7 - t.val) * 32 - 1) * 8 + 7; omega) h1
  · rw [if_neg hi]
    rw [dif_neg (show ¬k.val = 0 by omega)]
    exact cur_blk m c t _ _ (by show k.val - 1 = (7 - t.val) * 256 + ((i 0 : ℕ) + 256 - 1) % 256; omega) h1

end Cert.Kernel4Ideal.Pre

end
-- ==== Proof.Pre.Rows.lean ====
/-
The token-shift gradient, row by row: the forward values of a point, as the reference's.
-/
module

public import proofs.«01_k».proof.Proof.Pre.Prev

@[expose] public section

set_option maxRecDepth 16384

noncomputable section

namespace Cert.Kernel4Ideal.Pre

open Idealize.ShloMosaic Idealize.ShloMosaic.TcCoe Idealize.SL.Sem
open Idealize.ShloMosaic.Pipeline (Dat)
open Cert.Kernel4Ideal Cert.Kernel4Ideal.Gen
open Cert.Reference4Ideal.Read

variable (m : (ℓ : Loc nD τ sig) → Buf (Elt Ideal) ℓ)

def r8 (c : Dev nD) : Cert.Reference4Ideal.S2048x512.Idx → EReal := val_main_v8 (F := Ideal) (m ((c : Thread nD τ).loc main_arg0))
def r16 (c : Dev nD) : Cert.Reference4Ideal.S2048x512.Idx → EReal := val_main_v16 (F := Ideal) (m ((c : Thread nD τ).loc main_arg0))
def r19 (c : Dev nD) : Cert.Reference4Ideal.S2048x512.Idx → EReal := val_main_v19 (F := Ideal) (m ((c : Thread nD τ).loc main_arg0)) (m ((c : Thread nD τ).loc main_arg2))
def r24 (c : Dev nD) : Cert.Reference4Ideal.S2048x512.Idx → EReal := val_main_v24 (F := Ideal) (m ((c : Thread nD τ).loc main_arg0))
def r32 (c : Dev nD) : Cert.Reference4Ideal.S2048x512.Idx → EReal := val_main_v32 (F := Ideal) (m ((c : Thread nD τ).loc main_arg0))
def r35 (c : Dev nD) : Cert.Reference4Ideal.S2048x512.Idx → EReal := val_main_v35 (F := Ideal) (m ((c : Thread nD τ).loc main_arg0)) (m ((c : Thread nD τ).loc main_arg4))
def r40 (c : Dev nD) : Cert.Reference4Ideal.S2048x512.Idx → EReal := val_main_v40 (F := Ideal) (m ((c : Thread nD τ).loc main_arg0))
def r43 (c : Dev nD) : Cert.Reference4Ideal.S2048x512.Idx → EReal := val_main_v43 (F := Ideal) (m ((c : Thread nD τ).loc main_arg0)) (m ((c : Thread nD τ).loc main_arg5))
def r48 (c : Dev nD) : Cert.Reference4Ideal.S2048x512.Idx → EReal := val_main_v48 (F := Ideal) (m ((c : Thread nD τ).loc main_arg0))
def r51 (c : Dev nD) : Cert.Reference4Ideal.S2048x512.Idx → EReal := val_main_v51 (F := Ideal) (m ((c : Thread nD τ).loc main_arg0)) (m ((c : Thread nD τ).loc main_arg6))
def r53 (c : Dev nD) : Cert.Reference4Ideal.S2048x32.Idx → EReal := val_main_v53 (F := Ideal) (m ((c : Thread nD τ).loc main_arg0)) (m ((c : Thread nD τ).loc main_arg4)) (m ((c : Thread nD τ).loc main_arg8))
def r58 (c : Dev nD) : Cert.Reference4Ideal.S2048x32.Idx → EReal := val_main_v58 (F := Ideal) (m ((c : Thread nD τ).loc main_arg0)) (m ((c : Thread nD τ).loc main_arg4)) (m ((c : Thread nD τ).loc main_arg8))
def r61 (c : Dev nD) : Cert.Reference4Ideal.S2048x512.Idx → EReal := val_main_v61 (F := Ideal) (m ((c : Thread nD τ).loc main_arg0)) (m ((c : Thread nD τ).loc main_arg4)) (m ((c : Thread nD τ).loc main_arg7)) (m ((c : Thread nD τ).loc main_arg8)) (m ((c : Thread nD τ).loc main_arg9))
def r69 (c : Dev nD) : Cert.Reference4Ideal.S2048x32.Idx → EReal := val_main_v69 (F := Ideal) (m ((c : Thread nD τ).loc main_arg0)) (m ((c : Thread nD τ).loc main_arg5)) (m ((c : Thread nD τ).loc main_arg11))
def r72 (c : Dev nD) : Cert.Reference4Ideal.S2048x512.Idx → EReal := val_main_v72 (F := Ideal) (m ((c : Thread nD τ).loc main_arg0)) (m ((c : Thread nD τ).loc main_arg5)) (m ((c : Thread nD τ).loc main_arg10)) (m ((c : Thread nD τ).loc main_arg11)) (m ((c : Thread nD τ).loc main_arg12))
def r74 (c : Dev nD) : Cert.Reference4Ideal.S2048x512.Idx → EReal := val_main_v74 (F := Ideal) (m ((c : Thread nD τ).loc main_arg0)) (m ((c : Thread nD τ).loc main_arg5)) (m ((c : Thread nD τ).loc main_arg10)) (m ((c : Thread nD τ).loc main_arg11)) (m ((c : Thread nD τ).loc main_arg12))
def r76 (c : Dev nD) : Cert.Reference4Ideal.S2048x512.Idx → EReal := val_main_v76 (F := Ideal) (m ((c : Thread nD τ).loc main_arg0)) (m ((c : Thread nD τ).loc main_arg5)) (m ((c : Thread nD τ).loc main_arg10)) (m ((c : Thread nD τ).loc main_arg11)) (m ((c : Thread nD τ).loc main_arg12))
def r78 (c : Dev nD) : Cert.Reference4Ideal.S2048x512.Idx → EReal := val_main_v78 (F := Ideal) (m ((c : Thread nD τ).loc main_arg0)) (m ((c : Thread nD τ).loc main_arg5)) (m ((c : Thread nD τ).loc main_arg10)) (m ((c : Thread nD τ).loc main_arg11)) (m ((c : Thread nD τ).loc main_arg12))
def r82 (c : Dev nD) : Cert.Reference4Ideal.S2048x96.Idx → EReal := val_main_v82 (F := Ideal) (m ((c : Thread nD τ).loc main_arg0)) (m ((c : Thread nD τ).loc main_arg6)) (m ((c : Thread nD τ).loc main_arg13))
def r84 (c : Dev nD) : Cert.Reference4Ideal.S2048x96.Idx → EReal := val_main_v84 (F := Ideal) (m ((c : Thread nD τ).loc main_arg0)) (m ((c : Thread nD τ).loc main_arg6)) (m ((c : Thread nD τ).loc main_arg13))
def r86 (c : Dev nD) : Cert.Reference4Ideal.S2048x96.Idx → EReal := val_main_v86 (F := Ideal) (m ((c : Thread nD τ).loc main_arg0)) (m ((c : Thread nD τ).loc main_arg6)) (m ((c : Thread nD τ).loc main_arg13))
def r88 (c : Dev nD) : Cert.Reference4Ideal.S2048x96.Idx → EReal := val_main_v88 (F := Ideal) (m ((c : Thread nD τ).loc main_arg0)) (m ((c : Thread nD τ).loc main_arg6)) (m ((c : Thread nD τ).loc main_arg13))
def r91 (c : Dev nD) : Cert.Reference4Ideal.S2048x96.Idx → EReal := val_main_v91 (F := Ideal) (m ((c : Thread nD τ).loc main_arg0)) (m ((c : Thread nD τ).loc main_arg6)) (m ((c : Thread nD τ).loc main_arg13))
def r96 (c : Dev nD) : Cert.Reference4Ideal.S2048x512.Idx → EReal := val_main_v96 (F := Ideal) (m ((c : Thread nD τ).loc main_arg0)) (m ((c : Thread nD τ).loc main_arg5)) (m ((c : Thread nD τ).loc main_arg10)) (m ((c : Thread nD τ).loc main_arg11)) (m ((c : Thread nD τ).loc main_arg12))
def r100 (c : Dev nD) : Cert.Reference4Ideal.S2048x512.Idx → EReal := val_main_v100 (F := Ideal) (m ((c : Thread nD τ).loc main_arg0)) (m ((c : Thread nD τ).loc main_arg5)) (m ((c : Thread nD τ).loc main_arg10)) (m ((c : Thread nD τ).loc main_arg11)) (m ((c : Thread nD τ).loc main_arg12)) (m ((c : Thread nD τ).loc main_arg16))
def r81 (c : Dev nD) : Cert.Reference4Ideal.S2048x512.Idx → EReal := val_main_v81 (F := Ideal) (m ((c : Thread nD τ).loc main_arg0)) (m ((c : Thread nD τ).loc main_arg5)) (m ((c : Thread nD τ).loc main_arg10)) (m ((c : Thread nD τ).loc main_arg11)) (m ((c : Thread nD τ).loc main_arg12))

theorem zero_minus (x y : EReal) (h : x = y) : (0 : EReal) - x = -y := by rw [h, zero_sub]

theorem e18 (c : Dev nD) (t : Fin cfg0.N) : s18 (insAt m c t) = iblk m c 2 t := by
  unfold s18 k0_pay14
  exact shapeCast_self _ _

theorem e31 (c : Dev nD) (t : Fin cfg0.N) (i j : S1x512.Idx) (h1 : (j 1 : ℕ) = i 1) : s31 (insAt m c t) i = (m ((c : Thread nD τ).loc main_arg1)) j := by
  have hi : (i 0 : ℕ) < 1 := (i 0).isLt
  unfold s31
  pointwise [k0_pay21]
  exact (congrFun (e18 m c t) _).trans (vec_blk m c t 0 (ValueIdx.ix2 0 (i 1)) j rfl h1)

theorem e32 (c : Dev nD) (t : Fin cfg0.N) (i j : S1x512.Idx) (h1 : (j 1 : ℕ) = i 1) : s32 (insAt m c t) i = (m ((c : Thread nD τ).loc main_arg2)) j := by
  have hi : (i 0 : ℕ) < 1 := (i 0).isLt
  unfold s32
  pointwise [k0_pay22]
  exact (congrFun (e18 m c t) _).trans (vec_blk m c t 1 (ValueIdx.ix2 1 (i 1)) j rfl h1)

theorem e33 (c : Dev nD) (t : Fin cfg0.N) (i j : S1x512.Idx) (h1 : (j 1 : ℕ) = i 1) : s33 (insAt m c t) i = (m ((c : Thread nD τ).loc main_arg3)) j := by
  have hi : (i 0 : ℕ) < 1 := (i 0).isLt
  unfold s33
  pointwise [k0_pay23]
  exact (congrFun (e18 m c t) _).trans (vec_blk m c t 2 (ValueIdx.ix2 2 (i 1)) j rfl h1)

theorem e34 (c : Dev nD) (t : Fin cfg0.N) (i j : S1x512.Idx) (h1 : (j 1 : ℕ) = i 1) : s34 (insAt m c t) i = (m ((c : Thread nD τ).loc main_arg4)) j := by
  have hi : (i 0 : ℕ) < 1 := (i 0).isLt
  unfold s34
  pointwise [k0_pay24]
  exact (congrFun (e18 m c t) _).trans (vec_blk m c t 3 (ValueIdx.ix2 3 (i 1)) j rfl h1)

theorem e35 (c : Dev nD) (t : Fin cfg0.N) (i j : S1x512.Idx) (h1 : (j 1 : ℕ) = i 1) : s35 (insAt m c t) i = (m ((c : Thread nD τ).loc main_arg5)) j := by
  have hi : (i 0 : ℕ) < 1 := (i 0).isLt
  unfold s35
  pointwise [k0_pay25]
  exact (congrFun (e18 m c t) _).trans (vec_blk m c t 4 (ValueIdx.ix2 4 (i 1)) j rfl h1)

theorem e36 (c : Dev nD) (t : Fin cfg0.N) (i j : S1x512.Idx) (h1 : (j 1 : ℕ) = i 1) : s36 (insAt m c t) i = (m ((c : Thread nD τ).loc main_arg6)) j := by
  have hi : (i 0 : ℕ) < 1 := (i 0).isLt
  unfold s36
  pointwise [k0_pay26]
  exact (congrFun (e18 m c t) _).trans (vec_blk m c t 5 (ValueIdx.ix2 5 (i 1)) j rfl h1)

theorem e38 (c : Dev nD) (t : Fin cfg0.N) (i j : S1x512.Idx) (h1 : (j 1 : ℕ) = i 1) : s38 (insAt m c t) i = (m ((c : Thread nD τ).loc main_arg10)) j := by
  have hi : (i 0 : ℕ) < 1 := (i 0).isLt
  unfold s38
  pointwise [k0_pay27]
  exact (congrFun (e18 m c t) _).trans (vec_blk m c t 7 (ValueIdx.ix2 7 (i 1)) j rfl h1)

theorem e39 (c : Dev nD) (t : Fin cfg0.N) (i j : S1x512.Idx) (h1 : (j 1 : ℕ) = i 1) : s39 (insAt m c t) i = (m ((c : Thread nD τ).loc main_arg15)) j := by
  have hi : (i 0 : ℕ) < 1 := (i 0).isLt
  unfold s39
  pointwise [k0_pay28]
  exact (congrFun (e18 m c t) _).trans (vec_blk m c t 8 (ValueIdx.ix2 8 (i 1)) j rfl h1)

theorem e40 (c : Dev nD) (t : Fin cfg0.N) (i j : S1x512.Idx) (h1 : (j 1 : ℕ) = i 1) : s40 (insAt m c t) i = (m ((c : Thread nD τ).loc main_arg16)) j := by
  have hi : (i 0 : ℕ) < 1 := (i 0).isLt
  unfold s40
  pointwise [k0_pay29]
  exact (congrFun (e18 m c t) _).trans (vec_blk m c t 9 (ValueIdx.ix2 9 (i 1)) j rfl h1)

theorem e43 (c : Dev nD) (t : Fin cfg0.N) (i : S256x512.Idx) (j : S2048x512.Idx) (h0 : (j 0 : ℕ) = (7 - t.val) * 256 + i 0) (h1 : (j 1 : ℕ) = i 1) : s43 (insAt m c t) i = r8 m c j := by
  have hj : (j 1 : ℕ) < 512 := (j 1).isLt
  unfold s43 r8
  pointwise [k0_pay30, val_main_v8, val_main_v0]
  exact congrArg₂ (· - ·) ((e16 m c t _ (j 0) ⟨(j 1 : ℕ), by omega⟩ h0 h1).trans (prev_ref6 m c j _ _ rfl rfl).symm) (cur_blk m c t _ _ h0 h1)

theorem e46 (c : Dev nD) (t : Fin cfg0.N) (i : S256x512.Idx) (j : S2048x512.Idx) (h0 : (j 0 : ℕ) = (7 - t.val) * 256 + i 0) (h1 : (j 1 : ℕ) = i 1) : s46 (insAt m c t) i = r16 m c j := by
  have hj : (j 1 : ℕ) < 512 := (j 1).isLt
  unfold s46 r16
  pointwise [k0_pay32, k0_pay31, val_main_v16, val_main_v1]
  exact congrArg₂ (· - ·) ((e16 m c t _ (j 0) ⟨512 + (j 1 : ℕ), by omega⟩ h0 (congrArg (512 + ·) h1)).trans (prev_ref14 m c j _ _ rfl rfl).symm)
    (cur_blk m c t _ _ h0 (congrArg (512 + ·) h1))

theorem e52 (c : Dev nD) (t : Fin cfg0.N) (i : S256x512.Idx) (j : S2048x512.Idx) (h0 : (j 0 : ℕ) = (7 - t.val) * 256 + i 0) (h1 : (j 1 : ℕ) = i 1) : s52 (insAt m c t) i = r24 m c j := by
  have hj : (j 1 : ℕ) < 512 := (j 1).isLt
  unfold s52 r24
  pointwise [k0_pay34, val_main_v24, val_main_v2]
  exact congrArg₂ (· - ·) ((e16 m c t _ (j 0) ⟨1024 + (j 1 : ℕ), by omega⟩ h0 (congrArg (1024 + ·) h1)).trans (prev_ref22 m c j _ _ rfl rfl).symm)
    (cur_blk m c t _ _ h0 (congrArg (1024 + ·) h1))

theorem e55 (c : Dev nD) (t : Fin cfg0.N) (i : S256x512.Idx) (j : S2048x512.Idx) (h0 : (j 0 : ℕ) = (7 - t.val) * 256 + i 0) (h1 : (j 1 : ℕ) = i 1) : s55 (insAt m c t) i = r32 m c j := by
  have hj : (j 1 : ℕ) < 512 := (j 1).isLt
  unfold s55 r32
  pointwise [k0_pay36, k0_pay35, val_main_v32, val_main_v3]
  exact congrArg₂ (· - ·) ((e16 m c t _ (j 0) ⟨1536 + (j 1 : ℕ), by omega⟩ h0 (congrArg (1536 + ·) h1)).trans (prev_ref30 m c j _ _ rfl rfl).symm)
    (cur_blk m c t _ _ h0 (congrArg (1536 + ·) h1))

theorem e61 (c : Dev nD) (t : Fin cfg0.N) (i : S256x512.Idx) (j : S2048x512.Idx) (h0 : (j 0 : ℕ) = (7 - t.val) * 256 + i 0) (h1 : (j 1 : ℕ) = i 1) : s61 (insAt m c t) i = r40 m c j := by
  have hj : (j 1 : ℕ) < 512 := (j 1).isLt
  unfold s61 r40
  pointwise [k0_pay39, k0_pay38, val_main_v40, val_main_v3]
  exact congrArg₂ (· - ·) ((e16 m c t _ (j 0) ⟨1536 + (j 1 : ℕ), by omega⟩ h0 (congrArg (1536 + ·) h1)).trans (prev_ref30 m c j _ _ rfl rfl).symm)
    (cur_blk m c t _ _ h0 (congrArg (1536 + ·) h1))

theorem e67 (c : Dev nD) (t : Fin cfg0.N) (i : S256x512.Idx) (j : S2048x512.Idx) (h0 : (j 0 : ℕ) = (7 - t.val) * 256 + i 0) (h1 : (j 1 : ℕ) = i 1) : s67 (insAt m c t) i = r48 m c j := by
  have hj : (j 1 : ℕ) < 512 := (j 1).isLt
  unfold s67 r48
  pointwise [k0_pay42, k0_pay41, val_main_v48, val_main_v3]
  exact congrArg₂ (· - ·) ((e16 m c t _ (j 0) ⟨1536 + (j 1 : ℕ), by omega⟩ h0 (congrArg (1536 + ·) h1)).trans (prev_ref30 m c j _ _ rfl rfl).symm)
    (cur_blk m c t _ _ h0 (congrArg (1536 + ·) h1))

theorem e49 (c : Dev nD) (t : Fin cfg0.N) (i : S256x512.Idx) (j : S2048x512.Idx) (h0 : (j 0 : ℕ) = (7 - t.val) * 256 + i 0) (h1 : (j 1 : ℕ) = i 1) : s49 (insAt m c t) i = r19 m c j := by
  have hj : (j 1 : ℕ) < 512 := (j 1).isLt
  unfold s49 r19
  pointwise [k0_pay33, k0_pay31, val_main_v19, val_main_v18, val_main_v17, val_main_v1]
  exact congrArg₂ (· + ·) (cur_blk m c t _ _ h0 (congrArg (512 + ·) h1))
    (congrArg₂ (· * ·) (e46 m c t i j h0 h1) (e32 m c t _ _ h1))

theorem e58 (c : Dev nD) (t : Fin cfg0.N) (i : S256x512.Idx) (j : S2048x512.Idx) (h0 : (j 0 : ℕ) = (7 - t.val) * 256 + i 0) (h1 : (j 1 : ℕ) = i 1) : s58 (insAt m c t) i = r35 m c j := by
  have hj : (j 1 : ℕ) < 512 := (j 1).isLt
  unfold s58 r35
  pointwise [k0_pay37, k0_pay35, val_main_v35, val_main_v34, val_main_v33, val_main_v3]
  exact congrArg₂ (· + ·) (cur_blk m c t _ _ h0 (congrArg (1536 + ·) h1))
    (congrArg₂ (· * ·) (e55 m c t i j h0 h1) (e34 m c t _ _ h1))

theorem e64 (c : Dev nD) (t : Fin cfg0.N) (i : S256x512.Idx) (j : S2048x512.Idx) (h0 : (j 0 : ℕ) = (7 - t.val) * 256 + i 0) (h1 : (j 1 : ℕ) = i 1) : s64 (insAt m c t) i = r43 m c j := by
  have hj : (j 1 : ℕ) < 512 := (j 1).isLt
  unfold s64 r43
  pointwise [k0_pay40, k0_pay38, val_main_v43, val_main_v42, val_main_v41, val_main_v3]
  exact congrArg₂ (· + ·) (cur_blk m c t _ _ h0 (congrArg (1536 + ·) h1))
    (congrArg₂ (· * ·) (e61 m c t i j h0 h1) (e35 m c t _ _ h1))

theorem e70 (c : Dev nD) (t : Fin cfg0.N) (i : S256x512.Idx) (j : S2048x512.Idx) (h0 : (j 0 : ℕ) = (7 - t.val) * 256 + i 0) (h1 : (j 1 : ℕ) = i 1) : s70 (insAt m c t) i = r51 m c j := by
  have hj : (j 1 : ℕ) < 512 := (j 1).isLt
  unfold s70 r51
  pointwise [k0_pay43, k0_pay41, val_main_v51, val_main_v50, val_main_v49, val_main_v3]
  exact congrArg₂ (· + ·) (cur_blk m c t _ _ h0 (congrArg (1536 + ·) h1))
    (congrArg₂ (· * ·) (e67 m c t i j h0 h1) (e36 m c t _ _ h1))

theorem e20 (c : Dev nD) (t : Fin cfg0.N) (i : S32x512.Idx) (j : S512x32.Idx) (h0 : (j 0 : ℕ) = i 1) (h1 : (j 1 : ℕ) = i 0) : s20 (insAt m c t) i = (m ((c : Thread nD τ).loc main_arg8)) j := by
  unfold s20
  pointwise [k0_pay15]
  exact w3_blk m c t _ _ h0 h1

theorem e22 (c : Dev nD) (t : Fin cfg0.N) (i : S32x512.Idx) (j : S32x512.Idx) (h0 : (j 0 : ℕ) = i 0) (h1 : (j 1 : ℕ) = i 1) : s22 (insAt m c t) i = (m ((c : Thread nD τ).loc main_arg9)) j := by
  unfold s22
  pointwise [k0_pay16]
  exact w4_blk m c t _ _ h0 h1

theorem e24 (c : Dev nD) (t : Fin cfg0.N) (i : S32x512.Idx) (j : S512x32.Idx) (h0 : (j 0 : ℕ) = i 1) (h1 : (j 1 : ℕ) = i 0) : s24 (insAt m c t) i = (m ((c : Thread nD τ).loc main_arg11)) j := by
  unfold s24
  pointwise [k0_pay17]
  exact w5_blk m c t _ _ h0 h1

theorem e26 (c : Dev nD) (t : Fin cfg0.N) (i : S32x512.Idx) (j : S32x512.Idx) (h0 : (j 0 : ℕ) = i 0) (h1 : (j 1 : ℕ) = i 1) : s26 (insAt m c t) i = (m ((c : Thread nD τ).loc main_arg12)) j := by
  unfold s26
  pointwise [k0_pay18]
  exact w6_blk m c t _ _ h0 h1

theorem e28 (c : Dev nD) (t : Fin cfg0.N) (i : S96x512.Idx) (j : S512x96.Idx) (h0 : (j 0 : ℕ) = i 1) (h1 : (j 1 : ℕ) = i 0) : s28 (insAt m c t) i = (m ((c : Thread nD τ).loc main_arg13)) j := by
  unfold s28
  pointwise [k0_pay19]
  exact w7_blk m c t _ _ h0 h1

theorem e30 (c : Dev nD) (t : Fin cfg0.N) (i : S96x512.Idx) (j : S96x512.Idx) (h0 : (j 0 : ℕ) = i 0) (h1 : (j 1 : ℕ) = i 1) : s30 (insAt m c t) i = (m ((c : Thread nD τ).loc main_arg14)) j := by
  unfold s30
  pointwise [k0_pay20]
  exact w8_blk m c t _ _ h0 h1

theorem e74 (c : Dev nD) (t : Fin cfg0.N) (i : S256x32.Idx) (j : Cert.Reference4Ideal.S2048x32.Idx) (h0 : (j 0 : ℕ) = (7 - t.val) * 256 + i 0) (h1 : (j 1 : ℕ) = i 1) : s74 (insAt m c t) i = r53 m c j := by
  have hj : (j 1 : ℕ) < 32 := (j 1).isLt
  unfold s74 r53
  pointwise [k0_pay44, val_main_v53, val_main_v52]
  exact congrArg Ideal.tanh (Finset.sum_congr rfl fun x _ => congrArg₂ (· * ·) (e58 m c t _ _ h0 rfl) (e20 m c t _ _ rfl h1))

theorem e79 (c : Dev nD) (t : Fin cfg0.N) (i : S256x32.Idx) (j : Cert.Reference4Ideal.S2048x32.Idx) (h0 : (j 0 : ℕ) = (7 - t.val) * 256 + i 0) (h1 : (j 1 : ℕ) = i 1) : s79 (insAt m c t) i = r58 m c j := by
  have hj : (j 1 : ℕ) < 32 := (j 1).isLt
  unfold s79 r58
  pointwise [k0_pay45, val_main_v58, val_main_v57, val_main_v55, val_main_v56, val_main_v54, val_main_cst_11, val_main_cst_12, val_main_cst_10]
  exact congrArg₂ (· * ·) (congrArg₂ (· + ·) rfl (e74 m c t i j h0 h1)) (congrArg₂ (· - ·) rfl (e74 m c t i j h0 h1))

theorem e84 (c : Dev nD) (t : Fin cfg0.N) (i : S256x512.Idx) (j : S2048x512.Idx) (h0 : (j 0 : ℕ) = (7 - t.val) * 256 + i 0) (h1 : (j 1 : ℕ) = i 1) : s84 (insAt m c t) i = r61 m c j := by
  have hj : (j 1 : ℕ) < 512 := (j 1).isLt
  unfold s84 r61
  pointwise [k0_pay46, val_main_v61, val_main_v60, val_main_v59]
  exact congrArg₂ (· + ·) ((congrFun (e18 m c t) _).trans (vec_blk m c t 6 (ValueIdx.ix2 6 (i 1)) (ValueIdx.ix2 0 (j 1)) rfl h1)) (Finset.sum_congr rfl fun x _ => congrArg₂ (· * ·) (e74 m c t _ _ h0 rfl) (e22 m c t _ _ rfl h1))

theorem e111 (c : Dev nD) (t : Fin cfg0.N) (i : S256x32.Idx) (j : Cert.Reference4Ideal.S2048x32.Idx) (h0 : (j 0 : ℕ) = (7 - t.val) * 256 + i 0) (h1 : (j 1 : ℕ) = i 1) : s111 (insAt m c t) i = r69 m c j := by
  have hj : (j 1 : ℕ) < 32 := (j 1).isLt
  unfold s111 r69
  pointwise [k0_pay53, val_main_v69]
  exact Finset.sum_congr rfl fun x _ => congrArg₂ (· * ·) (e64 m c t _ _ h0 rfl) (e24 m c t _ _ rfl h1)

theorem e119 (c : Dev nD) (t : Fin cfg0.N) (i : S256x512.Idx) (j : S2048x512.Idx) (h0 : (j 0 : ℕ) = (7 - t.val) * 256 + i 0) (h1 : (j 1 : ℕ) = i 1) : s119 (insAt m c t) i = r74 m c j := by
  have hj : (j 1 : ℕ) < 512 := (j 1).isLt
  unfold s119 r74
  pointwise [k0_pay54, val_main_v74, val_main_v73, val_main_v72, val_main_v71, val_main_v70]
  exact congrArg Ideal.exp (zero_minus _ _ (congrArg₂ (· + ·) (e38 m c t _ _ h1) (Finset.sum_congr rfl fun x _ => congrArg₂ (· * ·) (e111 m c t _ _ h0 rfl) (e26 m c t _ _ rfl h1))))

theorem e123 (c : Dev nD) (t : Fin cfg0.N) (i : S256x512.Idx) (j : S2048x512.Idx) (h0 : (j 0 : ℕ) = (7 - t.val) * 256 + i 0) (h1 : (j 1 : ℕ) = i 1) : s123 (insAt m c t) i = r78 m c j := by
  have hj : (j 1 : ℕ) < 512 := (j 1).isLt
  unfold s123 r78
  pointwise [k0_pay56, k0_pay55, val_main_v78, val_main_v77, val_main_v76, val_main_v75, val_main_cst_14, val_main_cst_15]
  exact congrArg₂ Ideal.div rfl (congrArg₂ (· + ·) rfl (e119 m c t i j h0 h1))

theorem e129 (c : Dev nD) (t : Fin cfg0.N) (i : S256x96.Idx) (j : Cert.Reference4Ideal.S2048x96.Idx) (h0 : (j 0 : ℕ) = (7 - t.val) * 256 + i 0) (h1 : (j 1 : ℕ) = i 1) : s129 (insAt m c t) i = r82 m c j := by
  have hj : (j 1 : ℕ) < 96 := (j 1).isLt
  unfold s129 r82
  pointwise [k0_pay58, val_main_v82]
  exact Finset.sum_congr rfl fun x _ => congrArg₂ (· * ·) (e70 m c t _ _ h0 rfl) (e28 m c t _ _ rfl h1)

theorem e132 (c : Dev nD) (t : Fin cfg0.N) (i : S256x96.Idx) (j : Cert.Reference4Ideal.S2048x96.Idx) (h0 : (j 0 : ℕ) = (7 - t.val) * 256 + i 0) (h1 : (j 1 : ℕ) = i 1) : s132 (insAt m c t) i = r84 m c j := by
  have hj : (j 1 : ℕ) < 96 := (j 1).isLt
  unfold s132 r84 s130
  pointwise [k0_pay60, k0_pay59, val_main_v84, val_main_v83]
  exact congrArg Ideal.exp (zero_minus _ _ (e129 m c t i j h0 h1))

theorem e136 (c : Dev nD) (t : Fin cfg0.N) (i : S256x96.Idx) (j : Cert.Reference4Ideal.S2048x96.Idx) (h0 : (j 0 : ℕ) = (7 - t.val) * 256 + i 0) (h1 : (j 1 : ℕ) = i 1) : s136 (insAt m c t) i = r88 m c j := by
  have hj : (j 1 : ℕ) < 96 := (j 1).isLt
  unfold s136 r88
  pointwise [k0_pay62, k0_pay61, val_main_v88, val_main_v87, val_main_v86, val_main_v85, val_main_cst_17, val_main_cst_18]
  exact congrArg₂ Ideal.div rfl (congrArg₂ (· + ·) rfl (e132 m c t i j h0 h1))

theorem e141 (c : Dev nD) (t : Fin cfg0.N) (i : S256x512.Idx) (j : S2048x512.Idx) (h0 : (j 0 : ℕ) = (7 - t.val) * 256 + i 0) (h1 : (j 1 : ℕ) = i 1) : s141 (insAt m c t) i = r96 m c j := by
  have hj : (j 1 : ℕ) < 512 := (j 1).isLt
  unfold s141 r96
  pointwise [k0_pay64, val_main_v96, val_main_v95, val_main_cst_20]
  exact congrArg₂ (· - ·) (e123 m c t i j h0 h1) rfl

theorem e145 (c : Dev nD) (t : Fin cfg0.N) (i : S256x512.Idx) (j : S2048x512.Idx) (h0 : (j 0 : ℕ) = (7 - t.val) * 256 + i 0) (h1 : (j 1 : ℕ) = i 1) : s145 (insAt m c t) i = r100 m c j := by
  have hj : (j 1 : ℕ) < 512 := (j 1).isLt
  unfold s145 r100
  pointwise [k0_pay65, val_main_v100, val_main_v99, val_main_v98, val_main_v97, val_main_cst_21]
  exact congrArg₂ (· + ·) rfl (congrArg₂ (· * ·) (e141 m c t i j h0 h1) (e40 m c t _ _ h1))

end Cert.Kernel4Ideal.Pre

end
-- ==== Proof.Pre.Heads.lean ====
/-
The token-shift gradient: the incoming gradients, eight heads of a block side by side.
-/
module

public import proofs.«01_k».proof.Proof.Pre.Rows

@[expose] public section

set_option maxRecDepth 16384

noncomputable section

namespace Cert.Kernel4Ideal.Pre

open Idealize.ShloMosaic Idealize.ShloMosaic.TcCoe Idealize.SL.Sem
open Idealize.ShloMosaic.Pipeline (Dat)
open Cert.Kernel4Ideal Cert.Kernel4Ideal.Gen
open Cert.Reference4Ideal.Read

variable (m : (ℓ : Loc nD τ sig) → Buf (Elt Ideal) ℓ)

def r125 (c : Dev nD) : Cert.Reference4Ideal.S2048x512.Idx → EReal := val_main_v125 (F := Ideal) (m ((c : Thread nD τ).loc main_arg17))

def r123 (c : Dev nD) : Cert.Reference4Ideal.S2048x512.Idx → EReal := val_main_v123 (F := Ideal) (m ((c : Thread nD τ).loc main_arg18))

def r121 (c : Dev nD) : Cert.Reference4Ideal.S2048x512.Idx → EReal := val_main_v121 (F := Ideal) (m ((c : Thread nD τ).loc main_arg19))

def r119 (c : Dev nD) : Cert.Reference4Ideal.S2048x512.Idx → EReal := val_main_v119 (F := Ideal) (m ((c : Thread nD τ).loc main_arg20))

def r117 (c : Dev nD) : Cert.Reference4Ideal.S2048x512.Idx → EReal := val_main_v117 (F := Ideal) (m ((c : Thread nD τ).loc main_arg21))

def r115 (c : Dev nD) : Cert.Reference4Ideal.S2048x512.Idx → EReal := val_main_v115 (F := Ideal) (m ((c : Thread nD τ).loc main_arg22))

theorem head9 (c : Dev nD) (t : Fin cfg0.N) (h : Fin 8) (i : S1x256x64.Idx) (j : S8x2048x64.Idx) (h0 : (j 0 : ℕ) = h.val)
    (h1 : (j 1 : ℕ) = (7 - t.val) * 256 + i 1) (h2 : (j 2 : ℕ) = i 2) :
    head (iblk m c 9 t) h i = (m ((c : Thread nD τ).loc main_arg17)) j := by
  have hi : (i 0 : ℕ) < 1 := (i 0).isLt
  unfold head VecWindow.window
  blk_ext [iblk, V, idx t]

theorem head10 (c : Dev nD) (t : Fin cfg0.N) (h : Fin 8) (i : S1x256x64.Idx) (j : S8x2048x64.Idx) (h0 : (j 0 : ℕ) = h.val)
    (h1 : (j 1 : ℕ) = (7 - t.val) * 256 + i 1) (h2 : (j 2 : ℕ) = i 2) :
    head (iblk m c 10 t) h i = (m ((c : Thread nD τ).loc main_arg18)) j := by
  have hi : (i 0 : ℕ) < 1 := (i 0).isLt
  unfold head VecWindow.window
  blk_ext [iblk, V, idx t]

theorem head11 (c : Dev nD) (t : Fin cfg0.N) (h : Fin 8) (i : S1x256x64.Idx) (j : S8x2048x64.Idx) (h0 : (j 0 : ℕ) = h.val)
    (h1 : (j 1 : ℕ) = (7 - t.val) * 256 + i 1) (h2 : (j 2 : ℕ) = i 2) :
    head (iblk m c 11 t) h i = (m ((c : Thread nD τ).loc main_arg19)) j := by
  have hi : (i 0 : ℕ) < 1 := (i 0).isLt
  unfold head VecWindow.window
  blk_ext [iblk, V, idx t]

theorem head12 (c : Dev nD) (t : Fin cfg0.N) (h : Fin 8) (i : S1x256x64.Idx) (j : S8x2048x64.Idx) (h0 : (j 0 : ℕ) = h.val)
    (h1 : (j 1 : ℕ) = (7 - t.val) * 256 + i 1) (h2 : (j 2 : ℕ) = i 2) :
    head (iblk m c 12 t) h i = (m ((c : Thread nD τ).loc main_arg20)) j := by
  have hi : (i 0 : ℕ) < 1 := (i 0).isLt
  unfold head VecWindow.window
  blk_ext [iblk, V, idx t]

theorem head13 (c : Dev nD) (t : Fin cfg0.N) (h : Fin 8) (i : S1x256x64.Idx) (j : S8x2048x64.Idx) (h0 : (j 0 : ℕ) = h.val)
    (h1 : (j 1 : ℕ) = (7 - t.val) * 256 + i 1) (h2 : (j 2 : ℕ) = i 2) :
    head (iblk m c 13 t) h i = (m ((c : Thread nD τ).loc main_arg21)) j := by
  have hi : (i 0 : ℕ) < 1 := (i 0).isLt
  unfold head VecWindow.window
  blk_ext [iblk, V, idx t]

theorem head14 (c : Dev nD) (t : Fin cfg0.N) (h : Fin 8) (i : S1x256x64.Idx) (j : S8x2048x64.Idx) (h0 : (j 0 : ℕ) = h.val)
    (h1 : (j 1 : ℕ) = (7 - t.val) * 256 + i 1) (h2 : (j 2 : ℕ) = i 2) :
    head (iblk m c 14 t) h i = (m ((c : Thread nD τ).loc main_arg22)) j := by
  have hi : (i 0 : ℕ) < 1 := (i 0).isLt
  unfold head VecWindow.window
  blk_ext [iblk, V, idx t]

theorem e162 (c : Dev nD) (t : Fin cfg0.N) (i : S256x512.Idx) (j : S2048x512.Idx) (h0 : (j 0 : ℕ) = (7 - t.val) * 256 + i 0) (h1 : (j 1 : ℕ) = i 1) : s162 (insAt m c t) i = r125 m c j := by
  have hj : (j 1 : ℕ) < 512 := (j 1).isLt
  unfold s162 s147 s149 s151 s153 s155 s157 s159 s161 r125
  pointwise [k0_pay74, k0_pay66, k0_pay67, k0_pay68, k0_pay69, k0_pay70, k0_pay71, k0_pay72, k0_pay73, val_main_v125, val_main_v124]
  blk_point []
  all_goals (refine head9 m c t _ _ _ ?_ ?_ ?_ <;> blk_simp [] <;> dsimp only <;> omega)

theorem e179 (c : Dev nD) (t : Fin cfg0.N) (i : S256x512.Idx) (j : S2048x512.Idx) (h0 : (j 0 : ℕ) = (7 - t.val) * 256 + i 0) (h1 : (j 1 : ℕ) = i 1) : s179 (insAt m c t) i = r123 m c j := by
  have hj : (j 1 : ℕ) < 512 := (j 1).isLt
  unfold s179  r123
  pointwise [k0_pay75, val_main_v123, val_main_v122]
  blk_point []
  all_goals (refine head10 m c t _ _ _ ?_ ?_ ?_ <;> blk_simp [] <;> dsimp only <;> omega)

theorem e196 (c : Dev nD) (t : Fin cfg0.N) (i : S256x512.Idx) (j : S2048x512.Idx) (h0 : (j 0 : ℕ) = (7 - t.val) * 256 + i 0) (h1 : (j 1 : ℕ) = i 1) : s196 (insAt m c t) i = r121 m c j := by
  have hj : (j 1 : ℕ) < 512 := (j 1).isLt
  unfold s196 s181 s183 s185 r121
  pointwise [k0_pay79, k0_pay76, k0_pay77, k0_pay78, val_main_v121, val_main_v120]
  blk_point []
  all_goals (refine head11 m c t _ _ _ ?_ ?_ ?_ <;> blk_simp [] <;> dsimp only <;> omega)

theorem e213 (c : Dev nD) (t : Fin cfg0.N) (i : S256x512.Idx) (j : S2048x512.Idx) (h0 : (j 0 : ℕ) = (7 - t.val) * 256 + i 0) (h1 : (j 1 : ℕ) = i 1) : s213 (insAt m c t) i = r119 m c j := by
  have hj : (j 1 : ℕ) < 512 := (j 1).isLt
  unfold s213 s198 s200 s202 s204 s206 s208 s210 r119
  pointwise [k0_pay87, k0_pay80, k0_pay81, k0_pay82, k0_pay83, k0_pay84, k0_pay85, k0_pay86, val_main_v119, val_main_v118]
  blk_point []
  all_goals (refine head12 m c t _ _ _ ?_ ?_ ?_ <;> blk_simp [] <;> dsimp only <;> omega)

theorem e230 (c : Dev nD) (t : Fin cfg0.N) (i : S256x512.Idx) (j : S2048x512.Idx) (h0 : (j 0 : ℕ) = (7 - t.val) * 256 + i 0) (h1 : (j 1 : ℕ) = i 1) : s230 (insAt m c t) i = r117 m c j := by
  have hj : (j 1 : ℕ) < 512 := (j 1).isLt
  unfold s230  r117
  pointwise [k0_pay88, val_main_v117, val_main_v116]
  blk_point []
  all_goals (refine head13 m c t _ _ _ ?_ ?_ ?_ <;> blk_simp [] <;> dsimp only <;> omega)

end Cert.Kernel4Ideal.Pre

end
-- ==== Proof.Pre.Decay.lean ====
/-
The scalar facts under the gradients of the decay and of the two gates, on the extended reals.

The decay is `exp (-softplus (-z) - 1/2)` and the gates are `1 / (1 + exp (-x))`. The kernel differentiates its own
way of writing them: a minimum and two selections for the softplus, the square of the denominator for the gates.
The reference's gradient is the textbook one.
-/
module

public import Mathlib.Analysis.SpecialFunctions.Log.Basic
public import Idealize.ShloMosaic.PureOps.Ideal

@[expose] public section

noncomputable section

namespace Cert.Kernel4Ideal.Pre

open Idealize.ShloMosaic

theorem coe_max (a b : ℝ) : ((max a b : ℝ) : EReal) = max (a : EReal) b := EReal.coe_strictMono.monotone.map_max

/-- `exp (-|z|)`. -/
def tail (z : EReal) : EReal := Ideal.exp (-(max z (-z)))

theorem tail_real (r : ℝ) : tail r = ((Real.exp (-|r|) : ℝ) : EReal) := by
  have h : max (r : EReal) (-r) = ((|r| : ℝ) : EReal) := by
    rw [← EReal.coe_neg, ← coe_max]; rfl
  rw [tail, h, ← EReal.coe_neg, Ideal.exp_coe]

theorem tail_top : tail ⊤ = 0 := by simp [tail]

theorem tail_bot : tail ⊥ = 0 := by simp [tail]

/-- `softplus (-z)`, as the reference writes it. -/
def soft (z : EReal) : EReal := max (-z) 0 + Ideal.log (1 + tail z)

theorem log_tail (z : EReal) : ∃ l : ℝ, Ideal.log (1 + tail z) = l := by
  induction z with
  | bot => exact ⟨0, by rw [tail_bot, add_zero, ← EReal.coe_one, Ideal.log_coe]; simp⟩
  | top => exact ⟨0, by rw [tail_top, add_zero, ← EReal.coe_one, Ideal.log_coe]; simp⟩
  | coe r =>
    have hp : ¬ (1 + Real.exp (-|r|) ≤ 0) := not_le.2 (by positivity)
    exact ⟨Real.log (1 + Real.exp (-|r|)), by rw [tail_real, ← EReal.coe_one, ← EReal.coe_add, Ideal.log_coe, if_neg hp]⟩

/-- The kernel's `min z 0 - log (1 + exp (-|z|))` is minus the softplus. -/
theorem min_sub_log (z : EReal) : min z 0 - Ideal.log (1 + tail z) = -soft z := by
  obtain ⟨l, hl⟩ := log_tail z
  have hm : min z 0 = -(max (-z) 0) := by
    rcases le_total z 0 with h | h
    · rw [min_eq_left h, max_eq_left (EReal.neg_nonneg.2 h), neg_neg]
    · rw [min_eq_right h, max_eq_right (by rw [EReal.neg_le, neg_zero]; exact h), neg_zero]
  rw [soft, hl, hm, EReal.neg_add (.inr (EReal.coe_ne_top l)) (.inr (EReal.coe_ne_bot l))]

/-- The softplus's derivative, as the reference writes it: `exp (x - softplus x)` at `x = -z`, with infinities set to zero. -/
def slope (z : EReal) : EReal := Ideal.exp ((if -z = ⊤ then 0 else -z) - (if soft z = ⊤ then 0 else soft z))

theorem soft_real (r : ℝ) : soft r = ((max (-r) 0 + Real.log (1 + Real.exp (-|r|)) : ℝ) : EReal) := by
  have hp : ¬ (1 + Real.exp (-|r|) ≤ 0) := not_le.2 (by positivity)
  rw [soft, tail_real, ← EReal.coe_one, ← EReal.coe_add, Ideal.log_coe, if_neg hp, ← EReal.coe_neg, ← EReal.coe_zero, ← coe_max,
    ← EReal.coe_add]

theorem slope_real (r : ℝ) : slope r = ((Real.exp (-r - (max (-r) 0 + Real.log (1 + Real.exp (-|r|)))) : ℝ) : EReal) := by
  rw [slope, soft_real, if_neg (EReal.coe_ne_top _), ← EReal.coe_neg, if_neg (EReal.coe_ne_top _), ← EReal.coe_sub, Ideal.exp_coe]

theorem slope_pos (r : ℝ) (h : 0 < r) : slope r = ((Real.exp (-r) * (1 + Real.exp (-r))⁻¹ : ℝ) : EReal) := by
  rw [slope_real, abs_of_pos h, max_eq_right (by linarith), zero_add, Real.exp_sub, Real.exp_log (by positivity), div_eq_mul_inv]

theorem slope_neg (r : ℝ) (h : r < 0) : slope r = (((1 + Real.exp r)⁻¹ : ℝ) : EReal) := by
  rw [slope_real, abs_of_neg h, max_eq_left (by linarith), neg_neg, sub_add_cancel_left, Real.exp_neg, Real.exp_log (by positivity)]

theorem slope_top : slope ⊤ = 0 := by
  have h : soft ⊤ = 0 := by
    rw [soft, tail_top, add_zero, ← EReal.coe_one, Ideal.log_coe]; simp
  rw [slope, h]; simp

theorem slope_bot : slope ⊥ = 1 := by
  have h : soft ⊥ = ⊤ := by
    rw [soft, tail_bot, add_zero, ← EReal.coe_one, Ideal.log_coe]; simp
  rw [slope, h]; simp
  rw [← EReal.coe_zero, Ideal.exp_coe, Real.exp_zero]; rfl

/-- The kernel's derivative of the softplus times a finite `g`: `s = g · exp (-|z|) / (1 + exp (-|z|))` where `z ≥ 0`, and `g - s` where `z < 0`. -/
def kslope (z g : EReal) : EReal :=
  (if 0 ≤ z then 0 - Ideal.div (0 - g) (1 + tail z) * tail z else 0) + (0 - (if 0 ≤ z then 0 else 0 - Ideal.div (0 - g) (1 + tail z) * tail z))
    + g * (if z < 0 then 1 else if 0 = z then (((1 / 2 : ℝ)) : EReal) else 0)

theorem div_tail (r g : ℝ) : 0 - Ideal.div (0 - (g : EReal)) (1 + (Real.exp r : ℝ)) * (Real.exp r : ℝ)
    = ((g * (Real.exp r * (1 + Real.exp r)⁻¹) : ℝ) : EReal) := by
  have hp : (1 + Real.exp r) ≠ 0 := by positivity
  rw [← EReal.coe_one, ← EReal.coe_add, Ideal.div_coe hp, ← EReal.coe_zero, ← EReal.coe_sub, ← EReal.coe_mul, ← EReal.coe_mul,
    ← EReal.coe_sub]
  congr 1
  field_simp
  ring

theorem div_zero_tail (g : ℝ) : 0 - Ideal.div (0 - (g : EReal)) (1 + 0) * 0 = 0 := by rw [mul_zero, sub_zero]

theorem kslope_eq (z : EReal) (g : ℝ) (h : z ≠ 0) : kslope z g = g * slope z := by
  induction z with
  | bot =>
    rw [kslope, if_neg (by simp), if_neg (by simp), if_pos (by simp), tail_bot, div_zero_tail, slope_bot]
    simp
  | top =>
    rw [kslope, if_pos (by simp), if_pos (by simp), if_neg (by simp), if_neg (by simp), tail_top, div_zero_tail, slope_top]
    simp
  | coe r =>
    have h0 : r ≠ 0 := fun e => h (by rw [e]; rfl)
    rcases lt_or_gt_of_ne h0 with hr | hr
    · have h1 : ¬ (0 : EReal) ≤ r := by rw [not_le]; exact_mod_cast hr
      have h2 : (r : EReal) < 0 := by exact_mod_cast hr
      rw [kslope, if_neg h1, if_neg h1, if_pos h2, tail_real, abs_of_neg hr, neg_neg, div_tail, slope_neg r hr, ← EReal.coe_zero, ← EReal.coe_one,
        ← EReal.coe_sub, ← EReal.coe_add, ← EReal.coe_mul, ← EReal.coe_add, ← EReal.coe_mul]
      congr 1
      have hp : (1 + Real.exp r) ≠ 0 := by positivity
      field_simp
      ring
    · have h1 : (0 : EReal) ≤ r := by exact_mod_cast hr.le
      have h2 : ¬ (r : EReal) < 0 := not_lt.2 h1
      have h3 : ¬ (0 : EReal) = r := fun e => h e.symm
      rw [kslope, if_pos h1, if_pos h1, if_neg h2, if_neg h3, tail_real, abs_of_pos hr, div_tail, slope_pos r hr, mul_zero, sub_zero, add_zero, add_zero,
        ← EReal.coe_mul]

/-- The decay itself is a real number. -/
theorem decay_real (z : EReal) : ∃ p : ℝ, Ideal.exp (-soft z - ((1 / 2 : ℝ) : EReal)) = p := by
  induction z with
  | bot =>
    have h : soft ⊥ = ⊤ := by
      rw [soft, tail_bot, add_zero, ← EReal.coe_one, Ideal.log_coe]; simp
    exact ⟨0, by rw [h]; simp⟩
  | top =>
    have h : soft ⊤ = ((0 : ℝ) : EReal) := by
      rw [soft, tail_top, add_zero, ← EReal.coe_one, Ideal.log_coe]; simp
    exact ⟨_, by rw [h, ← EReal.coe_neg, ← EReal.coe_sub, Ideal.exp_coe]⟩
  | coe r => exact ⟨_, by rw [soft_real, ← EReal.coe_neg, ← EReal.coe_sub, Ideal.exp_coe]⟩

/-- The gradient through the decay: what the kernel computes is what the reference computes. -/
theorem decay_grad (z d p : EReal) (hp : p = Ideal.exp (-soft z - ((1 / 2 : ℝ) : EReal))) (h : z ≠ 0) (hd : d ≠ ⊥) (hd' : d ≠ ⊤) :
    kslope z ((0 - d) * p) = -(-(-d * p) * slope z) := by
  obtain ⟨q, hq⟩ := decay_real z
  lift d to ℝ using ⟨hd', hd⟩
  rw [hp, hq, zero_sub, ← EReal.coe_neg, ← EReal.coe_mul, kslope_eq z _ h, EReal.neg_mul, neg_neg]

/-- A gate's derivative: `1 / (1 + e)²` times `e`, the signs as the kernel writes them, against `s (1 - s)`. -/
theorem gate_grad (g x : EReal) :
    0 - (0 - g * Ideal.div 1 ((1 + Ideal.exp x) * (1 + Ideal.exp x)) * 1) * Ideal.exp x
      = g * (Ideal.div 1 (1 + Ideal.exp x) * (1 - Ideal.div 1 (1 + Ideal.exp x))) := by
  rw [mul_one, zero_sub, zero_sub, EReal.neg_mul, neg_neg, mul_assoc]
  congr 1
  induction x with
  | bot =>
    have h1 : ¬ (1 : EReal) = 0 := one_ne_zero
    have h2 : ((1 : EReal) - 1 * 1⁻¹) = 0 := by
      rw [← EReal.coe_one, ← EReal.coe_inv, inv_one, ← EReal.coe_mul, mul_one, ← EReal.coe_sub, sub_self]; rfl
    rw [Ideal.exp_bot, add_zero, mul_one, mul_zero]
    simp only [Ideal.div, h1, if_false]
    rw [h2, mul_zero]
  | top =>
    have h : (1 : EReal) + ⊤ = ⊤ := rfl
    rw [Ideal.exp_top, h, EReal.top_mul_top]
    simp [Ideal.div]
  | coe r =>
    have hp : (1 + Real.exp r) ≠ 0 := by positivity
    have hpp : (1 + Real.exp r) * (1 + Real.exp r) ≠ 0 := mul_ne_zero hp hp
    rw [Ideal.exp_coe, ← EReal.coe_one, ← EReal.coe_add, ← EReal.coe_mul, Ideal.div_coe hpp, Ideal.div_coe hp, ← EReal.coe_mul, ← EReal.coe_mul,
      ← EReal.coe_mul, ← EReal.coe_sub, ← EReal.coe_mul]
    congr 1
    field_simp
    ring

end Cert.Kernel4Ideal.Pre

end
-- ==== Proof.Pre.Grads.lean ====
/-
The token-shift gradient, row by row: the gradients of a point, as the reference's.

The decay's gradient needs a precondition: the softplus is taken at a nonzero argument, and the gradient that comes
in is finite.
-/
module

public import proofs.«01_k».proof.Proof.Pre.Heads
public import proofs.«01_k».proof.Proof.Pre.Decay

@[expose] public section

set_option maxRecDepth 16384

noncomputable section

namespace Cert.Kernel4Ideal.Pre

open Idealize.ShloMosaic Idealize.ShloMosaic.TcCoe Idealize.SL.Sem
open Idealize.ShloMosaic.Pipeline (Dat)
open Cert.Kernel4Ideal Cert.Kernel4Ideal.Gen
open Cert.Reference4Ideal.Read

variable (m : (ℓ : Loc nD τ sig) → Buf (Elt Ideal) ℓ)

def r67 (c : Dev nD) : Cert.Reference4Ideal.S2048x512.Idx → EReal := val_main_v67 (F := Ideal) (m ((c : Thread nD τ).loc main_arg0)) (m ((c : Thread nD τ).loc main_arg4)) (m ((c : Thread nD τ).loc main_arg7)) (m ((c : Thread nD τ).loc main_arg8)) (m ((c : Thread nD τ).loc main_arg9))
def r126 (c : Dev nD) : Cert.Reference4Ideal.S2048x512.Idx → EReal := val_main_v126 (F := Ideal) (m ((c : Thread nD τ).loc main_arg0)) (m ((c : Thread nD τ).loc main_arg2)) (m ((c : Thread nD τ).loc main_arg19))
def r133 (c : Dev nD) : Cert.Reference4Ideal.S2048x512.Idx → EReal := val_main_v133 (F := Ideal) (m ((c : Thread nD τ).loc main_arg0)) (m ((c : Thread nD τ).loc main_arg2)) (m ((c : Thread nD τ).loc main_arg16)) (m ((c : Thread nD τ).loc main_arg19)) (m ((c : Thread nD τ).loc main_arg22))
def r139 (c : Dev nD) : Cert.Reference4Ideal.S2048x512.Idx → EReal := val_main_v139 (F := Ideal) (m ((c : Thread nD τ).loc main_arg0)) (m ((c : Thread nD τ).loc main_arg5)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg19)) (m ((c : Thread nD τ).loc main_arg21))
def r143 (c : Dev nD) : Cert.Reference4Ideal.S2048x96.Idx → EReal := val_main_v143 (F := Ideal) (m ((c : Thread nD τ).loc main_arg0)) (m ((c : Thread nD τ).loc main_arg6)) (m ((c : Thread nD τ).loc main_arg13)) (m ((c : Thread nD τ).loc main_arg14)) (m ((c : Thread nD τ).loc main_arg23))
def r146 (c : Dev nD) : Cert.Reference4Ideal.S2048x512.Idx → EReal := val_main_v146 (F := Ideal) (m ((c : Thread nD τ).loc main_arg0)) (m ((c : Thread nD τ).loc main_arg6)) (m ((c : Thread nD τ).loc main_arg13)) (m ((c : Thread nD τ).loc main_arg14)) (m ((c : Thread nD τ).loc main_arg23))
def r147 (c : Dev nD) : Cert.Reference4Ideal.S2048x512.Idx → EReal := val_main_v147 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg16)) (m ((c : Thread nD τ).loc main_arg19)) (m ((c : Thread nD τ).loc main_arg22))
def r152 (c : Dev nD) : Cert.Reference4Ideal.S2048x32.Idx → EReal := val_main_v152 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg16)) (m ((c : Thread nD τ).loc main_arg19)) (m ((c : Thread nD τ).loc main_arg22))
def r155 (c : Dev nD) : Cert.Reference4Ideal.S2048x512.Idx → EReal := val_main_v155 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg16)) (m ((c : Thread nD τ).loc main_arg19)) (m ((c : Thread nD τ).loc main_arg22))
def r160 (c : Dev nD) : Cert.Reference4Ideal.S2048x512.Idx → EReal := val_main_v160 (F := Ideal) (m ((c : Thread nD τ).loc main_arg0)) (m ((c : Thread nD τ).loc main_arg4)) (m ((c : Thread nD τ).loc main_arg7)) (m ((c : Thread nD τ).loc main_arg8)) (m ((c : Thread nD τ).loc main_arg9)) (m ((c : Thread nD τ).loc main_arg18))
def r166 (c : Dev nD) : Cert.Reference4Ideal.S2048x32.Idx → EReal := val_main_v166 (F := Ideal) (m ((c : Thread nD τ).loc main_arg0)) (m ((c : Thread nD τ).loc main_arg4)) (m ((c : Thread nD τ).loc main_arg7)) (m ((c : Thread nD τ).loc main_arg8)) (m ((c : Thread nD τ).loc main_arg9)) (m ((c : Thread nD τ).loc main_arg18))
def r169 (c : Dev nD) : Cert.Reference4Ideal.S2048x512.Idx → EReal := val_main_v169 (F := Ideal) (m ((c : Thread nD τ).loc main_arg0)) (m ((c : Thread nD τ).loc main_arg4)) (m ((c : Thread nD τ).loc main_arg7)) (m ((c : Thread nD τ).loc main_arg8)) (m ((c : Thread nD τ).loc main_arg9)) (m ((c : Thread nD τ).loc main_arg18))
def r63 (c : Dev nD) : Cert.Reference4Ideal.S2048x512.Idx → EReal := val_main_v63_1 (F := Ideal) (m ((c : Thread nD τ).loc main_arg0)) (m ((c : Thread nD τ).loc main_arg4)) (m ((c : Thread nD τ).loc main_arg7)) (m ((c : Thread nD τ).loc main_arg8)) (m ((c : Thread nD τ).loc main_arg9))

theorem half : Ideal.ofBits FTy.f32 0x3F000000#32 = ((1 / 2 : ℝ) : EReal) := by
  simp [Ideal.ofBits, Ideal.ieee, -EReal.coe_mul, -EReal.coe_neg]; norm_num

theorem inf_f32 : Ideal.ofBits FTy.f32 0x7F800000#32 = ⊤ := by
  simp [Ideal.ofBits, Ideal.ieee]

/-- The softplus's selection never meets a value that differs from itself. -/
theorem soft_eq (z : EReal) : (if -z ≠ -z then -z else max (-z) 0 + Ideal.log1p (Ideal.exp (-(max (-z) (- -z))))) = soft z := by
  rw [if_neg (not_not.2 rfl), neg_neg, max_comm (-z) z]
  rfl

theorem tail_eq (z : EReal) : Ideal.exp (0 - max z (-z)) = tail z := by
  rw [zero_sub]; rfl

theorem soft63 (c : Dev nD) (j : S2048x512.Idx) : val_main_v63_0 (F := Ideal) (m ((c : Thread nD τ).loc main_arg0)) (m ((c : Thread nD τ).loc main_arg4)) (m ((c : Thread nD τ).loc main_arg7)) (m ((c : Thread nD τ).loc main_arg8)) (m ((c : Thread nD τ).loc main_arg9)) j = soft (r61 m c j) := by
  unfold r61
  pointwise [val_main_v63_0, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_v62]
  exact soft_eq _

theorem e67r (c : Dev nD) (j : S2048x512.Idx) : r67 m c j = Ideal.exp (-soft (r61 m c j) - ((1 / 2 : ℝ) : EReal)) := by
  rw [← soft63 m c j, ← half]
  unfold r67
  pointwise [val_main_v67, val_main_v66, val_main_v65, val_main_v64, val_main_cst_13]

theorem e63 (c : Dev nD) (j : S2048x512.Idx) : r63 m c j = slope (r61 m c j) := by
  unfold slope
  rw [← soft63 m c j, ← inf_f32]
  unfold r63 r61
  pointwise [val_main_v63_1, val_main_call0_v21, val_main_call0_v20, val_main_call0_v19, val_main_call0_v18, val_main_call0_v17, val_main_call0_v16, val_main_call0_v15, val_main_call0_v14, val_main_call0_v13, val_main_call0_cst_0, val_main_call0_cst_1, val_main_call0_cst_2, val_main_call0_cst_3, val_main_v62]

theorem e108 (c : Dev nD) (t : Fin cfg0.N) (i : S256x512.Idx) (j : S2048x512.Idx) (h0 : (j 0 : ℕ) = (7 - t.val) * 256 + i 0) (h1 : (j 1 : ℕ) = i 1) : s108 (insAt m c t) i = r67 m c j := by
  rw [e67r, ← e84 m c t i j h0 h1, ← min_sub_log, ← half, ← tail_eq]
  unfold s108 s86
  show k0_pay52 (s84 (insAt m c t)) (minimumf (s84 (insAt m c t)) _) i = _
  pointwise [k0_pay52, k0_pay51, k0_pay50]
  rfl

/-- The softplus is taken away from zero, and the decay's incoming gradient is finite. -/
def Reg (c : Dev nD) : Prop := ∀ j, r61 m c j ≠ 0 ∧ r123 m c j ≠ ⊥ ∧ r123 m c j ≠ ⊤

/-- The gradient before the decay's softplus. -/
def g321 (I : Ins Ideal) : FVec Ideal S256x512 .f32 := k0_pay114 (s95 I) (s307 I) (s315 I) (s316 I) (s317 I)

theorem e321 (c : Dev nD) (H : Reg m c) (t : Fin cfg0.N) (i : S256x512.Idx) (j : S2048x512.Idx) (h0 : (j 0 : ℕ) = (7 - t.val) * 256 + i 0) (h1 : (j 1 : ℕ) = i 1) : g321 (insAt m c t) i = r160 m c j := by
  have hz : s84 (insAt m c t) i = r61 m c j := e84 m c t i j h0 h1
  have hp : s108 (insAt m c t) i = r67 m c j := e108 m c t i j h0 h1
  have hd : s179 (insAt m c t) i = r123 m c j := e179 m c t i j h0 h1
  have hr : r160 m c j = -(-(-(r123 m c j) * r67 m c j) * slope (r61 m c j)) := by
    rw [← e63 m c j]
    unfold r160 r63 r123 r67
    pointwise [val_main_v160, val_main_v159, val_main_v158, val_main_v157, val_main_v156]
  rw [hr, ← decay_grad _ _ _ (e67r m c j) (H j).1 (H j).2.1 (H j).2.2, ← hz, ← hp, ← hd, kslope, ← tail_eq, ← half]
  unfold g321 s95 s307 s315 s316 s317 s98 s101 s103
  pointwise [k0_pay114, k0_pay113, k0_pay112, k0_pay111, k0_pay110, k0_pay109, k0_pay108, k0_pay51, k0_pay50, k0_pay48, k0_pay49]
  rfl

theorem e249 (c : Dev nD) (t : Fin cfg0.N) (i : S256x512.Idx) (j : S2048x512.Idx) (h0 : (j 0 : ℕ) = (7 - t.val) * 256 + i 0) (h1 : (j 1 : ℕ) = i 1) : k0_pay92 (s49 (insAt m c t)) (s196 (insAt m c t)) i = r126 m c j := by
  unfold r126
  pointwise [k0_pay92, val_main_v126]
  exact congrArg₂ (· * ·) (e49 m c t i j h0 h1) (e196 m c t i j h0 h1)

theorem e256 (c : Dev nD) (t : Fin cfg0.N) (i : S256x512.Idx) (j : S2048x512.Idx) (h0 : (j 0 : ℕ) = (7 - t.val) * 256 + i 0) (h1 : (j 1 : ℕ) = i 1) : s256 (insAt m c t) i = r133 m c j := by
  have hj : (j 1 : ℕ) < 512 := (j 1).isLt
  unfold s256 s232 s234 s236 r133
  pointwise [k0_pay94, k0_pay89, k0_pay90, k0_pay91, val_main_v133, val_main_v132, val_main_v131]
  refine congrArg₂ (· + ·) ?_ (congrArg₂ (· * ·) (e249 m c t i j h0 h1) (e40 m c t _ _ h1))
  pointwise [val_main_v115, val_main_v114]
  blk_point []
  all_goals (refine head14 m c t _ _ _ ?_ ?_ ?_ <;> blk_simp [] <;> dsimp only <;> omega)

theorem e262 (c : Dev nD) (t : Fin cfg0.N) (i : S256x512.Idx) (j : S2048x512.Idx) (h0 : (j 0 : ℕ) = (7 - t.val) * 256 + i 0) (h1 : (j 1 : ℕ) = i 1) : s262 (insAt m c t) i = r139 m c j := by
  unfold s262 r139
  pointwise [k0_pay96, val_main_v139, val_main_v138, val_main_v137, val_main_v127]
  exact congrArg₂ (· + ·) (congrArg₂ (· * ·) (e196 m c t i j h0 h1) (e145 m c t i j h0 h1)) (congrArg₂ (· * ·) (e230 m c t i j h0 h1) (e39 m c t _ _ h1))

/-- The decay gate's gradient. -/
def g290 (I : Ins Ideal) : FVec Ideal S256x512 .f32 := k0_pay102 (s119 I) (s126 I) (s256 I)

theorem e290 (c : Dev nD) (t : Fin cfg0.N) (i : S256x512.Idx) (j : S2048x512.Idx) (h0 : (j 0 : ℕ) = (7 - t.val) * 256 + i 0) (h1 : (j 1 : ℕ) = i 1) : g290 (insAt m c t) i = r147 m c j := by
  have hg : s256 (insAt m c t) i = r133 m c j := e256 m c t i j h0 h1
  have he : s119 (insAt m c t) i = r74 m c j := e119 m c t i j h0 h1
  obtain ⟨x, hx⟩ : ∃ x, r74 m c j = Ideal.exp x := ⟨val_main_v73 (F := Ideal) (m ((c : Thread nD τ).loc main_arg0)) (m ((c : Thread nD τ).loc main_arg5)) (m ((c : Thread nD τ).loc main_arg10)) (m ((c : Thread nD τ).loc main_arg11)) (m ((c : Thread nD τ).loc main_arg12)) j, by unfold r74; pointwise [val_main_v74]⟩
  have hr : r147 m c j = r133 m c j * (Ideal.div 1 (1 + r74 m c j) * (1 - Ideal.div 1 (1 + r74 m c j))) := by
    unfold r147 r133 r74
    pointwise [val_main_v147, val_main_v81, val_main_v80, val_main_v79, val_main_v78, val_main_v77, val_main_v76, val_main_v75, val_main_cst_14, val_main_cst_15, val_main_cst_16]
  have hk : g290 (insAt m c t) i = 0 - (0 - s256 (insAt m c t) i * Ideal.div 1 ((1 + s119 (insAt m c t) i) * (1 + s119 (insAt m c t) i)) * 1) * s119 (insAt m c t) i := by
    unfold g290 s126 s119
    pointwise [k0_pay102, k0_pay57, k0_pay55]
  rw [hk, hr, hg, he, hx, gate_grad]

def g276 (I : Ins Ideal) : FVec Ideal S256x96 .f32 := k0_pay99 (s132 I) (s273 I)

def g265 (I : Ins Ideal) (i : S256x96.Idx) : EReal := ∑ x, (I.x15 (ValueIdx.ix2 (i 0) x) : EReal) * (s30 I (ValueIdx.ix2 (i 1) x) : EReal)

theorem g265_eq (c : Dev nD) (t : Fin cfg0.N) (i : S256x96.Idx) (j : Cert.Reference4Ideal.S2048x96.Idx) (h0 : (j 0 : ℕ) = (7 - t.val) * 256 + i 0) (h1 : (j 1 : ℕ) = i 1) : g265 (insAt m c t) i = val_main_v142 (F := Ideal) (m ((c : Thread nD τ).loc main_arg14)) (m ((c : Thread nD τ).loc main_arg23)) j := by
  have hj : (j 1 : ℕ) < 96 := (j 1).isLt
  unfold g265
  pointwise [val_main_v142]
  exact Finset.sum_congr rfl fun x _ => congrArg₂ (· * ·) (gate_blk m c t _ _ h0 rfl) (e30 m c t _ _ h1 rfl)

theorem k276 (I : Ins Ideal) (i : S256x96.Idx) :
    g276 I i = 0 - (0 - g265 I i * Ideal.div 1 ((1 + s132 I i) * (1 + s132 I i)) * 1) * s132 I i := by
  unfold g276 s273 s139 s132 g265
  pointwise [k0_pay99, k0_pay98, k0_pay63, k0_pay61]
  rfl

theorem e276 (c : Dev nD) (t : Fin cfg0.N) (i : S256x96.Idx) (j : Cert.Reference4Ideal.S2048x96.Idx) (h0 : (j 0 : ℕ) = (7 - t.val) * 256 + i 0) (h1 : (j 1 : ℕ) = i 1) : g276 (insAt m c t) i = r143 m c j := by
  have hj : (j 1 : ℕ) < 96 := (j 1).isLt
  have he : s132 (insAt m c t) i = r84 m c j := e132 m c t i j h0 h1
  obtain ⟨x, hx⟩ : ∃ x, r84 m c j = Ideal.exp x := ⟨val_main_v83 (F := Ideal) (m ((c : Thread nD τ).loc main_arg0)) (m ((c : Thread nD τ).loc main_arg6)) (m ((c : Thread nD τ).loc main_arg13)) j, by unfold r84; pointwise [val_main_v84]⟩
  have hr : r143 m c j = val_main_v142 (F := Ideal) (m ((c : Thread nD τ).loc main_arg14)) (m ((c : Thread nD τ).loc main_arg23)) j * (Ideal.div 1 (1 + r84 m c j) * (1 - Ideal.div 1 (1 + r84 m c j))) := by
    unfold r143 r84
    pointwise [val_main_v143, val_main_v91, val_main_v90, val_main_v89, val_main_v88, val_main_v87, val_main_v86, val_main_v85, val_main_cst_17, val_main_cst_18, val_main_cst_19]
  rw [k276, g265_eq m c t i j h0 h1, hr, he, hx, gate_grad]

theorem e279 (c : Dev nD) (t : Fin cfg0.N) (i : S256x512.Idx) (j : S2048x512.Idx) (h0 : (j 0 : ℕ) = (7 - t.val) * 256 + i 0) (h1 : (j 1 : ℕ) = i 1) : s279 (insAt m c t) i = r146 m c j := by
  unfold s279 r146
  pointwise [k0_pay100, val_main_v146]
  exact Finset.sum_congr rfl fun x _ => congrArg₂ (· * ·) (e276 m c t _ _ h0 rfl) (e28 m c t _ _ h1 rfl)

def g295 (I : Ins Ideal) : FVec Ideal S256x32 .f32 := k0_pay104 (s26 I) (s119 I) (s126 I) (s256 I)

theorem e295 (c : Dev nD) (t : Fin cfg0.N) (i : S256x32.Idx) (j : Cert.Reference4Ideal.S2048x32.Idx) (h0 : (j 0 : ℕ) = (7 - t.val) * 256 + i 0) (h1 : (j 1 : ℕ) = i 1) : g295 (insAt m c t) i = r152 m c j := by
  have hj : (j 1 : ℕ) < 32 := (j 1).isLt
  unfold g295 r152
  pointwise [k0_pay104, val_main_v152]
  exact Finset.sum_congr rfl fun x _ => congrArg₂ (· * ·) (e290 m c t _ _ h0 rfl) (e26 m c t _ _ h1 rfl)

theorem e301 (c : Dev nD) (t : Fin cfg0.N) (i : S256x512.Idx) (j : S2048x512.Idx) (h0 : (j 0 : ℕ) = (7 - t.val) * 256 + i 0) (h1 : (j 1 : ℕ) = i 1) : s301 (insAt m c t) i = r155 m c j := by
  unfold s301 r155
  pointwise [k0_pay106, val_main_v155]
  exact Finset.sum_congr rfl fun x _ => congrArg₂ (· * ·) (e295 m c t _ _ h0 rfl) (e24 m c t _ _ h1 rfl)

def g330 (I : Ins Ideal) : FVec Ideal S256x32 .f32 := k0_pay117 (s22 I) (s79 I) (s95 I) (s307 I) (s315 I) (s316 I) (s317 I)

theorem e330 (c : Dev nD) (H : Reg m c) (t : Fin cfg0.N) (i : S256x32.Idx) (j : Cert.Reference4Ideal.S2048x32.Idx) (h0 : (j 0 : ℕ) = (7 - t.val) * 256 + i 0) (h1 : (j 1 : ℕ) = i 1) : g330 (insAt m c t) i = r166 m c j := by
  have hj : (j 1 : ℕ) < 32 := (j 1).isLt
  unfold g330 r166
  pointwise [k0_pay117, val_main_v166, val_main_v165]
  exact congrArg₂ (· * ·) (Finset.sum_congr rfl fun x _ => congrArg₂ (· * ·) (e321 m c H t _ _ h0 rfl) (e22 m c t _ _ h1 rfl)) (e79 m c t i j h0 h1)

theorem e333 (c : Dev nD) (H : Reg m c) (t : Fin cfg0.N) (i : S256x512.Idx) (j : S2048x512.Idx) (h0 : (j 0 : ℕ) = (7 - t.val) * 256 + i 0) (h1 : (j 1 : ℕ) = i 1) : s333 (insAt m c t) i = r169 m c j := by
  unfold s333 r169
  pointwise [k0_pay118, val_main_v169]
  exact Finset.sum_congr rfl fun x _ => congrArg₂ (· * ·) (e330 m c H t _ _ h0 rfl) (e20 m c t _ _ h1 rfl)

end Cert.Kernel4Ideal.Pre

end
-- ==== Proof.Pre.Sums.lean ====
/-
The token-shift gradient: the sums over the tokens.

Every point adds its tile's part of the seven sums to what the points before it left; the tiles come from the last to
the first, so the eight parts together are the reference's sums over all tokens.
-/
module

public import proofs.«01_k».proof.Proof.Pre.Grads

@[expose] public section

set_option maxRecDepth 16384

noncomputable section

namespace Cert.Kernel4Ideal.Pre

open Idealize.ShloMosaic Idealize.ShloMosaic.TcCoe Idealize.SL.Sem
open Idealize.ShloMosaic.Pipeline (Dat)
open Cert.Kernel4Ideal Cert.Kernel4Ideal.Gen
open Cert.Reference4Ideal.Read

variable (m : (ℓ : Loc nD τ sig) → Buf (Elt Ideal) ℓ)

/-- Row `x` of the tile of point `t`. -/
def rowOf (t : Fin cfg0.N) (x : Fin 256) : Fin 2048 := ⟨(7 - t.val) * 256 + x.val, by have := lt8 t; omega⟩

/-- Eight parts, added tile by tile from the last tile on, are the sum over all rows. -/
theorem total (f : Fin 2048 → EReal) (K : ℕ → EReal)
    (h : ∀ t : Fin cfg0.N, K (t.val + 1) = (if t.val = 0 then 0 else K t.val) + ∑ x : Fin 256, f (rowOf t x)) : K 8 = ∑ x, f x := by
  have e0 := h t0_0
  have e1 := h t0_1
  have e2 := h t0_2
  have e3 := h t0_3
  have e4 := h t0_4
  have e5 := h t0_5
  have e6 := h t0_6
  have e7 := h t0_7
  rw [if_pos (show t0_0.val = 0 from rfl), zero_add] at e0
  rw [if_neg (show ¬ t0_1.val = 0 by decide)] at e1
  rw [if_neg (show ¬ t0_2.val = 0 by decide)] at e2
  rw [if_neg (show ¬ t0_3.val = 0 by decide)] at e3
  rw [if_neg (show ¬ t0_4.val = 0 by decide)] at e4
  rw [if_neg (show ¬ t0_5.val = 0 by decide)] at e5
  rw [if_neg (show ¬ t0_6.val = 0 by decide)] at e6
  rw [if_neg (show ¬ t0_7.val = 0 by decide)] at e7
  rw [Fin.sum_univ_tiles 8 256 rfl, Fin.sum_univ_eight]
  refine e7.trans ?_
  rw [show K t0_7.val = _ from e6, show K t0_6.val = _ from e5, show K t0_5.val = _ from e4, show K t0_4.val = _ from e3,
    show K t0_3.val = _ from e2, show K t0_2.val = _ from e1, show K t0_1.val = _ from e0]
  have g : ∀ (t : Fin cfg0.N) (k : Fin 8), 7 - t.val = k.val → ∑ x : Fin 256, f (rowOf t x) = ∑ x : Fin 256, f ⟨k.val * 256 + x.val, by omega⟩ := by
    intro t k hk
    refine Finset.sum_congr rfl fun x _ => congrArg f (Fin.ext ?_)
    show (7 - t.val) * 256 + x.val = k.val * 256 + x.val
    rw [hk]
  rw [g t0_0 7 rfl, g t0_1 6 rfl, g t0_2 5 rfl, g t0_3 4 rfl, g t0_4 3 rfl, g t0_5 2 rfl, g t0_6 1 rfl, g t0_7 0 rfl]
  ac_rfl

theorem start_at {α : Type} (c : Dev nD) (t : Fin cfg0.N) (z x : α) : start (insAt m c t).i z x = if t.val = 0 then z else x := by
  unfold start
  show (if ((grid0.coords t) 0).val = 0 then z else x) = _
  rw [coord t]

theorem part18 (c : Dev nD) (H : Reg m c) (t : Fin cfg0.N) (i : S32x512.Idx) :
    s336 (insAt m c t) i = ∑ x : Fin 256, (r166 m c (ValueIdx.ix2 (rowOf t x) (i 0)) * r35 m c (ValueIdx.ix2 (rowOf t x) (i 1)) : EReal) := by
  unfold s336
  pointwise [k0_pay119]
  exact Finset.sum_congr rfl fun x _ => congrArg₂ (· * ·) (e330 m c H t _ _ rfl rfl) (e58 m c t _ _ rfl rfl)

theorem succ18 (c : Dev nD) (t : Fin cfg0.N) (i : S32x512.Idx) :
    kept18 m c (t.val + 1) i = (if t.val = 0 then (0 : EReal) else kept18 m c t.val i) + (s336 (insAt m c t) i : EReal) := by
  have h : kept18 m c (t.val + 1) = out18 (insAt m c t) (kept18 m c t.val) := sumAt_succ _ _ t
  rw [h]
  unfold out18 k0_pay144
  rw [shapeCast_self, start_at]
  by_cases e : t.val = 0
  · rw [if_pos e, if_pos e]
    pointwise [k0_pay7]
  · rw [if_neg e, if_neg e]
    rfl

theorem sum18 (c : Dev nD) (H : Reg m c) (i : S32x512.Idx) : kept18 m c 8 i = val_main_v240 (F := Ideal) (m ((c : Thread nD τ).loc main_arg0)) (m ((c : Thread nD τ).loc main_arg4)) (m ((c : Thread nD τ).loc main_arg7)) (m ((c : Thread nD τ).loc main_arg8)) (m ((c : Thread nD τ).loc main_arg9)) (m ((c : Thread nD τ).loc main_arg18)) i := by
  refine (total (fun x => r166 m c (ValueIdx.ix2 x (i 0)) * r35 m c (ValueIdx.ix2 x (i 1))) (fun n => kept18 m c n i) fun t => ?_).trans ?_
  · show kept18 m c (t.val + 1) i = (if t.val = 0 then 0 else kept18 m c t.val i) + _
    rw [succ18 m c t i, part18 m c H t i]
  · pointwise [val_main_v240, val_main_v168, val_main_v167]
    rfl

theorem part19 (c : Dev nD) (H : Reg m c) (t : Fin cfg0.N) (i : S32x512.Idx) :
    s329 (insAt m c t) i = ∑ x : Fin 256, (r53 m c (ValueIdx.ix2 (rowOf t x) (i 0)) * r160 m c (ValueIdx.ix2 (rowOf t x) (i 1)) : EReal) := by
  unfold s329
  pointwise [k0_pay116]
  exact Finset.sum_congr rfl fun x _ => congrArg₂ (· * ·) (e74 m c t _ _ rfl rfl) (e321 m c H t _ _ rfl rfl)

theorem succ19 (c : Dev nD) (t : Fin cfg0.N) (i : S32x512.Idx) :
    kept19 m c (t.val + 1) i = (if t.val = 0 then (0 : EReal) else kept19 m c t.val i) + (s329 (insAt m c t) i : EReal) := by
  have h : kept19 m c (t.val + 1) = out19 (insAt m c t) (kept19 m c t.val) := sumAt_succ _ _ t
  rw [h]
  unfold out19 k0_pay145
  rw [shapeCast_self, start_at]
  by_cases e : t.val = 0
  · rw [if_pos e, if_pos e]
    pointwise [k0_pay8]
  · rw [if_neg e, if_neg e]
    rfl

theorem sum19 (c : Dev nD) (H : Reg m c) (i : S32x512.Idx) : kept19 m c 8 i = val_main_v164 (F := Ideal) (m ((c : Thread nD τ).loc main_arg0)) (m ((c : Thread nD τ).loc main_arg4)) (m ((c : Thread nD τ).loc main_arg7)) (m ((c : Thread nD τ).loc main_arg8)) (m ((c : Thread nD τ).loc main_arg9)) (m ((c : Thread nD τ).loc main_arg18)) i := by
  refine (total (fun x => r53 m c (ValueIdx.ix2 x (i 0)) * r160 m c (ValueIdx.ix2 x (i 1))) (fun n => kept19 m c n i) fun t => ?_).trans ?_
  · show kept19 m c (t.val + 1) i = (if t.val = 0 then 0 else kept19 m c t.val i) + _
    rw [succ19 m c t i, part19 m c H t i]
  · pointwise [val_main_v164, val_main_v163]
    exact Finset.sum_congr rfl fun x _ => mul_comm _ _

theorem part20 (c : Dev nD) (H : Reg m c) (t : Fin cfg0.N) (i : S32x512.Idx) :
    s304 (insAt m c t) i = ∑ x : Fin 256, (r152 m c (ValueIdx.ix2 (rowOf t x) (i 0)) * r43 m c (ValueIdx.ix2 (rowOf t x) (i 1)) : EReal) := by
  unfold s304
  pointwise [k0_pay107]
  exact Finset.sum_congr rfl fun x _ => congrArg₂ (· * ·) (e295 m c t _ _ rfl rfl) (e64 m c t _ _ rfl rfl)

theorem succ20 (c : Dev nD) (t : Fin cfg0.N) (i : S32x512.Idx) :
    kept20 m c (t.val + 1) i = (if t.val = 0 then (0 : EReal) else kept20 m c t.val i) + (s304 (insAt m c t) i : EReal) := by
  have h : kept20 m c (t.val + 1) = out20 (insAt m c t) (kept20 m c t.val) := sumAt_succ _ _ t
  rw [h]
  unfold out20 k0_pay1
  rw [shapeCast_self, start_at]
  by_cases e : t.val = 0
  · rw [if_pos e, if_pos e]
    pointwise [k0_pay9]
  · rw [if_neg e, if_neg e]
    rfl

theorem sum20 (c : Dev nD) (H : Reg m c) (i : S32x512.Idx) : kept20 m c 8 i = val_main_v241 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg16)) (m ((c : Thread nD τ).loc main_arg19)) (m ((c : Thread nD τ).loc main_arg22)) i := by
  refine (total (fun x => r152 m c (ValueIdx.ix2 x (i 0)) * r43 m c (ValueIdx.ix2 x (i 1))) (fun n => kept20 m c n i) fun t => ?_).trans ?_
  · show kept20 m c (t.val + 1) i = (if t.val = 0 then 0 else kept20 m c t.val i) + _
    rw [succ20 m c t i, part20 m c H t i]
  · pointwise [val_main_v241, val_main_v154, val_main_v153]
    rfl

theorem part21 (c : Dev nD) (H : Reg m c) (t : Fin cfg0.N) (i : S32x512.Idx) :
    s298 (insAt m c t) i = ∑ x : Fin 256, (r69 m c (ValueIdx.ix2 (rowOf t x) (i 0)) * r147 m c (ValueIdx.ix2 (rowOf t x) (i 1)) : EReal) := by
  unfold s298
  pointwise [k0_pay105]
  exact Finset.sum_congr rfl fun x _ => congrArg₂ (· * ·) (e111 m c t _ _ rfl rfl) (e290 m c t _ _ rfl rfl)

theorem succ21 (c : Dev nD) (t : Fin cfg0.N) (i : S32x512.Idx) :
    kept21 m c (t.val + 1) i = (if t.val = 0 then (0 : EReal) else kept21 m c t.val i) + (s298 (insAt m c t) i : EReal) := by
  have h : kept21 m c (t.val + 1) = out21 (insAt m c t) (kept21 m c t.val) := sumAt_succ _ _ t
  rw [h]
  unfold out21 k0_pay2
  rw [shapeCast_self, start_at]
  by_cases e : t.val = 0
  · rw [if_pos e, if_pos e]
    pointwise [k0_pay10]
  · rw [if_neg e, if_neg e]
    rfl

theorem sum21 (c : Dev nD) (H : Reg m c) (i : S32x512.Idx) : kept21 m c 8 i = val_main_v151 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg16)) (m ((c : Thread nD τ).loc main_arg19)) (m ((c : Thread nD τ).loc main_arg22)) i := by
  refine (total (fun x => r69 m c (ValueIdx.ix2 x (i 0)) * r147 m c (ValueIdx.ix2 x (i 1))) (fun n => kept21 m c n i) fun t => ?_).trans ?_
  · show kept21 m c (t.val + 1) i = (if t.val = 0 then 0 else kept21 m c t.val i) + _
    rw [succ21 m c t i, part21 m c H t i]
  · pointwise [val_main_v151, val_main_v150]
    exact Finset.sum_congr rfl fun x _ => mul_comm _ _

theorem part22 (c : Dev nD) (H : Reg m c) (t : Fin cfg0.N) (i : S96x512.Idx) :
    s282 (insAt m c t) i = ∑ x : Fin 256, (r143 m c (ValueIdx.ix2 (rowOf t x) (i 0)) * r51 m c (ValueIdx.ix2 (rowOf t x) (i 1)) : EReal) := by
  unfold s282
  pointwise [k0_pay101]
  exact Finset.sum_congr rfl fun x _ => congrArg₂ (· * ·) (e276 m c t _ _ rfl rfl) (e70 m c t _ _ rfl rfl)

theorem succ22 (c : Dev nD) (t : Fin cfg0.N) (i : S96x512.Idx) :
    kept22 m c (t.val + 1) i = (if t.val = 0 then (0 : EReal) else kept22 m c t.val i) + (s282 (insAt m c t) i : EReal) := by
  have h : kept22 m c (t.val + 1) = out22 (insAt m c t) (kept22 m c t.val) := sumAt_succ _ _ t
  rw [h]
  unfold out22 k0_pay3
  rw [shapeCast_self, start_at]
  by_cases e : t.val = 0
  · rw [if_pos e, if_pos e]
    pointwise [k0_pay11]
  · rw [if_neg e, if_neg e]
    rfl

theorem sum22 (c : Dev nD) (H : Reg m c) (i : S96x512.Idx) : kept22 m c 8 i = val_main_v242 (F := Ideal) (m ((c : Thread nD τ).loc main_arg0)) (m ((c : Thread nD τ).loc main_arg6)) (m ((c : Thread nD τ).loc main_arg13)) (m ((c : Thread nD τ).loc main_arg14)) (m ((c : Thread nD τ).loc main_arg23)) i := by
  refine (total (fun x => r143 m c (ValueIdx.ix2 x (i 0)) * r51 m c (ValueIdx.ix2 x (i 1))) (fun n => kept22 m c n i) fun t => ?_).trans ?_
  · show kept22 m c (t.val + 1) i = (if t.val = 0 then 0 else kept22 m c t.val i) + _
    rw [succ22 m c t i, part22 m c H t i]
  · pointwise [val_main_v242, val_main_v145, val_main_v144]
    rfl

theorem part23 (c : Dev nD) (H : Reg m c) (t : Fin cfg0.N) (i : S96x512.Idx) :
    s268 (insAt m c t) i = ∑ x : Fin 256, (r88 m c (ValueIdx.ix2 (rowOf t x) (i 0)) * (m ((c : Thread nD τ).loc main_arg23)) (ValueIdx.ix2 (rowOf t x) (i 1)) : EReal) := by
  unfold s268
  pointwise [k0_pay97]
  exact Finset.sum_congr rfl fun x _ => congrArg₂ (· * ·) (e136 m c t _ _ rfl rfl) (gate_blk m c t _ _ rfl rfl)

theorem succ23 (c : Dev nD) (t : Fin cfg0.N) (i : S96x512.Idx) :
    kept23 m c (t.val + 1) i = (if t.val = 0 then (0 : EReal) else kept23 m c t.val i) + (s268 (insAt m c t) i : EReal) := by
  have h : kept23 m c (t.val + 1) = out23 (insAt m c t) (kept23 m c t.val) := sumAt_succ _ _ t
  rw [h]
  unfold out23 k0_pay4
  rw [shapeCast_self, start_at]
  by_cases e : t.val = 0
  · rw [if_pos e, if_pos e]
    pointwise [k0_pay12]
  · rw [if_neg e, if_neg e]
    rfl

theorem sum23 (c : Dev nD) (H : Reg m c) (i : S96x512.Idx) : kept23 m c 8 i = val_main_v141 (F := Ideal) (m ((c : Thread nD τ).loc main_arg0)) (m ((c : Thread nD τ).loc main_arg6)) (m ((c : Thread nD τ).loc main_arg13)) (m ((c : Thread nD τ).loc main_arg23)) i := by
  refine (total (fun x => r88 m c (ValueIdx.ix2 x (i 0)) * (m ((c : Thread nD τ).loc main_arg23)) (ValueIdx.ix2 x (i 1))) (fun n => kept23 m c n i) fun t => ?_).trans ?_
  · show kept23 m c (t.val + 1) i = (if t.val = 0 then 0 else kept23 m c t.val i) + _
    rw [succ23 m c t i, part23 m c H t i]
  · pointwise [val_main_v141, val_main_v140]
    exact Finset.sum_congr rfl fun x _ => mul_comm _ _

theorem row0 (c : Dev nD) (H : Reg m c) (t : Fin cfg0.N) (i : S1x512.Idx) :
    s415 (insAt m c t) i = ∑ x : Fin 256, (r8 m c (ValueIdx.ix2 (rowOf t x) (i 1)) * r125 m c (ValueIdx.ix2 (rowOf t x) (i 1)) : EReal) := by
  unfold s415
  pointwise [k0_pay135]
  exact Finset.sum_congr rfl fun x _ => congrArg₂ (· * ·) (e43 m c t _ _ rfl rfl) (e162 m c t _ _ rfl rfl)

theorem all0 (c : Dev nD) (i : S1x512.Idx) : val_main_v229 (F := Ideal) (m ((c : Thread nD τ).loc main_arg0)) (m ((c : Thread nD τ).loc main_arg17)) i = ∑ x : Fin 2048, (r8 m c (ValueIdx.ix2 x (i 1)) * r125 m c (ValueIdx.ix2 x (i 1)) : EReal) := by
  pointwise [val_main_v229, val_main_v228, val_main_v227, val_main_cst_36]
  rfl

theorem row1 (c : Dev nD) (H : Reg m c) (t : Fin cfg0.N) (i : S1x512.Idx) :
    s397 (insAt m c t) i = ∑ x : Fin 256, (r16 m c (ValueIdx.ix2 (rowOf t x) (i 1)) * r139 m c (ValueIdx.ix2 (rowOf t x) (i 1)) : EReal) := by
  unfold s397
  pointwise [k0_pay131]
  exact Finset.sum_congr rfl fun x _ => congrArg₂ (· * ·) (e46 m c t _ _ rfl rfl) (e262 m c t _ _ rfl rfl)

theorem all1 (c : Dev nD) (i : S1x512.Idx) : val_main_v218 (F := Ideal) (m ((c : Thread nD τ).loc main_arg0)) (m ((c : Thread nD τ).loc main_arg5)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg19)) (m ((c : Thread nD τ).loc main_arg21)) i = ∑ x : Fin 2048, (r16 m c (ValueIdx.ix2 x (i 1)) * r139 m c (ValueIdx.ix2 x (i 1)) : EReal) := by
  pointwise [val_main_v218, val_main_v217, val_main_v216, val_main_cst_34]
  rfl

theorem row2 (c : Dev nD) (H : Reg m c) (t : Fin cfg0.N) (i : S1x512.Idx) :
    s379 (insAt m c t) i = ∑ x : Fin 256, (r24 m c (ValueIdx.ix2 (rowOf t x) (i 1)) * r119 m c (ValueIdx.ix2 (rowOf t x) (i 1)) : EReal) := by
  unfold s379
  pointwise [k0_pay129]
  exact Finset.sum_congr rfl fun x _ => congrArg₂ (· * ·) (e52 m c t _ _ rfl rfl) (e213 m c t _ _ rfl rfl)

theorem all2 (c : Dev nD) (i : S1x512.Idx) : val_main_v207 (F := Ideal) (m ((c : Thread nD τ).loc main_arg0)) (m ((c : Thread nD τ).loc main_arg20)) i = ∑ x : Fin 2048, (r24 m c (ValueIdx.ix2 x (i 1)) * r119 m c (ValueIdx.ix2 x (i 1)) : EReal) := by
  pointwise [val_main_v207, val_main_v206, val_main_v205, val_main_cst_32]
  rfl

theorem row3 (c : Dev nD) (H : Reg m c) (t : Fin cfg0.N) (i : S1x512.Idx) :
    s365 (insAt m c t) i = ∑ x : Fin 256, (r32 m c (ValueIdx.ix2 (rowOf t x) (i 1)) * r169 m c (ValueIdx.ix2 (rowOf t x) (i 1)) : EReal) := by
  unfold s365 s363
  pointwise [k0_pay127, k0_pay126]
  exact Finset.sum_congr rfl fun x _ => congrArg₂ (· * ·) (e55 m c t _ _ rfl rfl) (e333 m c H t _ _ rfl rfl)

theorem all3 (c : Dev nD) (i : S1x512.Idx) : val_main_v196 (F := Ideal) (m ((c : Thread nD τ).loc main_arg0)) (m ((c : Thread nD τ).loc main_arg4)) (m ((c : Thread nD τ).loc main_arg7)) (m ((c : Thread nD τ).loc main_arg8)) (m ((c : Thread nD τ).loc main_arg9)) (m ((c : Thread nD τ).loc main_arg18)) i = ∑ x : Fin 2048, (r32 m c (ValueIdx.ix2 x (i 1)) * r169 m c (ValueIdx.ix2 x (i 1)) : EReal) := by
  pointwise [val_main_v196, val_main_v195, val_main_v194, val_main_cst_30]
  rfl

theorem row4 (c : Dev nD) (H : Reg m c) (t : Fin cfg0.N) (i : S1x512.Idx) :
    s351 (insAt m c t) i = ∑ x : Fin 256, (r40 m c (ValueIdx.ix2 (rowOf t x) (i 1)) * r155 m c (ValueIdx.ix2 (rowOf t x) (i 1)) : EReal) := by
  unfold s351
  pointwise [k0_pay122]
  exact Finset.sum_congr rfl fun x _ => congrArg₂ (· * ·) (e61 m c t _ _ rfl rfl) (e301 m c t _ _ rfl rfl)

theorem all4 (c : Dev nD) (i : S1x512.Idx) : val_main_v184 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg16)) (m ((c : Thread nD τ).loc main_arg19)) (m ((c : Thread nD τ).loc main_arg22)) i = ∑ x : Fin 2048, (r40 m c (ValueIdx.ix2 x (i 1)) * r155 m c (ValueIdx.ix2 x (i 1)) : EReal) := by
  pointwise [val_main_v184, val_main_v183, val_main_v182, val_main_cst_28]
  rfl

theorem row5 (c : Dev nD) (H : Reg m c) (t : Fin cfg0.N) (i : S1x512.Idx) :
    s339 (insAt m c t) i = ∑ x : Fin 256, (r48 m c (ValueIdx.ix2 (rowOf t x) (i 1)) * r146 m c (ValueIdx.ix2 (rowOf t x) (i 1)) : EReal) := by
  unfold s339
  pointwise [k0_pay120]
  exact Finset.sum_congr rfl fun x _ => congrArg₂ (· * ·) (e67 m c t _ _ rfl rfl) (e279 m c t _ _ rfl rfl)

theorem all5 (c : Dev nD) (i : S1x512.Idx) : val_main_v172 (F := Ideal) (m ((c : Thread nD τ).loc main_arg0)) (m ((c : Thread nD τ).loc main_arg6)) (m ((c : Thread nD τ).loc main_arg13)) (m ((c : Thread nD τ).loc main_arg14)) (m ((c : Thread nD τ).loc main_arg23)) i = ∑ x : Fin 2048, (r48 m c (ValueIdx.ix2 x (i 1)) * r146 m c (ValueIdx.ix2 x (i 1)) : EReal) := by
  pointwise [val_main_v172, val_main_v171, val_main_v170, val_main_cst_26]
  rfl

theorem row6 (c : Dev nD) (H : Reg m c) (t : Fin cfg0.N) (i : S1x512.Idx) :
    s323 (insAt m c t) i = ∑ x : Fin 256, (r160 m c (ValueIdx.ix2 (rowOf t x) (i 1)) : EReal) := by
  unfold s323
  pointwise [k0_pay115]
  exact Finset.sum_congr rfl fun x _ => e321 m c H t _ _ rfl rfl

theorem all6 (c : Dev nD) (i : S1x512.Idx) : val_main_v162 (F := Ideal) (m ((c : Thread nD τ).loc main_arg0)) (m ((c : Thread nD τ).loc main_arg4)) (m ((c : Thread nD τ).loc main_arg7)) (m ((c : Thread nD τ).loc main_arg8)) (m ((c : Thread nD τ).loc main_arg9)) (m ((c : Thread nD τ).loc main_arg18)) i = ∑ x : Fin 2048, (r160 m c (ValueIdx.ix2 x (i 1)) : EReal) := by
  pointwise [val_main_v162, val_main_v161, val_main_cst_25]
  rfl

theorem row7 (c : Dev nD) (H : Reg m c) (t : Fin cfg0.N) (i : S1x512.Idx) :
    s292 (insAt m c t) i = ∑ x : Fin 256, (r147 m c (ValueIdx.ix2 (rowOf t x) (i 1)) : EReal) := by
  unfold s292
  pointwise [k0_pay103]
  exact Finset.sum_congr rfl fun x _ => e290 m c t _ _ rfl rfl

theorem all7 (c : Dev nD) (i : S1x512.Idx) : val_main_v149 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg16)) (m ((c : Thread nD τ).loc main_arg19)) (m ((c : Thread nD τ).loc main_arg22)) i = ∑ x : Fin 2048, (r147 m c (ValueIdx.ix2 x (i 1)) : EReal) := by
  pointwise [val_main_v149, val_main_v148, val_main_cst_24]
  rfl

theorem row8 (c : Dev nD) (H : Reg m c) (t : Fin cfg0.N) (i : S1x512.Idx) :
    s259 (insAt m c t) i = ∑ x : Fin 256, (r19 m c (ValueIdx.ix2 (rowOf t x) (i 1)) * r117 m c (ValueIdx.ix2 (rowOf t x) (i 1)) : EReal) := by
  unfold s259
  pointwise [k0_pay95]
  exact Finset.sum_congr rfl fun x _ => congrArg₂ (· * ·) (e49 m c t _ _ rfl rfl) (e230 m c t _ _ rfl rfl)

theorem all8 (c : Dev nD) (i : S1x512.Idx) : val_main_v136 (F := Ideal) (m ((c : Thread nD τ).loc main_arg0)) (m ((c : Thread nD τ).loc main_arg2)) (m ((c : Thread nD τ).loc main_arg21)) i = ∑ x : Fin 2048, (r19 m c (ValueIdx.ix2 x (i 1)) * r117 m c (ValueIdx.ix2 x (i 1)) : EReal) := by
  pointwise [val_main_v136, val_main_v135, val_main_v134, val_main_cst_23]
  rfl

theorem row9 (c : Dev nD) (H : Reg m c) (t : Fin cfg0.N) (i : S1x512.Idx) :
    s253 (insAt m c t) i = ∑ x : Fin 256, (r96 m c (ValueIdx.ix2 (rowOf t x) (i 1)) * r126 m c (ValueIdx.ix2 (rowOf t x) (i 1)) : EReal) := by
  unfold s253
  pointwise [k0_pay93]
  exact Finset.sum_congr rfl fun x _ => congrArg₂ (· * ·) (e141 m c t _ _ rfl rfl) (e249 m c t _ _ rfl rfl)

theorem all9 (c : Dev nD) (i : S1x512.Idx) : val_main_v130 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg19)) i = ∑ x : Fin 2048, (r96 m c (ValueIdx.ix2 x (i 1)) * r126 m c (ValueIdx.ix2 x (i 1)) : EReal) := by
  pointwise [val_main_v130, val_main_v129, val_main_v128, val_main_cst_22]
  rfl

end Cert.Kernel4Ideal.Pre

end
-- ==== Proof.Pre.Dcur.lean ====
/-
The token-shift gradient with respect to the input.

Each point adds, to its own tile's part, the part of the next token; the last row of a tile takes it from the row the
point before carried over, and the last token of all takes none. The reference shifts the whole array up by one row.
-/
module

public import proofs.«01_k».proof.Proof.Pre.Sums

@[expose] public section

set_option maxRecDepth 16384

noncomputable section

namespace Cert.Kernel4Ideal.Pre

open Idealize.ShloMosaic Idealize.ShloMosaic.TcCoe Idealize.SL.Sem
open Idealize.ShloMosaic.Pipeline (Dat)
open Cert.Kernel4Ideal Cert.Kernel4Ideal.Gen
open Cert.Reference4Ideal.Read

variable (m : (ℓ : Loc nD τ sig) → Buf (Elt Ideal) ℓ)

def r174 (c : Dev nD) : Cert.Reference4Ideal.S2048x512.Idx → EReal := val_main_v174 (F := Ideal) (m ((c : Thread nD τ).loc main_arg0)) (m ((c : Thread nD τ).loc main_arg6)) (m ((c : Thread nD τ).loc main_arg13)) (m ((c : Thread nD τ).loc main_arg14)) (m ((c : Thread nD τ).loc main_arg23))
def r186 (c : Dev nD) : Cert.Reference4Ideal.S2048x512.Idx → EReal := val_main_v186 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg16)) (m ((c : Thread nD τ).loc main_arg19)) (m ((c : Thread nD τ).loc main_arg22))
def r198 (c : Dev nD) : Cert.Reference4Ideal.S2048x512.Idx → EReal := val_main_v198 (F := Ideal) (m ((c : Thread nD τ).loc main_arg0)) (m ((c : Thread nD τ).loc main_arg4)) (m ((c : Thread nD τ).loc main_arg7)) (m ((c : Thread nD τ).loc main_arg8)) (m ((c : Thread nD τ).loc main_arg9)) (m ((c : Thread nD τ).loc main_arg18))
def r209 (c : Dev nD) : Cert.Reference4Ideal.S2048x512.Idx → EReal := val_main_v209 (F := Ideal) (m ((c : Thread nD τ).loc main_arg3)) (m ((c : Thread nD τ).loc main_arg20))
def r220 (c : Dev nD) : Cert.Reference4Ideal.S2048x512.Idx → EReal := val_main_v220 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg19)) (m ((c : Thread nD τ).loc main_arg21))
def r231 (c : Dev nD) : Cert.Reference4Ideal.S2048x512.Idx → EReal := val_main_v231 (F := Ideal) (m ((c : Thread nD τ).loc main_arg1)) (m ((c : Thread nD τ).loc main_arg17))

theorem row255 : ∀ r : Fin 256, IntOp.cmpi .eq (BitVec.ofNat 32 r.val) 255#32 = if r.val = 255 then 1#1 else 0#1 := by decide +kernel

/-- The part of column block `q` that belongs to the token before. -/
def prevG (c : Dev nD) (q : Fin 4) (j : S2048x512.Idx) : EReal :=
  (![fun j => r231 m c j, fun j => r220 m c j, fun j => r209 m c j, fun j => r174 m c j + r186 m c j + r198 m c j] : Fin 4 → S2048x512.Idx → EReal) q j

/-- The part of column block `q` that belongs to the token itself. -/
def ownG (c : Dev nD) (q : Fin 4) (j : S2048x512.Idx) : EReal :=
  (![fun j => r125 m c j + -r231 m c j, fun j => r139 m c j + -r220 m c j, fun j => r119 m c j + -r209 m c j,
    fun j => (r146 m c j + -r174 m c j) + (r155 m c j + -r186 m c j) + (r169 m c j + -r198 m c j)] : Fin 4 → S2048x512.Idx → EReal) q j

/-- The next token's value, zero after the last token. -/
def nxt (f : S2048x512.Idx → EReal) (j : S2048x512.Idx) : EReal :=
  if h : (j 0 : ℕ) < 2047 then f (ValueIdx.ix2 ⟨1 + (j 0 : ℕ), by omega⟩ (j 1)) else 0

theorem m174 (c : Dev nD) (H : Reg m c) (t : Fin cfg0.N) (i : S256x512.Idx) (j : S2048x512.Idx) (h0 : (j 0 : ℕ) = (7 - t.val) * 256 + i 0) (h1 : (j 1 : ℕ) = i 1) :
    (s279 (insAt m c t) i * s36 (insAt m c t) (ValueIdx.ix2 0 (i 1)) : EReal) = r174 m c j := by
  unfold r174
  pointwise [val_main_v174, val_main_v173]
  exact congrArg₂ (· * ·) (e279 m c t i j h0 h1) (e36 m c t _ _ h1)

theorem m186 (c : Dev nD) (H : Reg m c) (t : Fin cfg0.N) (i : S256x512.Idx) (j : S2048x512.Idx) (h0 : (j 0 : ℕ) = (7 - t.val) * 256 + i 0) (h1 : (j 1 : ℕ) = i 1) :
    (s301 (insAt m c t) i * s35 (insAt m c t) (ValueIdx.ix2 0 (i 1)) : EReal) = r186 m c j := by
  unfold r186
  pointwise [val_main_v186, val_main_v185]
  exact congrArg₂ (· * ·) (e301 m c t i j h0 h1) (e35 m c t _ _ h1)

theorem m198 (c : Dev nD) (H : Reg m c) (t : Fin cfg0.N) (i : S256x512.Idx) (j : S2048x512.Idx) (h0 : (j 0 : ℕ) = (7 - t.val) * 256 + i 0) (h1 : (j 1 : ℕ) = i 1) :
    (s333 (insAt m c t) i * s34 (insAt m c t) (ValueIdx.ix2 0 (i 1)) : EReal) = r198 m c j := by
  unfold r198
  pointwise [val_main_v198, val_main_v197]
  exact congrArg₂ (· * ·) (e333 m c H t i j h0 h1) (e34 m c t _ _ h1)

theorem m209 (c : Dev nD) (H : Reg m c) (t : Fin cfg0.N) (i : S256x512.Idx) (j : S2048x512.Idx) (h0 : (j 0 : ℕ) = (7 - t.val) * 256 + i 0) (h1 : (j 1 : ℕ) = i 1) :
    (s213 (insAt m c t) i * s33 (insAt m c t) (ValueIdx.ix2 0 (i 1)) : EReal) = r209 m c j := by
  unfold r209
  pointwise [val_main_v209, val_main_v208]
  exact congrArg₂ (· * ·) (e213 m c t i j h0 h1) (e33 m c t _ _ h1)

theorem m220 (c : Dev nD) (H : Reg m c) (t : Fin cfg0.N) (i : S256x512.Idx) (j : S2048x512.Idx) (h0 : (j 0 : ℕ) = (7 - t.val) * 256 + i 0) (h1 : (j 1 : ℕ) = i 1) :
    (s262 (insAt m c t) i * s32 (insAt m c t) (ValueIdx.ix2 0 (i 1)) : EReal) = r220 m c j := by
  unfold r220
  pointwise [val_main_v220, val_main_v219]
  exact congrArg₂ (· * ·) (e262 m c t i j h0 h1) (e32 m c t _ _ h1)

theorem m231 (c : Dev nD) (H : Reg m c) (t : Fin cfg0.N) (i : S256x512.Idx) (j : S2048x512.Idx) (h0 : (j 0 : ℕ) = (7 - t.val) * 256 + i 0) (h1 : (j 1 : ℕ) = i 1) :
    (s162 (insAt m c t) i * s31 (insAt m c t) (ValueIdx.ix2 0 (i 1)) : EReal) = r231 m c j := by
  unfold r231
  pointwise [val_main_v231, val_main_v230]
  exact congrArg₂ (· * ·) (e162 m c t i j h0 h1) (e31 m c t _ _ h1)

theorem prev_0 (c : Dev nD) (H : Reg m c) (t : Fin cfg0.N) (i : S256x2048.Idx) (j : S2048x512.Idx) (h0 : (j 0 : ℕ) = (7 - t.val) * 256 + i 0) (h1 : (i 1 : ℕ) = 0 + j 1) : s423 (insAt m c t) i = prevG m c 0 j := by
  have hj : (j 1 : ℕ) < 512 := (j 1).isLt
  have c1536 : (i 1 : ℕ) < 1536 := by omega
  have c1024 : (i 1 : ℕ) < 1024 := by omega
  have c512 : (i 1 : ℕ) < 512 := by omega
  unfold s423 s407 s359
  pointwise [k0_pay137, k0_pay133, k0_pay124, k0_pay136, k0_pay132, k0_pay130, k0_pay128, k0_pay123, k0_pay121]
  simp only [c1536, c1024, c512, dite_true, dite_false, add_zero, zero_add]
  exact (m231 m c H t (ValueIdx.ix2 (i 0) ⟨(i 1 : ℕ), by omega⟩) j h0 (by show (j 1 : ℕ) = (i 1 : ℕ); omega))

theorem own_0 (c : Dev nD) (H : Reg m c) (t : Fin cfg0.N) (i : S256x2048.Idx) (j : S2048x512.Idx) (h0 : (j 0 : ℕ) = (7 - t.val) * 256 + i 0) (h1 : (i 1 : ℕ) = 0 + j 1) : s426 (insAt m c t) i = ownG m c 0 j := by
  have hj : (j 1 : ℕ) < 512 := (j 1).isLt
  have c1536 : (i 1 : ℕ) < 1536 := by omega
  have c1024 : (i 1 : ℕ) < 1024 := by omega
  have c512 : (i 1 : ℕ) < 512 := by omega
  unfold s426 s412 s362
  pointwise [k0_pay138, k0_pay134, k0_pay125, k0_pay136, k0_pay132, k0_pay130, k0_pay128, k0_pay123, k0_pay121]
  simp only [c1536, c1024, c512, dite_true, dite_false, add_zero, zero_add]
  exact (congrArg₂ (· + ·) (e162 m c t (ValueIdx.ix2 (i 0) ⟨(i 1 : ℕ), by omega⟩) j h0 (by show (j 1 : ℕ) = (i 1 : ℕ); omega)) (zero_minus _ _ (m231 m c H t (ValueIdx.ix2 (i 0) ⟨(i 1 : ℕ), by omega⟩) j h0 (by show (j 1 : ℕ) = (i 1 : ℕ); omega))))

theorem prev_1 (c : Dev nD) (H : Reg m c) (t : Fin cfg0.N) (i : S256x2048.Idx) (j : S2048x512.Idx) (h0 : (j 0 : ℕ) = (7 - t.val) * 256 + i 0) (h1 : (i 1 : ℕ) = 512 + j 1) : s423 (insAt m c t) i = prevG m c 1 j := by
  have hj : (j 1 : ℕ) < 512 := (j 1).isLt
  have c1536 : (i 1 : ℕ) < 1536 := by omega
  have c1024 : (i 1 : ℕ) < 1024 := by omega
  have c512 : ¬ (i 1 : ℕ) < 512 := by omega
  unfold s423 s407 s359
  pointwise [k0_pay137, k0_pay133, k0_pay124, k0_pay136, k0_pay132, k0_pay130, k0_pay128, k0_pay123, k0_pay121]
  simp only [c1536, c1024, c512, dite_true, dite_false, add_zero, zero_add]
  exact (m220 m c H t (ValueIdx.ix2 (i 0) ⟨(i 1 : ℕ) - 512, by omega⟩) j h0 (by show (j 1 : ℕ) = (i 1 : ℕ) - 512; omega))

theorem own_1 (c : Dev nD) (H : Reg m c) (t : Fin cfg0.N) (i : S256x2048.Idx) (j : S2048x512.Idx) (h0 : (j 0 : ℕ) = (7 - t.val) * 256 + i 0) (h1 : (i 1 : ℕ) = 512 + j 1) : s426 (insAt m c t) i = ownG m c 1 j := by
  have hj : (j 1 : ℕ) < 512 := (j 1).isLt
  have c1536 : (i 1 : ℕ) < 1536 := by omega
  have c1024 : (i 1 : ℕ) < 1024 := by omega
  have c512 : ¬ (i 1 : ℕ) < 512 := by omega
  unfold s426 s412 s362
  pointwise [k0_pay138, k0_pay134, k0_pay125, k0_pay136, k0_pay132, k0_pay130, k0_pay128, k0_pay123, k0_pay121]
  simp only [c1536, c1024, c512, dite_true, dite_false, add_zero, zero_add]
  exact (congrArg₂ (· + ·) (e262 m c t (ValueIdx.ix2 (i 0) ⟨(i 1 : ℕ) - 512, by omega⟩) j h0 (by show (j 1 : ℕ) = (i 1 : ℕ) - 512; omega)) (zero_minus _ _ (m220 m c H t (ValueIdx.ix2 (i 0) ⟨(i 1 : ℕ) - 512, by omega⟩) j h0 (by show (j 1 : ℕ) = (i 1 : ℕ) - 512; omega))))

theorem prev_2 (c : Dev nD) (H : Reg m c) (t : Fin cfg0.N) (i : S256x2048.Idx) (j : S2048x512.Idx) (h0 : (j 0 : ℕ) = (7 - t.val) * 256 + i 0) (h1 : (i 1 : ℕ) = 1024 + j 1) : s423 (insAt m c t) i = prevG m c 2 j := by
  have hj : (j 1 : ℕ) < 512 := (j 1).isLt
  have c1536 : (i 1 : ℕ) < 1536 := by omega
  have c1024 : ¬ (i 1 : ℕ) < 1024 := by omega
  have c512 : ¬ (i 1 : ℕ) < 512 := by omega
  unfold s423 s407 s359
  pointwise [k0_pay137, k0_pay133, k0_pay124, k0_pay136, k0_pay132, k0_pay130, k0_pay128, k0_pay123, k0_pay121]
  simp only [c1536, c1024, c512, dite_true, dite_false, add_zero, zero_add]
  exact (m209 m c H t (ValueIdx.ix2 (i 0) ⟨(i 1 : ℕ) - 1024, by omega⟩) j h0 (by show (j 1 : ℕ) = (i 1 : ℕ) - 1024; omega))

theorem own_2 (c : Dev nD) (H : Reg m c) (t : Fin cfg0.N) (i : S256x2048.Idx) (j : S2048x512.Idx) (h0 : (j 0 : ℕ) = (7 - t.val) * 256 + i 0) (h1 : (i 1 : ℕ) = 1024 + j 1) : s426 (insAt m c t) i = ownG m c 2 j := by
  have hj : (j 1 : ℕ) < 512 := (j 1).isLt
  have c1536 : (i 1 : ℕ) < 1536 := by omega
  have c1024 : ¬ (i 1 : ℕ) < 1024 := by omega
  have c512 : ¬ (i 1 : ℕ) < 512 := by omega
  unfold s426 s412 s362
  pointwise [k0_pay138, k0_pay134, k0_pay125, k0_pay136, k0_pay132, k0_pay130, k0_pay128, k0_pay123, k0_pay121]
  simp only [c1536, c1024, c512, dite_true, dite_false, add_zero, zero_add]
  exact (congrArg₂ (· + ·) (e213 m c t (ValueIdx.ix2 (i 0) ⟨(i 1 : ℕ) - 1024, by omega⟩) j h0 (by show (j 1 : ℕ) = (i 1 : ℕ) - 1024; omega)) (zero_minus _ _ (m209 m c H t (ValueIdx.ix2 (i 0) ⟨(i 1 : ℕ) - 1024, by omega⟩) j h0 (by show (j 1 : ℕ) = (i 1 : ℕ) - 1024; omega))))

theorem prev_3 (c : Dev nD) (H : Reg m c) (t : Fin cfg0.N) (i : S256x2048.Idx) (j : S2048x512.Idx) (h0 : (j 0 : ℕ) = (7 - t.val) * 256 + i 0) (h1 : (i 1 : ℕ) = 1536 + j 1) : s423 (insAt m c t) i = prevG m c 3 j := by
  have hj : (j 1 : ℕ) < 512 := (j 1).isLt
  have c1536 : ¬ (i 1 : ℕ) < 1536 := by omega
  have c1024 : ¬ (i 1 : ℕ) < 1024 := by omega
  have c512 : ¬ (i 1 : ℕ) < 512 := by omega
  unfold s423 s407 s359
  pointwise [k0_pay137, k0_pay133, k0_pay124, k0_pay136, k0_pay132, k0_pay130, k0_pay128, k0_pay123, k0_pay121]
  simp only [c1536, c1024, c512, dite_true, dite_false, add_zero, zero_add]
  exact congrArg₂ (· + ·) (congrArg₂ (· + ·) ((m174 m c H t (ValueIdx.ix2 (i 0) ⟨(i 1 : ℕ) - 1536, by omega⟩) j h0 (by show (j 1 : ℕ) = (i 1 : ℕ) - 1536; omega))) (m186 m c H t (ValueIdx.ix2 (i 0) ⟨(i 1 : ℕ) - 1536, by omega⟩) j h0 (by show (j 1 : ℕ) = (i 1 : ℕ) - 1536; omega))) (m198 m c H t (ValueIdx.ix2 (i 0) ⟨(i 1 : ℕ) - 1536, by omega⟩) j h0 (by show (j 1 : ℕ) = (i 1 : ℕ) - 1536; omega))

theorem own_3 (c : Dev nD) (H : Reg m c) (t : Fin cfg0.N) (i : S256x2048.Idx) (j : S2048x512.Idx) (h0 : (j 0 : ℕ) = (7 - t.val) * 256 + i 0) (h1 : (i 1 : ℕ) = 1536 + j 1) : s426 (insAt m c t) i = ownG m c 3 j := by
  have hj : (j 1 : ℕ) < 512 := (j 1).isLt
  have c1536 : ¬ (i 1 : ℕ) < 1536 := by omega
  have c1024 : ¬ (i 1 : ℕ) < 1024 := by omega
  have c512 : ¬ (i 1 : ℕ) < 512 := by omega
  unfold s426 s412 s362
  pointwise [k0_pay138, k0_pay134, k0_pay125, k0_pay136, k0_pay132, k0_pay130, k0_pay128, k0_pay123, k0_pay121]
  simp only [c1536, c1024, c512, dite_true, dite_false, add_zero, zero_add]
  exact congrArg₂ (· + ·) (congrArg₂ (· + ·) ((congrArg₂ (· + ·) (e279 m c t (ValueIdx.ix2 (i 0) ⟨(i 1 : ℕ) - 1536, by omega⟩) j h0 (by show (j 1 : ℕ) = (i 1 : ℕ) - 1536; omega)) (zero_minus _ _ (m174 m c H t (ValueIdx.ix2 (i 0) ⟨(i 1 : ℕ) - 1536, by omega⟩) j h0 (by show (j 1 : ℕ) = (i 1 : ℕ) - 1536; omega))))) (congrArg₂ (· + ·) (e301 m c t (ValueIdx.ix2 (i 0) ⟨(i 1 : ℕ) - 1536, by omega⟩) j h0 (by show (j 1 : ℕ) = (i 1 : ℕ) - 1536; omega)) (zero_minus _ _ (m186 m c H t (ValueIdx.ix2 (i 0) ⟨(i 1 : ℕ) - 1536, by omega⟩) j h0 (by show (j 1 : ℕ) = (i 1 : ℕ) - 1536; omega))))) (congrArg₂ (· + ·) (e333 m c H t (ValueIdx.ix2 (i 0) ⟨(i 1 : ℕ) - 1536, by omega⟩) j h0 (by show (j 1 : ℕ) = (i 1 : ℕ) - 1536; omega)) (zero_minus _ _ (m198 m c H t (ValueIdx.ix2 (i 0) ⟨(i 1 : ℕ) - 1536, by omega⟩) j h0 (by show (j 1 : ℕ) = (i 1 : ℕ) - 1536; omega))))

theorem prev_all (c : Dev nD) (H : Reg m c) (t : Fin cfg0.N) (q : Fin 4) (i : S256x2048.Idx) (j : S2048x512.Idx) (h0 : (j 0 : ℕ) = (7 - t.val) * 256 + i 0)
    (h1 : (i 1 : ℕ) = 512 * q + j 1) : s423 (insAt m c t) i = prevG m c q j := by
  fin_cases q
  · exact prev_0 m c H t i j h0 h1
  · exact prev_1 m c H t i j h0 h1
  · exact prev_2 m c H t i j h0 h1
  · exact prev_3 m c H t i j h0 h1

theorem own_all (c : Dev nD) (H : Reg m c) (t : Fin cfg0.N) (q : Fin 4) (i : S256x2048.Idx) (j : S2048x512.Idx) (h0 : (j 0 : ℕ) = (7 - t.val) * 256 + i 0)
    (h1 : (i 1 : ℕ) = 512 * q + j 1) : s426 (insAt m c t) i = ownG m c q j := by
  fin_cases q
  · exact own_0 m c H t i j h0 h1
  · exact own_1 m c H t i j h0 h1
  · exact own_2 m c H t i j h0 h1
  · exact own_3 m c H t i j h0 h1

/-- The carried row at a point: zero at the first, else the first row of the part the point before left. -/
theorem carried_at (c : Dev nD) (t : Fin cfg0.N) (i : S1x2048.Idx) :
    carried (start (insAt m c t).i k0_pay5 (carryAt m c t.val)) i
      = if h : t.val = 0 then 0 else s423 (insAt m c ⟨t.val - 1, by have := t.isLt; omega⟩) (ValueIdx.ix2 0 (i 1)) := by
  rw [start_at]
  by_cases e : t.val = 0
  · rw [if_pos e, dif_pos e]
    unfold carried VecWindow.window
    pointwise [k0_pay5]
  · rw [if_neg e, dif_neg e]
    have h : carryAt m c t.val = outC (insAt m c ⟨t.val - 1, by have := t.isLt; omega⟩) (carryAt m c (t.val - 1)) := by
      have := sumAt_succ (fun t S => outC (insAt m c t) S) (some_ S8x2048 .f32) ⟨t.val - 1, by have := t.isLt; omega⟩
      exact (congrArg (carryAt m c) (show t.val = t.val - 1 + 1 by omega)).trans this
    rw [h]
    unfold outC carried
    rw [VecWindow.window_put_same]
    pointwise [k0_pay142]
    rfl

theorem tile16 (c : Dev nD) (H : Reg m c) (t : Fin cfg0.N) (q : Fin 4) (i : S256x2048.Idx) (j : S2048x512.Idx) (h0 : (j 0 : ℕ) = (7 - t.val) * 256 + i 0)
    (h1 : (i 1 : ℕ) = 512 * q + j 1) : out16 (insAt m c t) (carryAt m c t.val) i = ownG m c q j + nxt (prevG m c q) j := by
  have hb : (i 0 : ℕ) < 256 := (i 0).isLt
  have ht := lt8 t
  unfold out16
  pointwise [k0_pay141]
  refine congrArg₂ (· + ·) (own_all m c H t q i j h0 h1) ?_
  have e : IntOp.cmpi .eq (BitVec.ofNat 32 (i 0 : ℕ)) 255#32 = if (i 0 : ℕ) = 255 then 1#1 else 0#1 := row255 ⟨i 0, hb⟩
  rw [e, carried_at]
  by_cases h255 : (i 0 : ℕ) = 255
  · rw [if_pos h255]
    show (if h : t.val = 0 then (0 : EReal) else _) = _
    by_cases e0 : t.val = 0
    · rw [dif_pos e0, nxt, dif_neg (by omega)]
    · rw [dif_neg e0, nxt, dif_pos (by omega)]
      exact prev_all m c H _ q _ _ (by show 1 + (j 0 : ℕ) = (7 - (t.val - 1)) * 256 + 0; omega) h1
  · rw [if_neg h255]
    show s423 (insAt m c t) _ = _
    rw [nxt, dif_pos (by omega)]
    exact prev_all m c H t q _ _ (by show 1 + (j 0 : ℕ) = (7 - t.val) * 256 + ((i 0 : ℕ) + 256 - 255) % 256; omega) h1

theorem nxt_add (f g : S2048x512.Idx → EReal) (j : S2048x512.Idx) : nxt (fun j => f j + g j) j = nxt f j + nxt g j := by
  unfold nxt
  by_cases h : (j 0 : ℕ) < 2047
  · rw [dif_pos h, dif_pos h, dif_pos h]
  · rw [dif_neg h, dif_neg h, dif_neg h, add_zero]

theorem pad236 (c : Dev nD) (j : S2048x512.Idx) : val_main_v236 (F := Ideal) (m ((c : Thread nD τ).loc main_arg1)) (m ((c : Thread nD τ).loc main_arg17)) j = nxt (r231 m c) j := by
  pointwise [val_main_v236, val_main_v235, val_main_cst_37]
  rfl

theorem pad225 (c : Dev nD) (j : S2048x512.Idx) : val_main_v225 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg19)) (m ((c : Thread nD τ).loc main_arg21)) j = nxt (r220 m c) j := by
  pointwise [val_main_v225, val_main_v224, val_main_cst_35]
  rfl

theorem pad214 (c : Dev nD) (j : S2048x512.Idx) : val_main_v214 (F := Ideal) (m ((c : Thread nD τ).loc main_arg3)) (m ((c : Thread nD τ).loc main_arg20)) j = nxt (r209 m c) j := by
  pointwise [val_main_v214, val_main_v213, val_main_cst_33]
  rfl

theorem pad203 (c : Dev nD) (j : S2048x512.Idx) : val_main_v203 (F := Ideal) (m ((c : Thread nD τ).loc main_arg0)) (m ((c : Thread nD τ).loc main_arg4)) (m ((c : Thread nD τ).loc main_arg7)) (m ((c : Thread nD τ).loc main_arg8)) (m ((c : Thread nD τ).loc main_arg9)) (m ((c : Thread nD τ).loc main_arg18)) j = nxt (r198 m c) j := by
  pointwise [val_main_v203, val_main_v202, val_main_cst_31]
  rfl

theorem pad191 (c : Dev nD) (j : S2048x512.Idx) : val_main_v191 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg16)) (m ((c : Thread nD τ).loc main_arg19)) (m ((c : Thread nD τ).loc main_arg22)) j = nxt (r186 m c) j := by
  pointwise [val_main_v191, val_main_v190, val_main_cst_29]
  rfl

theorem pad179 (c : Dev nD) (j : S2048x512.Idx) : val_main_v179 (F := Ideal) (m ((c : Thread nD τ).loc main_arg0)) (m ((c : Thread nD τ).loc main_arg6)) (m ((c : Thread nD τ).loc main_arg13)) (m ((c : Thread nD τ).loc main_arg14)) (m ((c : Thread nD τ).loc main_arg23)) j = nxt (r174 m c) j := by
  pointwise [val_main_v179, val_main_v178, val_main_cst_27]
  rfl

theorem ref_0 (c : Dev nD) (j : S2048x512.Idx) : val_main_v237 (F := Ideal) (m ((c : Thread nD τ).loc main_arg1)) (m ((c : Thread nD τ).loc main_arg17)) j = ownG m c 0 j + nxt (prevG m c 0) j := by
  have h : nxt (prevG m c 0) j = _ := (pad236 m c j).symm
  rw [h]
  pointwise [val_main_v237, val_main_v233, val_main_v232]
  rfl

theorem ref_1 (c : Dev nD) (j : S2048x512.Idx) : val_main_v226 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg19)) (m ((c : Thread nD τ).loc main_arg21)) j = ownG m c 1 j + nxt (prevG m c 1) j := by
  have h : nxt (prevG m c 1) j = _ := (pad225 m c j).symm
  rw [h]
  pointwise [val_main_v226, val_main_v222, val_main_v221]
  rfl

theorem ref_2 (c : Dev nD) (j : S2048x512.Idx) : val_main_v215 (F := Ideal) (m ((c : Thread nD τ).loc main_arg3)) (m ((c : Thread nD τ).loc main_arg20)) j = ownG m c 2 j + nxt (prevG m c 2) j := by
  have h : nxt (prevG m c 2) j = _ := (pad214 m c j).symm
  rw [h]
  pointwise [val_main_v215, val_main_v211, val_main_v210]
  rfl

theorem ref_3 (c : Dev nD) (j : S2048x512.Idx) : val_main_v204 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg16)) (m ((c : Thread nD τ).loc main_arg18)) (m ((c : Thread nD τ).loc main_arg19)) (m ((c : Thread nD τ).loc main_arg22)) (m ((c : Thread nD τ).loc main_arg23)) j = ownG m c 3 j + nxt (prevG m c 3) j := by
  have h : nxt (prevG m c 3) j = nxt (r174 m c) j + nxt (r186 m c) j + nxt (r198 m c) j := by
    rw [← nxt_add, ← nxt_add]
    rfl
  have e : ownG m c 3 j = (r146 m c j + -r174 m c j) + (r155 m c j + -r186 m c j) + (r169 m c j + -r198 m c j) := rfl
  rw [h, e, ← pad179 m c j, ← pad191 m c j, ← pad203 m c j]
  unfold r146 r174 r155 r186 r169 r198
  pointwise [val_main_v204, val_main_v200, val_main_v199, val_main_v193, val_main_v192, val_main_v188, val_main_v187, val_main_v181, val_main_v180, val_main_v176, val_main_v175]
  ac_rfl

theorem ref16 (c : Dev nD) (q : Fin 4) (i : S2048x2048.Idx) (j : S2048x512.Idx) (h0 : (j 0 : ℕ) = i 0) (h1 : (i 1 : ℕ) = 512 * q + j 1) :
    val_main_v238 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) i = ownG m c q j + nxt (prevG m c q) j := by
  have hj : (j 1 : ℕ) < 512 := (j 1).isLt
  fin_cases q
  · replace h1 : (i 1 : ℕ) = 0 + j 1 := h1
    pointwise [val_main_v238]
    rw [dif_pos (by omega)]
    refine (congrArg _ ?_).trans (ref_0 m c j)
    blk_ext []
  · replace h1 : (i 1 : ℕ) = 512 + j 1 := h1
    pointwise [val_main_v238]
    rw [dif_neg (by omega), dif_pos (by omega)]
    refine (congrArg _ ?_).trans (ref_1 m c j)
    blk_ext []
  · replace h1 : (i 1 : ℕ) = 1024 + j 1 := h1
    pointwise [val_main_v238]
    rw [dif_neg (by omega), dif_neg (by omega), dif_pos (by omega)]
    refine (congrArg _ ?_).trans (ref_2 m c j)
    blk_ext []
  · replace h1 : (i 1 : ℕ) = 1536 + j 1 := h1
    pointwise [val_main_v238]
    rw [dif_neg (by omega), dif_neg (by omega), dif_neg (by omega)]
    refine (congrArg _ ?_).trans (ref_3 m c j)
    blk_ext []

end Cert.Kernel4Ideal.Pre

end
-- ==== Proof.Pre.Dvec.lean ====
/-
The gradients with respect to the ten vectors, which one array of ten rows holds.
-/
module

public import proofs.«01_k».proof.Proof.Pre.Sums

@[expose] public section

set_option maxRecDepth 16384

noncomputable section

namespace Cert.Kernel4Ideal.Pre

open Idealize.ShloMosaic Idealize.ShloMosaic.TcCoe Idealize.SL.Sem
open Idealize.ShloMosaic.Pipeline (Dat)
open Cert.Kernel4Ideal Cert.Kernel4Ideal.Gen
open Cert.Reference4Ideal.Read

variable (m : (ℓ : Loc nD τ sig) → Buf (Elt Ideal) ℓ)

theorem ten_sum (a0 a1 a2 a3 a4 a5 a6 a7 a8 a9 : FVec Ideal S1x512 .f32) (y : FVec Ideal S10x512 .f32) (n : Fin 10) (i : S10x512.Idx) (l : S1x512.Idx)
    (h0 : (i 0 : ℕ) = n) (h1 : (l 1 : ℕ) = i 1) :
    k0_pay143 a1 a0 (k0_pay139 a9 a8 a7 a6 a5 a4 a3) (Scalar.ofBits .f32 0x00000000#32) (k0_pay140 a2) y i
      = y i + (![a0, a1, a2, a3, a4, a5, a6, a7, a8, a9] : Fin 10 → FVec Ideal S1x512 .f32) n l := by
  have hl : (l 0 : ℕ) < 1 := (l 0).isLt
  unfold k0_pay143
  rw [shapeCast_self]
  pointwise [k0_pay139, k0_pay140]
  fin_cases n
  all_goals
    simp only [Fin.mk_zero, Fin.mk_one, Fin.reduceFinMk, Fin.isValue, Fin.val_zero, Fin.val_one, Fin.coe_ofNat_eq_mod, Nat.reduceMod] at h0
    simp [h0]
    refine congrArg (y i + ·) ?_
    blk_ext []

/-- The terms whose sum over the tokens is entry `l` of the gradient of vector `n`. -/
def term (c : Dev nD) (n : Fin 10) (l : Fin 512) (x : Fin 2048) : EReal :=
  (![r8 m c (ValueIdx.ix2 x l) * r125 m c (ValueIdx.ix2 x l),
    r16 m c (ValueIdx.ix2 x l) * r139 m c (ValueIdx.ix2 x l),
    r24 m c (ValueIdx.ix2 x l) * r119 m c (ValueIdx.ix2 x l),
    r32 m c (ValueIdx.ix2 x l) * r169 m c (ValueIdx.ix2 x l),
    r40 m c (ValueIdx.ix2 x l) * r155 m c (ValueIdx.ix2 x l),
    r48 m c (ValueIdx.ix2 x l) * r146 m c (ValueIdx.ix2 x l),
    r160 m c (ValueIdx.ix2 x l),
    r147 m c (ValueIdx.ix2 x l),
    r19 m c (ValueIdx.ix2 x l) * r117 m c (ValueIdx.ix2 x l),
    r96 m c (ValueIdx.ix2 x l) * r126 m c (ValueIdx.ix2 x l)] : Fin 10 → EReal) n

theorem row_all (c : Dev nD) (H : Reg m c) (t : Fin cfg0.N) (n : Fin 10) (l : S1x512.Idx) :
    (![s415 (insAt m c t), s397 (insAt m c t), s379 (insAt m c t), s365 (insAt m c t), s351 (insAt m c t), s339 (insAt m c t), s323 (insAt m c t), s292 (insAt m c t), s259 (insAt m c t), s253 (insAt m c t)] : Fin 10 → FVec Ideal S1x512 .f32) n l = ∑ x : Fin 256, term m c n (l 1) (rowOf t x) := by
  fin_cases n
  · exact row0 m c H t l
  · exact row1 m c H t l
  · exact row2 m c H t l
  · exact row3 m c H t l
  · exact row4 m c H t l
  · exact row5 m c H t l
  · exact row6 m c H t l
  · exact row7 m c H t l
  · exact row8 m c H t l
  · exact row9 m c H t l

theorem all_all (c : Dev nD) (n : Fin 10) (l : S1x512.Idx) :
    (![val_main_v229 (F := Ideal) (m ((c : Thread nD τ).loc main_arg0)) (m ((c : Thread nD τ).loc main_arg17)),
      val_main_v218 (F := Ideal) (m ((c : Thread nD τ).loc main_arg0)) (m ((c : Thread nD τ).loc main_arg5)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg19)) (m ((c : Thread nD τ).loc main_arg21)),
      val_main_v207 (F := Ideal) (m ((c : Thread nD τ).loc main_arg0)) (m ((c : Thread nD τ).loc main_arg20)),
      val_main_v196 (F := Ideal) (m ((c : Thread nD τ).loc main_arg0)) (m ((c : Thread nD τ).loc main_arg4)) (m ((c : Thread nD τ).loc main_arg7)) (m ((c : Thread nD τ).loc main_arg8)) (m ((c : Thread nD τ).loc main_arg9)) (m ((c : Thread nD τ).loc main_arg18)),
      val_main_v184 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg16)) (m ((c : Thread nD τ).loc main_arg19)) (m ((c : Thread nD τ).loc main_arg22)),
      val_main_v172 (F := Ideal) (m ((c : Thread nD τ).loc main_arg0)) (m ((c : Thread nD τ).loc main_arg6)) (m ((c : Thread nD τ).loc main_arg13)) (m ((c : Thread nD τ).loc main_arg14)) (m ((c : Thread nD τ).loc main_arg23)),
      val_main_v162 (F := Ideal) (m ((c : Thread nD τ).loc main_arg0)) (m ((c : Thread nD τ).loc main_arg4)) (m ((c : Thread nD τ).loc main_arg7)) (m ((c : Thread nD τ).loc main_arg8)) (m ((c : Thread nD τ).loc main_arg9)) (m ((c : Thread nD τ).loc main_arg18)),
      val_main_v149 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg16)) (m ((c : Thread nD τ).loc main_arg19)) (m ((c : Thread nD τ).loc main_arg22)),
      val_main_v136 (F := Ideal) (m ((c : Thread nD τ).loc main_arg0)) (m ((c : Thread nD τ).loc main_arg2)) (m ((c : Thread nD τ).loc main_arg21)),
      val_main_v130 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg19))] : Fin 10 → S1x512.Idx → EReal) n l = ∑ x : Fin 2048, term m c n (l 1) x := by
  fin_cases n
  · exact all0 m c l
  · exact all1 m c l
  · exact all2 m c l
  · exact all3 m c l
  · exact all4 m c l
  · exact all5 m c l
  · exact all6 m c l
  · exact all7 m c l
  · exact all8 m c l
  · exact all9 m c l

theorem succ17 (c : Dev nD) (t : Fin cfg0.N) (n : Fin 10) (i : S10x512.Idx) (l : S1x512.Idx) (h0 : (i 0 : ℕ) = n) (h1 : (l 1 : ℕ) = i 1) :
    kept17 m c (t.val + 1) i = (if t.val = 0 then (0 : EReal) else kept17 m c t.val i)
      + (![s415 (insAt m c t), s397 (insAt m c t), s379 (insAt m c t), s365 (insAt m c t), s351 (insAt m c t), s339 (insAt m c t), s323 (insAt m c t), s292 (insAt m c t), s259 (insAt m c t), s253 (insAt m c t)] : Fin 10 → FVec Ideal S1x512 .f32) n l := by
  have h : kept17 m c (t.val + 1) = out17 (insAt m c t) (kept17 m c t.val) := sumAt_succ _ _ t
  rw [h]
  unfold out17
  rw [start_at]
  refine (ten_sum _ _ _ _ _ _ _ _ _ _ _ n i l h0 h1).trans ?_
  by_cases e : t.val = 0
  · rw [if_pos e, if_pos e]
    pointwise [k0_pay6]
  · rw [if_neg e, if_neg e]

theorem sum17 (c : Dev nD) (H : Reg m c) (i : S10x512.Idx) : kept17 m c 8 i = val_main_v239 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) i := by
  refine (total (term m c (i 0) (i 1)) (fun n => kept17 m c n i) fun t => ?_).trans ?_
  · show kept17 m c (t.val + 1) i = (if t.val = 0 then 0 else kept17 m c t.val i) + _
    rw [succ17 m c t (i 0) i (ValueIdx.ix2 0 (i 1)) rfl rfl]
    exact congrArg₂ (· + ·) rfl (row_all m c H t (i 0) (ValueIdx.ix2 0 (i 1)))
  · unfold val_main_v239
    exact ((ten_rows _ _ _ _ _ _ _ _ _ _ _ (i 0) i (ValueIdx.ix2 0 (i 1)) rfl rfl).trans (all_all m c (i 0) (ValueIdx.ix2 0 (i 1)))).symm

end Cert.Kernel4Ideal.Pre

end
-- ==== Proof.Pre.Final.lean ====
/-
The arrays the run ends with, each equal to the reference's stage.
-/
module

public import proofs.«01_k».proof.Proof.Pre.Dcur
public import proofs.«01_k».proof.Proof.Pre.Dvec

@[expose] public section

set_option maxRecDepth 16384

noncomputable section

namespace Cert.Kernel4Ideal.Pre

open Idealize.ShloMosaic Idealize.ShloMosaic.TcCoe Idealize.SL.Sem
open Idealize.ShloMosaic.Pipeline (Dat)
open Cert.Kernel4Ideal Cert.Kernel4Ideal.Gen
open Cert.Reference4Ideal.Read

variable (m : (ℓ : Loc nD τ sig) → Buf (Elt Ideal) ℓ)

theorem final16 (c : Dev nD) (H : Reg m c) : (dats m 0 c).arrAt 16 (cfgs 0).N = val_main_v238 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  refine (dats m 0 c).arrAt_eq_of_covers 16 _ (by decide +kernel) fun t _ y => ?_
  have h0 : (y 0 : ℕ) < 256 := (y 0).isLt
  have h1 : (y 1 : ℕ) < 2048 := (y 1).isLt
  have ht := lt8 t
  blk_simp
  rw [after0_16]
  refine (tile16 m c H t ⟨(y 1 : ℕ) / 512, by omega⟩ y (ValueIdx.ix2 ⟨(7 - t.val) * 256 + (y 0 : ℕ), by omega⟩ ⟨(y 1 : ℕ) % 512, by omega⟩) rfl ?_).trans (ref16 m c _ _ _ ?_ ?_).symm
  · show (y 1 : ℕ) = 512 * ((y 1 : ℕ) / 512) + (y 1 : ℕ) % 512
    omega
  all_goals (blk_simp [idx t] <;> try dsimp only <;> try omega)

theorem final17 (c : Dev nD) (H : Reg m c) : (dats m 0 c).arrAt 17 (cfgs 0).N = val_main_v239 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  refine (dats m 0 c).arrAt_eq_of_after_last 17 t0_7 (by decide +kernel) _ fun j => ?_
  blk_simp
  rw [after0_17]
  exact sum17 m c H j

theorem final18 (c : Dev nD) (H : Reg m c) : (dats m 0 c).arrAt 18 (cfgs 0).N = val_main_v240 (F := Ideal) (m ((c : Thread nD τ).loc main_arg0)) (m ((c : Thread nD τ).loc main_arg4)) (m ((c : Thread nD τ).loc main_arg7)) (m ((c : Thread nD τ).loc main_arg8)) (m ((c : Thread nD τ).loc main_arg9)) (m ((c : Thread nD τ).loc main_arg18)) := by
  refine (dats m 0 c).arrAt_eq_of_after_last 18 t0_7 (by decide +kernel) _ fun j => ?_
  blk_simp
  rw [after0_18]
  exact sum18 m c H j

theorem final19 (c : Dev nD) (H : Reg m c) : (dats m 0 c).arrAt 19 (cfgs 0).N = val_main_v164 (F := Ideal) (m ((c : Thread nD τ).loc main_arg0)) (m ((c : Thread nD τ).loc main_arg4)) (m ((c : Thread nD τ).loc main_arg7)) (m ((c : Thread nD τ).loc main_arg8)) (m ((c : Thread nD τ).loc main_arg9)) (m ((c : Thread nD τ).loc main_arg18)) := by
  refine (dats m 0 c).arrAt_eq_of_after_last 19 t0_7 (by decide +kernel) _ fun j => ?_
  blk_simp
  rw [after0_19]
  exact sum19 m c H j

theorem final20 (c : Dev nD) (H : Reg m c) : (dats m 0 c).arrAt 20 (cfgs 0).N = val_main_v241 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg16)) (m ((c : Thread nD τ).loc main_arg19)) (m ((c : Thread nD τ).loc main_arg22)) := by
  refine (dats m 0 c).arrAt_eq_of_after_last 20 t0_7 (by decide +kernel) _ fun j => ?_
  blk_simp
  rw [after0_20]
  exact sum20 m c H j

theorem final21 (c : Dev nD) (H : Reg m c) : (dats m 0 c).arrAt 21 (cfgs 0).N = val_main_v151 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg16)) (m ((c : Thread nD τ).loc main_arg19)) (m ((c : Thread nD τ).loc main_arg22)) := by
  refine (dats m 0 c).arrAt_eq_of_after_last 21 t0_7 (by decide +kernel) _ fun j => ?_
  blk_simp
  rw [after0_21]
  exact sum21 m c H j

theorem final22 (c : Dev nD) (H : Reg m c) : (dats m 0 c).arrAt 22 (cfgs 0).N = val_main_v242 (F := Ideal) (m ((c : Thread nD τ).loc main_arg0)) (m ((c : Thread nD τ).loc main_arg6)) (m ((c : Thread nD τ).loc main_arg13)) (m ((c : Thread nD τ).loc main_arg14)) (m ((c : Thread nD τ).loc main_arg23)) := by
  refine (dats m 0 c).arrAt_eq_of_after_last 22 t0_7 (by decide +kernel) _ fun j => ?_
  blk_simp
  rw [after0_22]
  exact sum22 m c H j

theorem final23 (c : Dev nD) (H : Reg m c) : (dats m 0 c).arrAt 23 (cfgs 0).N = val_main_v141 (F := Ideal) (m ((c : Thread nD τ).loc main_arg0)) (m ((c : Thread nD τ).loc main_arg6)) (m ((c : Thread nD τ).loc main_arg13)) (m ((c : Thread nD τ).loc main_arg23)) := by
  refine (dats m 0 c).arrAt_eq_of_after_last 23 t0_7 (by decide +kernel) _ fun j => ?_
  blk_simp
  rw [after0_23]
  exact sum23 m c H j

end Cert.Kernel4Ideal.Pre

end
-- ==== Proof.Pre.Claim.lean ====
/-
The claims about the token-shift gradient.
-/
module

public import proofs.«01_k».proof.Defs
public import proofs.«01_k».proof.Proof.Gen.Kernel4
public import proofs.«01_k».proof.Proof.Gen.Pre_regular
public import proofs.«01_k».proof.Proof.Gen.Reference4Ideal.Run
public import proofs.«01_k».proof.Proof.Pre.Final
public import Idealize.ShloMosaic.Lib.Claim

@[expose] public section

noncomputable section

namespace Cert.Proof.Pre

open Idealize.ShloMosaic Idealize.SL.Sem
open Cert.Reference4Ideal.Read Cert.Kernel4Ideal.Pre

/-- The two programs are one text, so the claim about the first reads as one about the second. -/
theorem frame_eq : Cert.quiescent_Kernel4 = ∀ (m : (ℓ : Loc Cert.Kernel4Ideal.nD Cert.Kernel4Ideal.τ Cert.Kernel4Ideal.sig) → Buf (Elt Bits) ℓ) (ρ : Dev Cert.Kernel4Ideal.nD → PrngReg), True →
    θ_run (Cert.Kernel4Ideal.defs (F := Bits)) (onTc (τ := Cert.Kernel4Ideal.τ) (Cert.Kernel4Ideal.main (F := Bits))) ⟨m, fun _ => 0, ρ⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
      ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
      ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
      ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
      ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23))
      ∧ r.2.sem = fun _ => 0) := by sl_kernel_rfl

theorem frame : Cert.quiescent_Kernel4 := frame_eq.mpr fun m ρ _ => Cert.Kernel4Ideal.Gen.frame (F := Bits) m ρ

theorem frame_ideal : Cert.quiescent_Kernel4Ideal := fun m ρ _ => Cert.Kernel4Ideal.Gen.frame m ρ

theorem frame_reference : Cert.quiescent_Reference4Ideal := by
  intro m g _
  exact θ_run_mono (Cert.Reference4Ideal.Value.run m g) fun r h =>
    ⟨fun c => (h c).2.2.2.2.2.2.2.2, sem_eq_zero_of_no_sems (by decide) r.2⟩

theorem frame_ideal_regular : Cert.quiescent_Kernel4Ideal_pre_regular := fun m ρ _ => Cert.Kernel4Ideal.Gen.frame m ρ

theorem frame_reference_regular : Cert.quiescent_Reference4Ideal_pre_regular := fun m ρ _ => frame_reference m ρ trivial

/-- A number whose absolute value lies below infinity is neither infinity. -/
theorem below_inf (x : EReal) (e : Ideal.cmp .olt (max x (-x)) (Ideal.ofBits .f32 0x7F800000#32) = 1#1) : x ≠ ⊥ ∧ x ≠ ⊤ := by
  rw [inf_f32] at e
  refine ⟨fun h => ?_, fun h => ?_⟩ <;> simp [h, Ideal.cmp] at e

theorem reg_args (m : (ℓ : Loc Cert.Kernel4Ideal.nD Cert.Kernel4Ideal.τ Cert.Kernel4Ideal.sig) → Buf (Elt Ideal) ℓ) (h : Cert.Pre_Kernel4Ideal_regular m) (c : Dev Cert.Kernel4Ideal.nD) : Reg m c := by
  intro j
  obtain ⟨h1, h2⟩ := h c
  refine ⟨fun e => ?_, ?_⟩
  · have e1 : Ideal.cmp .une (r61 m c j) (Ideal.ofBits .f32 0x00000000#32) = 1#1 := congrFun h1 j
    rw [e] at e1
    simp [Ideal.cmp, Ideal.ofBits, Ideal.ieee] at e1
  · unfold r123
    pointwise [val_main_v123, val_main_v122]
    exact below_inf _ (congrFun h2 _)

set_option maxHeartbeats 4000000 in
/-- The reference's run, each result at its last stage. -/
theorem reference_run (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ fun r => ∀ c : Dev Cert.Reference4Ideal.nD,
        r.2.mem ((c.tc : Thread Cert.Reference4Ideal.nD Cert.Reference4Ideal.τ).loc Cert.Reference4Ideal.main_v238) = val_main_v238 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18)) (m ((c.tc : Thread Cert.Reference4Ideal.nD Cert.Reference4Ideal.τ).loc Cert.Reference4Ideal.main_arg19)) (m ((c.tc : Thread Cert.Reference4Ideal.nD Cert.Reference4Ideal.τ).loc Cert.Reference4Ideal.main_arg20)) (m ((c.tc : Thread Cert.Reference4Ideal.nD Cert.Reference4Ideal.τ).loc Cert.Reference4Ideal.main_arg21)) (m ((c.tc : Thread Cert.Reference4Ideal.nD Cert.Reference4Ideal.τ).loc Cert.Reference4Ideal.main_arg22)) (m ((c.tc : Thread Cert.Reference4Ideal.nD Cert.Reference4Ideal.τ).loc Cert.Reference4Ideal.main_arg23))
        ∧ r.2.mem ((c.tc : Thread Cert.Reference4Ideal.nD Cert.Reference4Ideal.τ).loc Cert.Reference4Ideal.main_v239) = val_main_v239 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18)) (m ((c.tc : Thread Cert.Reference4Ideal.nD Cert.Reference4Ideal.τ).loc Cert.Reference4Ideal.main_arg19)) (m ((c.tc : Thread Cert.Reference4Ideal.nD Cert.Reference4Ideal.τ).loc Cert.Reference4Ideal.main_arg20)) (m ((c.tc : Thread Cert.Reference4Ideal.nD Cert.Reference4Ideal.τ).loc Cert.Reference4Ideal.main_arg21)) (m ((c.tc : Thread Cert.Reference4Ideal.nD Cert.Reference4Ideal.τ).loc Cert.Reference4Ideal.main_arg22)) (m ((c.tc : Thread Cert.Reference4Ideal.nD Cert.Reference4Ideal.τ).loc Cert.Reference4Ideal.main_arg23))
        ∧ r.2.mem ((c.tc : Thread Cert.Reference4Ideal.nD Cert.Reference4Ideal.τ).loc Cert.Reference4Ideal.main_v240) = val_main_v240 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg18))
        ∧ r.2.mem ((c.tc : Thread Cert.Reference4Ideal.nD Cert.Reference4Ideal.τ).loc Cert.Reference4Ideal.main_v164) = val_main_v164 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg18))
        ∧ r.2.mem ((c.tc : Thread Cert.Reference4Ideal.nD Cert.Reference4Ideal.τ).loc Cert.Reference4Ideal.main_v241) = val_main_v241 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg19)) (m ((c.tc : Thread Cert.Reference4Ideal.nD Cert.Reference4Ideal.τ).loc Cert.Reference4Ideal.main_arg22))
        ∧ r.2.mem ((c.tc : Thread Cert.Reference4Ideal.nD Cert.Reference4Ideal.τ).loc Cert.Reference4Ideal.main_v151) = val_main_v151 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg19)) (m ((c.tc : Thread Cert.Reference4Ideal.nD Cert.Reference4Ideal.τ).loc Cert.Reference4Ideal.main_arg22))
        ∧ r.2.mem ((c.tc : Thread Cert.Reference4Ideal.nD Cert.Reference4Ideal.τ).loc Cert.Reference4Ideal.main_v242) = val_main_v242 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg23))
        ∧ r.2.mem ((c.tc : Thread Cert.Reference4Ideal.nD Cert.Reference4Ideal.τ).loc Cert.Reference4Ideal.main_v141) = val_main_v141 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg23))
        ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
        ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
        ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
        ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
        ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
        ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
        ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
        ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
        ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
        ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
        ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
        ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
        ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
        ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
        ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
        ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19)
        ∧ r.2.mem ((c.tc : Thread Cert.Reference4Ideal.nD Cert.Reference4Ideal.τ).loc Cert.Reference4Ideal.main_arg20) = m ((c.tc : Thread Cert.Reference4Ideal.nD Cert.Reference4Ideal.τ).loc Cert.Reference4Ideal.main_arg20)
        ∧ r.2.mem ((c.tc : Thread Cert.Reference4Ideal.nD Cert.Reference4Ideal.τ).loc Cert.Reference4Ideal.main_arg21) = m ((c.tc : Thread Cert.Reference4Ideal.nD Cert.Reference4Ideal.τ).loc Cert.Reference4Ideal.main_arg21)
        ∧ r.2.mem ((c.tc : Thread Cert.Reference4Ideal.nD Cert.Reference4Ideal.τ).loc Cert.Reference4Ideal.main_arg22) = m ((c.tc : Thread Cert.Reference4Ideal.nD Cert.Reference4Ideal.τ).loc Cert.Reference4Ideal.main_arg22)
        ∧ r.2.mem ((c.tc : Thread Cert.Reference4Ideal.nD Cert.Reference4Ideal.τ).loc Cert.Reference4Ideal.main_arg23) = m ((c.tc : Thread Cert.Reference4Ideal.nD Cert.Reference4Ideal.τ).loc Cert.Reference4Ideal.main_arg23) :=
  θ_run_mono (Cert.Reference4Ideal.Value.run m ρ) fun r h c =>
    ⟨(h c).1.trans (val_main_v238_eq _), (h c).2.1.trans (val_main_v239_eq _), (h c).2.2.1.trans (val_main_v240_eq _), (h c).2.2.2.1.trans (val_main_v164_eq _), (h c).2.2.2.2.1.trans (val_main_v241_eq _), (h c).2.2.2.2.2.1.trans (val_main_v151_eq _), (h c).2.2.2.2.2.2.1.trans (val_main_v242_eq _), (h c).2.2.2.2.2.2.2.1.trans (val_main_v141_eq _), (h c).2.2.2.2.2.2.2.2⟩

set_option maxHeartbeats 4000000 in
/-- The kernel's run, each result at the reference's stage. -/
theorem kernel_run (m : (ℓ : Loc Cert.Kernel4Ideal.nD Cert.Kernel4Ideal.τ Cert.Kernel4Ideal.sig) → Buf (Elt Ideal) ℓ) (ρ : Dev Cert.Kernel4Ideal.nD → PrngReg) (H : ∀ c, Reg m c) :
    θ_run (Cert.Kernel4Ideal.defs (F := Ideal)) (onTc (τ := Cert.Kernel4Ideal.τ) (Cert.Kernel4Ideal.main (F := Ideal))) ⟨m, fun _ => 0, ρ⟩ fun r => ∀ c : Dev Cert.Kernel4Ideal.nD,
        r.2.mem ((c.tc : Thread Cert.Kernel4Ideal.nD Cert.Kernel4Ideal.τ).loc Cert.Kernel4Ideal.main_v16_0) = val_main_v238 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18)) (m ((c.tc : Thread Cert.Kernel4Ideal.nD Cert.Kernel4Ideal.τ).loc Cert.Kernel4Ideal.main_arg19)) (m ((c.tc : Thread Cert.Kernel4Ideal.nD Cert.Kernel4Ideal.τ).loc Cert.Kernel4Ideal.main_arg20)) (m ((c.tc : Thread Cert.Kernel4Ideal.nD Cert.Kernel4Ideal.τ).loc Cert.Kernel4Ideal.main_arg21)) (m ((c.tc : Thread Cert.Kernel4Ideal.nD Cert.Kernel4Ideal.τ).loc Cert.Kernel4Ideal.main_arg22)) (m ((c.tc : Thread Cert.Kernel4Ideal.nD Cert.Kernel4Ideal.τ).loc Cert.Kernel4Ideal.main_arg23))
        ∧ r.2.mem ((c.tc : Thread Cert.Kernel4Ideal.nD Cert.Kernel4Ideal.τ).loc Cert.Kernel4Ideal.main_v16_1) = val_main_v239 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18)) (m ((c.tc : Thread Cert.Kernel4Ideal.nD Cert.Kernel4Ideal.τ).loc Cert.Kernel4Ideal.main_arg19)) (m ((c.tc : Thread Cert.Kernel4Ideal.nD Cert.Kernel4Ideal.τ).loc Cert.Kernel4Ideal.main_arg20)) (m ((c.tc : Thread Cert.Kernel4Ideal.nD Cert.Kernel4Ideal.τ).loc Cert.Kernel4Ideal.main_arg21)) (m ((c.tc : Thread Cert.Kernel4Ideal.nD Cert.Kernel4Ideal.τ).loc Cert.Kernel4Ideal.main_arg22)) (m ((c.tc : Thread Cert.Kernel4Ideal.nD Cert.Kernel4Ideal.τ).loc Cert.Kernel4Ideal.main_arg23))
        ∧ r.2.mem ((c.tc : Thread Cert.Kernel4Ideal.nD Cert.Kernel4Ideal.τ).loc Cert.Kernel4Ideal.main_v16_2) = val_main_v240 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg18))
        ∧ r.2.mem ((c.tc : Thread Cert.Kernel4Ideal.nD Cert.Kernel4Ideal.τ).loc Cert.Kernel4Ideal.main_v16_3) = val_main_v164 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg18))
        ∧ r.2.mem ((c.tc : Thread Cert.Kernel4Ideal.nD Cert.Kernel4Ideal.τ).loc Cert.Kernel4Ideal.main_v16_4) = val_main_v241 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg19)) (m ((c.tc : Thread Cert.Kernel4Ideal.nD Cert.Kernel4Ideal.τ).loc Cert.Kernel4Ideal.main_arg22))
        ∧ r.2.mem ((c.tc : Thread Cert.Kernel4Ideal.nD Cert.Kernel4Ideal.τ).loc Cert.Kernel4Ideal.main_v16_5) = val_main_v151 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg19)) (m ((c.tc : Thread Cert.Kernel4Ideal.nD Cert.Kernel4Ideal.τ).loc Cert.Kernel4Ideal.main_arg22))
        ∧ r.2.mem ((c.tc : Thread Cert.Kernel4Ideal.nD Cert.Kernel4Ideal.τ).loc Cert.Kernel4Ideal.main_v16_6) = val_main_v242 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg23))
        ∧ r.2.mem ((c.tc : Thread Cert.Kernel4Ideal.nD Cert.Kernel4Ideal.τ).loc Cert.Kernel4Ideal.main_v16_7) = val_main_v141 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg23))
        ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
        ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
        ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
        ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
        ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
        ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
        ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
        ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
        ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
        ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
        ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
        ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
        ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
        ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
        ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
        ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
        ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
        ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
        ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
        ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
        ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
        ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
        ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
        ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23) :=
  θ_run_mono (θ_run_and (Cert.Kernel4Ideal.Gen.run_main m ρ) (Cert.Kernel4Ideal.Gen.frame m ρ)) fun r h c =>
    ⟨((h.1 c).1 16).trans (final16 m c (H c)), ((h.1 c).1 17).trans (final17 m c (H c)), ((h.1 c).1 18).trans (final18 m c (H c)), ((h.1 c).1 19).trans (final19 m c (H c)), ((h.1 c).1 20).trans (final20 m c (H c)), ((h.1 c).1 21).trans (final21 m c (H c)), ((h.1 c).1 22).trans (final22 m c (H c)), ((h.1 c).1 23).trans (final23 m c (H c)), h.2.1 c⟩

set_option maxHeartbeats 4000000 in
theorem value : Cert.algebraic_Kernel4Ideal_Reference4Ideal_pre_regular := by
  pair_intro
  · run_from kernel_run m g (reg_args m ‹_›)
  · run_from reference_run m' g'

end Cert.Proof.Pre

end
-- ==== Proof.MixFwd.Value.lean ====
/-
The idealized `_mixout_fwd` call: its result array is the reference's term.
-/
module

public import proofs.«01_k».proof.Proof.Gen.Kernel5Ideal.Frame
public import proofs.«01_k».proof.Proof.Gen.Reference5Ideal.Read
public import Idealize.ShloMosaic.Lib.Pipeline.ValueKit

@[expose] public section

set_option maxRecDepth 16384

noncomputable section

namespace Cert.Kernel5Ideal.MixFwd

open Idealize.ShloMosaic Idealize.ShloMosaic.TcCoe Idealize.SL.Sem
open Idealize.ShloMosaic.Pipeline (Dat)
open Cert.Kernel5Ideal Cert.Kernel5Ideal.Gen
open Cert.Reference5Ideal.Read

variable (m : (ℓ : Loc nD τ sig) → Buf (Elt Ideal) ℓ)

theorem idx : ∀ t : Fin cfg0.N, win0_0.index t = ![t.val, 0] ∧ win0_1.index t = ![0, t.val, 0]
    ∧ win0_2.index t = ![0, t.val, 0] ∧ win0_3.index t = ![t.val, 0] ∧ win0_4.index t = ![0, 0]
    ∧ win0_5.index t = ![t.val, 0] :=
  (by decide +kernel : ∀ t : Fin grid0.N, _)

/-- The grid has eight points. -/
theorem lt8 (t : Fin cfg0.N) : t.val < 8 := lt_of_lt_of_eq t.isLt N_0

/-- A tile's rows of the joined heads times the output projection, with the residual rows. -/
theorem core (c : Dev nD) (t : Fin cfg0.N) (i : S256x1024.Idx) (j : S2048x1024.Idx) (h0 : (j 0 : ℕ) = t.val * 256 + i 0) (h1 : (j 1 : ℕ) = i 1) :
    out0_5 (F := Ideal) (iblk m c 0 t) (iblk m c 1 t) (iblk m c 2 t) (iblk m c 3 t) (iblk m c 4 t) i
      = val_main_v7 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) j := by
  have ht := lt8 t
  frame_out
  pointwise [k0_pay1, k0_pay2, k0_pay3, k0_pay4, k0_pay5, val_main_v7, val_main_v6, val_main_v5, val_main_v4, val_main_v3, val_main_v2, val_main_v1, val_main_v0]
  refine congrArg₂ (· + ·) ?_ ((Fin.sum_univ_add (a := 512) (b := 512) _).trans
    (congrArg₂ (· + ·) (Finset.sum_congr rfl fun k _ => ?_) (Finset.sum_congr rfl fun k _ => ?_)))
  · blk_point [iblk, V, idx t]
  · dsimp only [Fin.val_castAdd]
    rw [dif_pos k.isLt]
    refine congrArg₂ (· * ·) ?_ ?_
    · blk_point [iblk, V, idx t]
    · blk_point [iblk, V, idx t]
      rfl
  · dsimp only [Fin.val_natAdd]
    rw [dif_neg (by omega)]
    refine congrArg₂ (· * ·) (congrArg₂ (· * ·) ?_ ?_) ?_
    · blk_point [iblk, V, idx t]
    · blk_point [iblk, V, idx t]
    · blk_point [iblk, V, idx t]
      rfl

theorem final5 (c : Dev nD) : (dats m 0 c).arrAt 5 (cfgs 0).N
    = val_main_v7 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  refine core m c t y _ ?_ ?_
  all_goals (blk_simp [idx t] <;> try omega)

end Cert.Kernel5Ideal.MixFwd

end
-- ==== Proof.MixFwd.Claim.lean ====
/-
The claims about the `_mixout_fwd` call.
-/
module

public import proofs.«01_k».proof.Defs
public import proofs.«01_k».proof.Proof.Gen.Kernel5.Frame
public import proofs.«01_k».proof.Proof.MixFwd.Value
public import Idealize.ShloMosaic.Lib.Claim

@[expose] public section

noncomputable section

namespace Cert.Proof.MixFwd

open Idealize.ShloMosaic Idealize.SL.Sem
open Cert.Reference5Ideal.Read Cert.Kernel5Ideal.MixFwd

theorem frame : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := by
  intro m g _
  exact θ_run_mono (Cert.Reference5Ideal.Value.run m g) fun r h =>
    ⟨fun c => (h c).2, sem_eq_zero_of_no_sems (by decide) r.2⟩

/-- The reference's run, each result at its last stage. -/
theorem reference_run (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ fun r =>
      ∀ c : Dev Cert.Reference5Ideal.nD,
        r.2.mem ((c.tc : Thread Cert.Reference5Ideal.nD Cert.Reference5Ideal.τ).loc Cert.Reference5Ideal.main_v7) = val_main_v7 (F := Ideal)
            (m ((c.tc : Thread Cert.Reference5Ideal.nD Cert.Reference5Ideal.τ).loc Cert.Reference5Ideal.main_arg0))
            (m ((c.tc : Thread Cert.Reference5Ideal.nD Cert.Reference5Ideal.τ).loc Cert.Reference5Ideal.main_arg1))
            (m ((c.tc : Thread Cert.Reference5Ideal.nD Cert.Reference5Ideal.τ).loc Cert.Reference5Ideal.main_arg2))
            (m ((c.tc : Thread Cert.Reference5Ideal.nD Cert.Reference5Ideal.τ).loc Cert.Reference5Ideal.main_arg3))
            (m ((c.tc : Thread Cert.Reference5Ideal.nD Cert.Reference5Ideal.τ).loc Cert.Reference5Ideal.main_arg4))
        ∧r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
        ∧r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
        ∧r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4) :=
  θ_run_mono (Cert.Reference5Ideal.Value.run m ρ) fun r h c =>
    ⟨(h c).1.trans (val_main_v7_eq _ _ _ _ _), (h c).2⟩

set_option maxHeartbeats 1000000 in
theorem value : Cert.algebraic_Kernel5Ideal_Reference5Ideal := by
  pair_intro
  · run_from Cert.Kernel5Ideal.Gen.run_main m g
  · run_from reference_run m' g'
    exact (final5 m c).symm

end Cert.Proof.MixFwd

end
-- ==== Proof.ProjFwd.Value.lean ====
/-
The idealized `_proj_fwd` call: its four result arrays are the reference's terms.
-/
module

public import proofs.«01_k».proof.Proof.Gen.Kernel6Ideal.Frame
public import proofs.«01_k».proof.Proof.Gen.Reference6Ideal.Read
public import Idealize.ShloMosaic.Lib.Pipeline.ValueKit

@[expose] public section

set_option maxRecDepth 16384

noncomputable section

namespace Cert.Kernel6Ideal.ProjFwd

open Idealize.ShloMosaic Idealize.ShloMosaic.TcCoe Idealize.SL.Sem
open Idealize.ShloMosaic.Pipeline (Dat)
open Cert.Kernel6Ideal Cert.Kernel6Ideal.Gen
open Cert.Reference6Ideal.Read

variable (m : (ℓ : Loc nD τ sig) → Buf (Elt Ideal) ℓ)

theorem idx : ∀ t : Fin cfg0.N, win0_0.index t = ![t.val, 0] ∧ win0_1.index t = ![0, 0]
    ∧ win0_2.index t = ![0, 0, 0] ∧ win0_3.index t = ![0, t.val, 0] ∧ win0_4.index t = ![0, t.val, 0]
    ∧ win0_5.index t = ![0, t.val, 0] ∧ win0_6.index t = ![t.val, 0] :=
  (by decide +kernel : ∀ t : Fin grid0.N, _)

/-- The grid has eight points. -/
theorem lt8 (t : Fin cfg0.N) : t.val < 8 := lt_of_lt_of_eq t.isLt N_0

/-- A tile of normed rows times the input projection, its columns stored in four slabs. -/
theorem row (c : Dev nD) (t : Fin cfg0.N) (i : S256x3584.Idx) (j : Cert.Reference6Ideal.S2048x3584.Idx)
    (h0 : (j 0 : ℕ) = t.val * 256 + i 0) (h1 : (j 1 : ℕ) = i 1) :
    k0_pay33 (F := Ideal) (iblk m c 0 t) (iblk m c 1 t) (iblk m c 2 t) i
      = val_main_v12 (F := Ideal) (m ((c : Thread nD τ).loc main_arg0)) (m ((c : Thread nD τ).loc main_arg1))
          (m ((c : Thread nD τ).loc main_arg2)) j := by
  have ht := lt8 t
  have hb : ((i 1 : Fin 3584) : ℕ) < 3584 := (i 1).isLt
  pointwise [k0_pay33, k0_pay3, val_main_v12, val_main_v11, val_main_v10, val_main_v9, val_main_v8, val_main_v7,
    val_main_v6, val_main_v5, val_main_v4, val_main_v3, val_main_v2, val_main_v1, val_main_v0, val_main_cst,
    val_main_cst_0, val_main_cst_1]
  by_cases h : ((i 1 : Fin 3584) : ℕ) < 896
  · rw [dif_pos h]
    refine Finset.sum_congr rfl fun k _ => congrArg₂ (· * ·) ?_ ?_
    · blk_point [iblk, V, idx t]
    · blk_point [iblk, V, idx t]
  rw [dif_neg h]
  by_cases h' : ((i 1 : Fin 3584) : ℕ) - 896 < 896
  · rw [dif_pos h']
    refine Finset.sum_congr rfl fun k _ => congrArg₂ (· * ·) ?_ ?_
    · blk_point [iblk, V, idx t]
    · blk_point [iblk, V, idx t]
  rw [dif_neg h']
  by_cases h'' : ((i 1 : Fin 3584) : ℕ) - 896 - 896 < 896
  · rw [dif_pos h'']
    refine Finset.sum_congr rfl fun k _ => congrArg₂ (· * ·) ?_ ?_
    · blk_point [iblk, V, idx t]
    · blk_point [iblk, V, idx t]
  rw [dif_neg h'']
  refine Finset.sum_congr rfl fun k _ => congrArg₂ (· * ·) ?_ ?_
  · blk_point [iblk, V, idx t]
  · blk_point [iblk, V, idx t]

/-- The first 512 columns. -/
def cut3 (P : FVec Ideal S256x3584 .f32) : FVec Ideal S256x512 .f32 :=
  extractStridedSlice S256x512 ![0, 0] P slices_S256x3584_o0_0_S256x512

/-- The eight heads stored one by one. -/
def tiles3 (P : FVec Ideal S256x3584 .f32) : Vec Ideal S8x256x64 .f32 :=
  View.canon [⟨r0_13, k0_pay12 (cut3 P)⟩, ⟨r0_12, k0_pay11 (cut3 P)⟩, ⟨r0_11, k0_pay10 (cut3 P)⟩, ⟨r0_10, k0_pay9 (cut3 P)⟩,
    ⟨r0_9, k0_pay8 (cut3 P)⟩, ⟨r0_8, k0_pay7 (cut3 P)⟩, ⟨r0_7, k0_pay6 (cut3 P)⟩,
    ⟨r0_6, shapeCast S1x256x64 (extractStridedSlice S256x64 ![0, 0] (cut3 P) slices_S256x512_o0_0_S256x64)
      shapeCasts_S256x64_S1x256x64⟩]

theorem out3 (x0 : Vec Ideal S256x1024 .f32) (x1 : Vec Ideal S1x1024 .f32) (x2 : Vec Ideal S4x1024x896 .bf16) :
    out0_3 (F := Ideal) x0 x1 x2 = tiles3 (k0_pay33 x0 x1 x2) := rfl

/-- A tile of the heads of q: lane `y 2` of head `y 0` is column `64 * y 0 + y 2` of the projection. -/
theorem core3 (c : Dev nD) (t : Fin cfg0.N) (y : S8x256x64.Idx) (j : Cert.Reference6Ideal.S8x2048x64.Idx)
    (h0 : (j 0 : ℕ) = y 0) (h1 : (j 1 : ℕ) = t.val * 256 + y 1) (h2 : (j 2 : ℕ) = y 2) :
    out0_3 (F := Ideal) (iblk m c 0 t) (iblk m c 1 t) (iblk m c 2 t) y
      = val_main_v18 (F := Ideal) (m ((c : Thread nD τ).loc main_arg0)) (m ((c : Thread nD τ).loc main_arg1))
          (m ((c : Thread nD τ).loc main_arg2)) j := by
  have ht := lt8 t
  obtain_idx i : S256x3584 := [(y 1 : ℕ), 0 + (64 * (y 0 : ℕ) + (y 2 : ℕ))] with hi
  obtain_idx l : Cert.Reference6Ideal.S2048x3584 := [t.val * 256 + (y 1 : ℕ), 0 + (64 * (y 0 : ℕ) + (y 2 : ℕ))] with hl
  have e := row m c t i l (by omega) (by omega)
  have r : val_main_v18 (F := Ideal) (m ((c : Thread nD τ).loc main_arg0)) (m ((c : Thread nD τ).loc main_arg1))
          (m ((c : Thread nD τ).loc main_arg2)) j
      = val_main_v12 (F := Ideal) (m ((c : Thread nD τ).loc main_arg0)) (m ((c : Thread nD τ).loc main_arg1))
          (m ((c : Thread nD τ).loc main_arg2)) l := by
    pointwise [val_main_v18, val_main_v17, val_main_v13]
    blk_ext []
  rw [r, ← e]
  rw [out3]
  generalize k0_pay33 (F := Ideal) (iblk m c 0 t) (iblk m c 1 t) (iblk m c 2 t) = P
  unfold tiles3 cut3
  canon_tiles y h
  all_goals (open_payloads; pointwise; blk_ext)

theorem final3 (c : Dev nD) : (dats m 0 c).arrAt 3 (cfgs 0).N
    = val_main_v18 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  refine core3 m c t y _ ?_ ?_ ?_
  all_goals (blk_simp [idx t] <;> try omega)

/-- A tile of the heads of k: lane `y 2` of head `y 0` is column `64 * y 0 + y 2` of the projection's columns from 512. -/
theorem core4 (c : Dev nD) (t : Fin cfg0.N) (y : S8x256x64.Idx) (j : Cert.Reference6Ideal.S8x2048x64.Idx)
    (h0 : (j 0 : ℕ) = y 0) (h1 : (j 1 : ℕ) = t.val * 256 + y 1) (h2 : (j 2 : ℕ) = y 2) :
    out0_4 (F := Ideal) (iblk m c 0 t) (iblk m c 1 t) (iblk m c 2 t) y
      = val_main_v20 (F := Ideal) (m ((c : Thread nD τ).loc main_arg0)) (m ((c : Thread nD τ).loc main_arg1))
          (m ((c : Thread nD τ).loc main_arg2)) j := by
  have ht := lt8 t
  obtain_idx i : S256x3584 := [(y 1 : ℕ), 512 + (64 * (y 0 : ℕ) + (y 2 : ℕ))] with hi
  obtain_idx l : Cert.Reference6Ideal.S2048x3584 := [t.val * 256 + (y 1 : ℕ), 512 + (64 * (y 0 : ℕ) + (y 2 : ℕ))] with hl
  have e := row m c t i l (by omega) (by omega)
  have r : val_main_v20 (F := Ideal) (m ((c : Thread nD τ).loc main_arg0)) (m ((c : Thread nD τ).loc main_arg1))
          (m ((c : Thread nD τ).loc main_arg2)) j
      = val_main_v12 (F := Ideal) (m ((c : Thread nD τ).loc main_arg0)) (m ((c : Thread nD τ).loc main_arg1))
          (m ((c : Thread nD τ).loc main_arg2)) l := by
    pointwise [val_main_v20, val_main_v19, val_main_v14]
    blk_ext []
  rw [r, ← e]
  frame_out
  rw [show k0_pay35 (F := Ideal) (iblk m c 0 t) (iblk m c 1 t) (iblk m c 2 t) = k0_pay13 (k0_pay33 (iblk m c 0 t) (iblk m c 1 t) (iblk m c 2 t)) from rfl]
  generalize k0_pay33 (F := Ideal) (iblk m c 0 t) (iblk m c 1 t) (iblk m c 2 t) = P
  canon_tiles y h
  all_goals (open_payloads; pointwise; blk_ext)

theorem final4 (c : Dev nD) : (dats m 0 c).arrAt 4 (cfgs 0).N
    = val_main_v20 (F := Ideal) (m ((c : Thread nD τ).loc main_arg0)) (m ((c : Thread nD τ).loc main_arg1))
          (m ((c : Thread nD τ).loc main_arg2)) := by
  refine (dats m 0 c).arrAt_eq_of_covers 4 _ (by decide +kernel) fun t _ y => ?_
  blk_simp
  rw [after0_4]
  refine core4 m c t y _ ?_ ?_ ?_
  all_goals (blk_simp [idx t] <;> try omega)

/-- A tile of the heads of v: lane `y 2` of head `y 0` is column `64 * y 0 + y 2` of the projection's columns from 1024. -/
theorem core5 (c : Dev nD) (t : Fin cfg0.N) (y : S8x256x64.Idx) (j : Cert.Reference6Ideal.S8x2048x64.Idx)
    (h0 : (j 0 : ℕ) = y 0) (h1 : (j 1 : ℕ) = t.val * 256 + y 1) (h2 : (j 2 : ℕ) = y 2) :
    out0_5 (F := Ideal) (iblk m c 0 t) (iblk m c 1 t) (iblk m c 2 t) y
      = val_main_v22 (F := Ideal) (m ((c : Thread nD τ).loc main_arg0)) (m ((c : Thread nD τ).loc main_arg1))
          (m ((c : Thread nD τ).loc main_arg2)) j := by
  have ht := lt8 t
  obtain_idx i : S256x3584 := [(y 1 : ℕ), 1024 + (64 * (y 0 : ℕ) + (y 2 : ℕ))] with hi
  obtain_idx l : Cert.Reference6Ideal.S2048x3584 := [t.val * 256 + (y 1 : ℕ), 1024 + (64 * (y 0 : ℕ) + (y 2 : ℕ))] with hl
  have e := row m c t i l (by omega) (by omega)
  have r : val_main_v22 (F := Ideal) (m ((c : Thread nD τ).loc main_arg0)) (m ((c : Thread nD τ).loc main_arg1))
          (m ((c : Thread nD τ).loc main_arg2)) j
      = val_main_v12 (F := Ideal) (m ((c : Thread nD τ).loc main_arg0)) (m ((c : Thread nD τ).loc main_arg1))
          (m ((c : Thread nD τ).loc main_arg2)) l := by
    pointwise [val_main_v22, val_main_v21, val_main_v15]
    blk_ext []
  rw [r, ← e]
  frame_out
  generalize k0_pay33 (F := Ideal) (iblk m c 0 t) (iblk m c 1 t) (iblk m c 2 t) = P
  canon_tiles y h
  all_goals (open_payloads; pointwise; blk_ext)

theorem final5 (c : Dev nD) : (dats m 0 c).arrAt 5 (cfgs 0).N
    = val_main_v22 (F := Ideal) (m ((c : Thread nD τ).loc main_arg0)) (m ((c : Thread nD τ).loc main_arg1))
          (m ((c : Thread nD τ).loc main_arg2)) := by
  refine (dats m 0 c).arrAt_eq_of_covers 5 _ (by decide +kernel) fun t _ y => ?_
  blk_simp
  rw [after0_5]
  refine core5 m c t y _ ?_ ?_ ?_
  all_goals (blk_simp [idx t] <;> try omega)

theorem core6 (c : Dev nD) (t : Fin cfg0.N) (y : S256x2048.Idx) (j : Cert.Reference6Ideal.S2048x2048.Idx)
    (h0 : (j 0 : ℕ) = t.val * 256 + y 0) (h1 : (j 1 : ℕ) = y 1) :
    out0_6 (F := Ideal) (iblk m c 0 t) (iblk m c 1 t) (iblk m c 2 t) y
      = val_main_v16 (F := Ideal) (m ((c : Thread nD τ).loc main_arg0)) (m ((c : Thread nD τ).loc main_arg1))
          (m ((c : Thread nD τ).loc main_arg2)) j := by
  have ht := lt8 t
  frame_out
  pointwise [k0_pay2, val_main_v16]
  refine row m c t _ _ ?_ ?_
  · blk_simp
    omega
  · show 1536 + (j 1 : ℕ) = 1536 + (y 1 : ℕ)
    omega

theorem final6 (c : Dev nD) : (dats m 0 c).arrAt 6 (cfgs 0).N
    = val_main_v16 (F := Ideal) (m ((c : Thread nD τ).loc main_arg0)) (m ((c : Thread nD τ).loc main_arg1))
          (m ((c : Thread nD τ).loc main_arg2)) := by
  refine (dats m 0 c).arrAt_eq_of_covers 6 _ (by decide +kernel) fun t _ y => ?_
  blk_simp
  rw [after0_6]
  refine core6 m c t y _ ?_ ?_
  all_goals (blk_simp [idx t] <;> try omega)

end Cert.Kernel6Ideal.ProjFwd

end
-- ==== Proof.ProjFwd.Claim.lean ====
/-
The claims about the `_proj_fwd` call.
-/
module

public import proofs.«01_k».proof.Defs
public import proofs.«01_k».proof.Proof.Gen.Kernel6.Frame
public import proofs.«01_k».proof.Proof.ProjFwd.Value
public import Idealize.ShloMosaic.Lib.Claim

@[expose] public section

noncomputable section

namespace Cert.Proof.ProjFwd

open Idealize.ShloMosaic Idealize.SL.Sem
open Cert.Reference6Ideal.Read Cert.Kernel6Ideal.ProjFwd

theorem frame : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := by
  intro m g _
  exact θ_run_mono (Cert.Reference6Ideal.Value.run m g) fun r h =>
    ⟨fun c => (h c).2.2.2.2, sem_eq_zero_of_no_sems (by decide) r.2⟩

/-- The reference's run, each result at its last stage. -/
theorem reference_run (m : (ℓ : Loc Cert.Reference6Ideal.nD Cert.Reference6Ideal.τ Cert.Reference6Ideal.sig) → Buf (Elt Ideal) ℓ) (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ fun r =>
      ∀ c : Dev Cert.Reference6Ideal.nD,
        r.2.mem ((c.tc : Thread Cert.Reference6Ideal.nD Cert.Reference6Ideal.τ).loc Cert.Reference6Ideal.main_v18) = val_main_v18 (F := Ideal)
            (m ((c.tc : Thread Cert.Reference6Ideal.nD Cert.Reference6Ideal.τ).loc Cert.Reference6Ideal.main_arg0))
            (m ((c.tc : Thread Cert.Reference6Ideal.nD Cert.Reference6Ideal.τ).loc Cert.Reference6Ideal.main_arg1))
            (m ((c.tc : Thread Cert.Reference6Ideal.nD Cert.Reference6Ideal.τ).loc Cert.Reference6Ideal.main_arg2))
        ∧r.2.mem ((c.tc : Thread Cert.Reference6Ideal.nD Cert.Reference6Ideal.τ).loc Cert.Reference6Ideal.main_v20) = val_main_v20 (F := Ideal)
            (m ((c.tc : Thread Cert.Reference6Ideal.nD Cert.Reference6Ideal.τ).loc Cert.Reference6Ideal.main_arg0))
            (m ((c.tc : Thread Cert.Reference6Ideal.nD Cert.Reference6Ideal.τ).loc Cert.Reference6Ideal.main_arg1))
            (m ((c.tc : Thread Cert.Reference6Ideal.nD Cert.Reference6Ideal.τ).loc Cert.Reference6Ideal.main_arg2))
        ∧r.2.mem ((c.tc : Thread Cert.Reference6Ideal.nD Cert.Reference6Ideal.τ).loc Cert.Reference6Ideal.main_v22) = val_main_v22 (F := Ideal)
            (m ((c.tc : Thread Cert.Reference6Ideal.nD Cert.Reference6Ideal.τ).loc Cert.Reference6Ideal.main_arg0))
            (m ((c.tc : Thread Cert.Reference6Ideal.nD Cert.Reference6Ideal.τ).loc Cert.Reference6Ideal.main_arg1))
            (m ((c.tc : Thread Cert.Reference6Ideal.nD Cert.Reference6Ideal.τ).loc Cert.Reference6Ideal.main_arg2))
        ∧r.2.mem ((c.tc : Thread Cert.Reference6Ideal.nD Cert.Reference6Ideal.τ).loc Cert.Reference6Ideal.main_v16) = val_main_v16 (F := Ideal)
            (m ((c.tc : Thread Cert.Reference6Ideal.nD Cert.Reference6Ideal.τ).loc Cert.Reference6Ideal.main_arg0))
            (m ((c.tc : Thread Cert.Reference6Ideal.nD Cert.Reference6Ideal.τ).loc Cert.Reference6Ideal.main_arg1))
            (m ((c.tc : Thread Cert.Reference6Ideal.nD Cert.Reference6Ideal.τ).loc Cert.Reference6Ideal.main_arg2))
        ∧r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
        ∧r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2) :=
  θ_run_mono (Cert.Reference6Ideal.Value.run m ρ) fun r h c =>
    ⟨(h c).1.trans (val_main_v18_eq _ _ _),
      (h c).2.1.trans (val_main_v20_eq _ _ _),
      (h c).2.2.1.trans (val_main_v22_eq _ _ _),
      (h c).2.2.2.1.trans (val_main_v16_eq _ _ _), (h c).2.2.2.2⟩

set_option maxHeartbeats 1000000 in
theorem value : Cert.algebraic_Kernel6Ideal_Reference6Ideal := by
  pair_intro
  · run_from Cert.Kernel6Ideal.Gen.run_main m g
  · run_from reference_run m' g'
    · exact (final3 m c).symm
    · exact (final4 m c).symm
    · exact (final5 m c).symm
    · exact (final6 m c).symm

end Cert.Proof.ProjFwd

end
-- ==== Proof.PreFwd.Base.lean ====
/-
What the `_rwkv_pre_fwd` call reads: the tile of the projected columns, the row before each row, the ten vectors laid one
below the other, and the six low-rank matrices.
-/
module

public import proofs.«01_k».proof.Proof.Gen.Kernel7Ideal.Frame
public import proofs.«01_k».proof.Proof.Gen.Reference7Ideal.Read
public import Idealize.ShloMosaic.Lib.Pipeline.ValueKit

@[expose] public section

set_option maxRecDepth 16384

noncomputable section

namespace Cert.Kernel7Ideal.PreFwd

open Idealize.ShloMosaic Idealize.ShloMosaic.TcCoe Idealize.SL.Sem
open Idealize.ShloMosaic.Pipeline (Dat)
open Cert.Kernel7Ideal Cert.Kernel7Ideal.Gen
open Cert.Reference7Ideal.Read

variable (m : (ℓ : Loc nD τ sig) → Buf (Elt Ideal) ℓ)

theorem idx : ∀ t : Fin cfg0.N, win0_0.index t = ![t.val, 0] ∧ win0_1.index t = ![t.val * 32 - 1, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![0, t.val, 0] ∧ win0_10.index t = ![0, t.val, 0] ∧ win0_11.index t = ![0, t.val, 0]
    ∧ win0_12.index t = ![0, t.val, 0] ∧ win0_13.index t = ![0, t.val, 0] ∧ win0_14.index t = ![0, t.val, 0]
    ∧ win0_15.index t = ![t.val, 0] :=
  (by decide +kernel : ∀ t : Fin grid0.N, _)

/-- The grid has eight points, and a point's coordinate is its number. -/
theorem lt8 (t : Fin cfg0.N) : t.val < 8 := lt_of_lt_of_eq t.isLt N_0

theorem coord (t : Fin cfg0.N) : ((grid0.coords t) 0).val = t.val := by
  revert t; decide +kernel

/-- One of the ten vectors: row `n` of the packed array. -/
def vecs (c : Dev nD) : Fin 10 → S1x512.Idx → EReal :=
  ![m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg10), m ((c : Thread nD τ).loc main_arg15), m ((c : Thread nD τ).loc main_arg16)]

theorem vec_row (c : Dev nD) (t : Fin cfg0.N) (n : Fin 10) (i : S10x512.Idx) (j : S1x512.Idx)
    (h0 : (i 0 : ℕ) = n) (h1 : (j 1 : ℕ) = i 1) : iblk m c 2 t i = vecs m c n j := by
  have e : iblk m c 2 t i = V m c main_v0 i := by blk_ext [iblk, idx t]
  have en : (⟨(i 0 : ℕ), (i 0).isLt⟩ : Fin 10) = n := Fin.ext h0
  rw [e]
  unfold V vecs
  entry_read
  refine (concatenate_ofFn_unit_apply' (s₁ := S1x512) (t := S10x512) 0 ![m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg10), m ((c : Thread nD τ).loc main_arg15), m ((c : Thread nD τ).loc main_arg16)] _ rfl i).trans ?_
  refine (congrFun (congrArg ![m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg10), m ((c : Thread nD τ).loc main_arg15), m ((c : Thread nD τ).loc main_arg16)] en) _).trans (congrArg _ ?_)
  blk_ext []
  rw [Shape.Idx.norm_def]
  exact h1.symm

theorem mat3 (c : Dev nD) (t : Fin cfg0.N) (i : S32x512.Idx) (j : S512x32.Idx) (h0 : (j 0 : ℕ) = i 1) (h1 : (j 1 : ℕ) = i 0) :
    iblk m c 3 t i = (m ((c : Thread nD τ).loc main_arg8)) j := by
  blk_point [iblk, V, idx t]

theorem mat4 (c : Dev nD) (t : Fin cfg0.N) (i : S32x512.Idx) (j : S32x512.Idx) (h0 : (j 0 : ℕ) = i 0) (h1 : (j 1 : ℕ) = i 1) :
    iblk m c 4 t i = (m ((c : Thread nD τ).loc main_arg9)) j := by
  blk_point [iblk, V, idx t]

theorem mat5 (c : Dev nD) (t : Fin cfg0.N) (i : S32x512.Idx) (j : S512x32.Idx) (h0 : (j 0 : ℕ) = i 1) (h1 : (j 1 : ℕ) = i 0) :
    iblk m c 5 t i = (m ((c : Thread nD τ).loc main_arg11)) j := by
  blk_point [iblk, V, idx t]

theorem mat6 (c : Dev nD) (t : Fin cfg0.N) (i : S32x512.Idx) (j : S32x512.Idx) (h0 : (j 0 : ℕ) = i 0) (h1 : (j 1 : ℕ) = i 1) :
    iblk m c 6 t i = (m ((c : Thread nD τ).loc main_arg12)) j := by
  blk_point [iblk, V, idx t]

theorem mat7 (c : Dev nD) (t : Fin cfg0.N) (i : S96x512.Idx) (j : S512x96.Idx) (h0 : (j 0 : ℕ) = i 1) (h1 : (j 1 : ℕ) = i 0) :
    iblk m c 7 t i = (m ((c : Thread nD τ).loc main_arg13)) j := by
  blk_point [iblk, V, idx t]

theorem mat8 (c : Dev nD) (t : Fin cfg0.N) (i : S96x512.Idx) (j : S96x512.Idx) (h0 : (j 0 : ℕ) = i 0) (h1 : (j 1 : ℕ) = i 1) :
    iblk m c 8 t i = (m ((c : Thread nD τ).loc main_arg14)) j := by
  blk_point [iblk, V, idx t]

/-- The row before row `k`: zero before the first. -/
def prevAt (c : Dev nD) (k l : Fin 2048) : EReal :=
  if h : k.val = 0 then 0 else m ((c : Thread nD τ).loc main_arg0) (ValueIdx.ix2 ⟨k.val - 1, by omega⟩ l)

theorem first_row : ∀ r : Fin 256, IntOp.cmpi .eq (BitVec.ofNat 32 r.val) 0#32 = if r.val = 0 then 1#1 else 0#1 := by
  decide +kernel

theorem later_tile : ∀ n : Fin 8, Scalar.cmpi .sgt (BitVec.ofNat 32 n.val) 0#32 = if n.val = 0 then 0#1 else 1#1 := by
  decide +kernel

/-- A tile's rows moved down by one, the first from the tile before. -/
theorem shifted (c : Dev nD) (t : Fin cfg0.N) (i : S256x2048.Idx) (k l : Fin 2048) (h0 : (k : ℕ) = t.val * 256 + i 0)
    (h1 : (l : ℕ) = i 1) : k0_pay4 (F := Ideal) (grid0.coords t) (iblk m c 0 t) (iblk m c 1 t) i = prevAt m c k l := by
  have ht := lt8 t
  have hc := coord t
  have hb : (i 0 : ℕ) < 256 := (i 0).isLt
  unfold prevAt
  pointwise [k0_pay4]
  rw [hc]
  have e1 : IntOp.cmpi .eq (BitVec.ofNat 32 (i 0 : ℕ)) 0#32 = if (i 0 : ℕ) = 0 then 1#1 else 0#1 := first_row ⟨i 0, hb⟩
  have e2 : Scalar.cmpi .sgt (BitVec.ofNat 32 t.val) 0#32 = if t.val = 0 then 0#1 else 1#1 := later_tile ⟨t.val, ht⟩
  rw [e1, e2]
  by_cases hi : (i 0 : ℕ) = 0
  · rw [if_pos hi]
    by_cases h7 : t.val = 0
    · rw [if_pos h7, dif_pos (show k.val = 0 by omega)]
      simp [Scalar.select, Ideal.ofBits, Ideal.ieee]
    · rw [if_neg h7, dif_neg (show ¬k.val = 0 by omega)]
      show iblk m c 1 t _ = _
      blk_ext [iblk, V, idx t]
      exact h1.symm
  · rw [if_neg hi, dif_neg (show ¬k.val = 0 by omega)]
    show iblk m c 0 t _ = _
    blk_ext [iblk, V, idx t]
    exact h1.symm

end Cert.Kernel7Ideal.PreFwd

end
-- ==== Proof.PreFwd.Rows.lean ====
/-
The six mixtures of a row and the row before it, in the tile and in the reference.
-/
module

public import proofs.«01_k».proof.Proof.PreFwd.Base

@[expose] public section

set_option maxRecDepth 16384

noncomputable section

namespace Cert.Kernel7Ideal.PreFwd

open Idealize.ShloMosaic Idealize.ShloMosaic.TcCoe Idealize.SL.Sem
open Idealize.ShloMosaic.Pipeline (Dat)
open Cert.Kernel7Ideal Cert.Kernel7Ideal.Gen
open Cert.Reference7Ideal.Read

variable (m : (ℓ : Loc nD τ sig) → Buf (Elt Ideal) ℓ)

/-- A value mixed with another. -/
def lerp (x y u : EReal) : EReal := x + (y - x) * u

/-- A row mixed with the row before it. -/
def lerpAt (c : Dev nD) (k l : Fin 2048) (u : EReal) : EReal :=
  lerp (m ((c : Thread nD τ).loc main_arg0) (ValueIdx.ix2 k l)) (prevAt m c k l) u

theorem cur_blk (c : Dev nD) (t : Fin cfg0.N) (i : S256x2048.Idx) (k l : Fin 2048) (h0 : (k : ℕ) = t.val * 256 + i 0)
    (h1 : (l : ℕ) = i 1) : iblk m c 0 t i = m ((c : Thread nD τ).loc main_arg0) (ValueIdx.ix2 k l) := by
  have ht := lt8 t
  blk_ext [iblk, V, idx t]
  · exact h0.symm
  · exact h1.symm

/-- A tile's mixture. -/
theorem mixed (c : Dev nD) (t : Fin cfg0.N) (i : S256x2048.Idx) (n : Fin 10) (q : S10x512.Idx) (p : S1x512.Idx)
    (k l : Fin 2048) (h0 : (k : ℕ) = t.val * 256 + i 0) (h1 : (l : ℕ) = i 1) (g0 : (q 0 : ℕ) = n) (g1 : (p 1 : ℕ) = q 1) :
    lerp (iblk m c 0 t i) (k0_pay4 (F := Ideal) (grid0.coords t) (iblk m c 0 t) (iblk m c 1 t) i) (iblk m c 2 t q)
      = lerpAt m c k l (vecs m c n p) := by
  rw [shifted m c t i k l h0 h1, cur_blk m c t i k l h0 h1, vec_row m c t n q p g0 g1]
  rfl

theorem r_ref (c : Dev nD) (j : Cert.Reference7Ideal.S2048x512.Idx) (p : S1x512.Idx) (k l : Fin 2048)
    (h0 : (k : ℕ) = j 0) (h1 : (l : ℕ) = 0 + j 1) (g : (p 1 : ℕ) = j 1) :
    val_main_v10 (F := Ideal) (m ((c : Thread nD τ).loc main_arg0)) (m ((c : Thread nD τ).loc main_arg1)) j
      = lerpAt m c k l (vecs m c 0 p) := by
  show _ = lerp _ _ ((m ((c : Thread nD τ).loc main_arg1)) p)
  unfold lerp
  have hv : val_main_v6 (F := Ideal) (m ((c : Thread nD τ).loc main_arg0)) j = prevAt m c k l := by
    unfold prevAt
    by_cases h : k.val = 0
    · rw [dif_pos h]
      pointwise [val_main_v6, val_main_v5, val_main_v4, val_main_v0, val_main_cst]
      blk_point []
      all_goals omega
    · rw [dif_neg h]
      pointwise [val_main_v6, val_main_v5, val_main_v4, val_main_v0, val_main_cst]
      blk_point []
      all_goals first
        | omega
        | exact (show (j 1 : ℕ) = (l : ℕ) by omega)
        | exact congrArg (· - 1) h0.symm
  rw [← hv]
  pointwise [val_main_v10, val_main_v9, val_main_v8, val_main_v7, val_main_v0]
  have e := g
  blk_point []
  all_goals first
    | exact (show (j 1 : ℕ) = (l : ℕ) by omega)
    | exact h0.symm
    | exact g.symm
    | exact g

theorem r_row (c : Dev nD) (t : Fin cfg0.N) (i : S256x512.Idx) (j : Cert.Reference7Ideal.S2048x512.Idx) (h0 : (j 0 : ℕ) = t.val * 256 + i 0) (h1 : (j 1 : ℕ) = i 1) :
    k0_pay22 (F := Ideal) (iblk m c 0 t) (k0_pay4 (grid0.coords t) (iblk m c 0 t) (iblk m c 1 t)) (k0_pay12 (iblk m c 2 t)) i
      = val_main_v10 (F := Ideal) (m ((c : Thread nD τ).loc main_arg0)) (m ((c : Thread nD τ).loc main_arg1)) j := by
  have hj : (j 1 : ℕ) < 512 := (j 1).isLt
  obtain_idx p : S1x512 := [0, (j 1 : ℕ)] with hp
  rw [r_ref m c j p (j 0) ⟨0 + (j 1 : ℕ), by omega⟩ rfl rfl (by omega)]
  pointwise [k0_pay22, k0_pay12, k0_pay5]
  refine mixed m c t _ 0 _ p _ _ h0 ?_ rfl (hp1.trans h1)
  exact h1

theorem k_ref (c : Dev nD) (j : Cert.Reference7Ideal.S2048x512.Idx) (p : S1x512.Idx) (k l : Fin 2048)
    (h0 : (k : ℕ) = j 0) (h1 : (l : ℕ) = 512 + j 1) (g : (p 1 : ℕ) = j 1) :
    val_main_v17 (F := Ideal) (m ((c : Thread nD τ).loc main_arg0)) (m ((c : Thread nD τ).loc main_arg2)) j
      = lerpAt m c k l (vecs m c 1 p) := by
  show _ = lerp _ _ ((m ((c : Thread nD τ).loc main_arg2)) p)
  unfold lerp
  have hv : val_main_v13 (F := Ideal) (m ((c : Thread nD τ).loc main_arg0)) j = prevAt m c k l := by
    unfold prevAt
    by_cases h : k.val = 0
    · rw [dif_pos h]
      pointwise [val_main_v13, val_main_v12, val_main_v11, val_main_v1, val_main_cst_0]
      blk_point []
      all_goals omega
    · rw [dif_neg h]
      pointwise [val_main_v13, val_main_v12, val_main_v11, val_main_v1, val_main_cst_0]
      blk_point []
      all_goals first
        | omega
        | exact (show 512 + (j 1 : ℕ) = (l : ℕ) by omega)
        | exact congrArg (· - 1) h0.symm
  rw [← hv]
  pointwise [val_main_v17, val_main_v16, val_main_v15, val_main_v14, val_main_v1]
  have e := g
  blk_point []
  all_goals first
    | exact (show 512 + (j 1 : ℕ) = (l : ℕ) by omega)
    | exact h0.symm
    | exact g.symm
    | exact g

theorem k_row (c : Dev nD) (t : Fin cfg0.N) (i : S256x512.Idx) (j : Cert.Reference7Ideal.S2048x512.Idx) (h0 : (j 0 : ℕ) = t.val * 256 + i 0) (h1 : (j 1 : ℕ) = i 1) :
    k0_pay23 (F := Ideal) (iblk m c 0 t) (k0_pay4 (grid0.coords t) (iblk m c 0 t) (iblk m c 1 t)) (k0_pay13 (iblk m c 2 t)) i
      = val_main_v17 (F := Ideal) (m ((c : Thread nD τ).loc main_arg0)) (m ((c : Thread nD τ).loc main_arg2)) j := by
  have hj : (j 1 : ℕ) < 512 := (j 1).isLt
  obtain_idx p : S1x512 := [0, (j 1 : ℕ)] with hp
  rw [k_ref m c j p (j 0) ⟨512 + (j 1 : ℕ), by omega⟩ rfl rfl (by omega)]
  pointwise [k0_pay23, k0_pay13, k0_pay5]
  refine mixed m c t _ 1 _ p _ _ h0 ?_ rfl (hp1.trans h1)
  exact congrArg (512 + ·) h1

theorem v_ref (c : Dev nD) (j : Cert.Reference7Ideal.S2048x512.Idx) (p : S1x512.Idx) (k l : Fin 2048)
    (h0 : (k : ℕ) = j 0) (h1 : (l : ℕ) = 1024 + j 1) (g : (p 1 : ℕ) = j 1) :
    val_main_v24 (F := Ideal) (m ((c : Thread nD τ).loc main_arg0)) (m ((c : Thread nD τ).loc main_arg3)) j
      = lerpAt m c k l (vecs m c 2 p) := by
  show _ = lerp _ _ ((m ((c : Thread nD τ).loc main_arg3)) p)
  unfold lerp
  have hv : val_main_v20 (F := Ideal) (m ((c : Thread nD τ).loc main_arg0)) j = prevAt m c k l := by
    unfold prevAt
    by_cases h : k.val = 0
    · rw [dif_pos h]
      pointwise [val_main_v20, val_main_v19, val_main_v18, val_main_v2, val_main_cst_1]
      blk_point []
      all_goals omega
    · rw [dif_neg h]
      pointwise [val_main_v20, val_main_v19, val_main_v18, val_main_v2, val_main_cst_1]
      blk_point []
      all_goals first
        | omega
        | exact (show 1024 + (j 1 : ℕ) = (l : ℕ) by omega)
        | exact congrArg (· - 1) h0.symm
  rw [← hv]
  pointwise [val_main_v24, val_main_v23, val_main_v22, val_main_v21, val_main_v2]
  have e := g
  blk_point []
  all_goals first
    | exact (show 1024 + (j 1 : ℕ) = (l : ℕ) by omega)
    | exact h0.symm
    | exact g.symm
    | exact g

theorem v_row (c : Dev nD) (t : Fin cfg0.N) (i : S256x512.Idx) (j : Cert.Reference7Ideal.S2048x512.Idx) (h0 : (j 0 : ℕ) = t.val * 256 + i 0) (h1 : (j 1 : ℕ) = i 1) :
    k0_pay24 (F := Ideal) (iblk m c 0 t) (k0_pay4 (grid0.coords t) (iblk m c 0 t) (iblk m c 1 t)) (k0_pay14 (iblk m c 2 t)) i
      = val_main_v24 (F := Ideal) (m ((c : Thread nD τ).loc main_arg0)) (m ((c : Thread nD τ).loc main_arg3)) j := by
  have hj : (j 1 : ℕ) < 512 := (j 1).isLt
  obtain_idx p : S1x512 := [0, (j 1 : ℕ)] with hp
  rw [v_ref m c j p (j 0) ⟨1024 + (j 1 : ℕ), by omega⟩ rfl rfl (by omega)]
  pointwise [k0_pay24, k0_pay14, k0_pay5]
  refine mixed m c t _ 2 _ p _ _ h0 ?_ rfl (hp1.trans h1)
  exact congrArg (1024 + ·) h1

theorem w_ref (c : Dev nD) (j : Cert.Reference7Ideal.S2048x512.Idx) (p : S1x512.Idx) (k l : Fin 2048)
    (h0 : (k : ℕ) = j 0) (h1 : (l : ℕ) = 1536 + j 1) (g : (p 1 : ℕ) = j 1) :
    val_main_v31 (F := Ideal) (m ((c : Thread nD τ).loc main_arg0)) (m ((c : Thread nD τ).loc main_arg4)) j
      = lerpAt m c k l (vecs m c 3 p) := by
  show _ = lerp _ _ ((m ((c : Thread nD τ).loc main_arg4)) p)
  unfold lerp
  have hv : val_main_v27 (F := Ideal) (m ((c : Thread nD τ).loc main_arg0)) j = prevAt m c k l := by
    unfold prevAt
    by_cases h : k.val = 0
    · rw [dif_pos h]
      pointwise [val_main_v27, val_main_v26, val_main_v25, val_main_v3, val_main_cst_2]
      blk_point []
      all_goals omega
    · rw [dif_neg h]
      pointwise [val_main_v27, val_main_v26, val_main_v25, val_main_v3, val_main_cst_2]
      blk_point []
      all_goals first
        | omega
        | exact (show 1536 + (j 1 : ℕ) = (l : ℕ) by omega)
        | exact congrArg (· - 1) h0.symm
  rw [← hv]
  pointwise [val_main_v31, val_main_v30, val_main_v29, val_main_v28, val_main_v3]
  have e := g
  blk_point []
  all_goals first
    | exact (show 1536 + (j 1 : ℕ) = (l : ℕ) by omega)
    | exact h0.symm
    | exact g.symm
    | exact g

theorem a_ref (c : Dev nD) (j : Cert.Reference7Ideal.S2048x512.Idx) (p : S1x512.Idx) (k l : Fin 2048)
    (h0 : (k : ℕ) = j 0) (h1 : (l : ℕ) = 1536 + j 1) (g : (p 1 : ℕ) = j 1) :
    val_main_v38 (F := Ideal) (m ((c : Thread nD τ).loc main_arg0)) (m ((c : Thread nD τ).loc main_arg5)) j
      = lerpAt m c k l (vecs m c 4 p) := by
  show _ = lerp _ _ ((m ((c : Thread nD τ).loc main_arg5)) p)
  unfold lerp
  have hv : val_main_v34 (F := Ideal) (m ((c : Thread nD τ).loc main_arg0)) j = prevAt m c k l := by
    unfold prevAt
    by_cases h : k.val = 0
    · rw [dif_pos h]
      pointwise [val_main_v34, val_main_v33, val_main_v32, val_main_v3, val_main_cst_3]
      blk_point []
      all_goals omega
    · rw [dif_neg h]
      pointwise [val_main_v34, val_main_v33, val_main_v32, val_main_v3, val_main_cst_3]
      blk_point []
      all_goals first
        | omega
        | exact (show 1536 + (j 1 : ℕ) = (l : ℕ) by omega)
        | exact congrArg (· - 1) h0.symm
  rw [← hv]
  pointwise [val_main_v38, val_main_v37, val_main_v36, val_main_v35, val_main_v3]
  have e := g
  blk_point []
  all_goals first
    | exact (show 1536 + (j 1 : ℕ) = (l : ℕ) by omega)
    | exact h0.symm
    | exact g.symm
    | exact g

theorem a_row (c : Dev nD) (t : Fin cfg0.N) (i : S256x512.Idx) (j : Cert.Reference7Ideal.S2048x512.Idx) (h0 : (j 0 : ℕ) = t.val * 256 + i 0) (h1 : (j 1 : ℕ) = i 1) :
    k0_pay25 (F := Ideal) (iblk m c 0 t) (k0_pay4 (grid0.coords t) (iblk m c 0 t) (iblk m c 1 t)) (k0_pay16 (iblk m c 2 t)) i
      = val_main_v38 (F := Ideal) (m ((c : Thread nD τ).loc main_arg0)) (m ((c : Thread nD τ).loc main_arg5)) j := by
  have hj : (j 1 : ℕ) < 512 := (j 1).isLt
  obtain_idx p : S1x512 := [0, (j 1 : ℕ)] with hp
  rw [a_ref m c j p (j 0) ⟨1536 + (j 1 : ℕ), by omega⟩ rfl rfl (by omega)]
  pointwise [k0_pay25, k0_pay16, k0_pay5]
  refine mixed m c t _ 4 _ p _ _ h0 ?_ rfl (hp1.trans h1)
  exact congrArg (1536 + ·) h1

theorem g_ref (c : Dev nD) (j : Cert.Reference7Ideal.S2048x512.Idx) (p : S1x512.Idx) (k l : Fin 2048)
    (h0 : (k : ℕ) = j 0) (h1 : (l : ℕ) = 1536 + j 1) (g : (p 1 : ℕ) = j 1) :
    val_main_v45 (F := Ideal) (m ((c : Thread nD τ).loc main_arg0)) (m ((c : Thread nD τ).loc main_arg6)) j
      = lerpAt m c k l (vecs m c 5 p) := by
  show _ = lerp _ _ ((m ((c : Thread nD τ).loc main_arg6)) p)
  unfold lerp
  have hv : val_main_v41 (F := Ideal) (m ((c : Thread nD τ).loc main_arg0)) j = prevAt m c k l := by
    unfold prevAt
    by_cases h : k.val = 0
    · rw [dif_pos h]
      pointwise [val_main_v41, val_main_v40, val_main_v39, val_main_v3, val_main_cst_4]
      blk_point []
      all_goals omega
    · rw [dif_neg h]
      pointwise [val_main_v41, val_main_v40, val_main_v39, val_main_v3, val_main_cst_4]
      blk_point []
      all_goals first
        | omega
        | exact (show 1536 + (j 1 : ℕ) = (l : ℕ) by omega)
        | exact congrArg (· - 1) h0.symm
  rw [← hv]
  pointwise [val_main_v45, val_main_v44, val_main_v43, val_main_v42, val_main_v3]
  have e := g
  blk_point []
  all_goals first
    | exact (show 1536 + (j 1 : ℕ) = (l : ℕ) by omega)
    | exact h0.symm
    | exact g.symm
    | exact g

theorem g_row (c : Dev nD) (t : Fin cfg0.N) (i : S256x512.Idx) (j : Cert.Reference7Ideal.S2048x512.Idx) (h0 : (j 0 : ℕ) = t.val * 256 + i 0) (h1 : (j 1 : ℕ) = i 1) :
    k0_pay26 (F := Ideal) (iblk m c 0 t) (k0_pay4 (grid0.coords t) (iblk m c 0 t) (iblk m c 1 t)) (k0_pay17 (iblk m c 2 t)) i
      = val_main_v45 (F := Ideal) (m ((c : Thread nD τ).loc main_arg0)) (m ((c : Thread nD τ).loc main_arg6)) j := by
  have hj : (j 1 : ℕ) < 512 := (j 1).isLt
  obtain_idx p : S1x512 := [0, (j 1 : ℕ)] with hp
  rw [g_ref m c j p (j 0) ⟨1536 + (j 1 : ℕ), by omega⟩ rfl rfl (by omega)]
  pointwise [k0_pay26, k0_pay17, k0_pay5]
  refine mixed m c t _ 5 _ p _ _ h0 ?_ rfl (hp1.trans h1)
  exact congrArg (1536 + ·) h1

end Cert.Kernel7Ideal.PreFwd

end
-- ==== Proof.PreFwd.Stages.lean ====
/-
The stages of a tile: the decay, the in-context rate, the scaled keys and the gate.
-/
module

public import proofs.«01_k».proof.Proof.PreFwd.Rows
public import proofs.«01_k».proof.Proof.Pre.Decay

@[expose] public section

set_option maxRecDepth 16384

noncomputable section

namespace Cert.Kernel7Ideal.PreFwd

open Idealize.ShloMosaic Idealize.ShloMosaic.TcCoe Idealize.SL.Sem
open Idealize.ShloMosaic.Pipeline (Dat)
open Cert.Kernel7Ideal Cert.Kernel7Ideal.Gen
open Cert.Reference7Ideal.Read

variable (m : (ℓ : Loc nD τ sig) → Buf (Elt Ideal) ℓ)

theorem a_tile (c : Dev nD) (t : Fin cfg0.N) (i : S256x512.Idx) (j : Cert.Reference7Ideal.S2048x512.Idx) (h0 : (j 0 : ℕ) = t.val * 256 + i 0) (h1 : (j 1 : ℕ) = i 1) :
    k0_pay29 (F := Ideal) (k0_pay8 (iblk m c 5 t)) (k0_pay9 (iblk m c 6 t)) (k0_pay19 (iblk m c 2 t)) (k0_pay25 (iblk m c 0 t) (k0_pay4 (grid0.coords t) (iblk m c 0 t) (iblk m c 1 t)) (k0_pay16 (iblk m c 2 t))) i
      = val_main_v67 (F := Ideal) (m ((c : Thread nD τ).loc main_arg0)) (m ((c : Thread nD τ).loc main_arg5)) (m ((c : Thread nD τ).loc main_arg10)) (m ((c : Thread nD τ).loc main_arg11)) (m ((c : Thread nD τ).loc main_arg12)) j := by
  have e := a_row m c t
  revert e
  generalize k0_pay25 (F := Ideal) (iblk m c 0 t) (k0_pay4 (grid0.coords t) (iblk m c 0 t) (iblk m c 1 t)) (k0_pay16 (iblk m c 2 t)) = Y
  intro e
  pointwise [k0_pay29, k0_pay8, k0_pay9, k0_pay19, k0_pay5, val_main_v67, val_main_v66, val_main_v65, val_main_v64, val_main_v63, val_main_v62, val_main_v61, val_main_v60, val_main_v59, val_main_v58, val_main_cst_6, val_main_cst_7, val_main_cst_8, val_main_cst_9]
  refine congrArg (fun z : EReal => Ideal.div 1 (1 + Ideal.exp z)) ((zero_sub _).trans (congrArg Neg.neg ?_))
  refine congrArg₂ (· + ·) (vec_row m c t 7 _ _ rfl h1) (Finset.sum_congr rfl fun x _ => congrArg₂ (· * ·)
    (Finset.sum_congr rfl fun q _ => congrArg₂ (· * ·) (e _ _ h0 rfl) (mat5 m c t _ _ rfl rfl)) (mat6 m c t _ _ rfl h1))

theorem gate_tile (c : Dev nD) (t : Fin cfg0.N) (i : S256x512.Idx) (j : Cert.Reference7Ideal.S2048x512.Idx) (h0 : (j 0 : ℕ) = t.val * 256 + i 0) (h1 : (j 1 : ℕ) = i 1) :
    k0_pay30 (F := Ideal) (k0_pay10 (iblk m c 7 t)) (k0_pay11 (iblk m c 8 t)) (k0_pay26 (iblk m c 0 t) (k0_pay4 (grid0.coords t) (iblk m c 0 t) (iblk m c 1 t)) (k0_pay17 (iblk m c 2 t))) i
      = val_main_v75 (F := Ideal) (m ((c : Thread nD τ).loc main_arg0)) (m ((c : Thread nD τ).loc main_arg6)) (m ((c : Thread nD τ).loc main_arg13)) (m ((c : Thread nD τ).loc main_arg14)) j := by
  have e := g_row m c t
  revert e
  generalize k0_pay26 (F := Ideal) (iblk m c 0 t) (k0_pay4 (grid0.coords t) (iblk m c 0 t) (iblk m c 1 t)) (k0_pay17 (iblk m c 2 t)) = Y
  intro e
  pointwise [k0_pay30, k0_pay10, k0_pay11, val_main_v75, val_main_v74, val_main_v73, val_main_v72, val_main_v71, val_main_v70, val_main_v69, val_main_v68, val_main_cst_6, val_main_cst_7, val_main_cst_8, val_main_cst_9]
  refine Finset.sum_congr rfl fun x _ => congrArg₂ (· * ·)
    (congrArg (fun z : EReal => Ideal.div 1 (1 + Ideal.exp z)) ((zero_sub _).trans (congrArg Neg.neg ?_))) (mat8 m c t _ _ rfl h1)
  exact Finset.sum_congr rfl fun q _ => congrArg₂ (· * ·) (e _ _ h0 rfl) (mat7 m c t _ _ rfl rfl)

theorem kk_tile (c : Dev nD) (t : Fin cfg0.N) (i : S256x512.Idx) (j : Cert.Reference7Ideal.S2048x512.Idx) (h0 : (j 0 : ℕ) = t.val * 256 + i 0) (h1 : (j 1 : ℕ) = i 1) :
    k0_pay31 (F := Ideal) (k0_pay20 (iblk m c 2 t)) (k0_pay23 (iblk m c 0 t) (k0_pay4 (grid0.coords t) (iblk m c 0 t) (iblk m c 1 t)) (k0_pay13 (iblk m c 2 t))) i
      = val_main_v77 (F := Ideal) (m ((c : Thread nD τ).loc main_arg0)) (m ((c : Thread nD τ).loc main_arg2)) (m ((c : Thread nD τ).loc main_arg15)) j := by
  have e := k_row m c t
  revert e
  generalize k0_pay23 (F := Ideal) (iblk m c 0 t) (k0_pay4 (grid0.coords t) (iblk m c 0 t) (iblk m c 1 t)) (k0_pay13 (iblk m c 2 t)) = Y
  intro e
  pointwise [k0_pay31, k0_pay20, k0_pay5, val_main_v77, val_main_v76]
  exact congrArg₂ (· * ·) (e i j h0 h1) (vec_row m c t 8 _ _ rfl h1)

theorem kmod_tile (c : Dev nD) (t : Fin cfg0.N) (i : S256x512.Idx) (j : Cert.Reference7Ideal.S2048x512.Idx) (h0 : (j 0 : ℕ) = t.val * 256 + i 0) (h1 : (j 1 : ℕ) = i 1) :
    k0_pay32 (F := Ideal) (k0_pay8 (iblk m c 5 t)) (k0_pay9 (iblk m c 6 t)) (k0_pay19 (iblk m c 2 t)) (k0_pay21 (iblk m c 2 t)) (k0_pay23 (iblk m c 0 t) (k0_pay4 (grid0.coords t) (iblk m c 0 t) (iblk m c 1 t)) (k0_pay13 (iblk m c 2 t))) (k0_pay25 (iblk m c 0 t) (k0_pay4 (grid0.coords t) (iblk m c 0 t) (iblk m c 1 t)) (k0_pay16 (iblk m c 2 t))) i
      = val_main_v84 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg16)) j := by
  have e := k_row m c t
  have f := a_tile m c t
  revert e f
  generalize k0_pay23 (F := Ideal) (iblk m c 0 t) (k0_pay4 (grid0.coords t) (iblk m c 0 t) (iblk m c 1 t)) (k0_pay13 (iblk m c 2 t)) = Y
  unfold k0_pay32
  generalize k0_pay29 (F := Ideal) (k0_pay8 (iblk m c 5 t)) (k0_pay9 (iblk m c 6 t)) (k0_pay19 (iblk m c 2 t)) (k0_pay25 (iblk m c 0 t) (k0_pay4 (grid0.coords t) (iblk m c 0 t) (iblk m c 1 t)) (k0_pay16 (iblk m c 2 t))) = Z
  intro e f
  pointwise [k0_pay21, k0_pay5, val_main_v84, val_main_v83, val_main_v82, val_main_v81, val_main_v80, val_main_v79, val_main_v78, val_main_cst_10, val_main_cst_11]
  exact congrArg₂ (· * ·) (e i j h0 h1)
    (congrArg (1 + ·) (congrArg₂ (· * ·) (congrArg (· - 1) (f i j h0 h1)) (vec_row m c t 9 _ _ rfl h1)))

theorem decay_eq (z h : EReal) : 0 - Ideal.exp (min z 0 - Ideal.log (1 + Ideal.exp (0 - max z (-z))) - h)
    = -Ideal.exp (-(if -z ≠ -z then -z else max (-z) 0 + Ideal.log1p (Ideal.exp (-(max (-z) (- -z))))) - h) := by
  rw [if_neg (not_not.2 rfl), neg_neg, max_comm (-z) z, zero_sub, zero_sub]
  exact congrArg (fun x => -Ideal.exp (x - h)) (Cert.Kernel4Ideal.Pre.min_sub_log z)

theorem lw_tile (c : Dev nD) (t : Fin cfg0.N) (i : S256x512.Idx) (j : Cert.Reference7Ideal.S2048x512.Idx) (h0 : (j 0 : ℕ) = t.val * 256 + i 0) (h1 : (j 1 : ℕ) = i 1) :
    k0_pay28 (F := Ideal) (k0_pay27 (iblk m c 0 t) (k0_pay4 (grid0.coords t) (iblk m c 0 t) (iblk m c 1 t)) (k0_pay6 (iblk m c 3 t)) (k0_pay7 (iblk m c 4 t)) (k0_pay15 (iblk m c 2 t)) (k0_pay18 (iblk m c 2 t))) i
      = val_main_v57 (F := Ideal) (m ((c : Thread nD τ).loc main_arg0)) (m ((c : Thread nD τ).loc main_arg4)) (m ((c : Thread nD τ).loc main_arg7)) (m ((c : Thread nD τ).loc main_arg8)) (m ((c : Thread nD τ).loc main_arg9)) j := by
  have hx : val_main_v57 (F := Ideal) (m ((c : Thread nD τ).loc main_arg0)) (m ((c : Thread nD τ).loc main_arg4)) (m ((c : Thread nD τ).loc main_arg7)) (m ((c : Thread nD τ).loc main_arg8)) (m ((c : Thread nD τ).loc main_arg9)) j = -Ideal.exp (-(fun z : EReal => if -z ≠ -z then -z else max (-z) 0 + Ideal.log1p (Ideal.exp (-(max (-z) (- -z))))) (val_main_v50 (F := Ideal) (m ((c : Thread nD τ).loc main_arg0)) (m ((c : Thread nD τ).loc main_arg4)) (m ((c : Thread nD τ).loc main_arg7)) (m ((c : Thread nD τ).loc main_arg8)) (m ((c : Thread nD τ).loc main_arg9)) j) - Ideal.ofBits FTy.f32 0x3F000000#32) := by
    pointwise [val_main_v57, val_main_v56, val_main_v55, val_main_v54, val_main_v53, val_main_v52, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_v51, val_main_call0_cst, val_main_cst_5]
    rfl
  rw [hx]
  refine Eq.trans ?_ (decay_eq _ _)
  pointwise [k0_pay28, k0_pay27, k0_pay6, k0_pay7, k0_pay15, k0_pay18, k0_pay5]
  have hj : (j 1 : ℕ) < 512 := (j 1).isLt
  refine congrArg (fun z : EReal => 0 - Ideal.exp (min z 0 - Ideal.log (1 + Ideal.exp (0 - max z (-z))) - Ideal.ofBits FTy.f32 0x3F000000#32)) (?_ : (_ : EReal) = _)
  pointwise [val_main_v50, val_main_v49, val_main_v48, val_main_v47, val_main_v46]
  refine congrArg₂ (· + ·) (vec_row m c t 6 _ _ rfl h1) (Finset.sum_congr rfl fun x _ => congrArg₂ (· * ·)
    (congrArg Ideal.tanh (Finset.sum_congr rfl fun q _ => congrArg₂ (· * ·) ?_ (mat3 m c t _ _ rfl rfl))) (mat4 m c t _ _ rfl h1))
  exact (mixed m c t _ 3 _ (ValueIdx.ix2 0 q) (j 0) ⟨1536 + (q : ℕ), by omega⟩ h0 rfl rfl rfl).trans
    (w_ref m c (ValueIdx.ix2 (j 0) q) (ValueIdx.ix2 0 q) _ _ rfl rfl rfl).symm

end Cert.Kernel7Ideal.PreFwd

end
-- ==== Proof.PreFwd.Value.lean ====
/-
The seven results of the `_rwkv_pre_fwd` call, each a reference result: six stored head by head, and the gate.
-/
module

public import proofs.«01_k».proof.Proof.PreFwd.Stages

@[expose] public section

set_option maxRecDepth 16384

noncomputable section

namespace Cert.Kernel7Ideal.PreFwd

open Idealize.ShloMosaic Idealize.ShloMosaic.TcCoe Idealize.SL.Sem
open Idealize.ShloMosaic.Pipeline (Dat)
open Cert.Kernel7Ideal Cert.Kernel7Ideal.Gen
open Cert.Reference7Ideal.Read

variable (m : (ℓ : Loc nD τ sig) → Buf (Elt Ideal) ℓ)

variable (g : grid0.Coords) (x0 : Vec Ideal S256x2048 .f32) (x1 : Vec Ideal S8x2048 .f32) (x2 : Vec Ideal S10x512 .f32)
  (x3 x4 x5 x6 : Vec Ideal S32x512 .f32) (x7 x8 : Vec Ideal S96x512 .f32)

/-- A read of a whole buffer. -/
theorem ld0 : View.ld x0 r0_0 = x0 := View.ld_unit_lit' _ x0 (by decide)
theorem ld1 : View.ld x1 r0_1 = x1 := View.ld_unit_lit' _ x1 (by decide)
theorem ld2 : View.ld x2 r0_2 = x2 := View.ld_unit_lit' _ x2 (by decide)
theorem ld3 : View.ld x3 r0_3 = x3 := View.ld_unit_lit' _ x3 (by decide)
theorem ld4 : View.ld x7 r0_4 = x7 := View.ld_unit_lit' _ x7 (by decide)

theorem r_pay : k0_pay86 (F := Ideal) g x0 x1 x2 x3 x4 x5 x6 x7 x8 = k0_pay22 x0 (k0_pay4 g x0 x1) (k0_pay12 x2) := by
  unfold k0_pay86 k0_pay82
  rw [ld0, ld1, ld2]

theorem v_pay : k0_pay88 (F := Ideal) g x0 x1 x2 x3 x4 x5 x6 x7 x8 = k0_pay24 x0 (k0_pay4 g x0 x1) (k0_pay14 x2) := by
  unfold k0_pay88 k0_pay82
  rw [ld0, ld1, ld2]

theorem lw_pay : k0_pay90 (F := Ideal) g x0 x1 x2 x3 x4 x5 x6 x7 x8 = k0_pay28 (k0_pay27 x0 (k0_pay4 g x0 x1) (k0_pay6 x3) (k0_pay7 x4) (k0_pay15 x2) (k0_pay18 x2)) := by
  unfold k0_pay90 k0_pay82
  rw [ld0, ld1, ld2, ld3, ld3]

theorem a_pay : k0_pay91 (F := Ideal) g x0 x1 x2 x3 x4 x5 x6 x7 x8 = k0_pay29 (k0_pay8 x5) (k0_pay9 x6) (k0_pay19 x2) (k0_pay25 x0 (k0_pay4 g x0 x1) (k0_pay16 x2)) := by
  unfold k0_pay91 k0_pay83 k0_pay84 k0_pay85 k0_pay89 k0_pay82
  rw [ld0, ld1, ld2, ld3, ld3]

theorem kk_pay : k0_pay92 (F := Ideal) g x0 x1 x2 x3 x4 x5 x6 x7 x8 = k0_pay31 (k0_pay20 x2) (k0_pay23 x0 (k0_pay4 g x0 x1) (k0_pay13 x2)) := by
  unfold k0_pay92 k0_pay87 k0_pay82
  rw [ld0, ld1, ld2]

theorem kmod_pay : k0_pay93 (F := Ideal) g x0 x1 x2 x3 x4 x5 x6 x7 x8 = k0_pay32 (k0_pay8 x5) (k0_pay9 x6) (k0_pay19 x2) (k0_pay21 x2) (k0_pay23 x0 (k0_pay4 g x0 x1) (k0_pay13 x2)) (k0_pay25 x0 (k0_pay4 g x0 x1) (k0_pay16 x2)) := by
  unfold k0_pay93 k0_pay83 k0_pay84 k0_pay85 k0_pay87 k0_pay89 k0_pay82
  rw [ld0, ld1, ld2, ld3, ld3]

/-- A tile of heads: lane `y 2` of head `y 0` is column `64 * y 0 + y 2`. -/
theorem core9 (c : Dev nD) (t : Fin cfg0.N) (y : S8x256x64.Idx) (j : Cert.Reference7Ideal.S8x2048x64.Idx)
    (h0 : (j 0 : ℕ) = y 0) (h1 : (j 1 : ℕ) = t.val * 256 + y 1) (h2 : (j 2 : ℕ) = y 2) :
    out0_9 (F := Ideal) (grid0.coords t) (iblk m c 0 t) (iblk m c 1 t) (iblk m c 2 t) (iblk m c 3 t) (iblk m c 4 t) (iblk m c 5 t) (iblk m c 6 t) (iblk m c 7 t) (iblk m c 8 t) y
      = val_main_v86 (F := Ideal) (m ((c : Thread nD τ).loc main_arg0)) (m ((c : Thread nD τ).loc main_arg1)) j := by
  have ht := lt8 t
  obtain_idx i : S256x512 := [(y 1 : ℕ), 64 * (y 0 : ℕ) + (y 2 : ℕ)] with hi
  obtain_idx l : Cert.Reference7Ideal.S2048x512 := [t.val * 256 + (y 1 : ℕ), 64 * (y 0 : ℕ) + (y 2 : ℕ)] with hl
  have e := r_row m c t i l (by omega) (by omega)
  have r : val_main_v86 (F := Ideal) (m ((c : Thread nD τ).loc main_arg0)) (m ((c : Thread nD τ).loc main_arg1)) j
      = val_main_v10 (F := Ideal) (m ((c : Thread nD τ).loc main_arg0)) (m ((c : Thread nD τ).loc main_arg1)) l := by
    pointwise [val_main_v86, val_main_v85]
    blk_ext []
  rw [r, ← e, ← r_pay (grid0.coords t) (iblk m c 0 t) (iblk m c 1 t) (iblk m c 2 t) (iblk m c 3 t) (iblk m c 4 t) (iblk m c 5 t) (iblk m c 6 t) (iblk m c 7 t) (iblk m c 8 t)]
  frame_out
  generalize k0_pay86 (F := Ideal) (grid0.coords t) (iblk m c 0 t) (iblk m c 1 t) (iblk m c 2 t) (iblk m c 3 t) (iblk m c 4 t) (iblk m c 5 t) (iblk m c 6 t) (iblk m c 7 t) (iblk m c 8 t) = P
  canon_tiles y h
  all_goals (open_payloads; pointwise; blk_ext)

theorem final9 (c : Dev nD) : (dats m 0 c).arrAt 9 (cfgs 0).N
    = val_main_v86 (F := Ideal) (m ((c : Thread nD τ).loc main_arg0)) (m ((c : Thread nD τ).loc main_arg1)) := by
  refine (dats m 0 c).arrAt_eq_of_covers 9 _ (by decide +kernel) fun t _ y => ?_
  blk_simp
  rw [after0_9]
  refine core9 m c t y _ ?_ ?_ ?_
  all_goals (blk_simp [idx t] <;> try omega)

/-- A tile of heads: lane `y 2` of head `y 0` is column `64 * y 0 + y 2`. -/
theorem core10 (c : Dev nD) (t : Fin cfg0.N) (y : S8x256x64.Idx) (j : Cert.Reference7Ideal.S8x2048x64.Idx)
    (h0 : (j 0 : ℕ) = y 0) (h1 : (j 1 : ℕ) = t.val * 256 + y 1) (h2 : (j 2 : ℕ) = y 2) :
    out0_10 (F := Ideal) (grid0.coords t) (iblk m c 0 t) (iblk m c 1 t) (iblk m c 2 t) (iblk m c 3 t) (iblk m c 4 t) (iblk m c 5 t) (iblk m c 6 t) (iblk m c 7 t) (iblk m c 8 t) y
      = val_main_v88 (F := Ideal) (m ((c : Thread nD τ).loc main_arg0)) (m ((c : Thread nD τ).loc main_arg4)) (m ((c : Thread nD τ).loc main_arg7)) (m ((c : Thread nD τ).loc main_arg8)) (m ((c : Thread nD τ).loc main_arg9)) j := by
  have ht := lt8 t
  obtain_idx i : S256x512 := [(y 1 : ℕ), 64 * (y 0 : ℕ) + (y 2 : ℕ)] with hi
  obtain_idx l : Cert.Reference7Ideal.S2048x512 := [t.val * 256 + (y 1 : ℕ), 64 * (y 0 : ℕ) + (y 2 : ℕ)] with hl
  have e := lw_tile m c t i l (by omega) (by omega)
  have r : val_main_v88 (F := Ideal) (m ((c : Thread nD τ).loc main_arg0)) (m ((c : Thread nD τ).loc main_arg4)) (m ((c : Thread nD τ).loc main_arg7)) (m ((c : Thread nD τ).loc main_arg8)) (m ((c : Thread nD τ).loc main_arg9)) j
      = val_main_v57 (F := Ideal) (m ((c : Thread nD τ).loc main_arg0)) (m ((c : Thread nD τ).loc main_arg4)) (m ((c : Thread nD τ).loc main_arg7)) (m ((c : Thread nD τ).loc main_arg8)) (m ((c : Thread nD τ).loc main_arg9)) l := by
    pointwise [val_main_v88, val_main_v87]
    blk_ext []
  rw [r, ← e, ← lw_pay (grid0.coords t) (iblk m c 0 t) (iblk m c 1 t) (iblk m c 2 t) (iblk m c 3 t) (iblk m c 4 t) (iblk m c 5 t) (iblk m c 6 t) (iblk m c 7 t) (iblk m c 8 t)]
  frame_out
  generalize k0_pay90 (F := Ideal) (grid0.coords t) (iblk m c 0 t) (iblk m c 1 t) (iblk m c 2 t) (iblk m c 3 t) (iblk m c 4 t) (iblk m c 5 t) (iblk m c 6 t) (iblk m c 7 t) (iblk m c 8 t) = P
  canon_tiles y h
  all_goals (open_payloads; pointwise; blk_ext)

theorem final10 (c : Dev nD) : (dats m 0 c).arrAt 10 (cfgs 0).N
    = val_main_v88 (F := Ideal) (m ((c : Thread nD τ).loc main_arg0)) (m ((c : Thread nD τ).loc main_arg4)) (m ((c : Thread nD τ).loc main_arg7)) (m ((c : Thread nD τ).loc main_arg8)) (m ((c : Thread nD τ).loc main_arg9)) := by
  refine (dats m 0 c).arrAt_eq_of_covers 10 _ (by decide +kernel) fun t _ y => ?_
  blk_simp
  rw [after0_10]
  refine core10 m c t y _ ?_ ?_ ?_
  all_goals (blk_simp [idx t] <;> try omega)

/-- A tile of heads: lane `y 2` of head `y 0` is column `64 * y 0 + y 2`. -/
theorem core11 (c : Dev nD) (t : Fin cfg0.N) (y : S8x256x64.Idx) (j : Cert.Reference7Ideal.S8x2048x64.Idx)
    (h0 : (j 0 : ℕ) = y 0) (h1 : (j 1 : ℕ) = t.val * 256 + y 1) (h2 : (j 2 : ℕ) = y 2) :
    out0_11 (F := Ideal) (grid0.coords t) (iblk m c 0 t) (iblk m c 1 t) (iblk m c 2 t) (iblk m c 3 t) (iblk m c 4 t) (iblk m c 5 t) (iblk m c 6 t) (iblk m c 7 t) (iblk m c 8 t) y
      = val_main_v90 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg16)) j := by
  have ht := lt8 t
  obtain_idx i : S256x512 := [(y 1 : ℕ), 64 * (y 0 : ℕ) + (y 2 : ℕ)] with hi
  obtain_idx l : Cert.Reference7Ideal.S2048x512 := [t.val * 256 + (y 1 : ℕ), 64 * (y 0 : ℕ) + (y 2 : ℕ)] with hl
  have e := kmod_tile m c t i l (by omega) (by omega)
  have r : val_main_v90 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg16)) j
      = val_main_v84 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg16)) l := by
    pointwise [val_main_v90, val_main_v89]
    blk_ext []
  rw [r, ← e, ← kmod_pay (grid0.coords t) (iblk m c 0 t) (iblk m c 1 t) (iblk m c 2 t) (iblk m c 3 t) (iblk m c 4 t) (iblk m c 5 t) (iblk m c 6 t) (iblk m c 7 t) (iblk m c 8 t)]
  frame_out
  generalize k0_pay93 (F := Ideal) (grid0.coords t) (iblk m c 0 t) (iblk m c 1 t) (iblk m c 2 t) (iblk m c 3 t) (iblk m c 4 t) (iblk m c 5 t) (iblk m c 6 t) (iblk m c 7 t) (iblk m c 8 t) = P
  canon_tiles y h
  all_goals (open_payloads; pointwise; blk_ext)

theorem final11 (c : Dev nD) : (dats m 0 c).arrAt 11 (cfgs 0).N
    = val_main_v90 (F := Ideal) (m ((c : Thread nD τ).loc main_arg0)) (m ((c : Thread nD τ).loc main_arg2)) (m ((c : Thread nD τ).loc main_arg5)) (m ((c : Thread nD τ).loc main_arg10)) (m ((c : Thread nD τ).loc main_arg11)) (m ((c : Thread nD τ).loc main_arg12)) (m ((c : Thread nD τ).loc main_arg16)) := by
  refine (dats m 0 c).arrAt_eq_of_covers 11 _ (by decide +kernel) fun t _ y => ?_
  blk_simp
  rw [after0_11]
  refine core11 m c t y _ ?_ ?_ ?_
  all_goals (blk_simp [idx t] <;> try omega)

/-- A tile of heads: lane `y 2` of head `y 0` is column `64 * y 0 + y 2`. -/
theorem core12 (c : Dev nD) (t : Fin cfg0.N) (y : S8x256x64.Idx) (j : Cert.Reference7Ideal.S8x2048x64.Idx)
    (h0 : (j 0 : ℕ) = y 0) (h1 : (j 1 : ℕ) = t.val * 256 + y 1) (h2 : (j 2 : ℕ) = y 2) :
    out0_12 (F := Ideal) (grid0.coords t) (iblk m c 0 t) (iblk m c 1 t) (iblk m c 2 t) (iblk m c 3 t) (iblk m c 4 t) (iblk m c 5 t) (iblk m c 6 t) (iblk m c 7 t) (iblk m c 8 t) y
      = val_main_v92 (F := Ideal) (m ((c : Thread nD τ).loc main_arg0)) (m ((c : Thread nD τ).loc main_arg3)) j := by
  have ht := lt8 t
  obtain_idx i : S256x512 := [(y 1 : ℕ), 64 * (y 0 : ℕ) + (y 2 : ℕ)] with hi
  obtain_idx l : Cert.Reference7Ideal.S2048x512 := [t.val * 256 + (y 1 : ℕ), 64 * (y 0 : ℕ) + (y 2 : ℕ)] with hl
  have e := v_row m c t i l (by omega) (by omega)
  have r : val_main_v92 (F := Ideal) (m ((c : Thread nD τ).loc main_arg0)) (m ((c : Thread nD τ).loc main_arg3)) j
      = val_main_v24 (F := Ideal) (m ((c : Thread nD τ).loc main_arg0)) (m ((c : Thread nD τ).loc main_arg3)) l := by
    pointwise [val_main_v92, val_main_v91]
    blk_ext []
  rw [r, ← e, ← v_pay (grid0.coords t) (iblk m c 0 t) (iblk m c 1 t) (iblk m c 2 t) (iblk m c 3 t) (iblk m c 4 t) (iblk m c 5 t) (iblk m c 6 t) (iblk m c 7 t) (iblk m c 8 t)]
  frame_out
  generalize k0_pay88 (F := Ideal) (grid0.coords t) (iblk m c 0 t) (iblk m c 1 t) (iblk m c 2 t) (iblk m c 3 t) (iblk m c 4 t) (iblk m c 5 t) (iblk m c 6 t) (iblk m c 7 t) (iblk m c 8 t) = P
  canon_tiles y h
  all_goals (open_payloads; pointwise; blk_ext)

theorem final12 (c : Dev nD) : (dats m 0 c).arrAt 12 (cfgs 0).N
    = val_main_v92 (F := Ideal) (m ((c : Thread nD τ).loc main_arg0)) (m ((c : Thread nD τ).loc main_arg3)) := by
  refine (dats m 0 c).arrAt_eq_of_covers 12 _ (by decide +kernel) fun t _ y => ?_
  blk_simp
  rw [after0_12]
  refine core12 m c t y _ ?_ ?_ ?_
  all_goals (blk_simp [idx t] <;> try omega)

/-- A tile of heads: lane `y 2` of head `y 0` is column `64 * y 0 + y 2`. -/
theorem core13 (c : Dev nD) (t : Fin cfg0.N) (y : S8x256x64.Idx) (j : Cert.Reference7Ideal.S8x2048x64.Idx)
    (h0 : (j 0 : ℕ) = y 0) (h1 : (j 1 : ℕ) = t.val * 256 + y 1) (h2 : (j 2 : ℕ) = y 2) :
    out0_13 (F := Ideal) (grid0.coords t) (iblk m c 0 t) (iblk m c 1 t) (iblk m c 2 t) (iblk m c 3 t) (iblk m c 4 t) (iblk m c 5 t) (iblk m c 6 t) (iblk m c 7 t) (iblk m c 8 t) y
      = val_main_v94 (F := Ideal) (m ((c : Thread nD τ).loc main_arg0)) (m ((c : Thread nD τ).loc main_arg2)) (m ((c : Thread nD τ).loc main_arg15)) j := by
  have ht := lt8 t
  obtain_idx i : S256x512 := [(y 1 : ℕ), 64 * (y 0 : ℕ) + (y 2 : ℕ)] with hi
  obtain_idx l : Cert.Reference7Ideal.S2048x512 := [t.val * 256 + (y 1 : ℕ), 64 * (y 0 : ℕ) + (y 2 : ℕ)] with hl
  have e := kk_tile m c t i l (by omega) (by omega)
  have r : val_main_v94 (F := Ideal) (m ((c : Thread nD τ).loc main_arg0)) (m ((c : Thread nD τ).loc main_arg2)) (m ((c : Thread nD τ).loc main_arg15)) j
      = val_main_v77 (F := Ideal) (m ((c : Thread nD τ).loc main_arg0)) (m ((c : Thread nD τ).loc main_arg2)) (m ((c : Thread nD τ).loc main_arg15)) l := by
    pointwise [val_main_v94, val_main_v93]
    blk_ext []
  rw [r, ← e, ← kk_pay (grid0.coords t) (iblk m c 0 t) (iblk m c 1 t) (iblk m c 2 t) (iblk m c 3 t) (iblk m c 4 t) (iblk m c 5 t) (iblk m c 6 t) (iblk m c 7 t) (iblk m c 8 t)]
  frame_out
  generalize k0_pay92 (F := Ideal) (grid0.coords t) (iblk m c 0 t) (iblk m c 1 t) (iblk m c 2 t) (iblk m c 3 t) (iblk m c 4 t) (iblk m c 5 t) (iblk m c 6 t) (iblk m c 7 t) (iblk m c 8 t) = P
  canon_tiles y h
  all_goals (open_payloads; pointwise; blk_ext)

theorem final13 (c : Dev nD) : (dats m 0 c).arrAt 13 (cfgs 0).N
    = val_main_v94 (F := Ideal) (m ((c : Thread nD τ).loc main_arg0)) (m ((c : Thread nD τ).loc main_arg2)) (m ((c : Thread nD τ).loc main_arg15)) := by
  refine (dats m 0 c).arrAt_eq_of_covers 13 _ (by decide +kernel) fun t _ y => ?_
  blk_simp
  rw [after0_13]
  refine core13 m c t y _ ?_ ?_ ?_
  all_goals (blk_simp [idx t] <;> try omega)

/-- A tile of heads: lane `y 2` of head `y 0` is column `64 * y 0 + y 2`. -/
theorem core14 (c : Dev nD) (t : Fin cfg0.N) (y : S8x256x64.Idx) (j : Cert.Reference7Ideal.S8x2048x64.Idx)
    (h0 : (j 0 : ℕ) = y 0) (h1 : (j 1 : ℕ) = t.val * 256 + y 1) (h2 : (j 2 : ℕ) = y 2) :
    out0_14 (F := Ideal) (grid0.coords t) (iblk m c 0 t) (iblk m c 1 t) (iblk m c 2 t) (iblk m c 3 t) (iblk m c 4 t) (iblk m c 5 t) (iblk m c 6 t) (iblk m c 7 t) (iblk m c 8 t) y
      = val_main_v96 (F := Ideal) (m ((c : Thread nD τ).loc main_arg0)) (m ((c : Thread nD τ).loc main_arg5)) (m ((c : Thread nD τ).loc main_arg10)) (m ((c : Thread nD τ).loc main_arg11)) (m ((c : Thread nD τ).loc main_arg12)) j := by
  have ht := lt8 t
  obtain_idx i : S256x512 := [(y 1 : ℕ), 64 * (y 0 : ℕ) + (y 2 : ℕ)] with hi
  obtain_idx l : Cert.Reference7Ideal.S2048x512 := [t.val * 256 + (y 1 : ℕ), 64 * (y 0 : ℕ) + (y 2 : ℕ)] with hl
  have e := a_tile m c t i l (by omega) (by omega)
  have r : val_main_v96 (F := Ideal) (m ((c : Thread nD τ).loc main_arg0)) (m ((c : Thread nD τ).loc main_arg5)) (m ((c : Thread nD τ).loc main_arg10)) (m ((c : Thread nD τ).loc main_arg11)) (m ((c : Thread nD τ).loc main_arg12)) j
      = val_main_v67 (F := Ideal) (m ((c : Thread nD τ).loc main_arg0)) (m ((c : Thread nD τ).loc main_arg5)) (m ((c : Thread nD τ).loc main_arg10)) (m ((c : Thread nD τ).loc main_arg11)) (m ((c : Thread nD τ).loc main_arg12)) l := by
    pointwise [val_main_v96, val_main_v95]
    blk_ext []
  rw [r, ← e, ← a_pay (grid0.coords t) (iblk m c 0 t) (iblk m c 1 t) (iblk m c 2 t) (iblk m c 3 t) (iblk m c 4 t) (iblk m c 5 t) (iblk m c 6 t) (iblk m c 7 t) (iblk m c 8 t)]
  frame_out
  generalize k0_pay91 (F := Ideal) (grid0.coords t) (iblk m c 0 t) (iblk m c 1 t) (iblk m c 2 t) (iblk m c 3 t) (iblk m c 4 t) (iblk m c 5 t) (iblk m c 6 t) (iblk m c 7 t) (iblk m c 8 t) = P
  canon_tiles y h
  all_goals (open_payloads; pointwise; blk_ext)

theorem final14 (c : Dev nD) : (dats m 0 c).arrAt 14 (cfgs 0).N
    = val_main_v96 (F := Ideal) (m ((c : Thread nD τ).loc main_arg0)) (m ((c : Thread nD τ).loc main_arg5)) (m ((c : Thread nD τ).loc main_arg10)) (m ((c : Thread nD τ).loc main_arg11)) (m ((c : Thread nD τ).loc main_arg12)) := by
  refine (dats m 0 c).arrAt_eq_of_covers 14 _ (by decide +kernel) fun t _ y => ?_
  blk_simp
  rw [after0_14]
  refine core14 m c t y _ ?_ ?_ ?_
  all_goals (blk_simp [idx t] <;> try omega)

theorem core15 (c : Dev nD) (t : Fin cfg0.N) (y : S256x512.Idx) (j : Cert.Reference7Ideal.S2048x512.Idx)
    (h0 : (j 0 : ℕ) = t.val * 256 + y 0) (h1 : (j 1 : ℕ) = y 1) :
    out0_15 (F := Ideal) (grid0.coords t) (iblk m c 0 t) (iblk m c 1 t) (iblk m c 2 t) (iblk m c 3 t) (iblk m c 4 t) (iblk m c 5 t) (iblk m c 6 t) (iblk m c 7 t) (iblk m c 8 t) y
      = val_main_v75 (F := Ideal) (m ((c : Thread nD τ).loc main_arg0)) (m ((c : Thread nD τ).loc main_arg6)) (m ((c : Thread nD τ).loc main_arg13)) (m ((c : Thread nD τ).loc main_arg14)) j := by
  rw [← gate_tile m c t y j h0 h1]
  unfold out0_15 k0_pay82
  rw [ld0, ld1, ld2, ld4, ld4]
  exact congrFun (View.canon_cons_unit_lit' _ _ _ (by decide)) y

theorem final15 (c : Dev nD) : (dats m 0 c).arrAt 15 (cfgs 0).N
    = val_main_v75 (F := Ideal) (m ((c : Thread nD τ).loc main_arg0)) (m ((c : Thread nD τ).loc main_arg6)) (m ((c : Thread nD τ).loc main_arg13)) (m ((c : Thread nD τ).loc main_arg14)) := by
  refine (dats m 0 c).arrAt_eq_of_covers 15 _ (by decide +kernel) fun t _ y => ?_
  blk_simp
  rw [after0_15]
  refine core15 m c t y _ ?_ ?_
  all_goals (blk_simp [idx t] <;> try omega)

end Cert.Kernel7Ideal.PreFwd

end
-- ==== Proof.PreFwd.Claim.lean ====
/-
The claims about the `_rwkv_pre_fwd` call.
-/
module

public import proofs.«01_k».proof.Defs
public import proofs.«01_k».proof.Proof.Gen.Kernel7.Frame
public import proofs.«01_k».proof.Proof.PreFwd.Value
public import Idealize.ShloMosaic.Lib.Claim

@[expose] public section

noncomputable section

namespace Cert.Proof.PreFwd

open Idealize.ShloMosaic Idealize.SL.Sem
open Cert.Reference7Ideal.Read Cert.Kernel7Ideal.PreFwd

theorem frame : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := by
  intro m g _
  exact θ_run_mono (Cert.Reference7Ideal.Value.run m g) fun r h =>
    ⟨fun c => (h c).2.2.2.2.2.2.2, sem_eq_zero_of_no_sems (by decide) r.2⟩

/-- The reference's run, each result at its last stage. -/
theorem reference_run (m : (ℓ : Loc Cert.Reference7Ideal.nD Cert.Reference7Ideal.τ Cert.Reference7Ideal.sig) → Buf (Elt Ideal) ℓ) (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩ fun r =>
      ∀ c : Dev Cert.Reference7Ideal.nD,
        r.2.mem ((c.tc : Thread Cert.Reference7Ideal.nD Cert.Reference7Ideal.τ).loc Cert.Reference7Ideal.main_v86) = val_main_v86 (F := Ideal)
            (m ((c.tc : Thread Cert.Reference7Ideal.nD Cert.Reference7Ideal.τ).loc Cert.Reference7Ideal.main_arg0))
            (m ((c.tc : Thread Cert.Reference7Ideal.nD Cert.Reference7Ideal.τ).loc Cert.Reference7Ideal.main_arg1))
        ∧r.2.mem ((c.tc : Thread Cert.Reference7Ideal.nD Cert.Reference7Ideal.τ).loc Cert.Reference7Ideal.main_v88) = val_main_v88 (F := Ideal)
            (m ((c.tc : Thread Cert.Reference7Ideal.nD Cert.Reference7Ideal.τ).loc Cert.Reference7Ideal.main_arg0))
            (m ((c.tc : Thread Cert.Reference7Ideal.nD Cert.Reference7Ideal.τ).loc Cert.Reference7Ideal.main_arg4))
            (m ((c.tc : Thread Cert.Reference7Ideal.nD Cert.Reference7Ideal.τ).loc Cert.Reference7Ideal.main_arg7))
            (m ((c.tc : Thread Cert.Reference7Ideal.nD Cert.Reference7Ideal.τ).loc Cert.Reference7Ideal.main_arg8))
            (m ((c.tc : Thread Cert.Reference7Ideal.nD Cert.Reference7Ideal.τ).loc Cert.Reference7Ideal.main_arg9))
        ∧r.2.mem ((c.tc : Thread Cert.Reference7Ideal.nD Cert.Reference7Ideal.τ).loc Cert.Reference7Ideal.main_v90) = val_main_v90 (F := Ideal)
            (m ((c.tc : Thread Cert.Reference7Ideal.nD Cert.Reference7Ideal.τ).loc Cert.Reference7Ideal.main_arg0))
            (m ((c.tc : Thread Cert.Reference7Ideal.nD Cert.Reference7Ideal.τ).loc Cert.Reference7Ideal.main_arg2))
            (m ((c.tc : Thread Cert.Reference7Ideal.nD Cert.Reference7Ideal.τ).loc Cert.Reference7Ideal.main_arg5))
            (m ((c.tc : Thread Cert.Reference7Ideal.nD Cert.Reference7Ideal.τ).loc Cert.Reference7Ideal.main_arg10))
            (m ((c.tc : Thread Cert.Reference7Ideal.nD Cert.Reference7Ideal.τ).loc Cert.Reference7Ideal.main_arg11))
            (m ((c.tc : Thread Cert.Reference7Ideal.nD Cert.Reference7Ideal.τ).loc Cert.Reference7Ideal.main_arg12))
            (m ((c.tc : Thread Cert.Reference7Ideal.nD Cert.Reference7Ideal.τ).loc Cert.Reference7Ideal.main_arg16))
        ∧r.2.mem ((c.tc : Thread Cert.Reference7Ideal.nD Cert.Reference7Ideal.τ).loc Cert.Reference7Ideal.main_v92) = val_main_v92 (F := Ideal)
            (m ((c.tc : Thread Cert.Reference7Ideal.nD Cert.Reference7Ideal.τ).loc Cert.Reference7Ideal.main_arg0))
            (m ((c.tc : Thread Cert.Reference7Ideal.nD Cert.Reference7Ideal.τ).loc Cert.Reference7Ideal.main_arg3))
        ∧r.2.mem ((c.tc : Thread Cert.Reference7Ideal.nD Cert.Reference7Ideal.τ).loc Cert.Reference7Ideal.main_v94) = val_main_v94 (F := Ideal)
            (m ((c.tc : Thread Cert.Reference7Ideal.nD Cert.Reference7Ideal.τ).loc Cert.Reference7Ideal.main_arg0))
            (m ((c.tc : Thread Cert.Reference7Ideal.nD Cert.Reference7Ideal.τ).loc Cert.Reference7Ideal.main_arg2))
            (m ((c.tc : Thread Cert.Reference7Ideal.nD Cert.Reference7Ideal.τ).loc Cert.Reference7Ideal.main_arg15))
        ∧r.2.mem ((c.tc : Thread Cert.Reference7Ideal.nD Cert.Reference7Ideal.τ).loc Cert.Reference7Ideal.main_v96) = val_main_v96 (F := Ideal)
            (m ((c.tc : Thread Cert.Reference7Ideal.nD Cert.Reference7Ideal.τ).loc Cert.Reference7Ideal.main_arg0))
            (m ((c.tc : Thread Cert.Reference7Ideal.nD Cert.Reference7Ideal.τ).loc Cert.Reference7Ideal.main_arg5))
            (m ((c.tc : Thread Cert.Reference7Ideal.nD Cert.Reference7Ideal.τ).loc Cert.Reference7Ideal.main_arg10))
            (m ((c.tc : Thread Cert.Reference7Ideal.nD Cert.Reference7Ideal.τ).loc Cert.Reference7Ideal.main_arg11))
            (m ((c.tc : Thread Cert.Reference7Ideal.nD Cert.Reference7Ideal.τ).loc Cert.Reference7Ideal.main_arg12))
        ∧r.2.mem ((c.tc : Thread Cert.Reference7Ideal.nD Cert.Reference7Ideal.τ).loc Cert.Reference7Ideal.main_v75) = val_main_v75 (F := Ideal)
            (m ((c.tc : Thread Cert.Reference7Ideal.nD Cert.Reference7Ideal.τ).loc Cert.Reference7Ideal.main_arg0))
            (m ((c.tc : Thread Cert.Reference7Ideal.nD Cert.Reference7Ideal.τ).loc Cert.Reference7Ideal.main_arg6))
            (m ((c.tc : Thread Cert.Reference7Ideal.nD Cert.Reference7Ideal.τ).loc Cert.Reference7Ideal.main_arg13))
            (m ((c.tc : Thread Cert.Reference7Ideal.nD Cert.Reference7Ideal.τ).loc Cert.Reference7Ideal.main_arg14))
        ∧r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
        ∧r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
        ∧r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
        ∧r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
        ∧r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
        ∧r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
        ∧r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
        ∧r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
        ∧r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
        ∧r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
        ∧r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
        ∧r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
        ∧r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
        ∧r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
        ∧r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
        ∧r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
        ∧r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16) :=
  θ_run_mono (Cert.Reference7Ideal.Value.run m ρ) fun r h c =>
    ⟨(h c).1.trans (val_main_v86_eq _ _),
      (h c).2.1.trans (val_main_v88_eq _ _),
      (h c).2.2.1.trans (val_main_v90_eq _ _ _ _ _ _ _),
      (h c).2.2.2.1.trans (val_main_v92_eq _ _),
      (h c).2.2.2.2.1.trans (val_main_v94_eq _ _ _),
      (h c).2.2.2.2.2.1.trans (val_main_v96_eq _ _ _ _ _),
      (h c).2.2.2.2.2.2.1.trans (val_main_v75_eq _ _ _ _), (h c).2.2.2.2.2.2.2⟩

set_option maxHeartbeats 1000000 in
theorem value : Cert.algebraic_Kernel7Ideal_Reference7Ideal := by
  pair_intro
  · run_from Cert.Kernel7Ideal.Gen.run_main m g
  · run_from reference_run m' g'
    · exact (final9 m c).symm
    · exact (final10 m c).symm
    · exact (final11 m c).symm
    · exact (final12 m c).symm
    · exact (final13 m c).symm
    · exact (final14 m c).symm
    · exact (final15 m c).symm

end Cert.Proof.PreFwd

end
-- ==== Proof.Loss.Value.lean ====
/-
The second gated block's forward call, which ends in the loss: the tile's rows, its error, and the gradient and loss they give.
-/
module

public import proofs.«01_k».proof.Proof.Gen.Kernel8Ideal.Frame
public import proofs.«01_k».proof.Proof.Gen.Reference8Ideal.Read
public import Idealize.ShloMosaic.Lib.Pipeline.ValueKit

@[expose] public section

set_option maxRecDepth 16384

noncomputable section

namespace Cert.Kernel8Ideal.Loss

open Idealize.ShloMosaic Idealize.ShloMosaic.TcCoe Idealize.SL.Sem
open Idealize.ShloMosaic.Pipeline (Dat)
open Cert.Kernel8Ideal Cert.Kernel8Ideal.Gen
open Cert.Reference8Ideal.Read

variable (m : (ℓ : Loc nD τ sig) → Buf (Elt Ideal) ℓ)

theorem idx : ∀ t : Fin cfg0.N, win0_0.index t = ![t.val, 0] ∧ win0_1.index t = ![0, 0]
    ∧ win0_2.index t = ![0, 0, 0] ∧ win0_3.index t = ![0, 0, 0] ∧ win0_4.index t = ![0, 0, 0]
    ∧ win0_5.index t = ![t.val, 0] ∧ win0_6.index t = ![t.val, 0] ∧ win0_7.index t = ![0, t.val, 0] ∧ win0_8.index t = ![0, t.val, 0] ∧ win0_9.index t = ![0, 0] :=
  (by decide +kernel : ∀ t : Fin grid0.N, _)

/-- A chunk of a projection's weight, hidden layer first. -/
def Chunk (q : ℕ) (X : S1024x2816.Idx → EReal) (B : Vec Ideal S1x704x1024 .bf16) : Prop :=
  ∀ (i : S1x704x1024.Idx) (j : S1024x2816.Idx), (j 0 : ℕ) = i 2 → (j 1 : ℕ) = q * 704 + i 1 → B i = X j

/-- A chunk of the down projection's weight. -/
def DownChunk (q : ℕ) (X : S2816x1024.Idx → EReal) (B : Vec Ideal S1x704x1024 .bf16) : Prop :=
  ∀ (i : S1x704x1024.Idx) (j : S2816x1024.Idx), (j 0 : ℕ) = q * 704 + i 1 → (j 1 : ℕ) = i 2 → B i = X j

/-- Chunk `q` of a weight held as four. -/
def slab (x : Vec Ideal S4x704x1024 .bf16) (q : ℕ) (inb : ∀ a, ![q, 0, 0] a + ![1, 704, 1024] a ≤ S4x704x1024.size a) : Vec Ideal S1x704x1024 .bf16 :=
  View.ld x (Rect.unit ![q, 0, 0] ![1, 704, 1024] inb)

theorem slab_read (x : Vec Ideal S4x704x1024 .bf16) (q : ℕ) (inb) (i : S1x704x1024.Idx) (k : S4x704x1024.Idx)
    (h0 : (k 0 : ℕ) = q) (h1 : (k 1 : ℕ) = i 1) (h2 : (k 2 : ℕ) = i 2) :
    slab x q inb i = x k := by
  unfold slab
  refine congrArg x (funext fun a => Fin.ext ?_)
  have e : (i 0).val = 0 := by have := (i 0).isLt; have e : S1x704x1024.size 0 = 1 := rfl; omega
  refine (Rect.idx_unit_val _ _ _ _ _).trans ?_
  match a with
  | ⟨0, _⟩ => show q + (i 0).val = (k 0).val; omega
  | ⟨1, _⟩ => show 0 + (i 1).val = (k 1).val; omega
  | ⟨2, _⟩ => show 0 + (i 2).val = (k 2).val; omega

theorem gate_slab (c : Dev nD) (t : Fin cfg0.N) (q : ℕ) (hq : q < 4) (inb) :
    Chunk q (m ((c : Thread nD τ).loc main_arg2)) (slab (iblk m c 2 t) q inb) := by
  intro i j h0 h1
  obtain_idx k : S4x704x1024 := [q, (i 1 : ℕ), (i 2 : ℕ)] with hk
  rw [slab_read _ q inb i k hk0 hk1 hk2]
  blk_point [iblk, V, idx t]

theorem up_slab (c : Dev nD) (t : Fin cfg0.N) (q : ℕ) (hq : q < 4) (inb) :
    Chunk q (m ((c : Thread nD τ).loc main_arg3)) (slab (iblk m c 3 t) q inb) := by
  intro i j h0 h1
  obtain_idx k : S4x704x1024 := [q, (i 1 : ℕ), (i 2 : ℕ)] with hk
  rw [slab_read _ q inb i k hk0 hk1 hk2]
  blk_point [iblk, V, idx t]

theorem down_slab (c : Dev nD) (t : Fin cfg0.N) (q : ℕ) (hq : q < 4) (inb) :
    DownChunk q (m ((c : Thread nD τ).loc main_arg4)) (slab (iblk m c 4 t) q inb) := by
  intro i j h0 h1
  obtain_idx k : S4x704x1024 := [q, (i 1 : ℕ), (i 2 : ℕ)] with hk
  rw [slab_read _ q inb i k hk0 hk1 hk2]
  blk_point [iblk, V, idx t]

theorem normed (c : Dev nD) (t : Fin cfg0.N) (i : S256x1024.Idx) (j : S2048x1024.Idx)
    (h0 : (j 0 : ℕ) = t.val * 256 + i 0) (h1 : (j 1 : ℕ) = i 1) :
    k0_pay3 (F := Ideal) (iblk m c 0 t) (iblk m c 1 t) i
      = val_main_v11 (F := Ideal) (m ((c : Thread nD τ).loc main_arg0)) (m ((c : Thread nD τ).loc main_arg1)) j := by
  pointwise [k0_pay3, val_main_v11, val_main_v10, val_main_v9, val_main_v8, val_main_v7, val_main_v6, val_main_v5,
    val_main_v4, val_main_v3, val_main_v2, val_main_v1, val_main_v0, val_main_cst, val_main_cst_0, val_main_cst_1]
  blk_point [iblk, V, idx t]

/-- A projection of a tile's normed rows. -/
theorem proj (c : Dev nD) (t : Fin cfg0.N) (q : ℕ) (X : Vec Ideal S1024x2816 .f32) (B : Vec Ideal S1x704x1024 .bf16) (hB : Chunk q X B)
    (i : S256x704.Idx) (j : Cert.Reference8Ideal.S2048x2816.Idx) (h0 : (j 0 : ℕ) = t.val * 256 + i 0) (h1 : (j 1 : ℕ) = q * 704 + i 1) :
    k0_pay11 (F := Ideal) (k0_pay3 (iblk m c 0 t) (iblk m c 1 t)) B i
      = val_main_v12 (F := Ideal) (m ((c : Thread nD τ).loc main_arg0)) (m ((c : Thread nD τ).loc main_arg1)) X j := by
  pointwise [k0_pay11, val_main_v12]
  refine Finset.sum_congr rfl fun k _ => congrArg₂ (· * ·) (normed m c t _ _ h0 rfl) (hB _ _ rfl h1)

/-- The hidden layer, gated. -/
def act (g u : EReal) : EReal := g * Ideal.div 1 (1 + Ideal.exp (0 - g)) * u

theorem up_eq (x0 x1 x3) : val_main_v13 (F := Ideal) x0 x1 x3 = val_main_v12 (F := Ideal) x0 x1 x3 := rfl

theorem act_ref (x0 x1 x2 x3) (j : Cert.Reference8Ideal.S2048x2816.Idx) :
    val_main_v15 (F := Ideal) x0 x1 x2 x3 j = act (val_main_v12 (F := Ideal) x0 x1 x2 j) (val_main_v12 (F := Ideal) x0 x1 x3 j) := by
  rw [← up_eq x0 x1 x3]
  pointwise [val_main_v15, val_main_v14, val_main_call0_v0, val_main_call0_v1, val_main_call0_v2, val_main_call0_v3, val_main_call0_v4,
    val_main_call0_v5, val_main_call0_cst, val_main_call0_cst_0]
  unfold act
  rw [zero_sub]

theorem act_tile (c : Dev nD) (t : Fin cfg0.N) (q : ℕ) (B C : Vec Ideal S1x704x1024 .bf16)
    (hB : Chunk q (m ((c : Thread nD τ).loc main_arg2)) B) (hC : Chunk q (m ((c : Thread nD τ).loc main_arg3)) C)
    (i : S256x704.Idx) (j : Cert.Reference8Ideal.S2048x2816.Idx) (h0 : (j 0 : ℕ) = t.val * 256 + i 0) (h1 : (j 1 : ℕ) = q * 704 + i 1) :
    act (k0_pay11 (F := Ideal) (k0_pay3 (iblk m c 0 t) (iblk m c 1 t)) B i) (k0_pay11 (F := Ideal) (k0_pay3 (iblk m c 0 t) (iblk m c 1 t)) C i)
      = val_main_v15 (F := Ideal) (m ((c : Thread nD τ).loc main_arg0)) (m ((c : Thread nD τ).loc main_arg1)) (m ((c : Thread nD τ).loc main_arg2)) (m ((c : Thread nD τ).loc main_arg3)) j :=
  (congrArg₂ act (proj m c t q _ B hB i j h0 h1) (proj m c t q _ C hC i j h0 h1)).trans (act_ref _ _ _ _ j).symm

theorem gate0 (x0 : Vec Ideal S256x1024 .f32) (x1 : Vec Ideal S1x1024 .f32) (B : Vec Ideal S1x704x1024 .bf16) :
    k0_pay5 (F := Ideal) x0 x1 B = k0_pay11 (k0_pay3 x0 x1) B := by sl_kernel_rfl
theorem up0 (x0 : Vec Ideal S256x1024 .f32) (x1 : Vec Ideal S1x1024 .f32) (B : Vec Ideal S1x704x1024 .bf16) :
    k0_pay6 (F := Ideal) x0 x1 B = k0_pay11 (k0_pay3 x0 x1) B := by sl_kernel_rfl
theorem up1 (n : FVec Ideal S256x1024 .bf16) (B : Vec Ideal S1x704x1024 .bf16) : k0_pay12 (F := Ideal) n B = k0_pay11 n B := by sl_kernel_rfl
theorem gate2 (n : FVec Ideal S256x1024 .bf16) (B : Vec Ideal S1x704x1024 .bf16) : k0_pay16 (F := Ideal) n B = k0_pay11 n B := by sl_kernel_rfl
theorem up2 (n : FVec Ideal S256x1024 .bf16) (B : Vec Ideal S1x704x1024 .bf16) : k0_pay17 (F := Ideal) n B = k0_pay11 n B := by sl_kernel_rfl
theorem gate3 (n : FVec Ideal S256x1024 .bf16) (B : Vec Ideal S1x704x1024 .bf16) : k0_pay21 (F := Ideal) n B = k0_pay11 n B := by sl_kernel_rfl
theorem up3 (n : FVec Ideal S256x1024 .bf16) (B : Vec Ideal S1x704x1024 .bf16) : k0_pay22 (F := Ideal) n B = k0_pay11 n B := by sl_kernel_rfl

/-- The first three chunks' products, summed. -/
def sum3 (x0 : Vec Ideal S256x1024 .f32) (x1 : Vec Ideal S1x1024 .f32) (x2 x3 x4 : Vec Ideal S4x704x1024 .bf16) : FVec Ideal S256x1024 .f32 :=
  k0_pay20 (k0_pay3 x0 x1)
    (k0_pay10 k0_pay4 (k0_pay5 x0 x1 (slab x2 0 inb_S4x704x1024_S1x704x1024_0_0_0)) (k0_pay6 x0 x1 (slab x3 0 inb_S4x704x1024_S1x704x1024_0_0_0))
      (k0_pay9 x0 x1 (slab x2 0 inb_S4x704x1024_S1x704x1024_0_0_0)) (FloatOps.ofBits FTy.f32 1065353216#32) (slab x4 0 inb_S4x704x1024_S1x704x1024_0_0_0))
    (k0_pay15 (k0_pay3 x0 x1) (slab x2 1 inb_S4x704x1024_S1x704x1024_1_0_0) (slab x3 1 inb_S4x704x1024_S1x704x1024_1_0_0))
    (slab x4 1 inb_S4x704x1024_S1x704x1024_1_0_0) (slab x2 2 inb_S4x704x1024_S1x704x1024_2_0_0) (slab x3 2 inb_S4x704x1024_S1x704x1024_2_0_0)
    (slab x4 2 inb_S4x704x1024_S1x704x1024_2_0_0)

/-- A tile's error. -/
def errTile (x0 : Vec Ideal S256x1024 .f32) (x1 : Vec Ideal S1x1024 .f32) (x2 x3 x4 : Vec Ideal S4x704x1024 .bf16) (x5 : Vec Ideal S256x1024 .f32) :
    FVec Ideal S256x1024 .f32 :=
  k0_pay25 x0 (k0_pay3 x0 x1) (sum3 x0 x1 x2 x3 x4) (slab x2 3 inb_S4x704x1024_S1x704x1024_3_0_0) (slab x3 3 inb_S4x704x1024_S1x704x1024_3_0_0)
    (slab x4 3 inb_S4x704x1024_S1x704x1024_3_0_0) x5

abbrev errAt (c : Dev nD) (t : Fin cfg0.N) : FVec Ideal S256x1024 .f32 :=
  errTile (iblk m c 0 t) (iblk m c 1 t) (iblk m c 2 t) (iblk m c 3 t) (iblk m c 4 t) (iblk m c 5 t)

/-- The reference's error. -/
abbrev errRef (c : Dev nD) : Cert.Reference8Ideal.S2048x1024.Idx → EReal :=
  val_main_v20 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

set_option maxHeartbeats 1000000 in
theorem err_row (c : Dev nD) (t : Fin cfg0.N) (i : S256x1024.Idx) (j : S2048x1024.Idx)
    (h0 : (j 0 : ℕ) = t.val * 256 + i 0) (h1 : (j 1 : ℕ) = i 1) : errAt m c t i = errRef m c j := by
  unfold errAt errRef errTile sum3
  pointwise [k0_pay25, k0_pay20, k0_pay15, k0_pay10, k0_pay9, k0_pay4, gate0, up0, up1, gate2, up2, gate3, up3, val_main_v20, val_main_v19, val_main_v18,
    val_main_v17, val_main_v16, val_main_cst_2]
  rw [Fin.sum_univ_tiles 4 704 rfl]
  simp only [Fin.sum_univ_four]
  refine congrArg₂ (· - ·) (congrArg₂ (· + ·) ?_ (congrArg (_ * ·) (congrArg₂ (· + ·) (congrArg₂ (· + ·) (congrArg₂ (· + ·) ?_ ?_) ?_) ?_))) ?_
  · blk_ext [iblk, V, idx t]
  on_goal 5 => blk_ext [iblk, V, idx t]
  all_goals refine Finset.sum_congr rfl fun x _ => congrArg₂ (· * ·) ?_ ?_
  · exact act_tile m c t 0 _ _ (gate_slab m c t 0 (by omega) _) (up_slab m c t 0 (by omega) _) _ _ h0 rfl
  · exact down_slab m c t 0 (by omega) _ _ _ rfl h1
  · exact act_tile m c t 1 _ _ (gate_slab m c t 1 (by omega) _) (up_slab m c t 1 (by omega) _) _ _ h0 rfl
  · exact down_slab m c t 1 (by omega) _ _ _ rfl h1
  · exact act_tile m c t 2 _ _ (gate_slab m c t 2 (by omega) _) (up_slab m c t 2 (by omega) _) _ _ h0 rfl
  · exact down_slab m c t 2 (by omega) _ _ _ rfl h1
  · exact act_tile m c t 3 _ _ (gate_slab m c t 3 (by omega) _) (up_slab m c t 3 (by omega) _) _ _ h0 rfl
  · exact down_slab m c t 3 (by omega) _ _ _ rfl h1

end Cert.Kernel8Ideal.Loss

end
-- ==== Proof.Loss.Final.lean ====
/-
The results of the forward call that ends in the loss: the gradient, the loss summed over the tiles, and a tile's saved projections.
-/
module

public import proofs.«01_k».proof.Proof.Loss.Value

@[expose] public section

set_option maxRecDepth 16384

noncomputable section

namespace Cert.Kernel8Ideal.Loss

open Idealize.ShloMosaic Idealize.ShloMosaic.TcCoe Idealize.SL.Sem
open Idealize.ShloMosaic.Pipeline (Dat)
open Cert.Kernel8Ideal Cert.Kernel8Ideal.Gen
open Cert.Reference8Ideal.Read

variable (m : (ℓ : Loc nD τ sig) → Buf (Elt Ideal) ℓ)

theorem half : Ideal.ofBits FTy.f32 0x3F000000#32 = ((1 / 2 : ℝ) : EReal) := by
  simp [Ideal.ofBits, Ideal.ieee, -EReal.coe_mul, -EReal.coe_neg]; norm_num
theorem two : Ideal.ofBits FTy.f32 0x40000000#32 = ((2 : ℝ) : EReal) := by
  simp [Ideal.ofBits, Ideal.ieee, -EReal.coe_mul, -EReal.coe_neg]; norm_num
theorem width : Ideal.ofBits FTy.f32 0x44800000#32 = ((1024 : ℝ) : EReal) := by
  simp [Ideal.ofBits, Ideal.ieee, -EReal.coe_mul, -EReal.coe_neg]; norm_num
theorem perWidth : Ideal.ofBits FTy.f32 0x3A800000#32 = ((1 / 1024 : ℝ) : EReal) := by
  simp [Ideal.ofBits, Ideal.ieee, -EReal.coe_mul, -EReal.coe_neg]; norm_num

/-- Half the mean square's derivative, for one entry. -/
theorem dy_const (e : EReal) : Ideal.div ((1 / 2 : ℝ) : EReal) ((1024 : ℝ) : EReal) * (((2 : ℝ) : EReal) * e) = e * ((1 / 1024 : ℝ) : EReal) := by
  have h : Ideal.div ((1 / 2 : ℝ) : EReal) ((1024 : ℝ) : EReal) = ((1 / 2048 : ℝ) : EReal) := by
    unfold Ideal.div
    rw [if_neg (by rw [EReal.coe_eq_zero]; norm_num), ← EReal.coe_inv, ← EReal.coe_mul]
    norm_num
  rw [h, ← mul_assoc, ← EReal.coe_mul, mul_comm, show (1 / 2048 * 2 : ℝ) = 1 / 1024 by norm_num]

theorem dy_ref (x0 x1 x2 x3 x4 x5) (j : Cert.Reference8Ideal.S2048x1024.Idx) :
    val_main_v34 (F := Ideal) x0 x1 x2 x3 x4 x5 j = val_main_v20 (F := Ideal) x0 x1 x2 x3 x4 x5 j * ((1 / 1024 : ℝ) : EReal) := by
  pointwise [val_main_v34, val_main_v33, val_main_v32, val_main_v31, val_main_v30, val_main_v29, val_main_v23, val_main_v22, val_main_cst_3, val_main_cst_8,
    val_main_cst_9, val_main_cst_10]
  rw [half, two, width]
  exact dy_const _

/-- What one row adds to the loss, before the half. -/
def rowLoss (f : Fin 1024 → EReal) : EReal := Ideal.div (∑ l, f l * f l) (Ideal.ofBits FTy.f32 0x44800000#32)

theorem loss_ref (x0 x1 x2 x3 x4 x5) (j : Cert.Reference8Ideal.S1x128.Idx) :
    val_main_v41 (F := Ideal) x0 x1 x2 x3 x4 x5 j
      = Ideal.ofBits FTy.f32 0x3F000000#32 * ∑ r : Fin 2048, rowLoss fun l => val_main_v20 (F := Ideal) x0 x1 x2 x3 x4 x5 (ValueIdx.ix2 r l) := by
  pointwise [val_main_v41, val_main_v28, val_main_v27, val_main_v26, val_main_v25, val_main_v24, val_main_v21, val_main_cst_4, val_main_cst_5, val_main_cst_6, val_main_cst_7]
  rfl

/-- What a tile adds to the loss. -/
def tileLoss (E : FVec Ideal S256x1024 .f32) : EReal := Ideal.ofBits FTy.f32 0x3F000000#32 * ∑ r : Fin 256, rowLoss fun l => E (ValueIdx.ix2 r l)

theorem add_tile (E : FVec Ideal S256x1024 .f32) (a : Vec Ideal S1x128 .f32) (y : S1x128.Idx) : k0_pay2 (F := Ideal) E a y = a y + tileLoss E := by
  pointwise [k0_pay2]
  rfl

theorem start (y : S1x128.Idx) : k0_pay1 (F := Ideal) y = 0 := by
  pointwise [k0_pay1]

theorem half_sum {ι : Type} (s : Finset ι) (f : ι → EReal) :
    Ideal.ofBits FTy.f32 0x3F000000#32 * ∑ i ∈ s, f i = ∑ i ∈ s, Ideal.ofBits FTy.f32 0x3F000000#32 * f i := by
  classical
  rw [half]
  induction s using Finset.induction_on with
  | empty => simp only [Finset.sum_empty, mul_zero]
  | insert a s ha ih =>
    rw [Finset.sum_insert ha, Finset.sum_insert ha, ← ih]
    exact EReal.left_distrib_of_nonneg_of_ne_top (by rw [EReal.coe_nonneg]; norm_num) (EReal.coe_ne_top _) _ _

theorem lt8 (t : Fin cfg0.N) : t.val < 8 := lt_of_lt_of_eq t.isLt N_0

/-- The loss, tile by tile. -/
theorem loss_tiles (c : Dev nD) : (∑ t : Fin cfg0.N, tileLoss (errAt m c t))
    = Ideal.ofBits FTy.f32 0x3F000000#32 * ∑ r : Fin 2048, rowLoss fun l => errRef m c (ValueIdx.ix2 r l) := by
  rw [Fin.sum_univ_tiles 8 256 rfl, half_sum]
  refine Fintype.sum_equiv (finCongr N_0) _ _ fun t => ?_
  unfold tileLoss
  refine congrArg (_ * ·) (Finset.sum_congr rfl fun r _ => congrArg rowLoss (funext fun l => ?_))
  exact err_row m c t _ _ rfl rfl

theorem grad_tile (x0 n s3 x2 x3 x4 x5) (y : S256x1024.Idx) :
    k0_pay26 (F := Ideal) x0 n s3 x2 x3 x4 x5 y = k0_pay25 (F := Ideal) x0 n s3 x2 x3 x4 x5 y * ((1 / 1024 : ℝ) : EReal) := by
  pointwise [k0_pay26]
  rw [perWidth]

set_option maxHeartbeats 2000000 in
theorem grad (c : Dev nD) (t : Fin cfg0.N) (y : S256x1024.Idx) :
    (outsAt0 m c t.val t.isLt).1 y = errAt m c t y * ((1 / 1024 : ℝ) : EReal) := by
  by_cases h : t.val % 8 = 0
  on_goal 1 => rw [outsAt0_A m c t h]
  on_goal 2 => rw [outsAt0_B m c t h]
  all_goals
    frame_out
    rw [grad_tile]
    rfl

/-- The gradient of the loss. -/
theorem final6 (c : Dev nD) : (dats m 0 c).arrAt 6 (cfgs 0).N
    = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  refine (grad m c t _).trans ((congrArg (· * _) ?_).trans (dy_ref _ _ _ _ _ _ _).symm)
  refine err_row m c t _ _ ?_ ?_
  all_goals (blk_simp [idx t] <;> try omega)

/-- The loss. -/
theorem final9 (c : Dev nD) : (dats m 0 c).arrAt 9 (cfgs 0).N
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 9 t0_7 (by decide +kernel) _ fun j => ?_
  blk_simp
  rw [after0_9]
  rw [Pipeline.eq_sum_fin_of_reset_step_apply_last (fun n h => (outsAt0 m c n h).2.2.2) 8 (fun _ => 0) (fun t _ => tileLoss (errAt m c t))
    (fun t h j => by rw [outsAt0_A m c t h]; frame_out; rw [add_tile, start]; rfl)
    (fun t h j => by rw [outsAt0_B m c t h]; frame_out; rw [add_tile]; rfl)
    (le_of_eq N_0) t0_7 rfl j, zero_add, loss_ref]
  exact loss_tiles m c

theorem saved_row (c : Dev nD) (t : Fin cfg0.N) (q : ℕ) (X : Vec Ideal S1024x2816 .f32) (B : Vec Ideal S1x704x1024 .bf16) (hB : Chunk q X B)
    (i : S1x256x704.Idx) (j : Cert.Reference8Ideal.S2048x2816.Idx) (h0 : (j 0 : ℕ) = t.val * 256 + i 1) (h1 : (j 1 : ℕ) = q * 704 + i 2) :
    k0_pay13 (F := Ideal) (k0_pay3 (iblk m c 0 t) (iblk m c 1 t)) B i
      = val_main_v12 (F := Ideal) (m ((c : Thread nD τ).loc main_arg0)) (m ((c : Thread nD τ).loc main_arg1)) X j := by
  pointwise [k0_pay13]
  exact proj m c t q X B hB _ j h0 h1

theorem save0 (x0 : Vec Ideal S256x1024 .f32) (x1 : Vec Ideal S1x1024 .f32) (B : Vec Ideal S1x704x1024 .bf16) :
    k0_pay7 (F := Ideal) x0 x1 B = k0_pay13 (k0_pay3 x0 x1) B := by sl_kernel_rfl
theorem save0' (x0 : Vec Ideal S256x1024 .f32) (x1 : Vec Ideal S1x1024 .f32) (B : Vec Ideal S1x704x1024 .bf16) :
    k0_pay8 (F := Ideal) x0 x1 B = k0_pay13 (k0_pay3 x0 x1) B := by sl_kernel_rfl

set_option maxHeartbeats 4000000 in
/-- The saved gate of a tile, chunk by chunk. -/
theorem gate_saved (c : Dev nD) (t : Fin cfg0.N) (i : S4x256x704.Idx) (j : Cert.Reference8Ideal.S2048x2816.Idx)
    (h0 : (j 0 : ℕ) = t.val * 256 + i 1) (h1 : (j 1 : ℕ) = (i 0 : ℕ) * 704 + i 2) :
    (outsAt0 m c t.val t.isLt).2.1 i
      = val_main_v12 (F := Ideal) (m ((c : Thread nD τ).loc main_arg0)) (m ((c : Thread nD τ).loc main_arg1)) (m ((c : Thread nD τ).loc main_arg2)) j := by
  by_cases h : t.val % 8 = 0
  on_goal 1 => rw [outsAt0_A m c t h]
  on_goal 2 => rw [outsAt0_B m c t h]
  all_goals
    frame_out
    rw [save0]
    canon_tiles x hx
    · exact saved_row m c t 3 _ _ (gate_slab m c t 3 (by omega) _) x j (by omega) (by omega)
    · exact saved_row m c t 2 _ _ (gate_slab m c t 2 (by omega) _) x j (by omega) (by omega)
    · exact saved_row m c t 1 _ _ (gate_slab m c t 1 (by omega) _) x j (by omega) (by omega)
    · have e0 : (j 0 : ℕ) = t.val * 256 + x 1 := by omega
      have e1 : (j 1 : ℕ) = 0 * 704 + x 2 := by omega
      exact saved_row m c t 0 _ _ (gate_slab m c t 0 (by omega) _) x j e0 e1

set_option maxHeartbeats 4000000 in
/-- The saved up projection of a tile, chunk by chunk. -/
theorem up_saved (c : Dev nD) (t : Fin cfg0.N) (i : S4x256x704.Idx) (j : Cert.Reference8Ideal.S2048x2816.Idx)
    (h0 : (j 0 : ℕ) = t.val * 256 + i 1) (h1 : (j 1 : ℕ) = (i 0 : ℕ) * 704 + i 2) :
    (outsAt0 m c t.val t.isLt).2.2.1 i
      = val_main_v12 (F := Ideal) (m ((c : Thread nD τ).loc main_arg0)) (m ((c : Thread nD τ).loc main_arg1)) (m ((c : Thread nD τ).loc main_arg3)) j := by
  by_cases h : t.val % 8 = 0
  on_goal 1 => rw [outsAt0_A m c t h]
  on_goal 2 => rw [outsAt0_B m c t h]
  all_goals
    frame_out
    rw [save0']
    canon_tiles x hx
    · exact saved_row m c t 3 _ _ (up_slab m c t 3 (by omega) _) x j (by omega) (by omega)
    · exact saved_row m c t 2 _ _ (up_slab m c t 2 (by omega) _) x j (by omega) (by omega)
    · exact saved_row m c t 1 _ _ (up_slab m c t 1 (by omega) _) x j (by omega) (by omega)
    · have e0 : (j 0 : ℕ) = t.val * 256 + x 1 := by omega
      have e1 : (j 1 : ℕ) = 0 * 704 + x 2 := by omega
      exact saved_row m c t 0 _ _ (up_slab m c t 0 (by omega) _) x j e0 e1

end Cert.Kernel8Ideal.Loss

end
-- ==== Proof.Loss.Saved.lean ====
/-
The two projections the forward call saves.
-/
module

public import proofs.«01_k».proof.Proof.Loss.Final

@[expose] public section

set_option maxRecDepth 16384

noncomputable section

namespace Cert.Kernel8Ideal.Loss

open Idealize.ShloMosaic Idealize.ShloMosaic.TcCoe Idealize.SL.Sem
open Idealize.ShloMosaic.Pipeline (Dat)
open Cert.Kernel8Ideal Cert.Kernel8Ideal.Gen
open Cert.Reference8Ideal.Read

variable (m : (ℓ : Loc nD τ sig) → Buf (Elt Ideal) ℓ)

theorem gate_ref (x0 x1 x2) (i : Cert.Reference8Ideal.S4x2048x704.Idx) (j : Cert.Reference8Ideal.S2048x2816.Idx) (h0 : (j 0 : ℕ) = i 1)
    (h1 : (j 1 : ℕ) = (i 0 : ℕ) * 704 + i 2) : val_main_v37 (F := Ideal) x0 x1 x2 i = val_main_v12 (F := Ideal) x0 x1 x2 j := by
  pointwise [val_main_v37, val_main_v36, val_main_v35]
  refine congrArg (val_main_v12 (F := Ideal) x0 x1 x2) ?_
  blk_ext []

theorem up_ref (x0 x1 x3) : val_main_v40 (F := Ideal) x0 x1 x3 = val_main_v37 (F := Ideal) x0 x1 x3 := rfl

set_option maxHeartbeats 1000000 in
theorem final7 (c : Dev nD) : (dats m 0 c).arrAt 7 (cfgs 0).N
    = val_main_v37 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  have y0 : (y 0 : ℕ) < 4 := (y 0).isLt
  have y1 : (y 1 : ℕ) < 256 := (y 1).isLt
  have y2 : (y 2 : ℕ) < 704 := (y 2).isLt
  have ht := lt8 t
  obtain_idx j : Cert.Reference8Ideal.S2048x2816 := [t.val * 256 + y 1, (y 0 : ℕ) * 704 + y 2] with hj
  blk_simp
  rw [after0_7]
  refine (gate_saved m c t _ j hj0 hj1).trans (gate_ref _ _ _ _ j ?_ ?_).symm
  all_goals (blk_simp [idx t] <;> try omega)

set_option maxHeartbeats 1000000 in
theorem final8 (c : Dev nD) : (dats m 0 c).arrAt 8 (cfgs 0).N
    = val_main_v40 (F := Ideal) (m ((c : Thread nD τ).loc main_arg0)) (m ((c : Thread nD τ).loc main_arg1)) (m ((c : Thread nD τ).loc main_arg3)) := by
  rw [up_ref]
  refine (dats m 0 c).arrAt_eq_of_covers 8 _ (by decide +kernel) fun t _ y => ?_
  have y0 : (y 0 : ℕ) < 4 := (y 0).isLt
  have y1 : (y 1 : ℕ) < 256 := (y 1).isLt
  have y2 : (y 2 : ℕ) < 704 := (y 2).isLt
  have ht := lt8 t
  obtain_idx j : Cert.Reference8Ideal.S2048x2816 := [t.val * 256 + y 1, (y 0 : ℕ) * 704 + y 2] with hj
  blk_simp
  rw [after0_8]
  refine (up_saved m c t _ j hj0 hj1).trans (gate_ref _ _ _ _ j ?_ ?_).symm
  all_goals (blk_simp [idx t] <;> try omega)

end Cert.Kernel8Ideal.Loss

end
-- ==== Proof.Loss.Claim.lean ====
/-
The claims about the `_ffn_fwd` call that ends in the loss.
-/
module

public import proofs.«01_k».proof.Defs
public import proofs.«01_k».proof.Proof.Gen.Kernel8.Frame
public import proofs.«01_k».proof.Proof.Loss.Saved
public import Idealize.ShloMosaic.Lib.Claim

@[expose] public section

noncomputable section

namespace Cert.Proof.Loss

open Idealize.ShloMosaic Idealize.SL.Sem
open Cert.Reference8Ideal.Read Cert.Kernel8Ideal.Loss

theorem frame : Cert.quiescent_Kernel8 := fun m ρ _ => Cert.Kernel8.Gen.frame m ρ

theorem frame_ideal : Cert.quiescent_Kernel8Ideal := fun m ρ _ => Cert.Kernel8Ideal.Gen.frame m ρ

theorem frame_reference : Cert.quiescent_Reference8Ideal := by
  intro m g _
  exact θ_run_mono (Cert.Reference8Ideal.Value.run m g) fun r h =>
    ⟨fun c => (h c).2.2.2.2, sem_eq_zero_of_no_sems (by decide) r.2⟩

/-- The reference's run, each result at its last stage. -/
theorem reference_run (m : (ℓ : Loc Cert.Reference8Ideal.nD Cert.Reference8Ideal.τ Cert.Reference8Ideal.sig) → Buf (Elt Ideal) ℓ) (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩ fun r =>
      ∀ c : Dev Cert.Reference8Ideal.nD,
        r.2.mem ((c.tc : Thread Cert.Reference8Ideal.nD Cert.Reference8Ideal.τ).loc Cert.Reference8Ideal.main_v34) = val_main_v34 (F := Ideal)
            (m ((c.tc : Thread Cert.Reference8Ideal.nD Cert.Reference8Ideal.τ).loc Cert.Reference8Ideal.main_arg0))
            (m ((c.tc : Thread Cert.Reference8Ideal.nD Cert.Reference8Ideal.τ).loc Cert.Reference8Ideal.main_arg1))
            (m ((c.tc : Thread Cert.Reference8Ideal.nD Cert.Reference8Ideal.τ).loc Cert.Reference8Ideal.main_arg2))
            (m ((c.tc : Thread Cert.Reference8Ideal.nD Cert.Reference8Ideal.τ).loc Cert.Reference8Ideal.main_arg3))
            (m ((c.tc : Thread Cert.Reference8Ideal.nD Cert.Reference8Ideal.τ).loc Cert.Reference8Ideal.main_arg4))
            (m ((c.tc : Thread Cert.Reference8Ideal.nD Cert.Reference8Ideal.τ).loc Cert.Reference8Ideal.main_arg5))
        ∧r.2.mem ((c.tc : Thread Cert.Reference8Ideal.nD Cert.Reference8Ideal.τ).loc Cert.Reference8Ideal.main_v37) = val_main_v37 (F := Ideal)
            (m ((c.tc : Thread Cert.Reference8Ideal.nD Cert.Reference8Ideal.τ).loc Cert.Reference8Ideal.main_arg0))
            (m ((c.tc : Thread Cert.Reference8Ideal.nD Cert.Reference8Ideal.τ).loc Cert.Reference8Ideal.main_arg1))
            (m ((c.tc : Thread Cert.Reference8Ideal.nD Cert.Reference8Ideal.τ).loc Cert.Reference8Ideal.main_arg2))
        ∧r.2.mem ((c.tc : Thread Cert.Reference8Ideal.nD Cert.Reference8Ideal.τ).loc Cert.Reference8Ideal.main_v40) = val_main_v40 (F := Ideal)
            (m ((c.tc : Thread Cert.Reference8Ideal.nD Cert.Reference8Ideal.τ).loc Cert.Reference8Ideal.main_arg0))
            (m ((c.tc : Thread Cert.Reference8Ideal.nD Cert.Reference8Ideal.τ).loc Cert.Reference8Ideal.main_arg1))
            (m ((c.tc : Thread Cert.Reference8Ideal.nD Cert.Reference8Ideal.τ).loc Cert.Reference8Ideal.main_arg3))
        ∧r.2.mem ((c.tc : Thread Cert.Reference8Ideal.nD Cert.Reference8Ideal.τ).loc Cert.Reference8Ideal.main_v41) = val_main_v41 (F := Ideal)
            (m ((c.tc : Thread Cert.Reference8Ideal.nD Cert.Reference8Ideal.τ).loc Cert.Reference8Ideal.main_arg0))
            (m ((c.tc : Thread Cert.Reference8Ideal.nD Cert.Reference8Ideal.τ).loc Cert.Reference8Ideal.main_arg1))
            (m ((c.tc : Thread Cert.Reference8Ideal.nD Cert.Reference8Ideal.τ).loc Cert.Reference8Ideal.main_arg2))
            (m ((c.tc : Thread Cert.Reference8Ideal.nD Cert.Reference8Ideal.τ).loc Cert.Reference8Ideal.main_arg3))
            (m ((c.tc : Thread Cert.Reference8Ideal.nD Cert.Reference8Ideal.τ).loc Cert.Reference8Ideal.main_arg4))
            (m ((c.tc : Thread Cert.Reference8Ideal.nD Cert.Reference8Ideal.τ).loc Cert.Reference8Ideal.main_arg5))
        ∧r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
        ∧r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
        ∧r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
        ∧r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
        ∧r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
        ∧r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5) :=
  θ_run_mono (Cert.Reference8Ideal.Value.run m ρ) fun r h c =>
    ⟨(h c).1.trans (val_main_v34_eq _ _ _ _ _ _),
      (h c).2.1.trans (val_main_v37_eq _ _ _),
      (h c).2.2.1.trans (val_main_v40_eq _ _ _),
      (h c).2.2.2.1.trans (val_main_v41_eq _ _), (h c).2.2.2.2⟩

set_option maxHeartbeats 1000000 in
theorem value : Cert.algebraic_Kernel8Ideal_Reference8Ideal := by
  pair_intro
  · run_from Cert.Kernel8Ideal.Gen.run_main m g
  · run_from reference_run m' g'
    · exact (final6 m c).symm
    · exact (final7 m c).symm
    · exact (final8 m c).symm
    · exact (final9 m c).symm

end Cert.Proof.Loss

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Regions
public import proofs.«01_k».proof.Proof.Gen.Kernel3Ideal.Points
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Pre_regular
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame.Runs
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Mix.Claim
public import proofs.«01_k».proof.Proof.Proj.Claim
public import proofs.«01_k».proof.Proof.Ffn.Claim
public import proofs.«01_k».proof.Proof.Pre.Claim
public import proofs.«01_k».proof.Proof.MixFwd.Claim
public import proofs.«01_k».proof.Proof.ProjFwd.Claim
public import proofs.«01_k».proof.Proof.PreFwd.Claim
public import proofs.«01_k».proof.Proof.Loss.Claim

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,

    Cert.Kernel7.Gen.facts, Cert.Kernel7Ideal.Gen.facts, Cert.Reference7Ideal.Gen.facts,

    Cert.Kernel8.Gen.facts, Cert.Kernel8Ideal.Gen.facts, Cert.Reference8Ideal.Gen.facts,
    Cert.Pre_finite3.Gen.facts, Cert.Pre_regular.Gen.facts,
    Mix.frame, Mix.frame_ideal, Mix.frame_reference, Proj.frame, Proj.frame_ideal, Proj.frame_reference,
    Ffn.frame, Ffn.frame_ideal, Ffn.frame_ideal_finite, Ffn.frame_reference, Ffn.frame_reference_finite,
    Pre.frame, Pre.frame_ideal, Pre.frame_ideal_regular, Pre.frame_reference, Pre.frame_reference_regular,
    MixFwd.frame, MixFwd.frame_ideal, MixFwd.frame_reference,
    ProjFwd.frame, ProjFwd.frame_ideal, ProjFwd.frame_reference,
    PreFwd.frame, PreFwd.frame_ideal, PreFwd.frame_reference,
    Loss.frame, Loss.frame_ideal, Loss.frame_reference,
    trivial, Mix.value, trivial, Proj.value, trivial, Ffn.value, trivial, Pre.value,
    trivial, MixFwd.value, trivial, ProjFwd.value,
    trivial, PreFwd.value,
    trivial, Loss.value⟩

end Cert.Proof

end
